-- ==== Defs.lean ====
def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_PoolU (m : (ℓ : Loc Cert.PoolU.nD Cert.PoolU.τ Cert.PoolU.sig) → Buf (Elt Bits) ℓ) : Prop :=
  True

def Pre_PoolUIdeal (m : (ℓ : Loc Cert.PoolUIdeal.nD Cert.PoolUIdeal.τ Cert.PoolUIdeal.sig) → Buf (Elt Ideal) ℓ) : Prop :=
  True

def Pre_PoolURefIdeal (m : (ℓ : Loc Cert.PoolURefIdeal.nD Cert.PoolURefIdeal.τ Cert.PoolURefIdeal.sig) → Buf (Elt Ideal) ℓ) : Prop :=
  True

def Pre_PoolW (m : (ℓ : Loc Cert.PoolW.nD Cert.PoolW.τ Cert.PoolW.sig) → Buf (Elt Bits) ℓ) : Prop :=
  True

def Pre_PoolWIdeal (m : (ℓ : Loc Cert.PoolWIdeal.nD Cert.PoolWIdeal.τ Cert.PoolWIdeal.sig) → Buf (Elt Ideal) ℓ) : Prop :=
  True

def Pre_PoolWRefIdeal (m : (ℓ : Loc Cert.PoolWRefIdeal.nD Cert.PoolWRefIdeal.τ Cert.PoolWRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumMlp (m : (ℓ : Loc Cert.SumMlp.nD Cert.SumMlp.τ Cert.SumMlp.sig) → Buf (Elt Bits) ℓ) : Prop :=
  True

def Pre_SumMlpIdeal (m : (ℓ : Loc Cert.SumMlpIdeal.nD Cert.SumMlpIdeal.τ Cert.SumMlpIdeal.sig) → Buf (Elt Ideal) ℓ) : Prop :=
  True

def Pre_SumMlpRefIdeal (m : (ℓ : Loc Cert.SumMlpRefIdeal.nD Cert.SumMlpRefIdeal.τ Cert.SumMlpRefIdeal.sig) → Buf (Elt Ideal) ℓ) : Prop :=
  True

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3)
      ∧ r.2.mem ((c.tc : Thread Cert.MlpDx.nD Cert.MlpDx.τ).loc Cert.MlpDx.main_arg4) = m ((c.tc : Thread Cert.MlpDx.nD Cert.MlpDx.τ).loc Cert.MlpDx.main_arg4))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3)
      ∧ r.2.mem ((c.tc : Thread Cert.InDw.nD Cert.InDw.τ).loc Cert.InDw.main_arg4) = m ((c.tc : Thread Cert.InDw.nD Cert.InDw.τ).loc Cert.InDw.main_arg4)
      ∧ r.2.mem ((c.tc : Thread Cert.InDw.nD Cert.InDw.τ).loc Cert.InDw.main_arg5) = m ((c.tc : Thread Cert.InDw.nD Cert.InDw.τ).loc Cert.InDw.main_arg5))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
      ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
      ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3)
      ∧ r.2.mem ((c.tc : Thread Cert.InDwRefIdeal.nD Cert.InDwRefIdeal.τ).loc Cert.InDwRefIdeal.main_arg4) = m ((c.tc : Thread Cert.InDwRefIdeal.nD Cert.InDwRefIdeal.τ).loc Cert.InDwRefIdeal.main_arg4)
      ∧ r.2.mem ((c.tc : Thread Cert.InDwRefIdeal.nD Cert.InDwRefIdeal.τ).loc Cert.InDwRefIdeal.main_arg5) = m ((c.tc : Thread Cert.InDwRefIdeal.nD Cert.InDwRefIdeal.τ).loc Cert.InDwRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_PoolU [hPoolU : Cert.PoolU.Facts] : Prop :=
  ∀ (m : (ℓ : Loc Cert.PoolU.nD Cert.PoolU.τ Cert.PoolU.sig) → Buf (Elt Bits) ℓ) (g : Dev Cert.PoolU.nD → PrngReg), Pre_PoolU m →
    θ_run (Cert.PoolU.defs (F := Bits)) (onTc (τ := Cert.PoolU.τ) (Cert.PoolU.main (F := Bits))) ⟨m, fun _ => 0, g⟩ (fun r => (∀ c : Dev Cert.PoolU.nD,
      r.2.mem ((c.tc : Thread Cert.PoolU.nD Cert.PoolU.τ).loc Cert.PoolU.main_arg0) = m ((c.tc : Thread Cert.PoolU.nD Cert.PoolU.τ).loc Cert.PoolU.main_arg0))
      ∧ r.2.sem = fun _ => 0)

def quiescent_PoolUIdeal [hPoolUIdeal : Cert.PoolUIdeal.Facts] : Prop :=
  ∀ (m : (ℓ : Loc Cert.PoolUIdeal.nD Cert.PoolUIdeal.τ Cert.PoolUIdeal.sig) → Buf (Elt Ideal) ℓ) (g : Dev Cert.PoolUIdeal.nD → PrngReg), Pre_PoolUIdeal m →
    θ_run (Cert.PoolUIdeal.defs (F := Ideal)) (onTc (τ := Cert.PoolUIdeal.τ) (Cert.PoolUIdeal.main (F := Ideal))) ⟨m, fun _ => 0, g⟩ (fun r => (∀ c : Dev Cert.PoolUIdeal.nD,
      r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0))
      ∧ r.2.sem = fun _ => 0)

def quiescent_PoolURefIdeal [hPoolURefIdeal : Cert.PoolURefIdeal.Facts] : Prop :=
  ∀ (m : (ℓ : Loc Cert.PoolURefIdeal.nD Cert.PoolURefIdeal.τ Cert.PoolURefIdeal.sig) → Buf (Elt Ideal) ℓ) (g : Dev Cert.PoolURefIdeal.nD → PrngReg), Pre_PoolURefIdeal m →
    θ_run (Cert.PoolURefIdeal.defs (F := Ideal)) (onTc (τ := Cert.PoolURefIdeal.τ) (Cert.PoolURefIdeal.main (F := Ideal))) ⟨m, fun _ => 0, g⟩ (fun r => (∀ c : Dev Cert.PoolURefIdeal.nD,
      r.2.mem ((c.tc : Thread Cert.PoolURefIdeal.nD Cert.PoolURefIdeal.τ).loc Cert.PoolURefIdeal.main_arg0) = m ((c.tc : Thread Cert.PoolURefIdeal.nD Cert.PoolURefIdeal.τ).loc Cert.PoolURefIdeal.main_arg0))
      ∧ r.2.sem = fun _ => 0)

def quiescent_PoolW [hPoolW : Cert.PoolW.Facts] : Prop :=
  ∀ (m : (ℓ : Loc Cert.PoolW.nD Cert.PoolW.τ Cert.PoolW.sig) → Buf (Elt Bits) ℓ) (g : Dev Cert.PoolW.nD → PrngReg), Pre_PoolW m →
    θ_run (Cert.PoolW.defs (F := Bits)) (onTc (τ := Cert.PoolW.τ) (Cert.PoolW.main (F := Bits))) ⟨m, fun _ => 0, g⟩ (fun r => (∀ c : Dev Cert.PoolW.nD,
      r.2.mem ((c.tc : Thread Cert.PoolW.nD Cert.PoolW.τ).loc Cert.PoolW.main_arg0) = m ((c.tc : Thread Cert.PoolW.nD Cert.PoolW.τ).loc Cert.PoolW.main_arg0)
      ∧ r.2.mem ((c.tc : Thread Cert.PoolW.nD Cert.PoolW.τ).loc Cert.PoolW.main_arg1) = m ((c.tc : Thread Cert.PoolW.nD Cert.PoolW.τ).loc Cert.PoolW.main_arg1)
      ∧ r.2.mem ((c.tc : Thread Cert.PoolW.nD Cert.PoolW.τ).loc Cert.PoolW.main_arg2) = m ((c.tc : Thread Cert.PoolW.nD Cert.PoolW.τ).loc Cert.PoolW.main_arg2)
      ∧ r.2.mem ((c.tc : Thread Cert.PoolW.nD Cert.PoolW.τ).loc Cert.PoolW.main_arg3) = m ((c.tc : Thread Cert.PoolW.nD Cert.PoolW.τ).loc Cert.PoolW.main_arg3))
      ∧ r.2.sem = fun _ => 0)

def quiescent_PoolWIdeal [hPoolWIdeal : Cert.PoolWIdeal.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1)
      ∧ r.2.mem ((c.tc : Thread Cert.PoolWIdeal.nD Cert.PoolWIdeal.τ).loc Cert.PoolWIdeal.main_arg2) = m ((c.tc : Thread Cert.PoolWIdeal.nD Cert.PoolWIdeal.τ).loc Cert.PoolWIdeal.main_arg2)
      ∧ r.2.mem ((c.tc : Thread Cert.PoolWIdeal.nD Cert.PoolWIdeal.τ).loc Cert.PoolWIdeal.main_arg3) = m ((c.tc : Thread Cert.PoolWIdeal.nD Cert.PoolWIdeal.τ).loc Cert.PoolWIdeal.main_arg3))
      ∧ r.2.sem = fun _ => 0)

def quiescent_PoolWRefIdeal [hPoolWRefIdeal : Cert.PoolWRefIdeal.Facts] : Prop :=
  ∀ (m : (ℓ : Loc Cert.PoolWRefIdeal.nD Cert.PoolWRefIdeal.τ Cert.PoolWRefIdeal.sig) → Buf (Elt Ideal) ℓ) (g : Dev Cert.PoolWRefIdeal.nD → PrngReg), Pre_PoolWRefIdeal m →
    θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1)
      ∧ r.2.mem ((c.tc : Thread Cert.PoolWRefIdeal.nD Cert.PoolWRefIdeal.τ).loc Cert.PoolWRefIdeal.main_arg2) = m ((c.tc : Thread Cert.PoolWRefIdeal.nD Cert.PoolWRefIdeal.τ).loc Cert.PoolWRefIdeal.main_arg2)
      ∧ r.2.mem ((c.tc : Thread Cert.PoolWRefIdeal.nD Cert.PoolWRefIdeal.τ).loc Cert.PoolWRefIdeal.main_arg3) = m ((c.tc : Thread Cert.PoolWRefIdeal.nD Cert.PoolWRefIdeal.τ).loc Cert.PoolWRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2))
      ∧ r.2.sem = fun _ => 0)

def quiescent_SumMlp [hSumMlp : Cert.SumMlp.Facts] : Prop :=
  ∀ (m : (ℓ : Loc Cert.SumMlp.nD Cert.SumMlp.τ Cert.SumMlp.sig) → Buf (Elt Bits) ℓ) (g : Dev Cert.SumMlp.nD → PrngReg), Pre_SumMlp m →
    θ_run (Cert.SumMlp.defs (F := Bits)) (onTc (τ := Cert.SumMlp.τ) (Cert.SumMlp.main (F := Bits))) ⟨m, fun _ => 0, g⟩ (fun r => (∀ c : Dev Cert.SumMlp.nD,
      r.2.mem ((c.tc : Thread Cert.SumMlp.nD Cert.SumMlp.τ).loc Cert.SumMlp.main_arg0) = m ((c.tc : Thread Cert.SumMlp.nD Cert.SumMlp.τ).loc Cert.SumMlp.main_arg0)
      ∧ r.2.mem ((c.tc : Thread Cert.SumMlp.nD Cert.SumMlp.τ).loc Cert.SumMlp.main_arg1) = m ((c.tc : Thread Cert.SumMlp.nD Cert.SumMlp.τ).loc Cert.SumMlp.main_arg1)
      ∧ r.2.mem ((c.tc : Thread Cert.SumMlp.nD Cert.SumMlp.τ).loc Cert.SumMlp.main_arg2) = m ((c.tc : Thread Cert.SumMlp.nD Cert.SumMlp.τ).loc Cert.SumMlp.main_arg2))
      ∧ r.2.sem = fun _ => 0)

def quiescent_SumMlpIdeal [hSumMlpIdeal : Cert.SumMlpIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg), Pre_SumMlpIdeal m →
    θ_run (Cert.SumMlpIdeal.defs (F := Ideal)) (onTc (τ := Cert.SumMlpIdeal.τ) (Cert.SumMlpIdeal.main (F := Ideal))) ⟨m, fun _ => 0, g⟩ (fun r => (∀ c : Dev Cert.SumMlpIdeal.nD,
      r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
      ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
      ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ r.2.sem = fun _ => 0)

def quiescent_SumMlpRefIdeal [hSumMlpRefIdeal : Cert.SumMlpRefIdeal.Facts] : Prop :=
  ∀ (m : (ℓ : Loc Cert.SumMlpRefIdeal.nD Cert.SumMlpRefIdeal.τ Cert.SumMlpRefIdeal.sig) → Buf (Elt Ideal) ℓ) (g : Dev Cert.SumMlpRefIdeal.nD → PrngReg), Pre_SumMlpRefIdeal m →
    θ_run (Cert.SumMlpRefIdeal.defs (F := Ideal)) (onTc (τ := Cert.SumMlpRefIdeal.τ) (Cert.SumMlpRefIdeal.main (F := Ideal))) ⟨m, fun _ => 0, g⟩ (fun r => (∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1)
      ∧ r.2.mem ((c.tc : Thread Cert.SumMlpRefIdeal.nD Cert.SumMlpRefIdeal.τ).loc Cert.SumMlpRefIdeal.main_arg2) = m ((c.tc : Thread Cert.SumMlpRefIdeal.nD Cert.SumMlpRefIdeal.τ).loc Cert.SumMlpRefIdeal.main_arg2))
      ∧ r.2.sem = fun _ => 0)

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)
      ∧ m' ((c.tc : Thread Cert.MlpDxRefIdeal.nD Cert.MlpDxRefIdeal.τ).loc Cert.MlpDxRefIdeal.main_arg3) = m ((c.tc : Thread Cert.MlpDxIdeal.nD Cert.MlpDxIdeal.τ).loc Cert.MlpDxIdeal.main_arg3)
      ∧ m' ((c.tc : Thread Cert.MlpDxRefIdeal.nD Cert.MlpDxRefIdeal.τ).loc Cert.MlpDxRefIdeal.main_arg4) = m ((c.tc : Thread Cert.MlpDxIdeal.nD Cert.MlpDxIdeal.τ).loc Cert.MlpDxIdeal.main_arg4)) →
    ∃ (v0 : (c : Dev Cert.MlpDxIdeal.nD) → Buf (Elt Ideal) ((c.tc : Thread Cert.MlpDxIdeal.nD Cert.MlpDxIdeal.τ).loc Cert.MlpDxIdeal.main_v23_0)) (v1 : (c : Dev Cert.MlpDxIdeal.nD) → Buf (Elt Ideal) ((c.tc : Thread Cert.MlpDxIdeal.nD Cert.MlpDxIdeal.τ).loc Cert.MlpDxIdeal.main_v23_1)) (v2 : (c : Dev Cert.MlpDxIdeal.nD) → Buf (Elt Ideal) ((c.tc : Thread Cert.MlpDxIdeal.nD Cert.MlpDxIdeal.τ).loc Cert.MlpDxIdeal.main_v23_2)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v23_0) = v0 c
          ∧ r.2.mem ((c.tc : Thread Cert.MlpDxIdeal.nD Cert.MlpDxIdeal.τ).loc Cert.MlpDxIdeal.main_v23_1) = v1 c
          ∧ r.2.mem ((c.tc : Thread Cert.MlpDxIdeal.nD Cert.MlpDxIdeal.τ).loc Cert.MlpDxIdeal.main_v23_2) = v2 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
          ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
          ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v79) = v0 c
          ∧ r.2.mem ((c.tc : Thread Cert.MlpDxRefIdeal.nD Cert.MlpDxRefIdeal.τ).loc Cert.MlpDxRefIdeal.main_v78) = v1 c
          ∧ r.2.mem ((c.tc : Thread Cert.MlpDxRefIdeal.nD Cert.MlpDxRefIdeal.τ).loc Cert.MlpDxRefIdeal.main_v80) = v2 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2)
          ∧ r.2.mem ((c.tc : Thread Cert.MlpDxRefIdeal.nD Cert.MlpDxRefIdeal.τ).loc Cert.MlpDxRefIdeal.main_arg3) = m' ((c.tc : Thread Cert.MlpDxRefIdeal.nD Cert.MlpDxRefIdeal.τ).loc Cert.MlpDxRefIdeal.main_arg3)
          ∧ r.2.mem ((c.tc : Thread Cert.MlpDxRefIdeal.nD Cert.MlpDxRefIdeal.τ).loc Cert.MlpDxRefIdeal.main_arg4) = m' ((c.tc : Thread Cert.MlpDxRefIdeal.nD Cert.MlpDxRefIdeal.τ).loc Cert.MlpDxRefIdeal.main_arg4))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v3)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v3) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v15)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v15) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v19) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v31_0)) (v1 : (c : Dev Cert.OutBwdIdeal.nD) → Buf (Elt Ideal) ((c.tc : Thread Cert.OutBwdIdeal.nD Cert.OutBwdIdeal.τ).loc Cert.OutBwdIdeal.main_v31_1)) (v2 : (c : Dev Cert.OutBwdIdeal.nD) → Buf (Elt Ideal) ((c.tc : Thread Cert.OutBwdIdeal.nD Cert.OutBwdIdeal.τ).loc Cert.OutBwdIdeal.main_v31_2)) (v3 : (c : Dev Cert.OutBwdIdeal.nD) → Buf (Elt Ideal) ((c.tc : Thread Cert.OutBwdIdeal.nD Cert.OutBwdIdeal.τ).loc Cert.OutBwdIdeal.main_v31_3)) (v4 : (c : Dev Cert.OutBwdIdeal.nD) → Buf (Elt Ideal) ((c.tc : Thread Cert.OutBwdIdeal.nD Cert.OutBwdIdeal.τ).loc Cert.OutBwdIdeal.main_v31_4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v31_0) = v0 c
          ∧ r.2.mem ((c.tc : Thread Cert.OutBwdIdeal.nD Cert.OutBwdIdeal.τ).loc Cert.OutBwdIdeal.main_v31_1) = v1 c
          ∧ r.2.mem ((c.tc : Thread Cert.OutBwdIdeal.nD Cert.OutBwdIdeal.τ).loc Cert.OutBwdIdeal.main_v31_2) = v2 c
          ∧ r.2.mem ((c.tc : Thread Cert.OutBwdIdeal.nD Cert.OutBwdIdeal.τ).loc Cert.OutBwdIdeal.main_v31_3) = v3 c
          ∧ r.2.mem ((c.tc : Thread Cert.OutBwdIdeal.nD Cert.OutBwdIdeal.τ).loc Cert.OutBwdIdeal.main_v31_4) = v4 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v78) = v0 c
          ∧ r.2.mem ((c.tc : Thread Cert.OutBwdRefIdeal.nD Cert.OutBwdRefIdeal.τ).loc Cert.OutBwdRefIdeal.main_v58) = v1 c
          ∧ r.2.mem ((c.tc : Thread Cert.OutBwdRefIdeal.nD Cert.OutBwdRefIdeal.τ).loc Cert.OutBwdRefIdeal.main_v79) = v2 c
          ∧ r.2.mem ((c.tc : Thread Cert.OutBwdRefIdeal.nD Cert.OutBwdRefIdeal.τ).loc Cert.OutBwdRefIdeal.main_v80) = v3 c
          ∧ r.2.mem ((c.tc : Thread Cert.OutBwdRefIdeal.nD Cert.OutBwdRefIdeal.τ).loc Cert.OutBwdRefIdeal.main_v81) = v4 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)) →
    ∃ (v0 : (c : Dev Cert.InDxIdeal.nD) → Buf (Elt Ideal) ((c.tc : Thread Cert.InDxIdeal.nD Cert.InDxIdeal.τ).loc Cert.InDxIdeal.main_v8_0)) (v1 : (c : Dev Cert.InDxIdeal.nD) → Buf (Elt Ideal) ((c.tc : Thread Cert.InDxIdeal.nD Cert.InDxIdeal.τ).loc Cert.InDxIdeal.main_v8_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v8_0) = v0 c
          ∧ r.2.mem ((c.tc : Thread Cert.InDxIdeal.nD Cert.InDxIdeal.τ).loc Cert.InDxIdeal.main_v8_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v39) = v0 c
          ∧ r.2.mem ((c.tc : Thread Cert.InDxRefIdeal.nD Cert.InDxRefIdeal.τ).loc Cert.InDxRefIdeal.main_v40) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)
      ∧ m' ((c.tc : Thread Cert.InDwRefIdeal.nD Cert.InDwRefIdeal.τ).loc Cert.InDwRefIdeal.main_arg4) = m ((c.tc : Thread Cert.InDwIdeal.nD Cert.InDwIdeal.τ).loc Cert.InDwIdeal.main_arg4)
      ∧ m' ((c.tc : Thread Cert.InDwRefIdeal.nD Cert.InDwRefIdeal.τ).loc Cert.InDwRefIdeal.main_arg5) = m ((c.tc : Thread Cert.InDwIdeal.nD Cert.InDwIdeal.τ).loc Cert.InDwIdeal.main_arg5)) →
    ∃ (v0 : (c : Dev Cert.InDwIdeal.nD) → Buf (Elt Ideal) ((c.tc : Thread Cert.InDwIdeal.nD Cert.InDwIdeal.τ).loc Cert.InDwIdeal.main_v18)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v18) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
          ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
          ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v20) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3)
          ∧ r.2.mem ((c.tc : Thread Cert.InDwRefIdeal.nD Cert.InDwRefIdeal.τ).loc Cert.InDwRefIdeal.main_arg4) = m' ((c.tc : Thread Cert.InDwRefIdeal.nD Cert.InDwRefIdeal.τ).loc Cert.InDwRefIdeal.main_arg4)
          ∧ r.2.mem ((c.tc : Thread Cert.InDwRefIdeal.nD Cert.InDwRefIdeal.τ).loc Cert.InDwRefIdeal.main_arg5) = m' ((c.tc : Thread Cert.InDwRefIdeal.nD Cert.InDwRefIdeal.τ).loc Cert.InDwRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_v38) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)) (v2 : (c : Dev Cert.OutProjIdeal.nD) → Buf (Elt Ideal) ((c.tc : Thread Cert.OutProjIdeal.nD Cert.OutProjIdeal.τ).loc Cert.OutProjIdeal.main_v4_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_v4_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v56) = v0 c
          ∧ r.2.mem ((c.tc : Thread Cert.OutProjRefIdeal.nD Cert.OutProjRefIdeal.τ).loc Cert.OutProjRefIdeal.main_v55) = v1 c
          ∧ r.2.mem ((c.tc : Thread Cert.OutProjRefIdeal.nD Cert.OutProjRefIdeal.τ).loc Cert.OutProjRefIdeal.main_v70) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)) →
    ∃ (v0 : (c : Dev Cert.MlpFwdIdeal.nD) → Buf (Elt Ideal) ((c.tc : Thread Cert.MlpFwdIdeal.nD Cert.MlpFwdIdeal.τ).loc Cert.MlpFwdIdeal.main_v21_0)) (v1 : (c : Dev Cert.MlpFwdIdeal.nD) → Buf (Elt Ideal) ((c.tc : Thread Cert.MlpFwdIdeal.nD Cert.MlpFwdIdeal.τ).loc Cert.MlpFwdIdeal.main_v21_1)) (v2 : (c : Dev Cert.MlpFwdIdeal.nD) → Buf (Elt Ideal) ((c.tc : Thread Cert.MlpFwdIdeal.nD Cert.MlpFwdIdeal.τ).loc Cert.MlpFwdIdeal.main_v21_2)) (v3 : (c : Dev Cert.MlpFwdIdeal.nD) → Buf (Elt Ideal) ((c.tc : Thread Cert.MlpFwdIdeal.nD Cert.MlpFwdIdeal.τ).loc Cert.MlpFwdIdeal.main_v21_3)) (v4 : (c : Dev Cert.MlpFwdIdeal.nD) → Buf (Elt Ideal) ((c.tc : Thread Cert.MlpFwdIdeal.nD Cert.MlpFwdIdeal.τ).loc Cert.MlpFwdIdeal.main_v21_4)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v21_0) = v0 c
          ∧ r.2.mem ((c.tc : Thread Cert.MlpFwdIdeal.nD Cert.MlpFwdIdeal.τ).loc Cert.MlpFwdIdeal.main_v21_1) = v1 c
          ∧ r.2.mem ((c.tc : Thread Cert.MlpFwdIdeal.nD Cert.MlpFwdIdeal.τ).loc Cert.MlpFwdIdeal.main_v21_2) = v2 c
          ∧ r.2.mem ((c.tc : Thread Cert.MlpFwdIdeal.nD Cert.MlpFwdIdeal.τ).loc Cert.MlpFwdIdeal.main_v21_3) = v3 c
          ∧ r.2.mem ((c.tc : Thread Cert.MlpFwdIdeal.nD Cert.MlpFwdIdeal.τ).loc Cert.MlpFwdIdeal.main_v21_4) = v4 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v86) = v0 c
          ∧ r.2.mem ((c.tc : Thread Cert.MlpFwdRefIdeal.nD Cert.MlpFwdRefIdeal.τ).loc Cert.MlpFwdRefIdeal.main_v84) = v1 c
          ∧ r.2.mem ((c.tc : Thread Cert.MlpFwdRefIdeal.nD Cert.MlpFwdRefIdeal.τ).loc Cert.MlpFwdRefIdeal.main_v87) = v2 c
          ∧ r.2.mem ((c.tc : Thread Cert.MlpFwdRefIdeal.nD Cert.MlpFwdRefIdeal.τ).loc Cert.MlpFwdRefIdeal.main_v88) = v3 c
          ∧ r.2.mem ((c.tc : Thread Cert.MlpFwdRefIdeal.nD Cert.MlpFwdRefIdeal.τ).loc Cert.MlpFwdRefIdeal.main_v89) = v4 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_PoolU_PoolUIdeal : Prop :=
  True

def algebraic_PoolUIdeal_PoolURefIdeal [hPoolUIdeal : Cert.PoolUIdeal.Facts] [hPoolURefIdeal : Cert.PoolURefIdeal.Facts] : Prop :=
  ∀ (m : (ℓ : Loc Cert.PoolUIdeal.nD Cert.PoolUIdeal.τ Cert.PoolUIdeal.sig) → Buf (Elt Ideal) ℓ) (g : Dev Cert.PoolUIdeal.nD → PrngReg)
    (m' : (ℓ : Loc Cert.PoolURefIdeal.nD Cert.PoolURefIdeal.τ Cert.PoolURefIdeal.sig) → Buf (Elt Ideal) ℓ) (g' : Dev Cert.PoolURefIdeal.nD → PrngReg), Pre_PoolUIdeal m →
    (∀ c : Dev Cert.PoolUIdeal.nD,
      m' ((c.tc : Thread Cert.PoolURefIdeal.nD Cert.PoolURefIdeal.τ).loc Cert.PoolURefIdeal.main_arg0) = m ((c.tc : Thread Cert.PoolUIdeal.nD Cert.PoolUIdeal.τ).loc Cert.PoolUIdeal.main_arg0)) →
    ∃ (v0 : (c : Dev Cert.PoolUIdeal.nD) → Buf (Elt Ideal) ((c.tc : Thread Cert.PoolUIdeal.nD Cert.PoolUIdeal.τ).loc Cert.PoolUIdeal.main_v0)),
      θ_run (Cert.PoolUIdeal.defs (F := Ideal)) (onTc (τ := Cert.PoolUIdeal.τ) (Cert.PoolUIdeal.main (F := Ideal))) ⟨m, fun _ => 0, g⟩ (fun r => ∀ c : Dev Cert.PoolUIdeal.nD,
          r.2.mem ((c.tc : Thread Cert.PoolUIdeal.nD Cert.PoolUIdeal.τ).loc Cert.PoolUIdeal.main_v0) = v0 c
          ∧ r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0))
      ∧ θ_run (Cert.PoolURefIdeal.defs (F := Ideal)) (onTc (τ := Cert.PoolURefIdeal.τ) (Cert.PoolURefIdeal.main (F := Ideal))) ⟨m', fun _ => 0, g'⟩ (fun r => ∀ c : Dev Cert.PoolURefIdeal.nD,
          r.2.mem ((c.tc : Thread Cert.PoolURefIdeal.nD Cert.PoolURefIdeal.τ).loc Cert.PoolURefIdeal.main_v54) = v0 c
          ∧ r.2.mem ((c.tc : Thread Cert.PoolURefIdeal.nD Cert.PoolURefIdeal.τ).loc Cert.PoolURefIdeal.main_arg0) = m' ((c.tc : Thread Cert.PoolURefIdeal.nD Cert.PoolURefIdeal.τ).loc Cert.PoolURefIdeal.main_arg0))

def preserves_PoolW_PoolWIdeal : Prop :=
  True

def algebraic_PoolWIdeal_PoolWRefIdeal [hPoolWIdeal : Cert.PoolWIdeal.Facts] [hPoolWRefIdeal : Cert.PoolWRefIdeal.Facts] : Prop :=
  ∀ (m : (ℓ : Loc Cert.PoolWIdeal.nD Cert.PoolWIdeal.τ Cert.PoolWIdeal.sig) → Buf (Elt Ideal) ℓ) (g : Dev Cert.PoolWIdeal.nD → PrngReg)
    (m' : (ℓ : Loc Cert.PoolWRefIdeal.nD Cert.PoolWRefIdeal.τ Cert.PoolWRefIdeal.sig) → Buf (Elt Ideal) ℓ) (g' : Dev Cert.PoolWRefIdeal.nD → PrngReg), Pre_PoolWIdeal m →
    (∀ c : Dev Cert.PoolWIdeal.nD,
      m' ((c.tc : Thread Cert.PoolWRefIdeal.nD Cert.PoolWRefIdeal.τ).loc Cert.PoolWRefIdeal.main_arg0) = m ((c.tc : Thread Cert.PoolWIdeal.nD Cert.PoolWIdeal.τ).loc Cert.PoolWIdeal.main_arg0)
      ∧ m' ((c.tc : Thread Cert.PoolWRefIdeal.nD Cert.PoolWRefIdeal.τ).loc Cert.PoolWRefIdeal.main_arg1) = m ((c.tc : Thread Cert.PoolWIdeal.nD Cert.PoolWIdeal.τ).loc Cert.PoolWIdeal.main_arg1)
      ∧ m' ((c.tc : Thread Cert.PoolWRefIdeal.nD Cert.PoolWRefIdeal.τ).loc Cert.PoolWRefIdeal.main_arg2) = m ((c.tc : Thread Cert.PoolWIdeal.nD Cert.PoolWIdeal.τ).loc Cert.PoolWIdeal.main_arg2)
      ∧ m' ((c.tc : Thread Cert.PoolWRefIdeal.nD Cert.PoolWRefIdeal.τ).loc Cert.PoolWRefIdeal.main_arg3) = m ((c.tc : Thread Cert.PoolWIdeal.nD Cert.PoolWIdeal.τ).loc Cert.PoolWIdeal.main_arg3)) →
    ∃ (v0 : (c : Dev Cert.PoolWIdeal.nD) → Buf (Elt Ideal) ((c.tc : Thread Cert.PoolWIdeal.nD Cert.PoolWIdeal.τ).loc Cert.PoolWIdeal.main_v2_0)) (v1 : (c : Dev Cert.PoolWIdeal.nD) → Buf (Elt Ideal) ((c.tc : Thread Cert.PoolWIdeal.nD Cert.PoolWIdeal.τ).loc Cert.PoolWIdeal.main_v2_1)) (v2 : (c : Dev Cert.PoolWIdeal.nD) → Buf (Elt Ideal) ((c.tc : Thread Cert.PoolWIdeal.nD Cert.PoolWIdeal.τ).loc Cert.PoolWIdeal.main_v2_2)),
      θ_run (Cert.PoolWIdeal.defs (F := Ideal)) (onTc (τ := Cert.PoolWIdeal.τ) (Cert.PoolWIdeal.main (F := Ideal))) ⟨m, fun _ => 0, g⟩ (fun r => ∀ c : Dev Cert.PoolWIdeal.nD,
          r.2.mem ((c.tc : Thread Cert.PoolWIdeal.nD Cert.PoolWIdeal.τ).loc Cert.PoolWIdeal.main_v2_0) = v0 c
          ∧ r.2.mem ((c.tc : Thread Cert.PoolWIdeal.nD Cert.PoolWIdeal.τ).loc Cert.PoolWIdeal.main_v2_1) = v1 c
          ∧ r.2.mem ((c.tc : Thread Cert.PoolWIdeal.nD Cert.PoolWIdeal.τ).loc Cert.PoolWIdeal.main_v2_2) = v2 c
          ∧ r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
          ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1)
          ∧ r.2.mem ((c.tc : Thread Cert.PoolWIdeal.nD Cert.PoolWIdeal.τ).loc Cert.PoolWIdeal.main_arg2) = m ((c.tc : Thread Cert.PoolWIdeal.nD Cert.PoolWIdeal.τ).loc Cert.PoolWIdeal.main_arg2)
          ∧ r.2.mem ((c.tc : Thread Cert.PoolWIdeal.nD Cert.PoolWIdeal.τ).loc Cert.PoolWIdeal.main_arg3) = m ((c.tc : Thread Cert.PoolWIdeal.nD Cert.PoolWIdeal.τ).loc Cert.PoolWIdeal.main_arg3))
      ∧ θ_run (Cert.PoolWRefIdeal.defs (F := Ideal)) (onTc (τ := Cert.PoolWRefIdeal.τ) (Cert.PoolWRefIdeal.main (F := Ideal))) ⟨m', fun _ => 0, g'⟩ (fun r => ∀ c : Dev Cert.PoolWRefIdeal.nD,
          r.2.mem ((c.tc : Thread Cert.PoolWRefIdeal.nD Cert.PoolWRefIdeal.τ).loc Cert.PoolWRefIdeal.main_v63) = v0 c
          ∧ r.2.mem ((c.tc : Thread Cert.PoolWRefIdeal.nD Cert.PoolWRefIdeal.τ).loc Cert.PoolWRefIdeal.main_v62) = v1 c
          ∧ r.2.mem ((c.tc : Thread Cert.PoolWRefIdeal.nD Cert.PoolWRefIdeal.τ).loc Cert.PoolWRefIdeal.main_v64) = v2 c
          ∧ r.2.mem ((c.tc : Thread Cert.PoolWRefIdeal.nD Cert.PoolWRefIdeal.τ).loc Cert.PoolWRefIdeal.main_arg0) = m' ((c.tc : Thread Cert.PoolWRefIdeal.nD Cert.PoolWRefIdeal.τ).loc Cert.PoolWRefIdeal.main_arg0)
          ∧ r.2.mem ((c.tc : Thread Cert.PoolWRefIdeal.nD Cert.PoolWRefIdeal.τ).loc Cert.PoolWRefIdeal.main_arg1) = m' ((c.tc : Thread Cert.PoolWRefIdeal.nD Cert.PoolWRefIdeal.τ).loc Cert.PoolWRefIdeal.main_arg1)
          ∧ r.2.mem ((c.tc : Thread Cert.PoolWRefIdeal.nD Cert.PoolWRefIdeal.τ).loc Cert.PoolWRefIdeal.main_arg2) = m' ((c.tc : Thread Cert.PoolWRefIdeal.nD Cert.PoolWRefIdeal.τ).loc Cert.PoolWRefIdeal.main_arg2)
          ∧ r.2.mem ((c.tc : Thread Cert.PoolWRefIdeal.nD Cert.PoolWRefIdeal.τ).loc Cert.PoolWRefIdeal.main_arg3) = m' ((c.tc : Thread Cert.PoolWRefIdeal.nD Cert.PoolWRefIdeal.τ).loc Cert.PoolWRefIdeal.main_arg3))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v50) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)) →
    ∃ (v0 : (c : Dev Cert.SumInIdeal.nD) → Buf (Elt Ideal) ((c.tc : Thread Cert.SumInIdeal.nD Cert.SumInIdeal.τ).loc Cert.SumInIdeal.main_v15)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v15) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v9) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)) →
    ∃ (v0 : (c : Dev Cert.SumOutIdeal.nD) → Buf (Elt Ideal) ((c.tc : Thread Cert.SumOutIdeal.nD Cert.SumOutIdeal.τ).loc Cert.SumOutIdeal.main_v15)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v15) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v9) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2))

def preserves_SumMlp_SumMlpIdeal : Prop :=
  True

def algebraic_SumMlpIdeal_SumMlpRefIdeal [hSumMlpIdeal : Cert.SumMlpIdeal.Facts] [hSumMlpRefIdeal : Cert.SumMlpRefIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg)
    (m' : (ℓ : Loc Cert.SumMlpRefIdeal.nD Cert.SumMlpRefIdeal.τ Cert.SumMlpRefIdeal.sig) → Buf (Elt Ideal) ℓ) (g' : Dev Cert.SumMlpRefIdeal.nD → PrngReg), Pre_SumMlpIdeal m →
    (∀ c : Dev Cert.SumMlpIdeal.nD,
      m' ((c.tc : Thread Cert.SumMlpRefIdeal.nD Cert.SumMlpRefIdeal.τ).loc Cert.SumMlpRefIdeal.main_arg0) = m ((c.tc : Thread Cert.SumMlpIdeal.nD Cert.SumMlpIdeal.τ).loc Cert.SumMlpIdeal.main_arg0)
      ∧ m' ((c.tc : Thread Cert.SumMlpRefIdeal.nD Cert.SumMlpRefIdeal.τ).loc Cert.SumMlpRefIdeal.main_arg1) = m ((c.tc : Thread Cert.SumMlpIdeal.nD Cert.SumMlpIdeal.τ).loc Cert.SumMlpIdeal.main_arg1)
      ∧ m' ((c.tc : Thread Cert.SumMlpRefIdeal.nD Cert.SumMlpRefIdeal.τ).loc Cert.SumMlpRefIdeal.main_arg2) = m ((c.tc : Thread Cert.SumMlpIdeal.nD Cert.SumMlpIdeal.τ).loc Cert.SumMlpIdeal.main_arg2)) →
    ∃ (v0 : (c : Dev Cert.SumMlpIdeal.nD) → Buf (Elt Ideal) ((c.tc : Thread Cert.SumMlpIdeal.nD Cert.SumMlpIdeal.τ).loc Cert.SumMlpIdeal.main_v15)),
      θ_run (Cert.SumMlpIdeal.defs (F := Ideal)) (onTc (τ := Cert.SumMlpIdeal.τ) (Cert.SumMlpIdeal.main (F := Ideal))) ⟨m, fun _ => 0, g⟩ (fun r => ∀ c : Dev Cert.SumMlpIdeal.nD,
          r.2.mem ((c.tc : Thread Cert.SumMlpIdeal.nD Cert.SumMlpIdeal.τ).loc Cert.SumMlpIdeal.main_v15) = v0 c
          ∧ r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
          ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
          ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ θ_run (Cert.SumMlpRefIdeal.defs (F := Ideal)) (onTc (τ := Cert.SumMlpRefIdeal.τ) (Cert.SumMlpRefIdeal.main (F := Ideal))) ⟨m', fun _ => 0, g'⟩ (fun r => ∀ c : Dev Cert.SumMlpRefIdeal.nD,
          r.2.mem ((c.tc : Thread Cert.SumMlpRefIdeal.nD Cert.SumMlpRefIdeal.τ).loc Cert.SumMlpRefIdeal.main_v9) = v0 c
          ∧ r.2.mem ((c.tc : Thread Cert.SumMlpRefIdeal.nD Cert.SumMlpRefIdeal.τ).loc Cert.SumMlpRefIdeal.main_arg0) = m' ((c.tc : Thread Cert.SumMlpRefIdeal.nD Cert.SumMlpRefIdeal.τ).loc Cert.SumMlpRefIdeal.main_arg0)
          ∧ r.2.mem ((c.tc : Thread Cert.SumMlpRefIdeal.nD Cert.SumMlpRefIdeal.τ).loc Cert.SumMlpRefIdeal.main_arg1) = m' ((c.tc : Thread Cert.SumMlpRefIdeal.nD Cert.SumMlpRefIdeal.τ).loc Cert.SumMlpRefIdeal.main_arg1)
          ∧ r.2.mem ((c.tc : Thread Cert.SumMlpRefIdeal.nD Cert.SumMlpRefIdeal.τ).loc Cert.SumMlpRefIdeal.main_arg2) = m' ((c.tc : Thread Cert.SumMlpRefIdeal.nD Cert.SumMlpRefIdeal.τ).loc Cert.SumMlpRefIdeal.main_arg2))

def Claim : Prop :=
  ∃ (hMlpDx : Cert.MlpDx.Facts) (hMlpDxIdeal : Cert.MlpDxIdeal.Facts) (hMlpDxRefIdeal : Cert.MlpDxRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hOutBwd : Cert.OutBwd.Facts) (hOutBwdIdeal : Cert.OutBwdIdeal.Facts) (hOutBwdRefIdeal : Cert.OutBwdRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlpFwd : Cert.MlpFwd.Facts) (hMlpFwdIdeal : Cert.MlpFwdIdeal.Facts) (hMlpFwdRefIdeal : Cert.MlpFwdRefIdeal.Facts) (hAdamw : Cert.Adamw.Facts) (hAdamwIdeal : Cert.AdamwIdeal.Facts) (hAdamwRefIdeal : Cert.AdamwRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hPoolU : Cert.PoolU.Facts) (hPoolUIdeal : Cert.PoolUIdeal.Facts) (hPoolURefIdeal : Cert.PoolURefIdeal.Facts) (hPoolW : Cert.PoolW.Facts) (hPoolWIdeal : Cert.PoolWIdeal.Facts) (hPoolWRefIdeal : Cert.PoolWRefIdeal.Facts) (hPoolFwd : Cert.PoolFwd.Facts) (hPoolFwdIdeal : Cert.PoolFwdIdeal.Facts) (hPoolFwdRefIdeal : Cert.PoolFwdRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumMlp : Cert.SumMlp.Facts) (hSumMlpIdeal : Cert.SumMlpIdeal.Facts) (hSumMlpRefIdeal : Cert.SumMlpRefIdeal.Facts),
    quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_PoolU (hPoolU := hPoolU)
    ∧ quiescent_PoolUIdeal (hPoolUIdeal := hPoolUIdeal)
    ∧ quiescent_PoolURefIdeal (hPoolURefIdeal := hPoolURefIdeal)
    ∧ quiescent_PoolW (hPoolW := hPoolW)
    ∧ quiescent_PoolWIdeal (hPoolWIdeal := hPoolWIdeal)
    ∧ quiescent_PoolWRefIdeal (hPoolWRefIdeal := hPoolWRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumMlp (hSumMlp := hSumMlp)
    ∧ quiescent_SumMlpIdeal (hSumMlpIdeal := hSumMlpIdeal)
    ∧ quiescent_SumMlpRefIdeal (hSumMlpRefIdeal := hSumMlpRefIdeal)
    ∧ preserves_MlpDx_MlpDxIdeal
    ∧ algebraic_MlpDxIdeal_MlpDxRefIdeal (hMlpDxIdeal := hMlpDxIdeal) (hMlpDxRefIdeal := hMlpDxRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_Adamw_AdamwIdeal
    ∧ algebraic_AdamwIdeal_AdamwRefIdeal (hAdamwIdeal := hAdamwIdeal) (hAdamwRefIdeal := hAdamwRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_PoolU_PoolUIdeal
    ∧ algebraic_PoolUIdeal_PoolURefIdeal (hPoolUIdeal := hPoolUIdeal) (hPoolURefIdeal := hPoolURefIdeal)
    ∧ preserves_PoolW_PoolWIdeal
    ∧ algebraic_PoolWIdeal_PoolWRefIdeal (hPoolWIdeal := hPoolWIdeal) (hPoolWRefIdeal := hPoolWRefIdeal)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumMlp_SumMlpIdeal
    ∧ algebraic_SumMlpIdeal_SumMlpRefIdeal (hSumMlpIdeal := hSumMlpIdeal) (hSumMlpRefIdeal := hSumMlpRefIdeal)
-- ==== MlpDx.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4x1024x1024 : Shape := ⟨3, ![4, 1024, 1024]⟩
abbrev S1024x4x1024 : Shape := ⟨3, ![1024, 4, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x1024, .bf16⟩
  | .hbm, ⟨27, _⟩ => ⟨S4x1024x1024, .f32⟩
  | .hbm, ⟨28, _⟩ => ⟨S4x1024x1024, .bf16⟩
  | .hbm, ⟨29, _⟩ => ⟨S1024x4x1024, .f32⟩
  | .hbm, ⟨30, _⟩ => ⟨S4x1024x1024, .f32⟩
  | .hbm, ⟨31, _⟩ => ⟨S4x1024x1024, .bf16⟩
  | .hbm, ⟨32, _⟩ => ⟨S1x1024, .f32⟩
  | .hbm, ⟨33, _⟩ => ⟨S4096x4096, .bf16⟩
  | .hbm, ⟨34, _⟩ => ⟨S4096x1024, .f32⟩
  | .hbm, ⟨35, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpDxRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .i1⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x4096, .bf16⟩
  | .hbm, ⟨109, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DwUp.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4096, .bf16⟩
  | .hbm, ⟨21, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S1024x4096 : Shape := ⟨2, ![1024, 4096]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 48
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .bf16⟩
  | .hbm, ⟨40, _⟩ => ⟨S1024x1024, .bf16⟩
  | .hbm, ⟨41, _⟩ => ⟨S1x512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S1024x1024, .bf16⟩
  | .hbm, ⟨46, _⟩ => ⟨S1x512, .f32⟩
  | .hbm, ⟨47, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x1024, .bf16⟩
  | .local _ .vmem, ⟨16, _⟩ => ⟨S1x512, .f32⟩
  | .local _ .vmem, ⟨17, _⟩ => ⟨S1x512, .f32⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutBwdRefIdeal.lean ====
abbrev S4096x1024 : Shape := ⟨2, ![4096, 1024]⟩
abbrev S1024x1024 : Shape := ⟨2, ![1024, 1024]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S512, .f32⟩
  | .hbm, ⟨5, _⟩ => ⟨S512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S512, .f32⟩
  | .hbm, ⟨61, _⟩ => ⟨S4096x512, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x512, .f32⟩
  | .hbm, ⟨66, _⟩ => ⟨S4096x512, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S4096x512, .f32⟩
  | .hbm, ⟨83, _⟩ => ⟨S4096x512, .f32⟩
  | .hbm, ⟨84, _⟩ => ⟨S_, .f32⟩
  | .hbm, ⟨85, _⟩ => ⟨S512, .f32⟩
  | .hbm, ⟨86, _⟩ => ⟨S4096x512, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x512, .f32⟩
  | .hbm, ⟨91, _⟩ => ⟨S4096x512, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S4096x512, .f32⟩
  | .hbm, ⟨102, _⟩ => ⟨S4096x512, .f32⟩
  | .hbm, ⟨103, _⟩ => ⟨S1024x1024, .bf16⟩
  | .hbm, ⟨104, _⟩ => ⟨S1x512, .f32⟩
  | .hbm, ⟨105, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== InDx.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S1024x4x512 : Shape := ⟨3, ![1024, 4, 512]⟩
abbrev S4x1024x512 : Shape := ⟨3, ![4, 1024, 512]⟩
abbrev S1x1024 : Shape := ⟨2, ![1, 1024]⟩
abbrev S512x512 : Shape := ⟨2, ![512, 512]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x1024x512, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InDxRefIdeal.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== InDw.lean ====
abbrev S4096x1024 : Shape := ⟨2, ![4096, 1024]⟩
abbrev S1024 : Shape := ⟨1, ![1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 28
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x512, .bf16⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond13 (i : grid0.Coords) : BitVec 1 :=
  let arg1 : BitVec 32 := BitVec.ofNat 32 (i 1).val
  let c1_i32_4 : BitVec 32 := 1#32
  let v12 : BitVec 1 := Scalar.cmpi .eq arg1 c1_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InDwRefIdeal.lean ====
abbrev S4096x1024 : Shape := ⟨2, ![4096, 1024]⟩
abbrev S1024 : Shape := ⟨1, ![1024]⟩
abbrev S4096x512 : Shape := ⟨2, ![4096, 512]⟩
abbrev S4096x2048 : Shape := ⟨2, ![4096, 2048]⟩
abbrev S_ : Shape := ⟨0, ![]⟩
abbrev S1024x2048 : Shape := ⟨2, ![1024, 2048]⟩
abbrev S4096 : Shape := ⟨1, ![4096]⟩
abbrev S4096x1 : Shape := ⟨2, ![4096, 1]⟩
abbrev S1x1024 : Shape := ⟨2, ![1, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x2048, .f32⟩
  | .hbm, ⟨7, _⟩ => ⟨S_, .f32⟩
  | .hbm, ⟨8, _⟩ => ⟨S1024x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S2048x1024, .f32⟩
  | .hbm, ⟨27, _⟩ => ⟨S1024x2048, .f32⟩
  | .hbm, ⟨28, _⟩ => ⟨S1024x4x512, .f32⟩
  | .hbm, ⟨29, _⟩ => ⟨S4x1024x512, .f32⟩
  | .hbm, ⟨30, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== InProj.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S4096x512 : Shape := ⟨2, ![4096, 512]⟩
abbrev S3x4096x512 : Shape := ⟨3, ![3, 4096, 512]⟩
abbrev S512x1024 : Shape := ⟨2, ![512, 1024]⟩
abbrev S512x512 : Shape := ⟨2, ![512, 512]⟩
abbrev S3x512x512 : Shape := ⟨3, ![3, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512x512 : Shape := ⟨3, ![1, 512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x4x512, .f32⟩
  | .hbm, ⟨5, _⟩ => ⟨S4x1024x512, .f32⟩
  | .hbm, ⟨6, _⟩ => ⟨S4x1024x512, .bf16⟩
  | .hbm, ⟨7, _⟩ => ⟨S4096x1024, .bf16⟩
  | .hbm, ⟨8, _⟩ => ⟨S4096x512, .f32⟩
  | .hbm, ⟨9, _⟩ => ⟨S3x4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S3x512x512, .bf16⟩
  | .local _ .vmem, ⟨9, _⟩ => ⟨S3x512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S1x4096x512 : Shape := ⟨3, ![1, 4096, 512]⟩
abbrev S3x4096x512 : Shape := ⟨3, ![3, 4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S1x4096x512, .f32⟩
  | .hbm, ⟨45, _⟩ => ⟨S1x4096x512, .f32⟩
  | .hbm, ⟨46, _⟩ => ⟨S1x4096x512, .f32⟩
  | .hbm, ⟨47, _⟩ => ⟨S3x4096x512, .f32⟩
  | .hbm, ⟨48, _⟩ => ⟨S3x4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== OutProj.lean ====
abbrev S4096x512 : Shape := ⟨2, ![4096, 512]⟩
abbrev S4096x1024 : Shape := ⟨2, ![4096, 1024]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1x512, .f32⟩
  | .hbm, ⟨8, _⟩ => ⟨S1x512, .f32⟩
  | .hbm, ⟨9, _⟩ => ⟨S1024x1024, .bf16⟩
  | .hbm, ⟨10, _⟩ => ⟨S1x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S4096x512 : Shape := ⟨2, ![4096, 512]⟩
abbrev S4096x1024 : Shape := ⟨2, ![4096, 1024]⟩
abbrev S512 : Shape := ⟨1, ![512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x1024, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S4096x512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x512, .f32⟩
  | .hbm, ⟨68, _⟩ => ⟨S4096x512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== MlpFwd.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x4x1024, .f32⟩
  | .hbm, ⟨24, _⟩ => ⟨S4x1024x1024, .f32⟩
  | .hbm, ⟨25, _⟩ => ⟨S4x1024x1024, .bf16⟩
  | .hbm, ⟨26, _⟩ => ⟨S4x1024x1024, .f32⟩
  | .hbm, ⟨27, _⟩ => ⟨S4x1024x1024, .bf16⟩
  | .hbm, ⟨28, _⟩ => ⟨S1x1024, .f32⟩
  | .hbm, ⟨29, _⟩ => ⟨S4096x1024, .bf16⟩
  | .hbm, ⟨30, _⟩ => ⟨S4096x4096, .bf16⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x1024x1024, .bf16⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpFwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S_, .f32⟩
  | .hbm, ⟨118, _⟩ => ⟨S4096x4096, .f32⟩
  | .hbm, ⟨119, _⟩ => ⟨S4096x4096, .f32⟩
  | .hbm, ⟨120, _⟩ => ⟨S4096x4096, .bf16⟩
  | .hbm, ⟨121, _⟩ => ⟨S4096x1024, .bf16⟩
  | .hbm, ⟨122, _⟩ => ⟨S1x1024, .f32⟩
  | .hbm, ⟨123, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_cst_15 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_21 : Ref sig .tc := ⟨.hbm, 107, rfl⟩
abbrev main_v77 : Ref sig .tc := ⟨.hbm, 108, rfl⟩
abbrev main_v78 : Ref sig .tc := ⟨.hbm, 109, rfl⟩
abbrev main_cst_22 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call1_cst : Ref sig .tc := ⟨.hbm, 117, rfl⟩
abbrev main_call1_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Adamw.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwIn.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PoolU.lean ====
abbrev S4096x512 : Shape := ⟨2, ![4096, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩

abbrev nBuf : Space → Nat
  | .hbm => 2
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolURefIdeal.lean ====
abbrev S4096x512 : Shape := ⟨2, ![4096, 512]⟩
abbrev S_ : Shape := ⟨0, ![]⟩
abbrev S4096x4x128 : Shape := ⟨3, ![4096, 4, 128]⟩
abbrev S4 : Shape := ⟨1, ![4]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4x1x1 : Shape := ⟨3, ![4, 1, 1]⟩
abbrev S4x1x4096 : Shape := ⟨3, ![4, 1, 4096]⟩
abbrev S4x4096x4096 : Shape := ⟨3, ![4, 4096, 4096]⟩
abbrev S4096x1 : Shape := ⟨2, ![4096, 1]⟩
abbrev S1x4 : Shape := ⟨2, ![1, 4]⟩
abbrev S4096x4 : Shape := ⟨2, ![4096, 4]⟩
abbrev S4x128x4096 : Shape := ⟨3, ![4, 128, 4096]⟩
abbrev S4096x4x1 : Shape := ⟨3, ![4096, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S4096x512, .f32⟩
  | .hbm, ⟨3, _⟩ => ⟨S4096x4x128, .f32⟩
  | .hbm, ⟨4, _⟩ => ⟨S4, .i32⟩
  | .hbm, ⟨5, _⟩ => ⟨S4096, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S_, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S1x4096x1, .i32⟩
  | .hbm, ⟨27, _⟩ => ⟨S1x1x4096, .i32⟩
  | .hbm, ⟨28, _⟩ => ⟨S1x4096x4096, .i32⟩
  | .hbm, ⟨29, _⟩ => ⟨S1x4096x4096, .i32⟩
  | .hbm, ⟨30, _⟩ => ⟨S1x4096x4096, .i1⟩
  | .hbm, ⟨31, _⟩ => ⟨S4x1x1, .i32⟩
  | .hbm, ⟨32, _⟩ => ⟨S4x1x1, .i32⟩
  | .hbm, ⟨33, _⟩ => ⟨S4x1x4096, .i32⟩
  | .hbm, ⟨34, _⟩ => ⟨S4x1x4096, .i32⟩
  | .hbm, ⟨35, _⟩ => ⟨S4x1x4096, .i32⟩
  | .hbm, ⟨36, _⟩ => ⟨S4x4096x4096, .i32⟩
  | .hbm, ⟨37, _⟩ => ⟨S4x4096x4096, .i32⟩
  | .hbm, ⟨38, _⟩ => ⟨S4x4096x4096, .i1⟩
  | .hbm, ⟨39, _⟩ => ⟨S4x4096x4096, .i1⟩
  | .hbm, ⟨40, _⟩ => ⟨S4x4096x4096, .i1⟩
  | .hbm, ⟨41, _⟩ => ⟨S_, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4096x1, .i32⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S1x4, .i32⟩
  | .hbm, ⟨51, _⟩ => ⟨S1x4, .i32⟩
  | .hbm, ⟨52, _⟩ => ⟨S4096x4, .i32⟩
  | .hbm, ⟨53, _⟩ => ⟨S4096x4, .i32⟩
  | .hbm, ⟨54, _⟩ => ⟨S4096x4, .i32⟩
  | .hbm, ⟨55, _⟩ => ⟨S4096x4, .f32⟩
  | .hbm, ⟨56, _⟩ => ⟨S4x128x4096, .f32⟩
  | .hbm, ⟨57, _⟩ => ⟨S4096x4x128, .f32⟩
  | .hbm, ⟨58, _⟩ => ⟨S4096x4x1, .f32⟩
  | .hbm, ⟨59, _⟩ => ⟨S4096x4x128, .f32⟩
  | .hbm, ⟨60, _⟩ => ⟨S4096x4x128, .f32⟩
  | .hbm, ⟨61, _⟩ => ⟨S4096x4x128, .f32⟩
  | .hbm, ⟨62, _⟩ => ⟨S4096x512, .f32⟩
  | .hbm, ⟨63, _⟩ => ⟨S4096x4x128, .f32⟩
  | .hbm, ⟨64, _⟩ => ⟨S4096x4x128, .f32⟩
  | .hbm, ⟨65, _⟩ => ⟨S4096x4x128, .f32⟩
  | .hbm, ⟨66, _⟩ => ⟨S4096x4x128, .f32⟩
  | .hbm, ⟨67, _⟩ => ⟨S4x128x4096, .f32⟩
  | .hbm, ⟨68, _⟩ => ⟨S4x128x4096, .f32⟩
  | .hbm, ⟨69, _⟩ => ⟨S4096x4x128, .f32⟩
  | .hbm, ⟨70, _⟩ => ⟨S4096x4x128, .f32⟩
  | .hbm, ⟨71, _⟩ => ⟨S4096x512, .f32⟩
  | .hbm, ⟨72, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_c_4 : Ref sig .tc := ⟨.hbm, 20, rfl⟩
abbrev main_call1_v0 : Ref sig .tc := ⟨.hbm, 21, rfl⟩
abbrev main_v11 : Ref sig .tc := ⟨.hbm, 22, rfl⟩
abbrev main_c_5 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== PoolW.lean ====
abbrev S4096x512 : Shape := ⟨2, ![4096, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S4096x512, .f32⟩
  | .hbm, ⟨7, _⟩ => ⟨S4x128x128, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S4x128x128, .bf16⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S4x128x128, .f32⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolWRefIdeal.lean ====
abbrev S4096x512 : Shape := ⟨2, ![4096, 512]⟩
abbrev S4x128x128 : Shape := ⟨3, ![4, 128, 128]⟩
abbrev S512 : Shape := ⟨1, ![512]⟩
abbrev S4096x4x128 : Shape := ⟨3, ![4096, 4, 128]⟩
abbrev S4 : Shape := ⟨1, ![4]⟩
abbrev S4096 : Shape := ⟨1, ![4096]⟩
abbrev S_ : Shape := ⟨0, ![]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4x1x1 : Shape := ⟨3, ![4, 1, 1]⟩
abbrev S4x1x4096 : Shape := ⟨3, ![4, 1, 4096]⟩
abbrev S4x4096x4096 : Shape := ⟨3, ![4, 4096, 4096]⟩
abbrev S4096x1 : Shape := ⟨2, ![4096, 1]⟩
abbrev S1x4 : Shape := ⟨2, ![1, 4]⟩
abbrev S4096x4 : Shape := ⟨2, ![4096, 4]⟩
abbrev S4x128x4096 : Shape := ⟨3, ![4, 128, 4096]⟩
abbrev S4096x4x1 : Shape := ⟨3, ![4096, 4, 1]⟩
abbrev S1x512 : Shape := ⟨2, ![1, 512]⟩
abbrev S4x4096x128 : Shape := ⟨3, ![4, 4096, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x128x128, .f32⟩
  | .hbm, ⟨3, _⟩ => ⟨S512, .f32⟩
  | .hbm, ⟨4, _⟩ => ⟨S4096x4x128, .f32⟩
  | .hbm, ⟨5, _⟩ => ⟨S4, .i32⟩
  | .hbm, ⟨6, _⟩ => ⟨S4096, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i32⟩
  | .hbm, ⟨27, _⟩ => ⟨S1x4096x1, .i32⟩
  | .hbm, ⟨28, _⟩ => ⟨S1x1x4096, .i32⟩
  | .hbm, ⟨29, _⟩ => ⟨S1x4096x4096, .i32⟩
  | .hbm, ⟨30, _⟩ => ⟨S1x4096x4096, .i32⟩
  | .hbm, ⟨31, _⟩ => ⟨S1x4096x4096, .i1⟩
  | .hbm, ⟨32, _⟩ => ⟨S4x1x1, .i32⟩
  | .hbm, ⟨33, _⟩ => ⟨S4x1x1, .i32⟩
  | .hbm, ⟨34, _⟩ => ⟨S4x1x4096, .i32⟩
  | .hbm, ⟨35, _⟩ => ⟨S4x1x4096, .i32⟩
  | .hbm, ⟨36, _⟩ => ⟨S4x1x4096, .i32⟩
  | .hbm, ⟨37, _⟩ => ⟨S4x4096x4096, .i32⟩
  | .hbm, ⟨38, _⟩ => ⟨S4x4096x4096, .i32⟩
  | .hbm, ⟨39, _⟩ => ⟨S4x4096x4096, .i1⟩
  | .hbm, ⟨40, _⟩ => ⟨S4x4096x4096, .i1⟩
  | .hbm, ⟨41, _⟩ => ⟨S4x4096x4096, .i1⟩
  | .hbm, ⟨42, _⟩ => ⟨S_, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4096x1, .i32⟩
  | .hbm, ⟨48, _⟩ => ⟨S_, .i32⟩
  | .hbm, ⟨49, _⟩ => ⟨S4096x1, .i32⟩
  | .hbm, ⟨50, _⟩ => ⟨S4096x1, .i32⟩
  | .hbm, ⟨51, _⟩ => ⟨S1x4, .i32⟩
  | .hbm, ⟨52, _⟩ => ⟨S1x4, .i32⟩
  | .hbm, ⟨53, _⟩ => ⟨S4096x4, .i32⟩
  | .hbm, ⟨54, _⟩ => ⟨S4096x4, .i32⟩
  | .hbm, ⟨55, _⟩ => ⟨S4096x4, .i32⟩
  | .hbm, ⟨56, _⟩ => ⟨S4096x4, .f32⟩
  | .hbm, ⟨57, _⟩ => ⟨S4x128x4096, .f32⟩
  | .hbm, ⟨58, _⟩ => ⟨S4096x4x128, .f32⟩
  | .hbm, ⟨59, _⟩ => ⟨S4096x4x1, .f32⟩
  | .hbm, ⟨60, _⟩ => ⟨S4096x4x128, .f32⟩
  | .hbm, ⟨61, _⟩ => ⟨S4096x4x128, .f32⟩
  | .hbm, ⟨62, _⟩ => ⟨S4096x4x128, .f32⟩
  | .hbm, ⟨63, _⟩ => ⟨S4096x512, .f32⟩
  | .hbm, ⟨64, _⟩ => ⟨S4096x4x128, .f32⟩
  | .hbm, ⟨65, _⟩ => ⟨S4x128x4096, .f32⟩
  | .hbm, ⟨66, _⟩ => ⟨S4096x4x128, .f32⟩
  | .hbm, ⟨67, _⟩ => ⟨S4096x512, .f32⟩
  | .hbm, ⟨68, _⟩ => ⟨S1x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S4096x4x128, .f32⟩
  | .hbm, ⟨80, _⟩ => ⟨S4x128x4096, .f32⟩
  | .hbm, ⟨81, _⟩ => ⟨S4x4096x128, .f32⟩
  | .hbm, ⟨82, _⟩ => ⟨S4096x4x128, .f32⟩
  | .hbm, ⟨83, _⟩ => ⟨S4x128x128, .f32⟩
  | .hbm, ⟨84, _⟩ => ⟨S4x128x128, .f32⟩
  | .hbm, ⟨85, _⟩ => ⟨S4096x512, .f32⟩
  | .hbm, ⟨86, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_4 : Ref sig .tc := ⟨.hbm, 21, rfl⟩
abbrev main_call1_v0 : Ref sig .tc := ⟨.hbm, 22, rfl⟩
abbrev main_v10 : Ref sig .tc := ⟨.hbm, 23, rfl⟩
abbrev main_c_5 : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_cst_6 : Ref sig .tc := ⟨.hbm, 43, rfl⟩
abbrev main_call3_v0 : Ref sig .tc := ⟨.hbm, 44, rfl⟩
abbrev main_call3_v1 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== PoolFwd.lean ====
abbrev S4096x512 : Shape := ⟨2, ![4096, 512]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S4096x512 : Shape := ⟨2, ![4096, 512]⟩
abbrev S4x128x128 : Shape := ⟨3, ![4, 128, 128]⟩
abbrev S512 : Shape := ⟨1, ![512]⟩
abbrev S4096x4x128 : Shape := ⟨3, ![4096, 4, 128]⟩
abbrev S4 : Shape := ⟨1, ![4]⟩
abbrev S4096 : Shape := ⟨1, ![4096]⟩
abbrev S_ : Shape := ⟨0, ![]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4x1x1 : Shape := ⟨3, ![4, 1, 1]⟩
abbrev S4x1x4096 : Shape := ⟨3, ![4, 1, 4096]⟩
abbrev S4x4096x4096 : Shape := ⟨3, ![4, 4096, 4096]⟩
abbrev S4096x1 : Shape := ⟨2, ![4096, 1]⟩
abbrev S1x4 : Shape := ⟨2, ![1, 4]⟩
abbrev S4096x4 : Shape := ⟨2, ![4096, 4]⟩
abbrev S4x128x4096 : Shape := ⟨3, ![4, 128, 4096]⟩
abbrev S4096x4x1 : Shape := ⟨3, ![4096, 4, 1]⟩
abbrev S1x512 : Shape := ⟨2, ![1, 512]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S512, .f32⟩
  | .hbm, ⟨3, _⟩ => ⟨S4096x4x128, .f32⟩
  | .hbm, ⟨4, _⟩ => ⟨S4, .i32⟩
  | .hbm, ⟨5, _⟩ => ⟨S4096, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S_, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S1x4096x1, .i32⟩
  | .hbm, ⟨27, _⟩ => ⟨S1x1x4096, .i32⟩
  | .hbm, ⟨28, _⟩ => ⟨S1x4096x4096, .i32⟩
  | .hbm, ⟨29, _⟩ => ⟨S1x4096x4096, .i32⟩
  | .hbm, ⟨30, _⟩ => ⟨S1x4096x4096, .i1⟩
  | .hbm, ⟨31, _⟩ => ⟨S4x1x1, .i32⟩
  | .hbm, ⟨32, _⟩ => ⟨S4x1x1, .i32⟩
  | .hbm, ⟨33, _⟩ => ⟨S4x1x4096, .i32⟩
  | .hbm, ⟨34, _⟩ => ⟨S4x1x4096, .i32⟩
  | .hbm, ⟨35, _⟩ => ⟨S4x1x4096, .i32⟩
  | .hbm, ⟨36, _⟩ => ⟨S4x4096x4096, .i32⟩
  | .hbm, ⟨37, _⟩ => ⟨S4x4096x4096, .i32⟩
  | .hbm, ⟨38, _⟩ => ⟨S4x4096x4096, .i1⟩
  | .hbm, ⟨39, _⟩ => ⟨S4x4096x4096, .i1⟩
  | .hbm, ⟨40, _⟩ => ⟨S4x4096x4096, .i1⟩
  | .hbm, ⟨41, _⟩ => ⟨S_, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4096x1, .i32⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S1x4, .i32⟩
  | .hbm, ⟨51, _⟩ => ⟨S1x4, .i32⟩
  | .hbm, ⟨52, _⟩ => ⟨S4096x4, .i32⟩
  | .hbm, ⟨53, _⟩ => ⟨S4096x4, .i32⟩
  | .hbm, ⟨54, _⟩ => ⟨S4096x4, .i32⟩
  | .hbm, ⟨55, _⟩ => ⟨S4096x4, .f32⟩
  | .hbm, ⟨56, _⟩ => ⟨S4x128x4096, .f32⟩
  | .hbm, ⟨57, _⟩ => ⟨S4096x4x128, .f32⟩
  | .hbm, ⟨58, _⟩ => ⟨S4096x4x1, .f32⟩
  | .hbm, ⟨59, _⟩ => ⟨S4096x4x128, .f32⟩
  | .hbm, ⟨60, _⟩ => ⟨S4096x4x128, .f32⟩
  | .hbm, ⟨61, _⟩ => ⟨S4096x4x128, .f32⟩
  | .hbm, ⟨62, _⟩ => ⟨S4096x512, .f32⟩
  | .hbm, ⟨63, _⟩ => ⟨S4096x4x128, .f32⟩
  | .hbm, ⟨64, _⟩ => ⟨S4x128x4096, .f32⟩
  | .hbm, ⟨65, _⟩ => ⟨S4096x4x128, .f32⟩
  | .hbm, ⟨66, _⟩ => ⟨S4096x512, .f32⟩
  | .hbm, ⟨67, _⟩ => ⟨S1x512, .f32⟩
  | .hbm, ⟨68, _⟩ => ⟨S4096x512, .f32⟩
  | .hbm, ⟨69, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_c_4 : Ref sig .tc := ⟨.hbm, 20, rfl⟩
abbrev main_call1_v0 : Ref sig .tc := ⟨.hbm, 21, rfl⟩
abbrev main_v10 : Ref sig .tc := ⟨.hbm, 22, rfl⟩
abbrev main_c_5 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_cst_6 : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== SumIn.lean ====
abbrev S1 : Shape := ⟨1, ![1]⟩
abbrev S8x512x512 : Shape := ⟨3, ![8, 512, 512]⟩
abbrev S4x2x512x512 : Shape := ⟨4, ![4, 2, 512, 512]⟩
abbrev S_ : Shape := ⟨0, ![]⟩
abbrev S3 : Shape := ⟨1, ![3]⟩
abbrev S2x512x512 : Shape := ⟨3, ![2, 512, 512]⟩
abbrev S1x256x512 : Shape := ⟨3, ![1, 256, 512]⟩
abbrev S1x1x256x512 : Shape := ⟨4, ![1, 1, 256, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 23
  | .vmem => 20
  | .smem => 1
  | _ => 0

abbrev bufTy : (tb : Table) → Fin (tcTables nBuf tb) → BufTy
  | .hbm, ⟨0, _⟩ => ⟨S1, .i32⟩
  | .hbm, ⟨1, _⟩ => ⟨S8x512x512, .bf16⟩
  | .hbm, ⟨2, _⟩ => ⟨S4x2x512x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S2x512x512, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x512x512, .f32⟩
  | .hbm, ⟨19, _⟩ => ⟨S512x512, .f32⟩
  | .hbm, ⟨20, _⟩ => ⟨S1x512x512, .f32⟩
  | .hbm, ⟨21, _⟩ => ⟨S512x512, .f32⟩
  | .hbm, ⟨22, _⟩ => ⟨S512x512, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x1x256x512, .bf16⟩
  | .local _ .vmem, ⟨17, _⟩ => ⟨S1x1x256x512, .bf16⟩
  | .local _ .vmem, ⟨18, _⟩ => ⟨S1x256x512, .f32⟩
  | .local _ .vmem, ⟨19, _⟩ => ⟨S1x256x512, .f32⟩
  | .local _ .smem, ⟨0, _⟩ => ⟨S3, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c0_i32 : BitVec 32 := 0#32
  let v1 : BitVec 1 := Scalar.cmpi .eq v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_1 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c1_i32 : BitVec 32 := 1#32
  let v1 : BitVec 1 := Scalar.cmpi .eq v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_2 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c2_i32 : BitVec 32 := 2#32
  let v1 : BitVec 1 := Scalar.cmpi .eq v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_3 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c3_i32 : BitVec 32 := 3#32
  let v1 : BitVec 1 := Scalar.cmpi .eq v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_4 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c4_i32 : BitVec 32 := 4#32
  let v1 : BitVec 1 := Scalar.cmpi .eq v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_5 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c5_i32 : BitVec 32 := 5#32
  let v1 : BitVec 1 := Scalar.cmpi .eq v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_6 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c6_i32 : BitVec 32 := 6#32
  let v1 : BitVec 1 := Scalar.cmpi .eq v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_7 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c7_i32 : BitVec 32 := 7#32
  let v1 : BitVec 1 := Scalar.cmpi .eq v0 c7_i32
  let c0_i32 : BitVec 32 := 0#32
  let c7_i32_0 : BitVec 32 := 7#32
  let v2 : BitVec 32 := Scalar.select v1 c0_i32 c7_i32_0
  let c0_i32_1 : BitVec 32 := 0#32
  let c0_i32_2 : BitVec 32 := 0#32
  ![v2.toNat, arg0.toNat, c0_i32_1.toNat]

def cc0_transform_8 (inb_S3_S1_1 : ∀ a, (![1] : Fin 1 → Nat) a + S1.size a ≤ S3.size a) (numel1_S1 : S1.numel = 1) (inb_S3_S1_2 : ∀ a, (![2] : Fin 1 → Nat) a + S1.size a ≤ S3.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c2 : Index := 2#32
  let v1 : BitVec 32 := pf.at 0 (Rect.unit (s := S3) ![2] S1.size inb_S3_S1_2) numel1_S1
  let c0_i32 : BitVec 32 := 0#32
  let c0_i32_0 : BitVec 32 := 0#32
  ![v0.toNat, v1.toNat, arg0.toNat, c0_i32.toNat]

def cc0_transform_9 (inb_S3_S1_2 : ∀ a, (![2] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S3) ![2] S1.size inb_S3_S1_2) numel1_S1
  let c0_i32 : BitVec 32 := 0#32
  let c0_i32_0 : BitVec 32 := 0#32
  ![v0.toNat, arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SumInRefIdeal.lean ====
abbrev S1 : Shape := ⟨1, ![1]⟩
abbrev S8x512x512 : Shape := ⟨3, ![8, 512, 512]⟩
abbrev S4x2x512x512 : Shape := ⟨4, ![4, 2, 512, 512]⟩
abbrev S8 : Shape := ⟨1, ![8]⟩
abbrev S8x1x1 : Shape := ⟨3, ![8, 1, 1]⟩
abbrev S_ : Shape := ⟨0, ![]⟩
abbrev S512x512 : Shape := ⟨2, ![512, 512]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x512, .bf16⟩
  | .hbm, ⟨2, _⟩ => ⟨S4x2x512x512, .bf16⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x1x1, .i32⟩
  | .hbm, ⟨9, _⟩ => ⟨S8x1x1, .i1⟩
  | .hbm, ⟨10, _⟩ => ⟨S8x512x512, .bf16⟩
  | .hbm, ⟨11, _⟩ => ⟨S8x512x512, .i1⟩
  | .hbm, ⟨12, _⟩ => ⟨S8x512x512, .bf16⟩
  | .hbm, ⟨13, _⟩ => ⟨S8x512x512, .f32⟩
  | .hbm, ⟨14, _⟩ => ⟨S_, .f32⟩
  | .hbm, ⟨15, _⟩ => ⟨S512x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== SumOut.lean ====
abbrev S1 : Shape := ⟨1, ![1]⟩
abbrev S8x128x1024 : Shape := ⟨3, ![8, 128, 1024]⟩
abbrev S4x2x128x1024 : Shape := ⟨4, ![4, 2, 128, 1024]⟩
abbrev S_ : Shape := ⟨0, ![]⟩
abbrev S3 : Shape := ⟨1, ![3]⟩
abbrev S2x128x1024 : Shape := ⟨3, ![2, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 23
  | .vmem => 10
  | .smem => 1
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S4x2x128x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S2x128x1024, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x128x1024, .f32⟩
  | .hbm, ⟨19, _⟩ => ⟨S128x1024, .f32⟩
  | .hbm, ⟨20, _⟩ => ⟨S1x128x1024, .f32⟩
  | .hbm, ⟨21, _⟩ => ⟨S128x1024, .f32⟩
  | .hbm, ⟨22, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1x128x1024, .bf16⟩
  | .local _ .vmem, ⟨9, _⟩ => ⟨S1x128x1024, .f32⟩
  | .local _ .smem, ⟨0, _⟩ => ⟨S3, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c0_i32 : BitVec 32 := 0#32
  let v1 : BitVec 1 := Scalar.cmpi .eq v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_1 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c1_i32 : BitVec 32 := 1#32
  let v1 : BitVec 1 := Scalar.cmpi .eq v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_2 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c2_i32 : BitVec 32 := 2#32
  let v1 : BitVec 1 := Scalar.cmpi .eq v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_3 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c3_i32 : BitVec 32 := 3#32
  let v1 : BitVec 1 := Scalar.cmpi .eq v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_4 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c4_i32 : BitVec 32 := 4#32
  let v1 : BitVec 1 := Scalar.cmpi .eq v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_5 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c5_i32 : BitVec 32 := 5#32
  let v1 : BitVec 1 := Scalar.cmpi .eq v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_6 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c6_i32 : BitVec 32 := 6#32
  let v1 : BitVec 1 := Scalar.cmpi .eq v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_7 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c7_i32 : BitVec 32 := 7#32
  let v1 : BitVec 1 := Scalar.cmpi .eq v0 c7_i32
  let c0_i32 : BitVec 32 := 0#32
  let c7_i32_0 : BitVec 32 := 7#32
  let v2 : BitVec 32 := Scalar.select v1 c0_i32 c7_i32_0
  let c0_i32_1 : BitVec 32 := 0#32
  let c0_i32_2 : BitVec 32 := 0#32
  ![v2.toNat, arg0.toNat, c0_i32_1.toNat]

def cc0_transform_8 (inb_S3_S1_1 : ∀ a, (![1] : Fin 1 → Nat) a + S1.size a ≤ S3.size a) (numel1_S1 : S1.numel = 1) (inb_S3_S1_2 : ∀ a, (![2] : Fin 1 → Nat) a + S1.size a ≤ S3.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c2 : Index := 2#32
  let v1 : BitVec 32 := pf.at 0 (Rect.unit (s := S3) ![2] S1.size inb_S3_S1_2) numel1_S1
  let c0_i32 : BitVec 32 := 0#32
  let c0_i32_0 : BitVec 32 := 0#32
  ![v0.toNat, v1.toNat, arg0.toNat, c0_i32.toNat]

def cc0_transform_9 (inb_S3_S1_2 : ∀ a, (![2] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S3) ![2] S1.size inb_S3_S1_2) numel1_S1
  let c0_i32 : BitVec 32 := 0#32
  let c0_i32_0 : BitVec 32 := 0#32
  ![v0.toNat, arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SumOutRefIdeal.lean ====
abbrev S1 : Shape := ⟨1, ![1]⟩
abbrev S8x128x1024 : Shape := ⟨3, ![8, 128, 1024]⟩
abbrev S4x2x128x1024 : Shape := ⟨4, ![4, 2, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S4x2x128x1024, .bf16⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x1x1, .i32⟩
  | .hbm, ⟨9, _⟩ => ⟨S8x1x1, .i1⟩
  | .hbm, ⟨10, _⟩ => ⟨S8x128x1024, .bf16⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== SumMlp.lean ====
abbrev S1 : Shape := ⟨1, ![1]⟩
abbrev S8x512x1024 : Shape := ⟨3, ![8, 512, 1024]⟩
abbrev S4x2x512x1024 : Shape := ⟨4, ![4, 2, 512, 1024]⟩
abbrev S_ : Shape := ⟨0, ![]⟩
abbrev S3 : Shape := ⟨1, ![3]⟩
abbrev S2x512x1024 : Shape := ⟨3, ![2, 512, 1024]⟩
abbrev S1x256x1024 : Shape := ⟨3, ![1, 256, 1024]⟩
abbrev S1x1x256x1024 : Shape := ⟨4, ![1, 1, 256, 1024]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 23
  | .vmem => 20
  | .smem => 1
  | _ => 0

abbrev bufTy : (tb : Table) → Fin (tcTables nBuf tb) → BufTy
  | .hbm, ⟨0, _⟩ => ⟨S1, .i32⟩
  | .hbm, ⟨1, _⟩ => ⟨S8x512x1024, .bf16⟩
  | .hbm, ⟨2, _⟩ => ⟨S4x2x512x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S2x512x1024, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1x512x1024, .f32⟩
  | .hbm, ⟨19, _⟩ => ⟨S512x1024, .f32⟩
  | .hbm, ⟨20, _⟩ => ⟨S1x512x1024, .f32⟩
  | .hbm, ⟨21, _⟩ => ⟨S512x1024, .f32⟩
  | .hbm, ⟨22, _⟩ => ⟨S512x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x1x256x1024, .bf16⟩
  | .local _ .vmem, ⟨17, _⟩ => ⟨S1x1x256x1024, .bf16⟩
  | .local _ .vmem, ⟨18, _⟩ => ⟨S1x256x1024, .f32⟩
  | .local _ .vmem, ⟨19, _⟩ => ⟨S1x256x1024, .f32⟩
  | .local _ .smem, ⟨0, _⟩ => ⟨S3, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c0_i32 : BitVec 32 := 0#32
  let v1 : BitVec 1 := Scalar.cmpi .eq v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_1 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c1_i32 : BitVec 32 := 1#32
  let v1 : BitVec 1 := Scalar.cmpi .eq v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_2 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c2_i32 : BitVec 32 := 2#32
  let v1 : BitVec 1 := Scalar.cmpi .eq v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_3 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c3_i32 : BitVec 32 := 3#32
  let v1 : BitVec 1 := Scalar.cmpi .eq v0 c3_i32
  let c4_i32 : BitVec 32 := 4#32
  let c3_i32_0 : BitVec 32 := 3#32
  let v2 : BitVec 32 := Scalar.select v1 c4_i32 c3_i32_0
  let c0_i32 : BitVec 32 := 0#32
  let c0_i32_1 : BitVec 32 := 0#32
  ![v2.toNat, arg0.toNat, c0_i32.toNat]

def cc0_transform_4 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c4_i32 : BitVec 32 := 4#32
  let v1 : BitVec 1 := Scalar.cmpi .eq v0 c4_i32
  let c5_i32 : BitVec 32 := 5#32
  let c4_i32_0 : BitVec 32 := 4#32
  let v2 : BitVec 32 := Scalar.select v1 c5_i32 c4_i32_0
  let c0_i32 : BitVec 32 := 0#32
  let c0_i32_1 : BitVec 32 := 0#32
  ![v2.toNat, arg0.toNat, c0_i32.toNat]

def cc0_transform_5 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c5_i32 : BitVec 32 := 5#32
  let v1 : BitVec 1 := Scalar.cmpi .eq v0 c5_i32
  let c6_i32 : BitVec 32 := 6#32
  let c5_i32_0 : BitVec 32 := 5#32
  let v2 : BitVec 32 := Scalar.select v1 c6_i32 c5_i32_0
  let c0_i32 : BitVec 32 := 0#32
  let c0_i32_1 : BitVec 32 := 0#32
  ![v2.toNat, arg0.toNat, c0_i32.toNat]

def cc0_transform_6 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c6_i32 : BitVec 32 := 6#32
  let v1 : BitVec 1 := Scalar.cmpi .eq v0 c6_i32
  let c7_i32 : BitVec 32 := 7#32
  let c6_i32_0 : BitVec 32 := 6#32
  let v2 : BitVec 32 := Scalar.select v1 c7_i32 c6_i32_0
  let c0_i32 : BitVec 32 := 0#32
  let c0_i32_1 : BitVec 32 := 0#32
  ![v2.toNat, arg0.toNat, c0_i32.toNat]

def cc0_transform_7 (inb_S3_S1_0 : ∀ a, (![0] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c7_i32 : BitVec 32 := 7#32
  let v1 : BitVec 1 := Scalar.cmpi .eq v0 c7_i32
  let c0_i32 : BitVec 32 := 0#32
  let c7_i32_0 : BitVec 32 := 7#32
  let v2 : BitVec 32 := Scalar.select v1 c0_i32 c7_i32_0
  let c0_i32_1 : BitVec 32 := 0#32
  let c0_i32_2 : BitVec 32 := 0#32
  ![v2.toNat, arg0.toNat, c0_i32_1.toNat]

def cc0_transform_8 (inb_S3_S1_1 : ∀ a, (![1] : Fin 1 → Nat) a + S1.size a ≤ S3.size a) (numel1_S1 : S1.numel = 1) (inb_S3_S1_2 : ∀ a, (![2] : Fin 1 → Nat) a + S1.size a ≤ S3.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c2 : Index := 2#32
  let v1 : BitVec 32 := pf.at 0 (Rect.unit (s := S3) ![2] S1.size inb_S3_S1_2) numel1_S1
  let c0_i32 : BitVec 32 := 0#32
  let c0_i32_0 : BitVec 32 := 0#32
  ![v0.toNat, v1.toNat, arg0.toNat, c0_i32.toNat]

def cc0_transform_9 (inb_S3_S1_2 : ∀ a, (![2] : Fin 1 → Nat) a + S1.size a ≤ S3.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S3) ![2] S1.size inb_S3_S1_2) numel1_S1
  let c0_i32 : BitVec 32 := 0#32
  let c0_i32_0 : BitVec 32 := 0#32
  ![v0.toNat, arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SumMlpRefIdeal.lean ====
abbrev S1 : Shape := ⟨1, ![1]⟩
abbrev S8x512x1024 : Shape := ⟨3, ![8, 512, 1024]⟩
abbrev S4x2x512x1024 : Shape := ⟨4, ![4, 2, 512, 1024]⟩
abbrev S8 : Shape := ⟨1, ![8]⟩
abbrev S8x1x1 : Shape := ⟨3, ![8, 1, 1]⟩
abbrev S_ : Shape := ⟨0, ![]⟩
abbrev S512x1024 : Shape := ⟨2, ![512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x1024, .bf16⟩
  | .hbm, ⟨2, _⟩ => ⟨S4x2x512x1024, .bf16⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x1x1, .i32⟩
  | .hbm, ⟨9, _⟩ => ⟨S8x1x1, .i1⟩
  | .hbm, ⟨10, _⟩ => ⟨S8x512x1024, .bf16⟩
  | .hbm, ⟨11, _⟩ => ⟨S8x512x1024, .i1⟩
  | .hbm, ⟨12, _⟩ => ⟨S8x512x1024, .bf16⟩
  | .hbm, ⟨13, _⟩ => ⟨S8x512x1024, .f32⟩
  | .hbm, ⟨14, _⟩ => ⟨S_, .f32⟩
  | .hbm, ⟨15, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Rms.lean ====
/- The backward pass of the root-mean-square norm on one row, over the extended reals and with no condition on the row:
   the factored form `r * (d - n * mean (d * n))` and the three terms that differentiating `x * rsqrt (mean (x * x) + e)` gives. -/
module

public import Idealize.ShloMosaic.Lib.Pipeline.ValueKit

@[expose] public section

noncomputable section

open Idealize.ShloMosaic
open scoped BigOperators

namespace Cert.Rms

theorem sq_nonneg (x : EReal) : 0 ≤ x * x := by
  induction x using EReal.rec with
  | bot => simp
  | top => simp
  | coe r => rw [← EReal.coe_mul]; exact_mod_cast mul_self_nonneg r

/-- A real factor that is not negative goes into a sum of extended reals. -/
theorem mul_sum_pos {ι : Type} (s : Finset ι) (f : ι → EReal) (r : ℝ) (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem two_mul' (a : EReal) : a + a = ((2 : ℝ) : EReal) * a := by
  induction a using EReal.rec with
  | bot => rw [EReal.coe_mul_bot_of_pos (by norm_num)]; rfl
  | top => rw [EReal.coe_mul_top_of_pos (by norm_num)]; rfl
  | coe r => rw [← EReal.coe_mul, ← EReal.coe_add]; congr 1; ring

theorem div_real (a : EReal) (n : ℝ) (hn : n ≠ 0) : Ideal.div a (n : EReal) = a * ((n⁻¹ : ℝ) : EReal) := by
  unfold Ideal.div
  rw [if_neg (by exact_mod_cast hn), EReal.coe_inv]

/-- The mean of squares plus the small constant: infinite, or a positive real. -/
theorem ms_cases {n : ℕ} (x : Fin n → EReal) (N e : ℝ) (hN : 0 < N) (he : 0 < e) :
    Ideal.div (∑ k, x k * x k) (N : EReal) + (e : EReal) = ⊤
      ∨ ∃ s : ℝ, 0 < s ∧ Ideal.div (∑ k, x k * x k) (N : EReal) + (e : EReal) = (s : EReal) := by
  have h0 : 0 ≤ ∑ k, x k * x k := Finset.sum_nonneg fun k _ => sq_nonneg _
  rw [div_real _ _ hN.ne']
  generalize (∑ k, x k * x k) = S at h0
  induction S using EReal.rec with
  | bot => simp at h0
  | top => left; rw [EReal.top_mul_coe_of_pos (inv_pos.mpr hN), EReal.top_add_coe]
  | coe s =>
    right
    have hs : 0 ≤ s := by exact_mod_cast h0
    refine ⟨s * N⁻¹ + e, by positivity, ?_⟩
    rw [← EReal.coe_mul, ← EReal.coe_add]

theorem rsqrt_pos (s : ℝ) (hs : 0 < s) : Ideal.rsqrt (s : EReal) = (((Real.sqrt s)⁻¹ : ℝ) : EReal) := by
  rw [Ideal.rsqrt_coe, if_neg (not_lt.mpr hs.le), if_neg hs.ne']

theorem mul_neg_real (a b : EReal) : a * -b = -(a * b) := by
  rw [mul_comm, EReal.neg_mul, mul_comm]

/-- `r * (d - b) = d * r - r * b` for a real factor that is not negative. -/
theorem mul_sub_pos (r : ℝ) (hr : 0 ≤ r) (d b : EReal) : (r : EReal) * (d - b) = d * r + (r : EReal) * (-b) := by
  rw [sub_eq_add_neg, EReal.left_distrib_of_nonneg_of_ne_top (by exact_mod_cast hr) (EReal.coe_ne_top r), mul_comm d]

/-- The row's rule: on the left the factored form, on the right what differentiation gives. -/
theorem bwd {n : ℕ} (x d : Fin n → EReal) (N e : ℝ) (hN : 0 < N) (he : 0 < e) (ct dj xj : EReal) (R S : EReal)
    (hR : Ideal.div (∑ k, x k * x k) (N : EReal) + (e : EReal) = S) (hS : Ideal.rsqrt S = R) :
    ct + R * (dj - xj * R * Ideal.div (∑ k, d k * (x k * R)) (N : EReal))
      = ct + dj * R + xj * Ideal.div ((∑ k, x k * d k) * (((-(1/2) : ℝ) : EReal) * Ideal.div R S)) (N : EReal)
        + Ideal.div ((∑ k, x k * d k) * (((-(1/2) : ℝ) : EReal) * Ideal.div R S)) (N : EReal) * xj := by
  subst hR
  subst hS
  rcases ms_cases x N e hN he with h | ⟨s, hs, h⟩
  · rw [h, div_real _ N hN.ne', div_real _ N hN.ne']
    simp [Ideal.div]
  · rw [h, rsqrt_pos s hs, div_real _ s hs.ne', div_real _ N hN.ne', div_real _ N hN.ne']
    have hr : 0 < (Real.sqrt s)⁻¹ := inv_pos.mpr (Real.sqrt_pos.mpr hs)
    have hsq : s⁻¹ = (Real.sqrt s)⁻¹ * (Real.sqrt s)⁻¹ := by
      rw [← mul_inv, Real.mul_self_sqrt hs.le]
    rw [hsq]
    generalize (Real.sqrt s)⁻¹ = r at hr ⊢
    have e1 : ∑ k, d k * (x k * (r : EReal)) = (r : EReal) * ∑ k, x k * d k := by
      rw [mul_sum_pos _ _ r hr.le]
      exact Finset.sum_congr rfl fun k _ => by rw [← mul_assoc, mul_comm, mul_comm (d k)]
    rw [e1]
    generalize (∑ k, x k * d k) = T
    rw [mul_sub_pos r hr.le, ← add_assoc, add_assoc (ct + _)]
    congr 1
    rw [mul_comm (T * _ * _) xj, two_mul', ← EReal.neg_mul]
    have e2 : (r : EReal) * (-(xj * r) * (r * T * ((N⁻¹ : ℝ) : EReal)))
        = ((-(r * r * r * N⁻¹) : ℝ) : EReal) * (xj * T) := by
      rw [EReal.coe_neg, EReal.neg_mul, EReal.neg_mul, mul_neg_real, EReal.coe_mul, EReal.coe_mul, EReal.coe_mul]
      congr 1
      ac_rfl
    have e3 : ((2 : ℝ) : EReal) * (xj * (T * (((-(1/2) : ℝ) : EReal) * (r * ((r * r : ℝ) : EReal))) * ((N⁻¹ : ℝ) : EReal)))
        = ((2 * (-(1/2) * (r * (r * r))) * N⁻¹ : ℝ) : EReal) * (xj * T) := by
      simp only [EReal.coe_mul]
      ac_rfl
    rw [e2, e3]
    congr 2
    ring

/-! The same at the words the programs spell their constants with. -/

theorem w1024 : Ideal.ofBits FTy.f32 1149239296#32 = ((1024 : ℝ) : EReal) := by
  simp [Ideal.ofBits, Ideal.ieee, -EReal.coe_mul]; norm_num

theorem whalf : Ideal.ofBits FTy.f32 3204448256#32 = ((-(1/2) : ℝ) : EReal) := by
  simp [Ideal.ofBits, Ideal.ieee, -EReal.coe_mul]; norm_num

theorem weps : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

theorem bwd1024 {n : ℕ} (x d : Fin n → EReal) (ct dj xj R S : EReal)
    (hR : Ideal.div (∑ k, x k * x k) (Ideal.ofBits FTy.f32 1149239296#32) + Ideal.ofBits FTy.f32 897988541#32 = S)
    (hS : Ideal.rsqrt S = R) :
    ct + R * (dj - xj * R * Ideal.div (∑ k, d k * (x k * R)) (Ideal.ofBits FTy.f32 1149239296#32))
      = ct + dj * R
        + xj * Ideal.div ((∑ k, x k * d k) * (Ideal.ofBits FTy.f32 3204448256#32 * Ideal.div R S)) (Ideal.ofBits FTy.f32 1149239296#32)
        + Ideal.div ((∑ k, x k * d k) * (Ideal.ofBits FTy.f32 3204448256#32 * Ideal.div R S)) (Ideal.ofBits FTy.f32 1149239296#32) * xj := by
  obtain ⟨e, he, h⟩ := weps
  rw [h, w1024] at hR
  rw [w1024, whalf]
  exact bwd x d 1024 e (by norm_num) he ct dj xj R S hR hS

theorem w512 : Ideal.ofBits FTy.f32 1140850688#32 = ((512 : ℝ) : EReal) := by
  simp [Ideal.ofBits, Ideal.ieee, -EReal.coe_mul]; norm_num

theorem bwd512 {n : ℕ} (x d : Fin n → EReal) (dj xj R S : EReal)
    (hR : Ideal.div (∑ k, x k * x k) (Ideal.ofBits FTy.f32 1140850688#32) + Ideal.ofBits FTy.f32 897988541#32 = S)
    (hS : Ideal.rsqrt S = R) :
    R * (dj - xj * R * Ideal.div (∑ k, d k * (x k * R)) (Ideal.ofBits FTy.f32 1140850688#32))
      = dj * R
        + xj * Ideal.div ((∑ k, x k * d k) * (Ideal.ofBits FTy.f32 3204448256#32 * Ideal.div R S)) (Ideal.ofBits FTy.f32 1140850688#32)
        + Ideal.div ((∑ k, x k * d k) * (Ideal.ofBits FTy.f32 3204448256#32 * Ideal.div R S)) (Ideal.ofBits FTy.f32 1140850688#32) * xj := by
  obtain ⟨e, he, h⟩ := weps
  rw [h, w512] at hR
  rw [w512, whalf]
  have h0 := bwd x d 512 e (by norm_num) he 0 dj xj R S hR hS
  rwa [zero_add, zero_add] at h0

/-- The squared rectifier's derivative: a product with twice the rectified value needs no case of its own. -/
theorem relu2 (a z c : EReal) : a * (c * max z 0) = if 0 < z then a * (c * max z 0) else 0 := by
  split
  · rfl
  · rename_i h
    rw [max_eq_right (not_lt.mp h), mul_zero, mul_zero]

end Cert.Rms
-- ==== Proof.MlpDxParts.lean ====
/- The gradient through the MLP and its norm: what the kernel leaves in its three result arrays, read at an index. -/
module

public import proofs.«01_k».proof.Proof.Gen.MlpDxIdeal.Frame
public import proofs.«01_k».proof.Proof.Gen.MlpDxRefIdeal.Read
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MlpDxIdeal.Val

open Cert.MlpDxIdeal Cert.MlpDxIdeal.Gen
open Cert.MlpDxRefIdeal.Read

variable (m : (ℓ : Loc nD τ sig) → Buf (Elt Ideal) ℓ)

theorem idx : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![0, 0] :=
  (by decide +kernel : ∀ t : Fin grid0.N, _)

theorem hostR (c : Dev nD) (i : S4096x4096.Idx) :
    (V m c main_v15 i : EReal) = val_main_v14 (F := Ideal) (m ((c : Thread nD τ).loc main_arg0)) (m ((c : Thread nD τ).loc main_arg2)) (m ((c : Thread nD τ).loc main_arg4)) i := by
  simp only [V, hostOps0, hostOps0_1, hostOps0_2, List.flatten_cons, List.flatten_nil, List.append_nil, List.cons_append, List.nil_append]
  entry_read
  rfl

theorem hostC (c : Dev nD) (i : S4096x1024.Idx) :
    (V m c main_v16 i : EReal) = m ((c : Thread nD τ).loc main_arg1) i := by
  simp only [V, hostOps0, hostOps0_1, hostOps0_2, List.flatten_cons, List.flatten_nil, List.append_nil, List.cons_append, List.nil_append]
  entry_read
  rfl

theorem hostD (c : Dev nD) (i : S4x1024x1024.Idx) :
    (V m c main_v18 i : EReal) = (show FVec Ideal S4096x1024 .f32 from m ((c : Thread nD τ).loc main_arg3)) (ix2 (⟨1024 * (i 0).val + (i 1).val, by idx_bounds i; omega⟩ : Fin 4096) (i 2)) := by
  simp only [V, hostOps0, hostOps0_1, hostOps0_2, List.flatten_cons, List.flatten_nil, List.append_nil, List.cons_append, List.nil_append]
  entry_read
  pointwise
  blk_point

theorem hostU (c : Dev nD) (i : S4x1024x1024.Idx) :
    (V m c main_v21 i : EReal) = (show FVec Ideal S1024x4096 .f32 from m ((c : Thread nD τ).loc main_arg2)) (ix2 (i 1) (⟨1024 * (i 0).val + (i 2).val, by idx_bounds i; omega⟩ : Fin 4096)) := by
  simp only [V, hostOps0, hostOps0_1, hostOps0_2, List.flatten_cons, List.flatten_nil, List.append_nil, List.cons_append, List.nil_append]
  entry_read
  pointwise
  blk_point

theorem hostG (c : Dev nD) (i : S1x1024.Idx) :
    (V m c main_v22 i : EReal) = (show FVec Ideal S1024 .f32 from m ((c : Thread nD τ).loc main_arg4)) (ix1 (i 1)) := by
  simp only [V, hostOps0, hostOps0_1, hostOps0_2, List.flatten_cons, List.flatten_nil, List.append_nil, List.cons_append, List.nil_append]
  entry_read
  pointwise

theorem v42 (X0 : FVec Ideal S4096x1024 .f32) (X2 : FVec Ideal S1024x4096 .f32) (X4 : FVec Ideal S1024 .f32) :
    val_main_v42 (F := Ideal) X0 X2 X4 = val_main_v13 (F := Ideal) X0 X2 X4 := rfl

/-- The gradient at the MLP's hidden rows before the rectifier. -/
theorem refUp (X0 : FVec Ideal S4096x1024 .f32) (X1 : FVec Ideal S4096x1024 .f32) (X2 : FVec Ideal S1024x4096 .f32)
    (X3 : FVec Ideal S4096x1024 .f32) (X4 : FVec Ideal S1024 .f32) (i) :
    (val_main_v56 (F := Ideal) X0 X1 X2 X3 X4 i : EReal)
      = (∑ k : Fin 1024, X1 (ix2 (i 0) k) * X3 (ix2 (i 1) k))
          * (Ideal.ofBits FTy.f32 1073741824#32 * val_main_v14 (F := Ideal) X0 X2 X4 i) := by
  simp only [val_main_v56_apply, val_main_v54_apply, val_main_v53_apply, val_main_v52_apply, val_main_v49_apply,
    val_main_v48_apply, val_main_v45_apply, val_main_v44_apply, val_main_v43_apply, val_main_v55_apply, val_main_v14_apply, v42]
  generalize val_main_v13 (F := Ideal) X0 X2 X4 = Z
  pointwise [val_main_cst_10, val_main_cst_12, val_main_cst_13, val_main_call0_v0, val_main_call0_cst, val_main_call1_v0, val_main_call1_cst]
  refine (Cert.Rms.relu2 _ _ _).symm.trans ?_
  blk_point

theorem refUp' (X0 : FVec Ideal S4096x1024 .f32) (X1 : FVec Ideal S4096x1024 .f32) (X2 : FVec Ideal S1024x4096 .f32)
    (X3 : FVec Ideal S4096x1024 .f32) (X4 : FVec Ideal S1024 .f32) (i) :
    val_main_v79 (F := Ideal) X0 X1 X2 X3 X4 i = val_main_v56 (F := Ideal) X0 X1 X2 X3 X4 i := by
  simp only [val_main_v79_apply, val_main_v56_apply, val_main_v25_apply, val_main_v54_apply, val_main_v53_apply, val_main_v52_apply, val_main_v49_apply,
    val_main_v48_apply, val_main_v45_apply, val_main_v44_apply, val_main_v43_apply, val_main_v55_apply, val_main_v14_apply, v42,
    val_main_v23_apply, val_main_v22_apply, val_main_v20_apply, val_main_v19_apply, val_main_v16_apply, val_main_v24_apply, val_main_v15_apply]
  generalize val_main_v13 (F := Ideal) X0 X2 X4 = Z
  pointwise [val_main_cst_10, val_main_cst_12, val_main_cst_13, val_main_cst_2, val_main_cst_4, val_main_cst_5, val_main_call0_v0, val_main_call0_cst, val_main_call1_v0, val_main_call1_cst]
  blk_point

/-- The mean square of a row plus the norm's small constant. -/
def ms (X : FVec Ideal S4096x1024 .f32) (p : Fin 4096) : EReal :=
  Ideal.div (∑ k : Fin 1024, X (ix2 p k) * X (ix2 p k)) (Ideal.ofBits FTy.f32 1149239296#32) + Ideal.ofBits FTy.f32 897988541#32

theorem refDx (X0 : FVec Ideal S4096x1024 .f32) (X1 : FVec Ideal S4096x1024 .f32) (X2 : FVec Ideal S1024x4096 .f32)
    (X3 : FVec Ideal S4096x1024 .f32) (X4 : FVec Ideal S1024 .f32) (i) :
    (val_main_v78 (F := Ideal) X0 X1 X2 X3 X4 i : EReal) =
      X1 i + val_main_v57 (F := Ideal) X0 X1 X2 X3 X4 i * X4 (ix1 (i 1)) * Ideal.rsqrt (ms X0 (i 0))
        + X0 i * Ideal.div ((∑ k : Fin 1024, X0 (ix2 (i 0) k) * (val_main_v57 (F := Ideal) X0 X1 X2 X3 X4 (ix2 (i 0) k) * X4 (ix1 k)))
            * (Ideal.ofBits FTy.f32 3204448256#32 * Ideal.div (Ideal.rsqrt (ms X0 (i 0))) (ms X0 (i 0)))) (Ideal.ofBits FTy.f32 1149239296#32)
        + Ideal.div ((∑ k : Fin 1024, X0 (ix2 (i 0) k) * (val_main_v57 (F := Ideal) X0 X1 X2 X3 X4 (ix2 (i 0) k) * X4 (ix1 k)))
            * (Ideal.ofBits FTy.f32 3204448256#32 * Ideal.div (Ideal.rsqrt (ms X0 (i 0))) (ms X0 (i 0)))) (Ideal.ofBits FTy.f32 1149239296#32) * X0 i := by
  simp only [val_main_v78_apply, val_main_v77_apply, val_main_v76_apply, val_main_v75_apply, val_main_v74_apply, val_main_v73_apply,
    val_main_v72_apply, val_main_v71_apply, val_main_v70_apply, val_main_v69_apply, val_main_v68_apply, val_main_v67_apply, val_main_v66_apply,
    val_main_v65_apply, val_main_v64_apply, val_main_v62_apply, val_main_v61_apply, val_main_v39_apply, val_main_v36_apply, val_main_v35_apply,
    val_main_v34_apply, val_main_v33_apply, val_main_v32_apply, val_main_v31_apply, val_main_v30_apply, val_main_v29_apply, val_main_v28_apply,
    val_main_v27_apply, val_main_v26_apply, Fin.sum_univ_one]
  generalize val_main_v57 (F := Ideal) X0 X1 X2 X3 X4 = U
  pointwise [ms, val_main_cst_18, val_main_cst_17, val_main_cst_16, val_main_cst_9, val_main_cst_8, val_main_cst_7, val_main_cst_6]
  blk_point

theorem refDg (X0 : FVec Ideal S4096x1024 .f32) (X1 : FVec Ideal S4096x1024 .f32) (X2 : FVec Ideal S1024x4096 .f32)
    (X3 : FVec Ideal S4096x1024 .f32) (X4 : FVec Ideal S1024 .f32) (i) :
    (val_main_v80 (F := Ideal) X0 X1 X2 X3 X4 i : EReal) = ∑ p : Fin 4096,
      X0 (ix2 p (i 1)) * Ideal.rsqrt (ms X0 p) * val_main_v57 (F := Ideal) X0 X1 X2 X3 X4 (ix2 p (i 1)) := by
  simp only [val_main_v80_apply, val_main_v63_apply, val_main_v60_apply, val_main_v59_apply, val_main_v58_apply, val_main_v38_apply,
    val_main_v37_apply, val_main_v33_apply, val_main_v32_apply, val_main_v31_apply, val_main_v30_apply, val_main_v29_apply, val_main_v28_apply,
    val_main_v27_apply, val_main_v26_apply, Fin.sum_univ_one]
  generalize val_main_v57 (F := Ideal) X0 X1 X2 X3 X4 = U
  pointwise [ms, val_main_cst_15, val_main_cst_14, val_main_cst_8, val_main_cst_7, val_main_cst_6]
  blk_point

theorem part0 (c : Dev nD) (t : Fin cfg0.N) (j : S512x1024.Idx) :
    (iblk m c 0 t j : EReal) = m ((c : Thread nD τ).loc main_arg1)
      (ix2 (⟨t.val * 512 + (j 0).val, by idx_bounds; omega⟩ : Fin 4096) (j 1)) := by
  blk_simp [iblk]
  refine (hostC m c _).trans ?_
  blk_point [idx t]

theorem part1 (c : Dev nD) (t : Fin cfg0.N) (j : S512x4096.Idx) :
    (iblk m c 1 t j : EReal) = val_main_v14 (F := Ideal) (m ((c : Thread nD τ).loc main_arg0)) (m ((c : Thread nD τ).loc main_arg2)) (m ((c : Thread nD τ).loc main_arg4))
      (ix2 (⟨t.val * 512 + (j 0).val, by idx_bounds; omega⟩ : Fin 4096) (j 1)) := by
  blk_simp [iblk]
  refine (hostR m c _).trans ?_
  generalize val_main_v14 (F := Ideal) _ _ _ = Y
  blk_point [idx t]

theorem part2 (c : Dev nD) (t : Fin cfg0.N) (j : S4x1024x1024.Idx) :
    (iblk m c 2 t j : EReal) = (show FVec Ideal S4096x1024 .f32 from m ((c : Thread nD τ).loc main_arg3))
      (ix2 (⟨1024 * (j 0).val + (j 1).val, by idx_bounds j; omega⟩ : Fin 4096) (j 2)) := by
  blk_simp [iblk]
  refine (hostD m c _).trans ?_
  blk_point [idx t]

theorem part3 (c : Dev nD) (t : Fin cfg0.N) (j : S4x1024x1024.Idx) :
    (iblk m c 3 t j : EReal) = (show FVec Ideal S1024x4096 .f32 from m ((c : Thread nD τ).loc main_arg2))
      (ix2 (j 1) (⟨1024 * (j 0).val + (j 2).val, by idx_bounds j; omega⟩ : Fin 4096)) := by
  blk_simp [iblk]
  refine (hostU m c _).trans ?_
  blk_point [idx t]

theorem part4 (c : Dev nD) (t : Fin cfg0.N) (j : S512x1024.Idx) :
    (iblk m c 4 t j : EReal) = m ((c : Thread nD τ).loc main_arg0)
      (ix2 (⟨t.val * 512 + (j 0).val, by idx_bounds; omega⟩ : Fin 4096) (j 1)) := by
  blk_simp [iblk]
  blk_point [V, idx t]

theorem part5 (c : Dev nD) (t : Fin cfg0.N) (j : S512x1024.Idx) :
    (iblk m c 5 t j : EReal) = m ((c : Thread nD τ).loc main_arg1)
      (ix2 (⟨t.val * 512 + (j 0).val, by idx_bounds; omega⟩ : Fin 4096) (j 1)) := by
  blk_simp [iblk]
  blk_point [V, idx t]

theorem part6 (c : Dev nD) (t : Fin cfg0.N) (j : S1x1024.Idx) :
    (iblk m c 6 t j : EReal) = (show FVec Ideal S1024 .f32 from m ((c : Thread nD τ).loc main_arg4)) (ix1 (j 1)) := by
  blk_simp [iblk]
  refine (hostG m c _).trans ?_
  blk_point [idx t]

/-- The gradient before the norm, as the kernel forms it at one grid point: four partial products added up. -/
def du (c : Dev nD) (t : Fin cfg0.N) : FVec Ideal S512x1024 .f32 :=
  k0_pay8 (F := Ideal) (k0_pay1 (iblk m c 0 t))
    (k0_pay3 (iblk m c 0 t)
      (View.ld (iblk m c 2 t) (Rect.unit ![0, 0, 0] ![1, 1024, 1024] inb_S4x1024x1024_S1x1024x1024_0_0_0))
      (View.ld (iblk m c 1 t) (Rect.unit ![0, 0] ![512, 1024] inb_S512x4096_S512x1024_0_0))
      (View.ld (iblk m c 3 t) (Rect.unit ![0, 0, 0] ![1, 1024, 1024] inb_S4x1024x1024_S1x1024x1024_0_0_0)))
    (k0_pay4 (iblk m c 0 t)
      (View.ld (iblk m c 2 t) (Rect.unit ![1, 0, 0] ![1, 1024, 1024] inb_S4x1024x1024_S1x1024x1024_1_0_0))
      (View.ld (iblk m c 1 t) (Rect.unit ![0, 1024] ![512, 1024] inb_S512x4096_S512x1024_0_1024)))
    (k0_pay5 (View.ld (iblk m c 3 t) (Rect.unit ![1, 0, 0] ![1, 1024, 1024] inb_S4x1024x1024_S1x1024x1024_1_0_0)))
    (constant S512x1024 FTy.f32 0#32)
    (View.ld (iblk m c 2 t) (Rect.unit ![2, 0, 0] ![1, 1024, 1024] inb_S4x1024x1024_S1x1024x1024_2_0_0))
    (View.ld (iblk m c 1 t) (Rect.unit ![0, 2048] ![512, 1024] inb_S512x4096_S512x1024_0_2048))
    (View.ld (iblk m c 3 t) (Rect.unit ![2, 0, 0] ![1, 1024, 1024] inb_S4x1024x1024_S1x1024x1024_2_0_0))
    (View.ld (iblk m c 2 t) (Rect.unit ![3, 0, 0] ![1, 1024, 1024] inb_S4x1024x1024_S1x1024x1024_3_0_0))
    (View.ld (iblk m c 1 t) (Rect.unit ![0, 3072] ![512, 1024] inb_S512x4096_S512x1024_0_3072))
    (View.ld (iblk m c 3 t) (Rect.unit ![3, 0, 0] ![1, 1024, 1024] inb_S4x1024x1024_S1x1024x1024_3_0_0))

/-- One hidden element's gradient from the blocks. -/
def hid (C : FVec Ideal S512x1024 .bf16) (D : FVec Ideal S4x1024x1024 .bf16) (R : FVec Ideal S512x4096 .bf16)
    (n : Fin 4) (p : Fin 512) (q : Fin 1024) : EReal :=
  (∑ x : Fin 1024, C (ix2 p x) * D (ix3 n q x))
    * (Ideal.ofBits FTy.f32 1073741824#32 * R (ix2 p (⟨n.val * 1024 + q.val, by omega⟩ : Fin 4096)))

theorem du_at (c : Dev nD) (t : Fin cfg0.N) (y) :
    (du m c t y : EReal) = ∑ n : Fin 4, ∑ k : Fin 1024,
      hid (iblk m c 0 t) (iblk m c 2 t) (iblk m c 1 t) n (y 0) k * (show FVec Ideal S4x1024x1024 .bf16 from iblk m c 3 t) (ix3 n (y 1) k) := by
  unfold du
  simp only [hid, Fin.sum_univ_four]
  generalize iblk m c 0 t = C
  generalize iblk m c 1 t = R
  generalize iblk m c 2 t = D
  generalize iblk m c 3 t = U
  pointwise [k0_pay8, k0_pay7, k0_pay6, k0_pay5, k0_pay4, k0_pay3, k0_pay2, k0_pay1]

theorem after8 (c : Dev nD) (t : Fin cfg0.N) :
    (dats m 0 c).after 8 t = k0_pay13 (F := Ideal) (du m c t) (iblk m c 4 t) (iblk m c 5 t) (iblk m c 6 t) := by
  by_cases h0 : t.val % 8 = 0
  · rw [after0_8, outsAt0_A m c t h0]
    frame_out
    rfl
  · rw [after0_8, outsAt0_B m c t h0]
    frame_out
    rfl

end Cert.MlpDxIdeal.Val
-- ==== Proof.MlpDxVal.lean ====
/- The gradient through the MLP and its norm: what the kernel leaves in its three result arrays, read at an index. -/
module

public import proofs.«01_k».proof.Proof.Gen.MlpDxIdeal.Frame
public import proofs.«01_k».proof.Proof.Gen.MlpDxRefIdeal.Read
public import proofs.«01_k».proof.Proof.Rms
public import proofs.«01_k».proof.Proof.MlpDxParts
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MlpDxIdeal.Val

open Cert.MlpDxIdeal Cert.MlpDxIdeal.Gen
open Cert.MlpDxRefIdeal.Read

variable (m : (ℓ : Loc nD τ sig) → Buf (Elt Ideal) ℓ)

theorem hid_at (c : Dev nD) (t : Fin cfg0.N) (n : Fin 4) (p : Fin 512) (q : Fin 1024) :
    hid (iblk m c 0 t) (iblk m c 2 t) (iblk m c 1 t) n p q
      = val_main_v56 (F := Ideal) (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨t.val * 512 + p.val, by idx_bounds; omega⟩ : Fin 4096) (⟨n.val * 1024 + q.val, by omega⟩ : Fin 4096)) := by
  refine Eq.trans ?_ (refUp _ _ _ _ _ _).symm
  simp only [hid, part0, part1, part2]
  generalize val_main_v14 (F := Ideal) _ _ _ = Y
  blk_point [idx t]

theorem du_eq (c : Dev nD) (t : Fin cfg0.N) (y) :
    (du m c t y : EReal)
      = val_main_v57 (F := Ideal) (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨t.val * 512 + (y 0).val, by idx_bounds; omega⟩ : Fin 4096) (y 1)) := by
  refine (du_at m c t y).trans ?_
  rw [val_main_v57_apply]
  refine Eq.trans ?_ (Fin.sum_mul_add_fin 4 1024 _)
  refine Finset.sum_congr rfl fun n _ => Finset.sum_congr rfl fun k _ => ?_
  refine congrArg₂ _ ((hid_at m c t n (y 0) k).trans ?_) ((part3 m c t _).trans ?_)
  · generalize val_main_v56 (F := Ideal) _ _ _ _ _ = Y
    blk_point
  · blk_point

theorem final8 (c : Dev nD) : (dats m 0 c).arrAt 8 (cfgs 0).N
    = val_main_v78 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp
  rw [after8]
  refine Eq.trans ?_ (refDx _ _ _ _ _ _).symm
  refine Eq.trans ?_ (Cert.Rms.bwd1024 _ (fun k : Fin 1024 => (_ : EReal)) _ _ _ _ _ rfl rfl)
  pointwise [k0_pay13, k0_pay11, k0_pay10, ms]
  simp only [du_eq, part4, part5, part6]
  generalize val_main_v57 (F := Ideal) _ _ _ _ _ = U
  blk_point [idx t]

theorem tile0 (C : Vec Ideal S512x1024 .bf16) (D : Vec Ideal S4x1024x1024 .bf16) (R : Vec Ideal S512x4096 .bf16) (x : S512x1024.Idx) :
    (k0_pay2 (F := Ideal) C (View.ld D (Rect.unit ![0, 0, 0] ![1, 1024, 1024] inb_S4x1024x1024_S1x1024x1024_0_0_0))
      (View.ld R (Rect.unit ![0, 0] ![512, 1024] inb_S512x4096_S512x1024_0_0)) x : EReal) = hid C D R 0 (x 0) (x 1) := by
  pointwise [k0_pay2, k0_pay1, hid]

theorem tile1 (C : Vec Ideal S512x1024 .bf16) (D : Vec Ideal S4x1024x1024 .bf16) (R : Vec Ideal S512x4096 .bf16) (x : S512x1024.Idx) :
    (k0_pay4 (F := Ideal) C (View.ld D (Rect.unit ![1, 0, 0] ![1, 1024, 1024] inb_S4x1024x1024_S1x1024x1024_1_0_0))
      (View.ld R (Rect.unit ![0, 1024] ![512, 1024] inb_S512x4096_S512x1024_0_1024)) x : EReal) = hid C D R 1 (x 0) (x 1) := by
  pointwise [k0_pay4, k0_pay1, hid]

theorem tile2 (C : Vec Ideal S512x1024 .bf16) (D : Vec Ideal S4x1024x1024 .bf16) (R : Vec Ideal S512x4096 .bf16) (x : S512x1024.Idx) :
    (k0_pay6 (F := Ideal) (k0_pay1 C) (View.ld D (Rect.unit ![2, 0, 0] ![1, 1024, 1024] inb_S4x1024x1024_S1x1024x1024_2_0_0))
      (View.ld R (Rect.unit ![0, 2048] ![512, 1024] inb_S512x4096_S512x1024_0_2048)) x : EReal) = hid C D R 2 (x 0) (x 1) := by
  pointwise [k0_pay6, k0_pay1, hid]

theorem tile3 (C : Vec Ideal S512x1024 .bf16) (D : Vec Ideal S4x1024x1024 .bf16) (R : Vec Ideal S512x4096 .bf16) (x : S512x1024.Idx) :
    (k0_pay7 (F := Ideal) (k0_pay1 C) (View.ld D (Rect.unit ![3, 0, 0] ![1, 1024, 1024] inb_S4x1024x1024_S1x1024x1024_3_0_0))
      (View.ld R (Rect.unit ![0, 3072] ![512, 1024] inb_S512x4096_S512x1024_0_3072)) x : EReal) = hid C D R 3 (x 0) (x 1) := by
  pointwise [k0_pay7, k0_pay1, hid]

theorem final7 (c : Dev nD) : (dats m 0 c).arrAt 7 (cfgs 0).N
    = val_main_v79 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  refine Eq.trans ?_ (refUp' _ _ _ _ _ _).symm
  have hc : t.val % 8 = 0 ∨ ¬ t.val % 8 = 0 := em _
  rcases hc with hc | hc
  · rw [after0_7, outsAt0_A m c t hc]
    frame_out
    clear hc
    canon_tiles x h
    · refine (tile3 _ _ _ x).trans ((hid_at m c t 3 (x 0) (x 1)).trans ?_)
      generalize val_main_v56 (F := Ideal) _ _ _ _ _ = Y
      blk_point [idx t]
    · refine (tile2 _ _ _ x).trans ((hid_at m c t 2 (x 0) (x 1)).trans ?_)
      generalize val_main_v56 (F := Ideal) _ _ _ _ _ = Y
      blk_point [idx t]
    · refine (tile1 _ _ _ x).trans ((hid_at m c t 1 (x 0) (x 1)).trans ?_)
      generalize val_main_v56 (F := Ideal) _ _ _ _ _ = Y
      blk_point [idx t]
    · refine (tile0 _ _ _ x).trans ((hid_at m c t 0 (x 0) (x 1)).trans ?_)
      generalize val_main_v56 (F := Ideal) _ _ _ _ _ = Y
      blk_point [idx t]
  · rw [after0_7, outsAt0_B m c t hc]
    frame_out
    clear hc
    canon_tiles x h
    · refine (tile3 _ _ _ x).trans ((hid_at m c t 3 (x 0) (x 1)).trans ?_)
      generalize val_main_v56 (F := Ideal) _ _ _ _ _ = Y
      blk_point [idx t]
    · refine (tile2 _ _ _ x).trans ((hid_at m c t 2 (x 0) (x 1)).trans ?_)
      generalize val_main_v56 (F := Ideal) _ _ _ _ _ = Y
      blk_point [idx t]
    · refine (tile1 _ _ _ x).trans ((hid_at m c t 1 (x 0) (x 1)).trans ?_)
      generalize val_main_v56 (F := Ideal) _ _ _ _ _ = Y
      blk_point [idx t]
    · refine (tile0 _ _ _ x).trans ((hid_at m c t 0 (x 0) (x 1)).trans ?_)
      generalize val_main_v56 (F := Ideal) _ _ _ _ _ = Y
      blk_point [idx t]

/-- The part one grid point adds to the gain's gradient. -/
theorem dg_part (d x : FVec Ideal S512x1024 .f32) (a : FVec Ideal S1x1024 .f32) (j) :
    (k0_pay12 (F := Ideal) d x a j : EReal) = a j + ∑ p : Fin 512, d (ix2 p (j 1)) * (x (ix2 p (j 1)) * Ideal.rsqrt
      (Ideal.div (∑ k : Fin 1024, x (ix2 p k) * x (ix2 p k)) (Ideal.ofBits FTy.f32 1149239296#32) + Ideal.ofBits FTy.f32 897988541#32)) := by
  pointwise [k0_pay12, k0_pay11, k0_pay10]

theorem hzero (j : S1x1024.Idx) : (k0_pay9 (F := Ideal) j : EReal) = 0 := by
  pointwise [k0_pay9]

/-- One grid point's part in the gain's gradient. -/
def dgAt (c : Dev nD) (t : Fin cfg0.N) (j : S1x1024.Idx) : EReal :=
  ∑ p : Fin 512, du m c t (ix2 p (j 1)) * ((show FVec Ideal S512x1024 .f32 from iblk m c 4 t) (ix2 p (j 1)) * Ideal.rsqrt
    (Ideal.div (∑ k : Fin 1024, (show FVec Ideal S512x1024 .f32 from iblk m c 4 t) (ix2 p k) * (show FVec Ideal S512x1024 .f32 from iblk m c 4 t) (ix2 p k)) (Ideal.ofBits FTy.f32 1149239296#32) + Ideal.ofBits FTy.f32 897988541#32))

theorem dg_at (c : Dev nD) (t : Fin cfg0.N) (j : S1x1024.Idx) : dgAt m c t j = ∑ p : Fin 512,
    (fun l : Fin 4096 => (show FVec Ideal S4096x1024 .f32 from m ((c : Thread nD τ).loc main_arg0)) (ix2 l (j 1))
      * Ideal.rsqrt (ms (m ((c : Thread nD τ).loc main_arg0)) l)
      * val_main_v57 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 l (j 1)))
      (⟨t.val * 512 + p.val, by idx_bounds; omega⟩ : Fin 4096) := by
  refine Finset.sum_congr rfl fun p _ => ?_
  simp only [du_eq, part4, ms]
  generalize val_main_v57 (F := Ideal) _ _ _ _ _ = U
  refine Eq.trans (mul_comm _ _) (congrArg₂ _ ?_ ?_)
  · blk_point [idx t]
  · blk_point [idx t]

theorem dg_sum (c : Dev nD) (j : S1x1024.Idx) : (∑ t : Fin 8, dgAt m c t j : EReal)
    = val_main_v80 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) j := by
  refine Eq.trans ?_ (refDg _ _ _ _ _ _).symm
  refine Eq.trans ?_ (Fin.sum_mul_add_fin 8 512 _)
  exact Finset.sum_congr rfl fun t _ => dg_at m c t j

theorem final9 (c : Dev nD) : (dats m 0 c).arrAt 9 (cfgs 0).N
    = val_main_v80 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => 0)
    (fun t j => dgAt m c t j)
    (fun t h j => by rw [outsAt0_A m c t h]; frame_out; exact (dg_part (du m c t) (iblk m c 4 t) _ j).trans (by rw [hzero]; rfl))
    (fun t h j => by rw [outsAt0_B m c t h]; frame_out; exact dg_part (du m c t) (iblk m c 4 t) _ j)
    (le_of_eq N_0) t0_7 rfl j, zero_add]
  refine (dg_sum m c j).trans ?_
  blk_point [idx t0_7]

end Cert.MlpDxIdeal.Val
-- ==== Proof.MlpDxClaim.lean ====
/- The two claims about the MLP's input gradient that the generated frames do not give: the reference's frame, and equal results. -/
module

public import proofs.«01_k».proof.Defs
public import proofs.«01_k».proof.Proof.Gen.MlpDxIdeal.Frame
public import proofs.«01_k».proof.Proof.Gen.MlpDxRefIdeal.Read
public import proofs.«01_k».proof.Proof.MlpDxVal
public import Idealize.ShloMosaic.Lib.Claim
public import Idealize.ShloMosaic.Init

@[expose] public section

set_option maxRecDepth 16384

noncomputable section

open Idealize.ShloMosaic Idealize.ShloMosaic.TcCoe Idealize.SL.Sem

namespace Cert.MlpDxClaim

/-- The reference's own run leaves its arguments as they were. -/
theorem refKeeps (m : (ℓ : Loc Cert.MlpDxRefIdeal.nD Cert.MlpDxRefIdeal.τ Cert.MlpDxRefIdeal.sig) → Buf (Elt Ideal) ℓ) (ρ) :
    θ_run (Cert.MlpDxRefIdeal.defs (F := Ideal)) (onTc (τ := Cert.MlpDxRefIdeal.τ) (Cert.MlpDxRefIdeal.main (F := Ideal))) ⟨m, fun _ => 0, ρ⟩ fun r => ∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4) :=
  (θ_run Cert.MlpDxRefIdeal.defs _ _).mono (fun r h c => (h c).2.2.2) (Cert.MlpDxRefIdeal.Value.run (F := Ideal) m ρ)

/-- The reference declares no semaphore. -/
theorem refFrame : Cert.quiescent_MlpDxRefIdeal := fun m ρ _ =>
  (θ_run Cert.MlpDxRefIdeal.defs _ _).mono (fun r h => ⟨h, Idealize.ShloMosaic.sem_eq_zero_of_no_sems (by decide) r.2⟩) (refKeeps m ρ)

/-- The reference's results as its named stages. -/
theorem refRun (m : (ℓ : Loc Cert.MlpDxRefIdeal.nD Cert.MlpDxRefIdeal.τ Cert.MlpDxRefIdeal.sig) → Buf (Elt Ideal) ℓ) (ρ) :
    θ_run (Cert.MlpDxRefIdeal.defs (F := Ideal)) (onTc (τ := Cert.MlpDxRefIdeal.τ) (Cert.MlpDxRefIdeal.main (F := Ideal))) ⟨m, fun _ => 0, ρ⟩ fun r => ∀ c : Dev Cert.MlpDxRefIdeal.nD,
      r.2.mem ((c.tc : Thread Cert.MlpDxRefIdeal.nD Cert.MlpDxRefIdeal.τ).loc Cert.MlpDxRefIdeal.main_v79)
          = Cert.MlpDxRefIdeal.Read.val_main_v79 (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))
      ∧ r.2.mem ((c.tc : Thread Cert.MlpDxRefIdeal.nD Cert.MlpDxRefIdeal.τ).loc Cert.MlpDxRefIdeal.main_v78)
          = Cert.MlpDxRefIdeal.Read.val_main_v78 (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))
      ∧ r.2.mem ((c.tc : Thread Cert.MlpDxRefIdeal.nD Cert.MlpDxRefIdeal.τ).loc Cert.MlpDxRefIdeal.main_v80)
          = Cert.MlpDxRefIdeal.Read.val_main_v80 (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4)) :=
  (θ_run Cert.MlpDxRefIdeal.defs _ _).mono (fun r h c => ⟨(h c).1.trans (Cert.MlpDxRefIdeal.Read.val_main_v79_eq _ _ _ _ _), (h c).2.1.trans (Cert.MlpDxRefIdeal.Read.val_main_v78_eq m c), (h c).2.2.1.trans (Cert.MlpDxRefIdeal.Read.val_main_v80_eq _ _ _ _ _)⟩)
    (Cert.MlpDxRefIdeal.Value.run (F := Ideal) m ρ)

/-- The kernel's result arrays and the reference's agree over the extended reals. -/
theorem algebraic : Cert.algebraic_MlpDxIdeal_MlpDxRefIdeal := by
  intro m g m' g' _ hagree
  refine ⟨fun c => Cert.MlpDxRefIdeal.Read.val_main_v79 (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4)),
    fun c => Cert.MlpDxRefIdeal.Read.val_main_v78 (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4)),
    fun c => Cert.MlpDxRefIdeal.Read.val_main_v80 (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4)), ?_, ?_⟩
  · exact (θ_run Cert.MlpDxIdeal.defs _ _).mono (fun r h c => ⟨((h.2 c).1 7).trans (Cert.MlpDxIdeal.Val.final7 m c), ((h.2 c).1 8).trans (Cert.MlpDxIdeal.Val.final8 m c), ((h.2 c).1 9).trans (Cert.MlpDxIdeal.Val.final9 m c), h.1 c⟩)
      (θ_run_and (Cert.MlpDxIdeal.Gen.unchanged m g) (Cert.MlpDxIdeal.Gen.run_main m g))
  · exact (θ_run Cert.MlpDxRefIdeal.defs _ _).mono (fun r h c => ⟨(h.2 c).1.trans (by rw [(hagree c).1, (hagree c).2.1, (hagree c).2.2.1, (hagree c).2.2.2.1, (hagree c).2.2.2.2]),
      (h.2 c).2.1.trans (by rw [(hagree c).1, (hagree c).2.1, (hagree c).2.2.1, (hagree c).2.2.2.1, (hagree c).2.2.2.2]),
      (h.2 c).2.2.trans (by rw [(hagree c).1, (hagree c).2.1, (hagree c).2.2.1, (hagree c).2.2.2.1, (hagree c).2.2.2.2]), h.1 c⟩)
      (θ_run_and (refKeeps m' g') (refRun m' g'))

end Cert.MlpDxClaim

end
-- ==== Proof.DwDownVal.lean ====
/- The weight gradient of the MLP's down projection: what the kernel leaves in its result array, read at an index. -/
module

public import proofs.«01_k».proof.Proof.Gen.DwDownIdeal.Frame
public import proofs.«01_k».proof.Proof.Gen.DwDownRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwDownIdeal.Val

open Cert.DwDownIdeal Cert.DwDownIdeal.Gen
open Cert.DwDownRefIdeal.Read

variable (m : (ℓ : Loc nD τ sig) → Buf (Elt Ideal) ℓ)

theorem idx : ∀ t : Fin cfg0.N, win0_0.index t = ![t.val % 2, t.val / 2]
    ∧ win0_1.index t = ![t.val % 2, 0]
    ∧ win0_2.index t = ![t.val / 2, 0, 0] :=
  (by decide +kernel : ∀ t : Fin grid0.N, _)

theorem first (x0 x1 : FVec Ideal S2048x1024 .bf16) (j) :
    (k0_pay2 (F := Ideal) x0 x1 j : EReal) = ∑ k : Fin 2048, (x0 (ix2 k (j 0)) * x0 (ix2 k (j 0))) * x1 (ix2 k (j 1)) := by
  pointwise [k0_pay2, k0_pay1]

theorem next (x0 x1 : FVec Ideal S2048x1024 .bf16) (acc : FVec Ideal S1024x1024 .f32) (j) :
    (k0_pay3 (F := Ideal) x0 x1 acc j : EReal) = acc j + ∑ k : Fin 2048, (x0 (ix2 k (j 0)) * x0 (ix2 k (j 0))) * x1 (ix2 k (j 1)) := by
  pointwise [k0_pay3, k0_pay1]

theorem host1 (c : Dev nD) (i : S4096x4096.Idx) :
    (V m c main_v1 i : EReal) = max ((show FVec Ideal S4096x4096 .f32 from m ((c : Thread nD τ).loc main_arg0)) i) 0 := by
  simp only [V, hostOps0, hostOps0_1, List.flatten_cons, List.flatten_nil, List.append_nil, List.cons_append, List.nil_append]
  entry_read
  show (maximumf (F := Ideal) (show FVec Ideal S4096x4096 .f32 from m ((c : Thread nD τ).loc main_arg0))
    (broadcastInDim S4096x4096 ![] bcast_S_S4096x4096 (constant (F := Ideal) S_ .f32 0x00000000#32)) i : EReal) = _
  pointwise

theorem host2 (c : Dev nD) (i : S4096x1024.Idx) :
    (V m c main_v2 i : EReal) = m ((c : Thread nD τ).loc main_arg1) i := by
  simp only [V, hostOps0, hostOps0_1, List.flatten_cons, List.flatten_nil, List.append_nil, List.cons_append, List.nil_append]
  entry_read
  pointwise

theorem ref (X0 : FVec Ideal S4096x4096 .f32) (X1 : FVec Ideal S4096x1024 .f32) (i) :
    (val_main_v7 (F := Ideal) X0 X1 i : EReal) = ∑ k : Fin 4096,
      (max (X0 (ix2 k (⟨1024 * (i 0).val + (i 1).val, by idx_bounds i; omega⟩ : Fin 4096))) 0
        * max (X0 (ix2 k (⟨1024 * (i 0).val + (i 1).val, by idx_bounds i; omega⟩ : Fin 4096))) 0) * X1 (ix2 k (i 2)) := by
  simp only [val_main_v7_apply, val_main_v6_apply, val_main_v5_apply, val_main_v4_apply, val_main_v2_apply, val_main_v1_apply,
    val_main_call0_v0_apply, val_main_call0_cst_apply]
  pointwise
  blk_point

theorem part0 (c : Dev nD) (t : Fin cfg0.N) (j : S2048x1024.Idx) :
    (iblk m c 0 t j : EReal) = max ((show FVec Ideal S4096x4096 .f32 from m ((c : Thread nD τ).loc main_arg0))
      (ix2 (⟨t.val % 2 * 2048 + (j 0).val, by idx_bounds; omega⟩ : Fin 4096) (⟨t.val / 2 * 1024 + (j 1).val, by idx_bounds; omega⟩ : Fin 4096))) 0 := by
  blk_simp [iblk]
  refine (host1 m c _).trans ?_
  blk_point [idx t]

theorem part1 (c : Dev nD) (t : Fin cfg0.N) (j : S2048x1024.Idx) :
    (iblk m c 1 t j : EReal) = m ((c : Thread nD τ).loc main_arg1)
      (ix2 (⟨t.val % 2 * 2048 + (j 0).val, by idx_bounds; omega⟩ : Fin 4096) (j 1)) := by
  blk_simp [iblk]
  refine (host2 m c _).trans ?_
  blk_point [idx t]

theorem two (x0 x1 x2 x3 : FVec Ideal S2048x1024 .bf16) (y) :
    (k0_pay4 (F := Ideal) (k0_pay3 (F := Ideal) x0 x1 (k0_pay2 (F := Ideal) x2 x3)) y : EReal) =
      ∑ k : Fin 2048, (x2 (ix2 k (y 1)) * x2 (ix2 k (y 1))) * x3 (ix2 k (y 2))
      + ∑ k : Fin 2048, (x0 (ix2 k (y 1)) * x0 (ix2 k (y 1))) * x1 (ix2 k (y 2)) := by
  pointwise [k0_pay4, k0_pay3, k0_pay2, k0_pay1]

theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have h0 : ¬ t.val % 2 = 0 := by omega
  have hp : (t.val - 1) % 2 = 0 := by omega
  rw [after0_2, outsAt0_B m c t h0 h1 h1]
  frame_out
  have e := outsAt0_A m c ⟨t.val - 1, Nat.lt_of_le_of_lt (Nat.sub_le _ _) t.isLt⟩ hp (by dsimp only; omega) (by dsimp only; omega)
  dsimp only at e
  rw [e]
  frame_out
  rw [read_unread_whole]
  refine (two _ _ _ _ _).trans ?_
  refine Eq.trans ?_ (ref _ _ _).symm
  refine Eq.trans ?_ (Fin.sum_mul_add_fin 2 2048 _)
  rw [Fin.sum_univ_two]
  simp only [part0, part1]
  blk_point [idx t]

end Cert.DwDownIdeal.Val
-- ==== Proof.DwDownClaim.lean ====
/- The two claims about the weight gradient of the MLP's down projection that the generated frames do not give: the reference's frame, and equal results. -/
module

public import proofs.«01_k».proof.Defs
public import proofs.«01_k».proof.Proof.Gen.DwDownIdeal.Frame
public import proofs.«01_k».proof.Proof.Gen.DwDownRefIdeal.Read
public import proofs.«01_k».proof.Proof.DwDownVal
public import Idealize.ShloMosaic.Lib.Claim
public import Idealize.ShloMosaic.Init

@[expose] public section

set_option maxRecDepth 16384

noncomputable section

open Idealize.ShloMosaic Idealize.ShloMosaic.TcCoe Idealize.SL.Sem

namespace Cert.DwDownClaim

/-- The reference's own run leaves its arguments as they were. -/
theorem refKeeps (m : (ℓ : Loc Cert.DwDownRefIdeal.nD Cert.DwDownRefIdeal.τ Cert.DwDownRefIdeal.sig) → Buf (Elt Ideal) ℓ) (ρ) :
    θ_run (Cert.DwDownRefIdeal.defs (F := Ideal)) (onTc (τ := Cert.DwDownRefIdeal.τ) (Cert.DwDownRefIdeal.main (F := Ideal))) ⟨m, fun _ => 0, ρ⟩ fun r => ∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1) :=
  (θ_run Cert.DwDownRefIdeal.defs _ _).mono (fun r h c => (h c).2) (Cert.DwDownRefIdeal.Value.run (F := Ideal) m ρ)

/-- The reference declares no semaphore. -/
theorem refFrame : Cert.quiescent_DwDownRefIdeal := fun m ρ _ =>
  (θ_run Cert.DwDownRefIdeal.defs _ _).mono (fun r h => ⟨h, Idealize.ShloMosaic.sem_eq_zero_of_no_sems (by decide) r.2⟩) (refKeeps m ρ)

/-- The reference's results as its named stages. -/
theorem refRun (m : (ℓ : Loc Cert.DwDownRefIdeal.nD Cert.DwDownRefIdeal.τ Cert.DwDownRefIdeal.sig) → Buf (Elt Ideal) ℓ) (ρ) :
    θ_run (Cert.DwDownRefIdeal.defs (F := Ideal)) (onTc (τ := Cert.DwDownRefIdeal.τ) (Cert.DwDownRefIdeal.main (F := Ideal))) ⟨m, fun _ => 0, ρ⟩ fun r => ∀ c : Dev Cert.DwDownRefIdeal.nD,
      r.2.mem ((c.tc : Thread Cert.DwDownRefIdeal.nD Cert.DwDownRefIdeal.τ).loc Cert.DwDownRefIdeal.main_v7)
          = Cert.DwDownRefIdeal.Read.val_main_v7 (F := Ideal) (m ((c.tc : Thread Cert.DwDownRefIdeal.nD Cert.DwDownRefIdeal.τ).loc Cert.DwDownRefIdeal.main_arg0)) (m ((c.tc : Thread Cert.DwDownRefIdeal.nD Cert.DwDownRefIdeal.τ).loc Cert.DwDownRefIdeal.main_arg1)) :=
  (θ_run Cert.DwDownRefIdeal.defs _ _).mono (fun r h c => (h c).1.trans (Cert.DwDownRefIdeal.Read.val_main_v7_eq _ _))
    (Cert.DwDownRefIdeal.Value.run (F := Ideal) m ρ)

/-- The kernel's result arrays and the reference's agree over the extended reals. -/
theorem algebraic : Cert.algebraic_DwDownIdeal_DwDownRefIdeal := by
  intro m g m' g' _ hagree
  refine ⟨fun c => Cert.DwDownRefIdeal.Read.val_main_v7 (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)), ?_, ?_⟩
  · exact (θ_run Cert.DwDownIdeal.defs _ _).mono (fun r h c => ⟨((h.2 c).1 2).trans (Cert.DwDownIdeal.Val.final m c), h.1 c⟩)
      (θ_run_and (Cert.DwDownIdeal.Gen.unchanged m g) (Cert.DwDownIdeal.Gen.run_main m g))
  · exact (θ_run Cert.DwDownRefIdeal.defs _ _).mono (fun r h c => ⟨(h.2 c).trans (by rw [(hagree c).1, (hagree c).2]), h.1 c⟩)
      (θ_run_and (refKeeps m' g') (refRun m' g'))

end Cert.DwDownClaim

end
-- ==== Proof.DwUpVal.lean ====
/- The weight gradient of the MLP's up projection: what the kernel leaves in its result array, read at an index. -/
module

public import proofs.«01_k».proof.Proof.Gen.DwUpIdeal.Frame
public import proofs.«01_k».proof.Proof.Gen.DwUpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwUpIdeal.Val

open Cert.DwUpIdeal Cert.DwUpIdeal.Gen
open Cert.DwUpRefIdeal.Read

variable (m : (ℓ : Loc nD τ sig) → Buf (Elt Ideal) ℓ)

theorem idx : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

/-- The normalised rows the host line hands to the kernel are the ones the reference contracts. -/
theorem host1 (c : Dev nD) (i : S4096x1024.Idx) :
    (V m c main_v13 i : EReal)
      = val_main_v13 (F := Ideal) (m ((c : Thread nD τ).loc main_arg0)) (m ((c : Thread nD τ).loc main_arg1)) i := by
  entry_read
  rfl

theorem host2 (c : Dev nD) (i : S4096x4096.Idx) :
    (V m c main_v14 i : EReal) = m ((c : Thread nD τ).loc main_arg2) i := by
  entry_read
  rfl

theorem ref (X0 : FVec Ideal S4096x1024 .f32) (X1 : FVec Ideal S1024 .f32) (X2 : FVec Ideal S4096x4096 .f32) (i) :
    (val_main_v19 (F := Ideal) X0 X1 X2 i : EReal) = ∑ k : Fin 4096,
      val_main_v13 (F := Ideal) X0 X1 (ix2 k (i 1))
        * X2 (ix2 k (⟨1024 * (i 0).val + (i 2).val, by idx_bounds i; omega⟩ : Fin 4096)) := by
  simp only [val_main_v19_apply, val_main_v18_apply, val_main_v17_apply, val_main_v16_apply, val_main_v15_apply]
  generalize val_main_v13 (F := Ideal) X0 X1 = Y
  pointwise
  refine Finset.sum_congr rfl fun k _ => ?_
  refine Eq.trans (mul_comm _ _) (congrArg₂ _ ?_ ?_)
  · blk_point
  · blk_point

theorem part0 (c : Dev nD) (t : Fin cfg0.N) (j : S2048x1024.Idx) :
    (iblk m c 0 t j : EReal)
      = val_main_v13 (F := Ideal) (m ((c : Thread nD τ).loc main_arg0)) (m ((c : Thread nD τ).loc main_arg1))
          (ix2 (⟨t.val % 2 * 2048 + (j 0).val, by idx_bounds; omega⟩ : Fin 4096) (j 1)) := by
  blk_simp [iblk]
  refine (host1 m c _).trans ?_
  generalize val_main_v13 (F := Ideal) _ _ = Y
  blk_point [idx t]

theorem part1 (c : Dev nD) (t : Fin cfg0.N) (j : S2048x1024.Idx) :
    (iblk m c 1 t j : EReal) = m ((c : Thread nD τ).loc main_arg2)
      (ix2 (⟨t.val % 2 * 2048 + (j 0).val, by idx_bounds; omega⟩ : Fin 4096) (⟨t.val / 2 * 1024 + (j 1).val, by idx_bounds; omega⟩ : Fin 4096)) := by
  blk_simp [iblk]
  refine (host2 m c _).trans ?_
  blk_point [idx t]

theorem two (x0 x1 x2 x3 : FVec Ideal S2048x1024 .bf16) (y) :
    (k0_pay4 (F := Ideal) (k0_pay3 (F := Ideal) x0 x1 (k0_pay2 (F := Ideal) x2 x3)) y : EReal) =
      ∑ k : Fin 2048, x2 (ix2 k (y 1)) * x3 (ix2 k (y 2)) + ∑ k : Fin 2048, x0 (ix2 k (y 1)) * x1 (ix2 k (y 2)) := by
  pointwise [k0_pay4, k0_pay3, k0_pay2, k0_pay1]

theorem final (c : Dev nD) : (dats m 0 c).arrAt 2 (cfgs 0).N
    = val_main_v19 (F := Ideal) (m ((c : Thread nD τ).loc main_arg0)) (m ((c : Thread nD τ).loc main_arg1))
        (m ((c : Thread nD τ).loc main_arg2)) := by
  refine (dats m 0 c).arrAt_eq_of_covers 2 _ (by decide +kernel) fun t hf y => ?_
  blk_simp
  have h1 : t.val % 2 = 1 := (flush0_2 t).mp hf
  have h0 : ¬ t.val % 2 = 0 := by omega
  have hp : (t.val - 1) % 2 = 0 := by omega
  rw [after0_2, outsAt0_B m c t h0 h1 h1]
  frame_out
  have e := outsAt0_A m c ⟨t.val - 1, Nat.lt_of_le_of_lt (Nat.sub_le _ _) t.isLt⟩ hp (by dsimp only; omega) (by dsimp only; omega)
  dsimp only at e
  rw [e]
  frame_out
  rw [read_unread_whole]
  refine (two _ _ _ _ _).trans ?_
  refine Eq.trans ?_ (ref _ _ _ _).symm
  refine Eq.trans ?_ (Fin.sum_mul_add_fin 2 2048 _)
  rw [Fin.sum_univ_two]
  simp only [part0, part1]
  generalize val_main_v13 (F := Ideal) _ _ = Y
  blk_point [idx t]

end Cert.DwUpIdeal.Val
-- ==== Proof.DwUpClaim.lean ====
/- The two claims about the weight gradient of the MLP's up projection that the generated frames do not give: the reference's frame, and equal results. -/
module

public import proofs.«01_k».proof.Defs
public import proofs.«01_k».proof.Proof.Gen.DwUpIdeal.Frame
public import proofs.«01_k».proof.Proof.Gen.DwUpRefIdeal.Read
public import proofs.«01_k».proof.Proof.DwUpVal
public import Idealize.ShloMosaic.Lib.Claim
public import Idealize.ShloMosaic.Init

@[expose] public section

set_option maxRecDepth 16384

noncomputable section

open Idealize.ShloMosaic Idealize.ShloMosaic.TcCoe Idealize.SL.Sem

namespace Cert.DwUpClaim

/-- The reference's own run leaves its arguments as they were. -/
theorem refKeeps (m : (ℓ : Loc Cert.DwUpRefIdeal.nD Cert.DwUpRefIdeal.τ Cert.DwUpRefIdeal.sig) → Buf (Elt Ideal) ℓ) (ρ) :
    θ_run (Cert.DwUpRefIdeal.defs (F := Ideal)) (onTc (τ := Cert.DwUpRefIdeal.τ) (Cert.DwUpRefIdeal.main (F := Ideal))) ⟨m, fun _ => 0, ρ⟩ fun r => ∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2) :=
  (θ_run Cert.DwUpRefIdeal.defs _ _).mono (fun r h c => (h c).2) (Cert.DwUpRefIdeal.Value.run (F := Ideal) m ρ)

/-- The reference declares no semaphore. -/
theorem refFrame : Cert.quiescent_DwUpRefIdeal := fun m ρ _ =>
  (θ_run Cert.DwUpRefIdeal.defs _ _).mono (fun r h => ⟨h, Idealize.ShloMosaic.sem_eq_zero_of_no_sems (by decide) r.2⟩) (refKeeps m ρ)

/-- The reference's results as its named stages. -/
theorem refRun (m : (ℓ : Loc Cert.DwUpRefIdeal.nD Cert.DwUpRefIdeal.τ Cert.DwUpRefIdeal.sig) → Buf (Elt Ideal) ℓ) (ρ) :
    θ_run (Cert.DwUpRefIdeal.defs (F := Ideal)) (onTc (τ := Cert.DwUpRefIdeal.τ) (Cert.DwUpRefIdeal.main (F := Ideal))) ⟨m, fun _ => 0, ρ⟩ fun r => ∀ c : Dev Cert.DwUpRefIdeal.nD,
      r.2.mem ((c.tc : Thread Cert.DwUpRefIdeal.nD Cert.DwUpRefIdeal.τ).loc Cert.DwUpRefIdeal.main_v19)
          = Cert.DwUpRefIdeal.Read.val_main_v19 (F := Ideal) (m ((c.tc : Thread Cert.DwUpRefIdeal.nD Cert.DwUpRefIdeal.τ).loc Cert.DwUpRefIdeal.main_arg0)) (m ((c.tc : Thread Cert.DwUpRefIdeal.nD Cert.DwUpRefIdeal.τ).loc Cert.DwUpRefIdeal.main_arg1)) (m ((c.tc : Thread Cert.DwUpRefIdeal.nD Cert.DwUpRefIdeal.τ).loc Cert.DwUpRefIdeal.main_arg2)) :=
  (θ_run Cert.DwUpRefIdeal.defs _ _).mono (fun r h c => (h c).1.trans (Cert.DwUpRefIdeal.Read.val_main_v19_eq _ _ _))
    (Cert.DwUpRefIdeal.Value.run (F := Ideal) m ρ)

/-- The kernel's result arrays and the reference's agree over the extended reals. -/
theorem algebraic : Cert.algebraic_DwUpIdeal_DwUpRefIdeal := by
  intro m g m' g' _ hagree
  refine ⟨fun c => Cert.DwUpRefIdeal.Read.val_main_v19 (F := Ideal) (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1)) (m ((c.tc : Thread Cert.DwUpIdeal.nD Cert.DwUpIdeal.τ).loc Cert.DwUpIdeal.main_arg2)), ?_, ?_⟩
  · exact (θ_run Cert.DwUpIdeal.defs _ _).mono (fun r h c => ⟨((h.2 c).1 2).trans (Cert.DwUpIdeal.Val.final m c), h.1 c⟩)
      (θ_run_and (Cert.DwUpIdeal.Gen.unchanged m g) (Cert.DwUpIdeal.Gen.run_main m g))
  · exact (θ_run Cert.DwUpRefIdeal.defs _ _).mono (fun r h c => ⟨(h.2 c).trans (by rw [(hagree c).1, (hagree c).2.1, (hagree c).2.2]), h.1 c⟩)
      (θ_run_and (refKeeps m' g') (refRun m' g'))

end Cert.DwUpClaim

end
-- ==== Proof.OutBwdParts.lean ====
/- The gradient of the mixers' norms and the output projection: what the kernel leaves in its five result arrays. -/
module

public import proofs.«01_k».proof.Proof.Gen.OutBwdIdeal.Frame
public import proofs.«01_k».proof.Proof.Gen.OutBwdRefIdeal.Read
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Val

open Cert.OutBwdIdeal Cert.OutBwdIdeal.Gen
open Cert.OutBwdRefIdeal.Read

/-! A row's norm and its gradient over the extended reals. -/

/-- A row's mean square plus the norm's small constant. -/
def ms (h : Fin 512 → EReal) : EReal :=
  Ideal.div (∑ k, h k * h k) (Ideal.ofBits FTy.f32 1140850688#32) + Ideal.ofBits FTy.f32 897988541#32

/-- The gradient to a normalised row as the kernel spells it. -/
def kdx (h d : Fin 512 → EReal) (q : Fin 512) : EReal :=
  Ideal.rsqrt (ms h) * (d q - h q * Ideal.rsqrt (ms h) * Ideal.div (∑ k, d k * (h k * Ideal.rsqrt (ms h))) (Ideal.ofBits FTy.f32 1140850688#32))

/-- The same as the reference spells it. -/
def rdx (h d : Fin 512 → EReal) (q : Fin 512) : EReal :=
  d q * Ideal.rsqrt (ms h)
    + h q * Ideal.div ((∑ k, h k * d k) * (Ideal.ofBits FTy.f32 3204448256#32 * Ideal.div (Ideal.rsqrt (ms h)) (ms h))) (Ideal.ofBits FTy.f32 1140850688#32)
    + Ideal.div ((∑ k, h k * d k) * (Ideal.ofBits FTy.f32 3204448256#32 * Ideal.div (Ideal.rsqrt (ms h)) (ms h))) (Ideal.ofBits FTy.f32 1140850688#32) * h q

theorem dx_row (h d : Fin 512 → EReal) (q) : kdx h d q = rdx h d q :=
  Cert.Rms.bwd512 h d (d q) (h q) _ _ rfl rfl

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![0, 0] :=
  (by decide +kernel : ∀ t : Fin grid0.N, _)

theorem hostM (c : Dev nD) (i : S4096x1024.Idx) :
    (V m c main_v27 i : EReal) = val_main_v32 (F := Ideal) (m ((c : Thread nD τ).loc main_arg2)) (m ((c : Thread nD τ).loc main_arg3)) (m ((c : Thread nD τ).loc main_arg4)) (m ((c : Thread nD τ).loc main_arg5)) i := by
  simp only [V, hostOps0]
  entry_read
  rfl

theorem hostW (c : Dev nD) (i : S1024x1024.Idx) :
    (V m c main_v28 i : EReal) = m ((c : Thread nD τ).loc main_arg1) i := by
  simp only [V, hostOps0]
  entry_read
  rfl

theorem hostG (c : Dev nD) (i : S1x512.Idx) :
    (V m c main_v29 i : EReal) = (show FVec Ideal S512 .f32 from m ((c : Thread nD τ).loc main_arg4)) (ix1 (i 1)) := by
  simp only [V, hostOps0]
  entry_read
  pointwise

theorem hostH (c : Dev nD) (i : S1x512.Idx) :
    (V m c main_v30 i : EReal) = (show FVec Ideal S512 .f32 from m ((c : Thread nD τ).loc main_arg5)) (ix1 (i 1)) := by
  simp only [V, hostOps0]
  entry_read
  pointwise

theorem part0 (c : Dev nD) (t : Fin cfg0.N) (j : S512x1024.Idx) :
    (iblk m c 0 t j : EReal) = m ((c : Thread nD τ).loc main_arg0)
      (ix2 (⟨t.val * 512 + (j 0).val, by idx_bounds; omega⟩ : Fin 4096) (j 1)) := by
  blk_simp [iblk]
  blk_point [V, idx t]

theorem part1 (c : Dev nD) (t : Fin cfg0.N) (j : S1024x1024.Idx) :
    (iblk m c 1 t j : EReal) = m ((c : Thread nD τ).loc main_arg1) j := by
  blk_simp [iblk]
  refine (hostW m c _).trans ?_
  blk_point [idx t]

theorem part2 (c : Dev nD) (t : Fin cfg0.N) (j : S512x1024.Idx) :
    (iblk m c 2 t j : EReal) = val_main_v32 (F := Ideal) (m ((c : Thread nD τ).loc main_arg2)) (m ((c : Thread nD τ).loc main_arg3)) (m ((c : Thread nD τ).loc main_arg4)) (m ((c : Thread nD τ).loc main_arg5))
      (ix2 (⟨t.val * 512 + (j 0).val, by idx_bounds; omega⟩ : Fin 4096) (j 1)) := by
  blk_simp [iblk]
  refine (hostM m c _).trans ?_
  generalize val_main_v32 (F := Ideal) _ _ _ _ = Y
  blk_point [idx t]

theorem part3 (c : Dev nD) (t : Fin cfg0.N) (j : S512x512.Idx) :
    (iblk m c 3 t j : EReal) = m ((c : Thread nD τ).loc main_arg2)
      (ix2 (⟨t.val * 512 + (j 0).val, by idx_bounds; omega⟩ : Fin 4096) (j 1)) := by
  blk_simp [iblk]
  blk_point [V, idx t]

theorem part4 (c : Dev nD) (t : Fin cfg0.N) (j : S512x512.Idx) :
    (iblk m c 4 t j : EReal) = m ((c : Thread nD τ).loc main_arg3)
      (ix2 (⟨t.val * 512 + (j 0).val, by idx_bounds; omega⟩ : Fin 4096) (j 1)) := by
  blk_simp [iblk]
  blk_point [V, idx t]

theorem part5 (c : Dev nD) (t : Fin cfg0.N) (j : S1x512.Idx) :
    (iblk m c 5 t j : EReal) = (show FVec Ideal S512 .f32 from m ((c : Thread nD τ).loc main_arg4)) (ix1 (j 1)) := by
  blk_simp [iblk]
  refine (hostG m c _).trans ?_
  blk_point [idx t]

theorem part6 (c : Dev nD) (t : Fin cfg0.N) (j : S1x512.Idx) :
    (iblk m c 6 t j : EReal) = (show FVec Ideal S512 .f32 from m ((c : Thread nD τ).loc main_arg5)) (ix1 (j 1)) := by
  blk_simp [iblk]
  refine (hostH m c _).trans ?_
  blk_point [idx t]

/-! The reference's stages. -/

theorem refMix (X0 : FVec Ideal S4096x1024 .f32) (X1 : FVec Ideal S1024x1024 .f32) (i) :
    (val_main_v36 (F := Ideal) X0 X1 i : EReal) = ∑ k : Fin 1024, X0 (ix2 (i 0) k) * X1 (ix2 (i 1) k) := by
  simp only [val_main_v36_apply]
  blk_point

theorem refDp (X0 : FVec Ideal S4096x1024 .f32) (X1 : FVec Ideal S1024x1024 .f32) (X2 : FVec Ideal S4096x512 .f32) (X4 : FVec Ideal S512 .f32) (i) :
    (val_main_v78 (F := Ideal) X0 X1 X2 X4 i : EReal) = rdx (fun k => X2 (ix2 (i 0) k))
      (fun k => val_main_v36 (F := Ideal) X0 X1 (ix2 (i 0) (⟨k.val, by omega⟩ : Fin 1024)) * X4 (ix1 k)) (i 1) := by
  simp only [val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v63_apply, val_main_v62_apply, val_main_v37_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, Fin.sum_univ_one]
  generalize val_main_v36 (F := Ideal) X0 X1 = U
  pointwise [rdx, ms, val_main_cst_14, val_main_cst_15, val_main_cst_16, val_main_cst_2, val_main_cst_1, val_main_cst_0, val_main_cst]
  blk_point

theorem refDa (X0 : FVec Ideal S4096x1024 .f32) (X1 : FVec Ideal S1024x1024 .f32) (X3 : FVec Ideal S4096x512 .f32) (X5 : FVec Ideal S512 .f32) (i) :
    (val_main_v58 (F := Ideal) X0 X1 X3 X5 i : EReal) = rdx (fun k => X3 (ix2 (i 0) k))
      (fun k => val_main_v36 (F := Ideal) X0 X1 (ix2 (i 0) (⟨512 + k.val, by omega⟩ : Fin 1024)) * X5 (ix1 k)) (i 1) := by
  simp only [val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v43_apply, val_main_v42_apply, val_main_v38_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, Fin.sum_univ_one]
  generalize val_main_v36 (F := Ideal) X0 X1 = U
  pointwise [rdx, ms, val_main_cst_9, val_main_cst_10, val_main_cst_11, val_main_cst_6, val_main_cst_5, val_main_cst_4, val_main_cst_3]
  blk_point

theorem refDgp (X0 : FVec Ideal S4096x1024 .f32) (X1 : FVec Ideal S1024x1024 .f32) (X2 : FVec Ideal S4096x512 .f32) (i) :
    (val_main_v80 (F := Ideal) X0 X1 X2 i : EReal) = ∑ p : Fin 4096, X2 (ix2 p (i 1)) * Ideal.rsqrt (ms (fun k => X2 (ix2 p k)))
      * val_main_v36 (F := Ideal) X0 X1 (ix2 p (⟨(i 1).val, by idx_bounds; omega⟩ : Fin 1024)) := by
  simp only [val_main_v80_apply, val_main_v64_apply, val_main_v61_apply, val_main_v60_apply, val_main_v59_apply, val_main_v37_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, Fin.sum_univ_one]
  generalize val_main_v36 (F := Ideal) X0 X1 = U
  pointwise [ms, val_main_cst_12, val_main_cst_13, val_main_cst_1, val_main_cst_0, val_main_cst]
  blk_point

theorem refDga (X0 : FVec Ideal S4096x1024 .f32) (X1 : FVec Ideal S1024x1024 .f32) (X3 : FVec Ideal S4096x512 .f32) (i) :
    (val_main_v81 (F := Ideal) X0 X1 X3 i : EReal) = ∑ p : Fin 4096, X3 (ix2 p (i 1)) * Ideal.rsqrt (ms (fun k => X3 (ix2 p k)))
      * val_main_v36 (F := Ideal) X0 X1 (ix2 p (⟨512 + (i 1).val, by idx_bounds; omega⟩ : Fin 1024)) := by
  simp only [val_main_v81_apply, val_main_v44_apply, val_main_v41_apply, val_main_v40_apply, val_main_v39_apply, val_main_v38_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, Fin.sum_univ_one]
  generalize val_main_v36 (F := Ideal) X0 X1 = U
  pointwise [ms, val_main_cst_7, val_main_cst_8, val_main_cst_5, val_main_cst_4, val_main_cst_3]
  blk_point

theorem refDw (X0 : FVec Ideal S4096x1024 .f32) (X2 X3 : FVec Ideal S4096x512 .f32) (X4 X5 : FVec Ideal S512 .f32) (i) :
    (val_main_v79 (F := Ideal) X0 X2 X3 X4 X5 i : EReal) = ∑ p : Fin 4096, X0 (ix2 p (i 1)) * val_main_v32 (F := Ideal) X2 X3 X4 X5 (ix2 p (i 0)) := by
  simp only [val_main_v79_apply, val_main_v35_apply, val_main_v34_apply]
  generalize val_main_v32 (F := Ideal) X2 X3 X4 X5 = U
  pointwise
  blk_point

/-! The kernel's values from the blocks it reads. -/

theorem dp_pay (C : Vec Ideal S512x1024 .f32) (W : Vec Ideal S1024x1024 .bf16) (x : Vec Ideal S512x512 .f32) (g : Vec Ideal S1x512 .f32) (y) :
    (k0_pay16 (F := Ideal) (k0_pay10 x) (k0_pay11 x) (k0_pay12 C W) g y : EReal)
      = kdx (fun k => x (ix2 (y 0) k)) (fun k => k0_pay3 (F := Ideal) C W (ix2 (y 0) (⟨k.val, by omega⟩ : Fin 1024)) * g (ix2 0 k)) (y 1) := by
  generalize hU : k0_pay3 (F := Ideal) C W = U
  pointwise [k0_pay16, k0_pay10, k0_pay11, k0_pay12, kdx, ms, hU]

theorem da_pay (C : Vec Ideal S512x1024 .f32) (W : Vec Ideal S1024x1024 .bf16) (x : Vec Ideal S512x512 .f32) (g : Vec Ideal S1x512 .f32) (y) :
    (k0_pay1 (F := Ideal) (k0_pay17 x) (k0_pay18 x) (k0_pay19 (k0_pay3 C W)) g y : EReal)
      = kdx (fun k => x (ix2 (y 0) k)) (fun k => k0_pay3 (F := Ideal) C W (ix2 (y 0) (⟨512 + k.val, by omega⟩ : Fin 1024)) * g (ix2 0 k)) (y 1) := by
  generalize hU : k0_pay3 (F := Ideal) C W = U
  pointwise [k0_pay1, k0_pay17, k0_pay18, k0_pay19, kdx, ms]

theorem mix_pay (C : Vec Ideal S512x1024 .f32) (W : Vec Ideal S1024x1024 .bf16) (y) :
    (k0_pay3 (F := Ideal) C W y : EReal) = ∑ k : Fin 1024, C (ix2 (y 0) k) * W (ix2 (y 1) k) := by
  pointwise [k0_pay3, k0_pay2]

theorem dgp_pay (C : Vec Ideal S512x1024 .f32) (W : Vec Ideal S1024x1024 .bf16) (x : Vec Ideal S512x512 .f32) (a : Vec Ideal S1x512 .f32) (j) :
    (k0_pay15 (F := Ideal) (k0_pay13 a) (k0_pay14 C W x) j : EReal) = a j + ∑ p : Fin 512,
      k0_pay3 (F := Ideal) C W (ix2 p (⟨(j 1).val, by idx_bounds; omega⟩ : Fin 1024)) * (x (ix2 p (j 1)) * Ideal.rsqrt (ms (fun k => x (ix2 p k)))) := by
  generalize hU : k0_pay3 (F := Ideal) C W = U
  pointwise [k0_pay15, k0_pay14, k0_pay13, k0_pay12, k0_pay11, k0_pay10, ms, hU]

theorem dga_pay (C : Vec Ideal S512x1024 .f32) (W : Vec Ideal S1024x1024 .bf16) (x : Vec Ideal S512x512 .f32) (a : Vec Ideal S1x512 .f32) (j) :
    (k0_pay20 (F := Ideal) (k0_pay3 C W) x a j : EReal) = a j + ∑ p : Fin 512,
      k0_pay3 (F := Ideal) C W (ix2 p (⟨512 + (j 1).val, by idx_bounds; omega⟩ : Fin 1024)) * (x (ix2 p (j 1)) * Ideal.rsqrt (ms (fun k => x (ix2 p k)))) := by
  generalize hU : k0_pay3 (F := Ideal) C W = U
  pointwise [k0_pay20, k0_pay19, k0_pay18, k0_pay17, ms]

theorem dw_first (C : Vec Ideal S512x1024 .f32) (M : Vec Ideal S512x1024 .bf16) (j) :
    (k0_pay5 (F := Ideal) C M j : EReal) = ∑ p : Fin 512, M (ix2 p (j 0)) * C (ix2 p (j 1)) := by
  pointwise [k0_pay5, k0_pay4, k0_pay2]

theorem dw_next (C : Vec Ideal S512x1024 .f32) (M : Vec Ideal S512x1024 .bf16) (a : Vec Ideal S1024x1024 .f32) (j) :
    (k0_pay8 (F := Ideal) C M a j : EReal) = a j + ∑ p : Fin 512, M (ix2 p (j 0)) * C (ix2 p (j 1)) := by
  pointwise [k0_pay8, k0_pay4, k0_pay2]

theorem zero6 (j : S1x512.Idx) : (k0_pay6 (F := Ideal) j : EReal) = 0 := by
  pointwise [k0_pay6]

theorem zero7 (j : S1x512.Idx) : (k0_pay7 (F := Ideal) j : EReal) = 0 := by
  pointwise [k0_pay7]

end Cert.OutBwdIdeal.Val
-- ==== Proof.OutBwdVal.lean ====
/- The gradient of the mixers' norms and the output projection: the five result arrays equal to the reference. -/
module

public import proofs.«01_k».proof.Proof.Gen.OutBwdIdeal.Frame
public import proofs.«01_k».proof.Proof.Gen.OutBwdRefIdeal.Read
public import proofs.«01_k».proof.Proof.Rms
public import proofs.«01_k».proof.Proof.OutBwdParts
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutBwdIdeal.Val

open Cert.OutBwdIdeal Cert.OutBwdIdeal.Gen
open Cert.OutBwdRefIdeal.Read

variable (m : (ℓ : Loc nD τ sig) → Buf (Elt Ideal) ℓ)

/-- The gradient at the mixed rows, in the reference. -/
def U (c : Dev nD) : FVec Ideal S4096x1024 .f32 := val_main_v36 (F := Ideal) (m ((c : Thread nD τ).loc main_arg0)) (m ((c : Thread nD τ).loc main_arg1))

theorem small (t : Fin cfg0.N) (h : t.val % 8 = 0) : ¬ 1 ≤ t.val := by
  have := lt_of_lt_of_eq t.isLt N_0
  omega

theorem mix_at (c : Dev nD) (t : Fin cfg0.N) (p : Fin 512) (q : Fin 1024) :
    (k0_pay3 (F := Ideal) (iblk m c 0 t) (iblk m c 1 t) (ix2 p q) : EReal) = U m c (ix2 (⟨t.val * 512 + p.val, by idx_bounds; omega⟩ : Fin 4096) q) := by
  refine (mix_pay _ _ _).trans ((Finset.sum_congr rfl fun k _ => congrArg₂ _ (part0 m c t _) (part1 m c t _)).trans (refMix _ _ (ix2 (⟨t.val * 512 + p.val, by idx_bounds; omega⟩ : Fin 4096) q)).symm)

theorem final7 (c : Dev nD) : (dats m 0 c).arrAt 7 (cfgs 0).N = val_main_v78 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  have e : (dats m 0 c).after 7 t y = kdx (fun k => iblk m c 3 t (ix2 (y 0) k))
      (fun k => k0_pay3 (F := Ideal) (iblk m c 0 t) (iblk m c 1 t) (ix2 (y 0) (⟨k.val, by omega⟩ : Fin 1024)) * iblk m c 5 t (ix2 (0 : Fin 1) k)) (y 1) := by
    by_cases h0 : t.val % 8 = 0
    · rw [after0_7, outsAt0_A m c t h0 (small t h0) (by omega)]
      frame_out
      exact dp_pay _ _ _ _ y
    · by_cases h2 : t.val % 8 = 7
      · rw [after0_7, outsAt0_C m c t h0 (by omega) h2]
        frame_out
        exact dp_pay _ _ _ _ y
      · rw [after0_7, outsAt0_B m c t h0 (by omega) h2]
        frame_out
        exact dp_pay _ _ _ _ y
  refine e.trans ((dx_row _ _ _).trans ?_)
  have hx : (fun k => iblk m c 3 t (ix2 (y 0) k) : Fin 512 → EReal)
      = fun k => (show FVec Ideal S4096x512 .f32 from m ((c : Thread nD τ).loc main_arg2)) (ix2 (⟨t.val * 512 + (y 0).val, by idx_bounds; omega⟩ : Fin 4096) k) := funext fun k => part3 m c t _
  have hd : (fun k => k0_pay3 (F := Ideal) (iblk m c 0 t) (iblk m c 1 t) (ix2 (y 0) (⟨k.val, by omega⟩ : Fin 1024)) * iblk m c 5 t (ix2 (0 : Fin 1) k) : Fin 512 → EReal)
      = fun k => U m c (ix2 (⟨t.val * 512 + (y 0).val, by idx_bounds; omega⟩ : Fin 4096) (⟨k.val, by omega⟩ : Fin 1024)) * (show FVec Ideal S512 .f32 from m ((c : Thread nD τ).loc main_arg4)) (ix1 k) :=
    funext fun k => congrArg₂ _ (mix_at m c t (y 0) _) (part5 m c t _)
  refine (congrFun (congr (congrArg rdx hx) hd) (y 1)).trans (((refDp _ _ _ _ (ix2 (⟨t.val * 512 + (y 0).val, by idx_bounds; omega⟩ : Fin 4096) (y 1))).symm).trans ?_)
  generalize val_main_v78 (F := Ideal) _ _ _ _ = Y
  blk_point [idx t]

theorem final8 (c : Dev nD) : (dats m 0 c).arrAt 8 (cfgs 0).N = val_main_v58 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t hf y => ?_
  blk_simp
  have e : (dats m 0 c).after 8 t y = kdx (fun k => iblk m c 4 t (ix2 (y 0) k))
      (fun k => k0_pay3 (F := Ideal) (iblk m c 0 t) (iblk m c 1 t) (ix2 (y 0) (⟨512 + k.val, by omega⟩ : Fin 1024)) * iblk m c 6 t (ix2 (0 : Fin 1) k)) (y 1) := by
    by_cases h0 : t.val % 8 = 0
    · rw [after0_8, outsAt0_A m c t h0 (small t h0) (by omega)]
      frame_out
      exact da_pay _ _ _ _ y
    · by_cases h2 : t.val % 8 = 7
      · rw [after0_8, outsAt0_C m c t h0 (by omega) h2]
        frame_out
        exact da_pay _ _ _ _ y
      · rw [after0_8, outsAt0_B m c t h0 (by omega) h2]
        frame_out
        exact da_pay _ _ _ _ y
  refine e.trans ((dx_row _ _ _).trans ?_)
  have hx : (fun k => iblk m c 4 t (ix2 (y 0) k) : Fin 512 → EReal)
      = fun k => (show FVec Ideal S4096x512 .f32 from m ((c : Thread nD τ).loc main_arg3)) (ix2 (⟨t.val * 512 + (y 0).val, by idx_bounds; omega⟩ : Fin 4096) k) := funext fun k => part4 m c t _
  have hd : (fun k => k0_pay3 (F := Ideal) (iblk m c 0 t) (iblk m c 1 t) (ix2 (y 0) (⟨512 + k.val, by omega⟩ : Fin 1024)) * iblk m c 6 t (ix2 (0 : Fin 1) k) : Fin 512 → EReal)
      = fun k => U m c (ix2 (⟨t.val * 512 + (y 0).val, by idx_bounds; omega⟩ : Fin 4096) (⟨512 + k.val, by omega⟩ : Fin 1024)) * (show FVec Ideal S512 .f32 from m ((c : Thread nD τ).loc main_arg5)) (ix1 k) :=
    funext fun k => congrArg₂ _ (mix_at m c t (y 0) _) (part6 m c t _)
  refine (congrFun (congr (congrArg rdx hx) hd) (y 1)).trans (((refDa _ _ _ _ (ix2 (⟨t.val * 512 + (y 0).val, by idx_bounds; omega⟩ : Fin 4096) (y 1))).symm).trans ?_)
  generalize val_main_v58 (F := Ideal) _ _ _ _ = Y
  blk_point [idx t]

/-- One grid point's part in a gain's gradient. -/
def dgpAt (c : Dev nD) (t : Fin cfg0.N) (j : S1x512.Idx) : EReal :=
  ∑ p : Fin 512, k0_pay3 (F := Ideal) (iblk m c 0 t) (iblk m c 1 t) (ix2 p (⟨(j 1).val, by idx_bounds; omega⟩ : Fin 1024))
    * ((show FVec Ideal S512x512 .f32 from iblk m c 3 t) (ix2 p (j 1)) * Ideal.rsqrt (ms (fun k => iblk m c 3 t (ix2 p k))))

theorem dgp_at (c : Dev nD) (t : Fin cfg0.N) (j : S1x512.Idx) : dgpAt m c t j = ∑ p : Fin 512,
    (fun l : Fin 4096 => (show FVec Ideal S4096x512 .f32 from m ((c : Thread nD τ).loc main_arg2)) (ix2 l (j 1)) * Ideal.rsqrt (ms (fun k => (show FVec Ideal S4096x512 .f32 from m ((c : Thread nD τ).loc main_arg2)) (ix2 l k))) * U m c (ix2 l (⟨(j 1).val, by idx_bounds; omega⟩ : Fin 1024)))
      (⟨t.val * 512 + p.val, by idx_bounds; omega⟩ : Fin 4096) := by
  refine Finset.sum_congr rfl fun p _ => Eq.trans (mul_comm _ _) (congrArg₂ _ (congrArg₂ _ ?_ ?_) ?_)
  · exact part3 m c t _
  · exact congrArg (fun r => Ideal.rsqrt (ms r)) (funext fun k => part3 m c t _)
  · exact mix_at m c t p _

theorem dgp_sum (c : Dev nD) (j : S1x512.Idx) : (∑ t : Fin 8, dgpAt m c t j : EReal) = val_main_v80 (F := Ideal) (m ((c : Thread nD τ).loc main_arg0)) (m ((c : Thread nD τ).loc main_arg1)) (m ((c : Thread nD τ).loc main_arg2)) j := by
  refine Eq.trans ?_ (refDgp _ _ _ _).symm
  refine Eq.trans ?_ (Fin.sum_mul_add_fin 8 512 _)
  exact Finset.sum_congr rfl fun t _ => dgp_at m c t j

theorem final10 (c : Dev nD) : (dats m 0 c).arrAt 10 (cfgs 0).N = val_main_v80 (F := Ideal) (m ((c : Thread nD τ).loc main_arg0)) (m ((c : Thread nD τ).loc main_arg1)) (m ((c : Thread nD τ).loc main_arg2)) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t j => dgpAt m c t j)
    (fun t h j => by
      rw [outsAt0_A m c t h (small t h) (by omega)]; frame_out
      exact (dgp_pay _ _ _ _ j).trans (by rw [zero6]; rfl))
    (fun t h j => by
      by_cases h2 : t.val % 8 = 7
      · rw [outsAt0_C m c t h (by omega) h2]; frame_out; exact dgp_pay _ _ _ _ j
      · rw [outsAt0_B m c t h (by omega) h2]; frame_out; exact dgp_pay _ _ _ _ j)
    (le_of_eq N_0) t0_7 rfl j, zero_add]
  refine (dgp_sum m c j).trans ?_
  blk_point [idx t0_7]

/-- One grid point's part in a gain's gradient. -/
def dgaAt (c : Dev nD) (t : Fin cfg0.N) (j : S1x512.Idx) : EReal :=
  ∑ p : Fin 512, k0_pay3 (F := Ideal) (iblk m c 0 t) (iblk m c 1 t) (ix2 p (⟨512 + (j 1).val, by idx_bounds; omega⟩ : Fin 1024))
    * ((show FVec Ideal S512x512 .f32 from iblk m c 4 t) (ix2 p (j 1)) * Ideal.rsqrt (ms (fun k => iblk m c 4 t (ix2 p k))))

theorem dga_at (c : Dev nD) (t : Fin cfg0.N) (j : S1x512.Idx) : dgaAt m c t j = ∑ p : Fin 512,
    (fun l : Fin 4096 => (show FVec Ideal S4096x512 .f32 from m ((c : Thread nD τ).loc main_arg3)) (ix2 l (j 1)) * Ideal.rsqrt (ms (fun k => (show FVec Ideal S4096x512 .f32 from m ((c : Thread nD τ).loc main_arg3)) (ix2 l k))) * U m c (ix2 l (⟨512 + (j 1).val, by idx_bounds; omega⟩ : Fin 1024)))
      (⟨t.val * 512 + p.val, by idx_bounds; omega⟩ : Fin 4096) := by
  refine Finset.sum_congr rfl fun p _ => Eq.trans (mul_comm _ _) (congrArg₂ _ (congrArg₂ _ ?_ ?_) ?_)
  · exact part4 m c t _
  · exact congrArg (fun r => Ideal.rsqrt (ms r)) (funext fun k => part4 m c t _)
  · exact mix_at m c t p _

theorem dga_sum (c : Dev nD) (j : S1x512.Idx) : (∑ t : Fin 8, dgaAt m c t j : EReal) = val_main_v81 (F := Ideal) (m ((c : Thread nD τ).loc main_arg0)) (m ((c : Thread nD τ).loc main_arg1)) (m ((c : Thread nD τ).loc main_arg3)) j := by
  refine Eq.trans ?_ (refDga _ _ _ _).symm
  refine Eq.trans ?_ (Fin.sum_mul_add_fin 8 512 _)
  exact Finset.sum_congr rfl fun t _ => dga_at m c t j

theorem final11 (c : Dev nD) : (dats m 0 c).arrAt 11 (cfgs 0).N = val_main_v81 (F := Ideal) (m ((c : Thread nD τ).loc main_arg0)) (m ((c : Thread nD τ).loc main_arg1)) (m ((c : Thread nD τ).loc main_arg3)) := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0)
    (fun t j => dgaAt m c t j)
    (fun t h j => by
      rw [outsAt0_A m c t h (small t h) (by omega)]; frame_out
      exact (dga_pay _ _ _ _ j).trans (by rw [zero7]; rfl))
    (fun t h j => by
      by_cases h2 : t.val % 8 = 7
      · rw [outsAt0_C m c t h (by omega) h2]; frame_out; exact dga_pay _ _ _ _ j
      · rw [outsAt0_B m c t h (by omega) h2]; frame_out; exact dga_pay _ _ _ _ j)
    (le_of_eq N_0) t0_7 rfl j, zero_add]
  refine (dga_sum m c j).trans ?_
  blk_point [idx t0_7]

/-- One grid point's part in the weight's gradient. -/
def dwAt (c : Dev nD) (t : Fin cfg0.N) (j : S1024x1024.Idx) : EReal :=
  ∑ p : Fin 512, (show FVec Ideal S512x1024 .bf16 from iblk m c 2 t) (ix2 p (j 0)) * (show FVec Ideal S512x1024 .f32 from iblk m c 0 t) (ix2 p (j 1))

theorem dw_at (c : Dev nD) (t : Fin cfg0.N) (j : S1024x1024.Idx) : dwAt m c t j = ∑ p : Fin 512,
    (fun l : Fin 4096 => (show FVec Ideal S4096x1024 .f32 from m ((c : Thread nD τ).loc main_arg0)) (ix2 l (j 1)) * val_main_v32 (F := Ideal) (m ((c : Thread nD τ).loc main_arg2)) (m ((c : Thread nD τ).loc main_arg3)) (m ((c : Thread nD τ).loc main_arg4)) (m ((c : Thread nD τ).loc main_arg5)) (ix2 l (j 0)))
      (⟨t.val * 512 + p.val, by idx_bounds; omega⟩ : Fin 4096) :=
  Finset.sum_congr rfl fun p _ => Eq.trans (mul_comm _ _) (congrArg₂ _ (part0 m c t _) (part2 m c t _))

theorem dw_sum (c : Dev nD) (j : S1024x1024.Idx) : (∑ t : Fin 8, dwAt m c t j : EReal) = val_main_v79 (F := Ideal) (m ((c : Thread nD τ).loc main_arg0)) (m ((c : Thread nD τ).loc main_arg2)) (m ((c : Thread nD τ).loc main_arg3)) (m ((c : Thread nD τ).loc main_arg4)) (m ((c : Thread nD τ).loc main_arg5)) j := by
  refine Eq.trans ?_ (refDw _ _ _ _ _ _).symm
  refine Eq.trans ?_ (Fin.sum_mul_add_fin 8 512 _)
  exact Finset.sum_congr rfl fun t _ => dw_at m c t j

/-- The weight's gradient as the kernel's own buffer holds it after the last grid point. -/
theorem dw_scratch (c : Dev nD) (j : S1024x1024.Idx) : ((outsAt0 m c t0_7.val t0_7.isLt).2.2.2.2.2 j : EReal) = val_main_v79 (F := Ideal) (m ((c : Thread nD τ).loc main_arg0)) (m ((c : Thread nD τ).loc main_arg2)) (m ((c : Thread nD τ).loc main_arg3)) (m ((c : Thread nD τ).loc main_arg4)) (m ((c : Thread nD τ).loc main_arg5)) j := by
  rw [Pipeline.eq_sum_fin_of_reset_step_apply_last (fun n h => (outsAt0 m c n h).2.2.2.2.2) 8 (fun _ => 0)
    (fun t j => dwAt m c t j)
    (fun t h j => by
      rw [outsAt0_A m c t h (small t h) (by omega)]; frame_out
      exact (dw_first _ _ j).trans (zero_add _).symm)
    (fun t h j => by
      by_cases h2 : t.val % 8 = 7
      · rw [outsAt0_C m c t h (by omega) h2]; frame_out; rw [read_unread_whole]; exact dw_next _ _ _ j
      · rw [outsAt0_B m c t h (by omega) h2]; frame_out; rw [read_unread_whole]; exact dw_next _ _ _ j)
    (le_of_eq N_0) t0_7 rfl j, zero_add]
  exact dw_sum m c j

theorem after9 (c : Dev nD) (j : S1024x1024.Idx) :
    ((dats m 0 c).after 9 t0_7 j : EReal) = (outsAt0 m c t0_7.val t0_7.isLt).2.2.2.2.2 j := by
  rw [after0_9, outsAt0_C m c t0_7 (by decide) (by decide) (by decide)]
  frame_out
  pointwise [k0_pay9]

theorem final9 (c : Dev nD) : (dats m 0 c).arrAt 9 (cfgs 0).N = val_main_v79 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  refine (after9 m c j).trans ((dw_scratch m c j).trans ?_)
  generalize val_main_v79 (F := Ideal) _ _ _ _ _ = Y
  blk_point [idx t0_7]

end Cert.OutBwdIdeal.Val
-- ==== Proof.OutBwdClaim.lean ====
/- The two claims about the gradient of the mixers' norms and the output projection that the generated frames do not give: the reference's frame, and equal results. -/
module

public import proofs.«01_k».proof.Defs
public import proofs.«01_k».proof.Proof.Gen.OutBwdIdeal.Frame
public import proofs.«01_k».proof.Proof.Gen.OutBwdRefIdeal.Read
public import proofs.«01_k».proof.Proof.OutBwdVal
public import Idealize.ShloMosaic.Lib.Claim
public import Idealize.ShloMosaic.Init

@[expose] public section

set_option maxRecDepth 16384

noncomputable section

open Idealize.ShloMosaic Idealize.ShloMosaic.TcCoe Idealize.SL.Sem

namespace Cert.OutBwdClaim

/-- The reference's own run leaves its arguments as they were. -/
theorem refKeeps (m : (ℓ : Loc Cert.OutBwdRefIdeal.nD Cert.OutBwdRefIdeal.τ Cert.OutBwdRefIdeal.sig) → Buf (Elt Ideal) ℓ) (ρ) :
    θ_run (Cert.OutBwdRefIdeal.defs (F := Ideal)) (onTc (τ := Cert.OutBwdRefIdeal.τ) (Cert.OutBwdRefIdeal.main (F := Ideal))) ⟨m, fun _ => 0, ρ⟩ fun r => ∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5) :=
  (θ_run Cert.OutBwdRefIdeal.defs _ _).mono (fun r h c => (h c).2.2.2.2.2) (Cert.OutBwdRefIdeal.Value.run (F := Ideal) m ρ)

/-- The reference declares no semaphore. -/
theorem refFrame : Cert.quiescent_OutBwdRefIdeal := fun m ρ _ =>
  (θ_run Cert.OutBwdRefIdeal.defs _ _).mono (fun r h => ⟨h, Idealize.ShloMosaic.sem_eq_zero_of_no_sems (by decide) r.2⟩) (refKeeps m ρ)

/-- The reference's results as its named stages. -/
theorem refRun (m : (ℓ : Loc Cert.OutBwdRefIdeal.nD Cert.OutBwdRefIdeal.τ Cert.OutBwdRefIdeal.sig) → Buf (Elt Ideal) ℓ) (ρ) :
    θ_run (Cert.OutBwdRefIdeal.defs (F := Ideal)) (onTc (τ := Cert.OutBwdRefIdeal.τ) (Cert.OutBwdRefIdeal.main (F := Ideal))) ⟨m, fun _ => 0, ρ⟩ fun r => ∀ c : Dev Cert.OutBwdRefIdeal.nD,
      r.2.mem ((c.tc : Thread Cert.OutBwdRefIdeal.nD Cert.OutBwdRefIdeal.τ).loc Cert.OutBwdRefIdeal.main_v78)
          = Cert.OutBwdRefIdeal.Read.val_main_v78 (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg4))
      ∧ r.2.mem ((c.tc : Thread Cert.OutBwdRefIdeal.nD Cert.OutBwdRefIdeal.τ).loc Cert.OutBwdRefIdeal.main_v58)
          = Cert.OutBwdRefIdeal.Read.val_main_v58 (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg5))
      ∧ r.2.mem ((c.tc : Thread Cert.OutBwdRefIdeal.nD Cert.OutBwdRefIdeal.τ).loc Cert.OutBwdRefIdeal.main_v79)
          = Cert.OutBwdRefIdeal.Read.val_main_v79 (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))
      ∧ r.2.mem ((c.tc : Thread Cert.OutBwdRefIdeal.nD Cert.OutBwdRefIdeal.τ).loc Cert.OutBwdRefIdeal.main_v80)
          = Cert.OutBwdRefIdeal.Read.val_main_v80 (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2))
      ∧ r.2.mem ((c.tc : Thread Cert.OutBwdRefIdeal.nD Cert.OutBwdRefIdeal.τ).loc Cert.OutBwdRefIdeal.main_v81)
          = Cert.OutBwdRefIdeal.Read.val_main_v81 (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg3)) :=
  (θ_run Cert.OutBwdRefIdeal.defs _ _).mono (fun r h c => ⟨(h c).1.trans (Cert.OutBwdRefIdeal.Read.val_main_v78_eq m c), (h c).2.1.trans (Cert.OutBwdRefIdeal.Read.val_main_v58_eq m c), (h c).2.2.1.trans (Cert.OutBwdRefIdeal.Read.val_main_v79_eq _ _ _ _ _), (h c).2.2.2.1.trans (Cert.OutBwdRefIdeal.Read.val_main_v80_eq _ _ _), (h c).2.2.2.2.1.trans (Cert.OutBwdRefIdeal.Read.val_main_v81_eq _ _ _)⟩)
    (Cert.OutBwdRefIdeal.Value.run (F := Ideal) m ρ)

/-- The kernel's result arrays and the reference's agree over the extended reals. -/
theorem algebraic : Cert.algebraic_OutBwdIdeal_OutBwdRefIdeal := by
  intro m g m' g' _ hagree
  refine ⟨fun c => Cert.OutBwdRefIdeal.Read.val_main_v78 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg4)),
    fun c => Cert.OutBwdRefIdeal.Read.val_main_v58 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg5)),
    fun c => Cert.OutBwdRefIdeal.Read.val_main_v79 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)),
    fun c => Cert.OutBwdRefIdeal.Read.val_main_v80 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)),
    fun c => Cert.OutBwdRefIdeal.Read.val_main_v81 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg3)), ?_, ?_⟩
  · exact (θ_run Cert.OutBwdIdeal.defs _ _).mono (fun r h c => ⟨((h.2 c).1 7).trans (Cert.OutBwdIdeal.Val.final7 m c), ((h.2 c).1 8).trans (Cert.OutBwdIdeal.Val.final8 m c), ((h.2 c).1 9).trans (Cert.OutBwdIdeal.Val.final9 m c), ((h.2 c).1 10).trans (Cert.OutBwdIdeal.Val.final10 m c), ((h.2 c).1 11).trans (Cert.OutBwdIdeal.Val.final11 m c), h.1 c⟩)
      (θ_run_and (Cert.OutBwdIdeal.Gen.unchanged m g) (Cert.OutBwdIdeal.Gen.run_main m g))
  · exact (θ_run Cert.OutBwdRefIdeal.defs _ _).mono (fun r h c => ⟨(h.2 c).1.trans (by rw [(hagree c).1, (hagree c).2.1, (hagree c).2.2.1, (hagree c).2.2.2.2.1]),
      (h.2 c).2.1.trans (by rw [(hagree c).1, (hagree c).2.1, (hagree c).2.2.2.1, (hagree c).2.2.2.2.2]),
      (h.2 c).2.2.1.trans (by rw [(hagree c).1, (hagree c).2.2.1, (hagree c).2.2.2.1, (hagree c).2.2.2.2.1, (hagree c).2.2.2.2.2]),
      (h.2 c).2.2.2.1.trans (by rw [(hagree c).1, (hagree c).2.1, (hagree c).2.2.1]),
      (h.2 c).2.2.2.2.trans (by rw [(hagree c).1, (hagree c).2.1, (hagree c).2.2.2.1]), h.1 c⟩)
      (θ_run_and (refKeeps m' g') (refRun m' g'))

end Cert.OutBwdClaim

end
-- ==== Proof.InDxVal.lean ====
/- The gradient of the input projection and norm: to the block's input and the norm's gain. -/
module

public import proofs.«01_k».proof.Proof.Gen.InDxIdeal.Frame
public import proofs.«01_k».proof.Proof.Gen.InDxRefIdeal.Read
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InDxIdeal.Val

open Cert.InDxIdeal Cert.InDxIdeal.Gen
open Cert.InDxRefIdeal.Read

/-! A row's norm and its gradient over the extended reals. -/

/-- A row's mean square plus the norm's small constant. -/
def ms (h : Fin 1024 → EReal) : EReal :=
  Ideal.div (∑ k, h k * h k) (Ideal.ofBits FTy.f32 1149239296#32) + Ideal.ofBits FTy.f32 897988541#32

/-- The gradient to a normalised row, added to the residual's, as the kernel spells it. -/
def kdx (h d e : Fin 1024 → EReal) (q : Fin 1024) : EReal :=
  e q + Ideal.rsqrt (ms h) * (d q - h q * Ideal.rsqrt (ms h) * Ideal.div (∑ k, d k * (h k * Ideal.rsqrt (ms h))) (Ideal.ofBits FTy.f32 1149239296#32))

/-- The same as the reference spells it. -/
def rdx (h d e : Fin 1024 → EReal) (q : Fin 1024) : EReal :=
  e q + d q * Ideal.rsqrt (ms h) + h q * Ideal.div ((∑ k, h k * d k) * (Ideal.ofBits FTy.f32 3204448256#32 * Ideal.div (Ideal.rsqrt (ms h)) (ms h))) (Ideal.ofBits FTy.f32 1149239296#32) + Ideal.div ((∑ k, h k * d k) * (Ideal.ofBits FTy.f32 3204448256#32 * Ideal.div (Ideal.rsqrt (ms h)) (ms h))) (Ideal.ofBits FTy.f32 1149239296#32) * h q

theorem dx_row (h d e : Fin 1024 → EReal) (q) : kdx h d e q = rdx h d e q :=
  Cert.Rms.bwd1024 h d (e q) (d q) (h q) _ _ rfl rfl

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![t.val, 0]
    ∧ win0_6.index t = ![t.val, 0]
    ∧ win0_7.index t = ![0, 0]
    ∧ win0_8.index t = ![t.val, 0]
    ∧ win0_9.index t = ![0, 0] :=
  (by decide +kernel : ∀ t : Fin grid0.N, _)

theorem host0 (c : Dev nD) (i : S4096x512.Idx) :
    (V m c main_v0 i : EReal) = m ((c : Thread nD τ).loc main_arg4) i := by
  simp only [V, hostOps0]
  entry_read
  rfl

theorem host1 (c : Dev nD) (i : S4096x512.Idx) :
    (V m c main_v1 i : EReal) = m ((c : Thread nD τ).loc main_arg5) i := by
  simp only [V, hostOps0]
  entry_read
  rfl

theorem host2 (c : Dev nD) (i : S4096x512.Idx) :
    (V m c main_v2 i : EReal) = m ((c : Thread nD τ).loc main_arg6) i := by
  simp only [V, hostOps0]
  entry_read
  rfl

theorem host3 (c : Dev nD) (i : S4096x512.Idx) :
    (V m c main_v3 i : EReal) = m ((c : Thread nD τ).loc main_arg7) i := by
  simp only [V, hostOps0]
  entry_read
  rfl

theorem hostW (c : Dev nD) (i : S4x1024x512.Idx) :
    (V m c main_v6 i : EReal) = (show FVec Ideal S1024x2048 .f32 from m ((c : Thread nD τ).loc main_arg2)) (ix2 (i 1) (⟨(i 0).val * 512 + (i 2).val, by idx_bounds i; omega⟩ : Fin 2048)) := by
  simp only [V, hostOps0]
  entry_read
  pointwise

theorem hostG (c : Dev nD) (i : S1x1024.Idx) :
    (V m c main_v7 i : EReal) = (show FVec Ideal S1024 .f32 from m ((c : Thread nD τ).loc main_arg1)) (ix1 (i 1)) := by
  simp only [V, hostOps0]
  entry_read
  pointwise

theorem part0 (c : Dev nD) (t : Fin cfg0.N) (j : S512x512.Idx) :
    (iblk m c 0 t j : EReal) = m ((c : Thread nD τ).loc main_arg4)
      (ix2 (⟨t.val * 512 + (j 0).val, by idx_bounds; omega⟩ : Fin 4096) (j 1)) := by
  blk_simp [iblk]
  refine (host0 m c _).trans ?_
  blk_point [idx t]

theorem part1 (c : Dev nD) (t : Fin cfg0.N) (j : S512x512.Idx) :
    (iblk m c 1 t j : EReal) = m ((c : Thread nD τ).loc main_arg5)
      (ix2 (⟨t.val * 512 + (j 0).val, by idx_bounds; omega⟩ : Fin 4096) (j 1)) := by
  blk_simp [iblk]
  refine (host1 m c _).trans ?_
  blk_point [idx t]

theorem part2 (c : Dev nD) (t : Fin cfg0.N) (j : S512x512.Idx) :
    (iblk m c 2 t j : EReal) = m ((c : Thread nD τ).loc main_arg6)
      (ix2 (⟨t.val * 512 + (j 0).val, by idx_bounds; omega⟩ : Fin 4096) (j 1)) := by
  blk_simp [iblk]
  refine (host2 m c _).trans ?_
  blk_point [idx t]

theorem part3 (c : Dev nD) (t : Fin cfg0.N) (j : S512x512.Idx) :
    (iblk m c 3 t j : EReal) = m ((c : Thread nD τ).loc main_arg7)
      (ix2 (⟨t.val * 512 + (j 0).val, by idx_bounds; omega⟩ : Fin 4096) (j 1)) := by
  blk_simp [iblk]
  refine (host3 m c _).trans ?_
  blk_point [idx t]

theorem part4 (c : Dev nD) (t : Fin cfg0.N) (j : S4x1024x512.Idx) :
    (iblk m c 4 t j : EReal) = (show FVec Ideal S1024x2048 .f32 from m ((c : Thread nD τ).loc main_arg2))
      (ix2 (j 1) (⟨(j 0).val * 512 + (j 2).val, by idx_bounds j; omega⟩ : Fin 2048)) := by
  blk_simp [iblk]
  refine (hostW m c _).trans ?_
  blk_point [idx t]

theorem part5 (c : Dev nD) (t : Fin cfg0.N) (j : S512x1024.Idx) :
    (iblk m c 5 t j : EReal) = m ((c : Thread nD τ).loc main_arg0)
      (ix2 (⟨t.val * 512 + (j 0).val, by idx_bounds; omega⟩ : Fin 4096) (j 1)) := by
  blk_simp [iblk]
  blk_point [V, idx t]

theorem part6 (c : Dev nD) (t : Fin cfg0.N) (j : S512x1024.Idx) :
    (iblk m c 6 t j : EReal) = m ((c : Thread nD τ).loc main_arg3)
      (ix2 (⟨t.val * 512 + (j 0).val, by idx_bounds; omega⟩ : Fin 4096) (j 1)) := by
  blk_simp [iblk]
  blk_point [V, idx t]

theorem part7 (c : Dev nD) (t : Fin cfg0.N) (j : S1x1024.Idx) :
    (iblk m c 7 t j : EReal) = (show FVec Ideal S1024 .f32 from m ((c : Thread nD τ).loc main_arg1)) (ix1 (j 1)) := by
  blk_simp [iblk]
  refine (hostG m c _).trans ?_
  blk_point [idx t]

/-! The reference's stages. -/

/-- The four gradients side by side. -/
theorem refCat (X4 X5 X6 X7 : FVec Ideal S4096x512 .f32) (p : Fin 4096) (n : Fin 4) (k : Fin 512) :
    (val_main_v0 (F := Ideal) X4 X5 X6 X7 (ix2 p (⟨n.val * 512 + k.val, by omega⟩ : Fin 2048)) : EReal)
      = (![X4 (ix2 p k), X5 (ix2 p k), X6 (ix2 p k), X7 (ix2 p k)] n : EReal) := by
  unfold val_main_v0
  pointwise
  fin_cases n
  · refine (dif_pos (show 0 * 512 + k.val < 512 by omega)).trans ?_
    exact congrArg (fun q => X4 (ix2 p q)) (Fin.ext (show 0 * 512 + k.val = k.val by omega))
  · refine (dif_neg (show ¬ 1 * 512 + k.val < 512 by omega)).trans ((dif_pos (show 1 * 512 + k.val - 512 < 512 by omega)).trans ?_)
    exact congrArg (fun q => X5 (ix2 p q)) (Fin.ext (show 1 * 512 + k.val - 512 = k.val by omega))
  · refine (dif_neg (show ¬ 2 * 512 + k.val < 512 by omega)).trans ((dif_neg (show ¬ 2 * 512 + k.val - 512 < 512 by omega)).trans ((dif_pos (show 2 * 512 + k.val - 512 - 512 < 512 by omega)).trans ?_))
    exact congrArg (fun q => X6 (ix2 p q)) (Fin.ext (show 2 * 512 + k.val - 512 - 512 = k.val by omega))
  · refine (dif_neg (show ¬ 3 * 512 + k.val < 512 by omega)).trans ((dif_neg (show ¬ 3 * 512 + k.val - 512 < 512 by omega)).trans ((dif_neg (show ¬ 3 * 512 + k.val - 512 - 512 < 512 by omega)).trans ?_))
    exact congrArg (fun q => X7 (ix2 p q)) (Fin.ext (show 3 * 512 + k.val - 512 - 512 - 512 = k.val by omega))

theorem refDu (X4 X5 X6 X7 : FVec Ideal S4096x512 .f32) (X2 : FVec Ideal S1024x2048 .f32) (i) :
    (val_main_v18 (F := Ideal) X2 X4 X5 X6 X7 i : EReal) = ∑ n : Fin 4, ∑ k : Fin 512,
      (![X4 (ix2 (i 0) k), X5 (ix2 (i 0) k), X6 (ix2 (i 0) k), X7 (ix2 (i 0) k)] n : EReal)
        * X2 (ix2 (i 1) (⟨n.val * 512 + k.val, by omega⟩ : Fin 2048)) := by
  rw [val_main_v18_apply]
  refine (Fin.sum_mul_add_fin 4 512 _).symm.trans ?_
  refine Finset.sum_congr rfl fun n _ => Finset.sum_congr rfl fun k _ => congrArg₂ _ ((Eq.trans ?_ (refCat X4 X5 X6 X7 (i 0) n k))) ?_
  · generalize val_main_v0 (F := Ideal) X4 X5 X6 X7 = Y
    blk_point
  · blk_point

theorem refDx (X0 : FVec Ideal S4096x1024 .f32) (X1 : FVec Ideal S1024 .f32) (X2 : FVec Ideal S1024x2048 .f32) (X3 : FVec Ideal S4096x1024 .f32) (X4 X5 X6 X7 : FVec Ideal S4096x512 .f32) (i) :
    (val_main_v39 (F := Ideal) X0 X1 X2 X3 X4 X5 X6 X7 i : EReal) = rdx (fun k => X0 (ix2 (i 0) k))
      (fun k => val_main_v18 (F := Ideal) X2 X4 X5 X6 X7 (ix2 (i 0) k) * X1 (ix1 k)) (fun k => X3 (ix2 (i 0) k)) (i 1) := by
  simp only [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v23_apply, val_main_v22_apply, val_main_v14_apply, val_main_v12_apply, val_main_v11_apply, val_main_v10_apply, val_main_v9_apply, val_main_v8_apply, val_main_v7_apply, val_main_v6_apply, val_main_v5_apply, val_main_v4_apply, val_main_v3_apply, val_main_v2_apply, val_main_v1_apply, Fin.sum_univ_one]
  generalize val_main_v18 (F := Ideal) X2 X4 X5 X6 X7 = U
  pointwise [rdx, ms, val_main_cst_7, val_main_cst_6, val_main_cst_5, val_main_cst_2, val_main_cst_1, val_main_cst_0, val_main_cst]
  blk_point

theorem refDg (X0 : FVec Ideal S4096x1024 .f32) (X2 : FVec Ideal S1024x2048 .f32) (X4 X5 X6 X7 : FVec Ideal S4096x512 .f32) (i) :
    (val_main_v40 (F := Ideal) X0 X2 X4 X5 X6 X7 i : EReal) = ∑ p : Fin 4096, X0 (ix2 p (i 1)) * Ideal.rsqrt (ms (fun k => X0 (ix2 p k)))
      * val_main_v18 (F := Ideal) X2 X4 X5 X6 X7 (ix2 p (i 1)) := by
  simp only [val_main_v40_apply, val_main_v24_apply, val_main_v21_apply, val_main_v20_apply, val_main_v19_apply, val_main_v13_apply, val_main_v12_apply, val_main_v8_apply, val_main_v7_apply, val_main_v6_apply, val_main_v5_apply, val_main_v4_apply, val_main_v3_apply, val_main_v2_apply, val_main_v1_apply, Fin.sum_univ_one]
  generalize val_main_v18 (F := Ideal) X2 X4 X5 X6 X7 = U
  pointwise [ms, val_main_cst_4, val_main_cst_3, val_main_cst_1, val_main_cst_0, val_main_cst]
  blk_point

/-! The kernel's values from the blocks it reads. -/

/-- The gradient before the norm, as the kernel forms it from its blocks. -/
def du (A B C D : Vec Ideal S512x512 .bf16) (W : Vec Ideal S4x1024x512 .bf16) : FVec Ideal S512x1024 .f32 :=
  k0_pay6 (F := Ideal) A (View.ld W (Rect.unit ![0, 0, 0] ![1, 1024, 512] inb_S4x1024x512_S1x1024x512_0_0_0))
    B (View.ld W (Rect.unit ![1, 0, 0] ![1, 1024, 512] inb_S4x1024x512_S1x1024x512_1_0_0))
    C (View.ld W (Rect.unit ![2, 0, 0] ![1, 1024, 512] inb_S4x1024x512_S1x1024x512_2_0_0))
    D (View.ld W (Rect.unit ![3, 0, 0] ![1, 1024, 512] inb_S4x1024x512_S1x1024x512_3_0_0))

theorem du_blk (A B C D : Vec Ideal S512x512 .bf16) (W : Vec Ideal S4x1024x512 .bf16) (y) :
    (du A B C D W y : EReal) = ∑ n : Fin 4, ∑ k : Fin 512,
      (![A (ix2 (y 0) k), B (ix2 (y 0) k), C (ix2 (y 0) k), D (ix2 (y 0) k)] n : EReal) * W (ix3 n (y 1) k) := by
  unfold du
  rw [Fin.sum_univ_four]
  pointwise [k0_pay6]

theorem dx_pay (d : FVec Ideal S512x1024 .f32) (x e : Vec Ideal S512x1024 .f32) (g : Vec Ideal S1x1024 .f32) (y) :
    (k0_pay4 (F := Ideal) d x (k0_pay7 x) e g y : EReal)
      = kdx (fun k => x (ix2 (y 0) k)) (fun k => d (ix2 (y 0) k) * g (ix2 0 k)) (fun k => e (ix2 (y 0) k)) (y 1) := by
  pointwise [k0_pay4, k0_pay2, k0_pay1, k0_pay7, kdx, ms]

theorem dg_pay (d : FVec Ideal S512x1024 .f32) (x : Vec Ideal S512x1024 .f32) (a : Vec Ideal S1x1024 .f32) (j) :
    (k0_pay3 (F := Ideal) d x (k0_pay7 x) a j : EReal)
      = a j + ∑ p : Fin 512, d (ix2 p (j 1)) * (x (ix2 p (j 1)) * Ideal.rsqrt (ms (fun k => x (ix2 p k)))) := by
  pointwise [k0_pay3, k0_pay2, k0_pay1, k0_pay7, ms]

theorem zero5 (j : S1x1024.Idx) : (k0_pay5 (F := Ideal) j : EReal) = 0 := by
  pointwise [k0_pay5]

/-! The kernel's two result arrays. -/

/-- The gradient before the norm at one grid point. -/
def duAt (c : Dev nD) (t : Fin cfg0.N) : FVec Ideal S512x1024 .f32 :=
  du (iblk m c 0 t) (iblk m c 1 t) (iblk m c 2 t) (iblk m c 3 t) (iblk m c 4 t)

/-- The same in the reference. -/
def U (c : Dev nD) : FVec Ideal S4096x1024 .f32 := val_main_v18 (F := Ideal) (m ((c : Thread nD τ).loc main_arg2)) (m ((c : Thread nD τ).loc main_arg4)) (m ((c : Thread nD τ).loc main_arg5)) (m ((c : Thread nD τ).loc main_arg6)) (m ((c : Thread nD τ).loc main_arg7))

theorem du_at (c : Dev nD) (t : Fin cfg0.N) (p : Fin 512) (q : Fin 1024) :
    (duAt m c t (ix2 p q) : EReal) = U m c (ix2 (⟨t.val * 512 + p.val, by idx_bounds; omega⟩ : Fin 4096) q) := by
  refine (du_blk _ _ _ _ _ _).trans (Eq.trans ?_ (refDu _ _ _ _ _ (ix2 (⟨t.val * 512 + p.val, by idx_bounds; omega⟩ : Fin 4096) q)).symm)
  refine Finset.sum_congr rfl fun n _ => Finset.sum_congr rfl fun k _ => congrArg₂ _ ?_ (part4 m c t _)
  fin_cases n
  · exact part0 m c t _
  · exact part1 m c t _
  · exact part2 m c t _
  · exact part3 m c t _

theorem final8 (c : Dev nD) : (dats m 0 c).arrAt 8 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  have e : (dats m 0 c).after 8 t y = kdx (fun k => iblk m c 5 t (ix2 (y 0) k))
      (fun k => duAt m c t (ix2 (y 0) k) * iblk m c 7 t (ix2 (0 : Fin 1) k)) (fun k => iblk m c 6 t (ix2 (y 0) k)) (y 1) := by
    by_cases h0 : t.val % 8 = 0
    · rw [after0_8, outsAt0_A m c t h0]
      frame_out
      exact dx_pay _ _ _ _ y
    · rw [after0_8, outsAt0_B m c t h0]
      frame_out
      exact dx_pay _ _ _ _ y
  refine e.trans ((dx_row _ _ _ _).trans ?_)
  have hx : (fun k => iblk m c 5 t (ix2 (y 0) k) : Fin 1024 → EReal)
      = fun k => (show FVec Ideal S4096x1024 .f32 from m ((c : Thread nD τ).loc main_arg0)) (ix2 (⟨t.val * 512 + (y 0).val, by idx_bounds; omega⟩ : Fin 4096) k) := funext fun k => part5 m c t _
  have he : (fun k => iblk m c 6 t (ix2 (y 0) k) : Fin 1024 → EReal)
      = fun k => (show FVec Ideal S4096x1024 .f32 from m ((c : Thread nD τ).loc main_arg3)) (ix2 (⟨t.val * 512 + (y 0).val, by idx_bounds; omega⟩ : Fin 4096) k) := funext fun k => part6 m c t _
  have hd : (fun k => duAt m c t (ix2 (y 0) k) * iblk m c 7 t (ix2 (0 : Fin 1) k) : Fin 1024 → EReal)
      = fun k => U m c (ix2 (⟨t.val * 512 + (y 0).val, by idx_bounds; omega⟩ : Fin 4096) k) * (show FVec Ideal S1024 .f32 from m ((c : Thread nD τ).loc main_arg1)) (ix1 k) :=
    funext fun k => congrArg₂ _ (du_at m c t (y 0) _) (part7 m c t _)
  refine (congrFun (congr (congr (congrArg rdx hx) hd) he) (y 1)).trans (((refDx _ _ _ _ _ _ _ _ (ix2 (⟨t.val * 512 + (y 0).val, by idx_bounds; omega⟩ : Fin 4096) (y 1))).symm).trans ?_)
  generalize val_main_v39 (F := Ideal) _ _ _ _ _ _ _ _ = Y
  blk_point [idx t]

/-- One grid point's part in the gain's gradient. -/
def dgAt (c : Dev nD) (t : Fin cfg0.N) (j : S1x1024.Idx) : EReal :=
  ∑ p : Fin 512, duAt m c t (ix2 p (j 1))
    * ((show FVec Ideal S512x1024 .f32 from iblk m c 5 t) (ix2 p (j 1)) * Ideal.rsqrt (ms (fun k => iblk m c 5 t (ix2 p k))))

theorem dg_at (c : Dev nD) (t : Fin cfg0.N) (j : S1x1024.Idx) : dgAt m c t j = ∑ p : Fin 512,
    (fun l : Fin 4096 => (show FVec Ideal S4096x1024 .f32 from m ((c : Thread nD τ).loc main_arg0)) (ix2 l (j 1))
      * Ideal.rsqrt (ms (fun k => (show FVec Ideal S4096x1024 .f32 from m ((c : Thread nD τ).loc main_arg0)) (ix2 l k))) * U m c (ix2 l (j 1)))
      (⟨t.val * 512 + p.val, by idx_bounds; omega⟩ : Fin 4096) := by
  refine Finset.sum_congr rfl fun p _ => Eq.trans (mul_comm _ _) (congrArg₂ _ (congrArg₂ _ ?_ ?_) ?_)
  · exact part5 m c t _
  · exact congrArg (fun r => Ideal.rsqrt (ms r)) (funext fun k => part5 m c t _)
  · exact du_at m c t p _

theorem dg_sum (c : Dev nD) (j : S1x1024.Idx) : (∑ t : Fin 8, dgAt m c t j : EReal) = val_main_v40 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) j := by
  refine Eq.trans ?_ (refDg _ _ _ _ _ _ _).symm
  refine Eq.trans ?_ (Fin.sum_mul_add_fin 8 512 _)
  exact Finset.sum_congr rfl fun t _ => dg_at m c t j

theorem final9 (c : Dev nD) : (dats m 0 c).arrAt 9 (cfgs 0).N = val_main_v40 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0)
    (fun t j => dgAt m c t j)
    (fun t h j => by rw [outsAt0_A m c t h]; frame_out; exact (dg_pay (duAt m c t) _ _ j).trans (by rw [zero5]; rfl))
    (fun t h j => by rw [outsAt0_B m c t h]; frame_out; exact dg_pay (duAt m c t) _ _ j)
    (le_of_eq N_0) t0_7 rfl j, zero_add]
  refine (dg_sum m c j).trans ?_
  blk_point [idx t0_7]

end Cert.InDxIdeal.Val
-- ==== Proof.InDxClaim.lean ====
/- The two claims about the gradient of the input projection and norm that the generated frames do not give: the reference's frame, and equal results. -/
module

public import proofs.«01_k».proof.Defs
public import proofs.«01_k».proof.Proof.Gen.InDxIdeal.Frame
public import proofs.«01_k».proof.Proof.Gen.InDxRefIdeal.Read
public import proofs.«01_k».proof.Proof.InDxVal
public import Idealize.ShloMosaic.Lib.Claim
public import Idealize.ShloMosaic.Init

@[expose] public section

set_option maxRecDepth 16384

noncomputable section

open Idealize.ShloMosaic Idealize.ShloMosaic.TcCoe Idealize.SL.Sem

namespace Cert.InDxClaim

/-- The reference's own run leaves its arguments as they were. -/
theorem refKeeps (m : (ℓ : Loc Cert.InDxRefIdeal.nD Cert.InDxRefIdeal.τ Cert.InDxRefIdeal.sig) → Buf (Elt Ideal) ℓ) (ρ) :
    θ_run (Cert.InDxRefIdeal.defs (F := Ideal)) (onTc (τ := Cert.InDxRefIdeal.τ) (Cert.InDxRefIdeal.main (F := Ideal))) ⟨m, fun _ => 0, ρ⟩ fun r => ∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7) :=
  (θ_run Cert.InDxRefIdeal.defs _ _).mono (fun r h c => (h c).2.2) (Cert.InDxRefIdeal.Value.run (F := Ideal) m ρ)

/-- The reference declares no semaphore. -/
theorem refFrame : Cert.quiescent_InDxRefIdeal := fun m ρ _ =>
  (θ_run Cert.InDxRefIdeal.defs _ _).mono (fun r h => ⟨h, Idealize.ShloMosaic.sem_eq_zero_of_no_sems (by decide) r.2⟩) (refKeeps m ρ)

/-- The reference's results as its named stages. -/
theorem refRun (m : (ℓ : Loc Cert.InDxRefIdeal.nD Cert.InDxRefIdeal.τ Cert.InDxRefIdeal.sig) → Buf (Elt Ideal) ℓ) (ρ) :
    θ_run (Cert.InDxRefIdeal.defs (F := Ideal)) (onTc (τ := Cert.InDxRefIdeal.τ) (Cert.InDxRefIdeal.main (F := Ideal))) ⟨m, fun _ => 0, ρ⟩ fun r => ∀ c : Dev Cert.InDxRefIdeal.nD,
      r.2.mem ((c.tc : Thread Cert.InDxRefIdeal.nD Cert.InDxRefIdeal.τ).loc Cert.InDxRefIdeal.main_v39)
          = Cert.InDxRefIdeal.Read.val_main_v39 (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6)) (m ((c.tc : Thread Cert.InDxRefIdeal.nD Cert.InDxRefIdeal.τ).loc Cert.InDxRefIdeal.main_arg7))
      ∧ r.2.mem ((c.tc : Thread Cert.InDxRefIdeal.nD Cert.InDxRefIdeal.τ).loc Cert.InDxRefIdeal.main_v40)
          = Cert.InDxRefIdeal.Read.val_main_v40 (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6)) (m ((c.tc : Thread Cert.InDxRefIdeal.nD Cert.InDxRefIdeal.τ).loc Cert.InDxRefIdeal.main_arg7)) :=
  (θ_run Cert.InDxRefIdeal.defs _ _).mono (fun r h c => ⟨(h c).1.trans (Cert.InDxRefIdeal.Read.val_main_v39_eq m c), (h c).2.1.trans (Cert.InDxRefIdeal.Read.val_main_v40_eq _ _ _ _ _ _)⟩)
    (Cert.InDxRefIdeal.Value.run (F := Ideal) m ρ)

/-- The kernel's result arrays and the reference's agree over the extended reals. -/
theorem algebraic : Cert.algebraic_InDxIdeal_InDxRefIdeal := by
  intro m g m' g' _ hagree
  refine ⟨fun c => Cert.InDxRefIdeal.Read.val_main_v39 (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7)),
    fun c => Cert.InDxRefIdeal.Read.val_main_v40 (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg2)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7)), ?_, ?_⟩
  · exact (θ_run Cert.InDxIdeal.defs _ _).mono (fun r h c => ⟨((h.2 c).1 8).trans (Cert.InDxIdeal.Val.final8 m c), ((h.2 c).1 9).trans (Cert.InDxIdeal.Val.final9 m c), h.1 c⟩)
      (θ_run_and (Cert.InDxIdeal.Gen.unchanged m g) (Cert.InDxIdeal.Gen.run_main m g))
  · exact (θ_run Cert.InDxRefIdeal.defs _ _).mono (fun r h c => ⟨(h.2 c).1.trans (by rw [(hagree c).1, (hagree c).2.1, (hagree c).2.2.1, (hagree c).2.2.2.1, (hagree c).2.2.2.2.1, (hagree c).2.2.2.2.2.1, (hagree c).2.2.2.2.2.2.1, (hagree c).2.2.2.2.2.2.2]),
      (h.2 c).2.trans (by rw [(hagree c).1, (hagree c).2.2.1, (hagree c).2.2.2.2.1, (hagree c).2.2.2.2.2.1, (hagree c).2.2.2.2.2.2.1, (hagree c).2.2.2.2.2.2.2]), h.1 c⟩)
      (θ_run_and (refKeeps m' g') (refRun m' g'))

end Cert.InDxClaim

end
-- ==== Proof.InDwVal.lean ====
/- The weight gradient of the input projection: what the kernel leaves in its result array. -/
module

public import proofs.«01_k».proof.Proof.Gen.InDwIdeal.Frame
public import proofs.«01_k».proof.Proof.Gen.InDwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InDwIdeal.Val

open Cert.InDwIdeal Cert.InDwIdeal.Gen
open Cert.InDwRefIdeal.Read

variable (m : (ℓ : Loc nD τ sig) → Buf (Elt Ideal) ℓ)

theorem idx : ∀ t : Fin cfg0.N, win0_0.index t = ![t.val % 2, 0]
    ∧ win0_5.index t = ![t.val / 2, 0, 0] :=
  (by decide +kernel : ∀ t : Fin grid0.N, _)

theorem idx1 : ∀ t : Fin cfg0.N, t.val / 2 = 0 → win0_1.index t = ![t.val % 2, 0] :=
  (by decide +kernel : ∀ t : Fin grid0.N, _)

theorem idx2 : ∀ t : Fin cfg0.N, t.val / 2 = 1 → win0_2.index t = ![t.val % 2, 0] :=
  (by decide +kernel : ∀ t : Fin grid0.N, _)

theorem idx3 : ∀ t : Fin cfg0.N, t.val / 2 = 2 → win0_3.index t = ![t.val % 2, 0] :=
  (by decide +kernel : ∀ t : Fin grid0.N, _)

theorem idx4 : ∀ t : Fin cfg0.N, t.val / 2 = 3 → win0_4.index t = ![t.val % 2, 0] :=
  (by decide +kernel : ∀ t : Fin grid0.N, _)

/-- The normalised rows the host lines hand to the kernel are the ones the reference contracts. -/
theorem host0 (c : Dev nD) (i : S4096x1024.Idx) :
    (V m c main_v13 i : EReal) = val_main_v14 (F := Ideal) (m ((c : Thread nD τ).loc main_arg0)) (m ((c : Thread nD τ).loc main_arg1)) i := by
  entry_read
  rfl

theorem part0 (c : Dev nD) (t : Fin cfg0.N) (j : S2048x1024.Idx) :
    (iblk m c 0 t j : EReal) = val_main_v14 (F := Ideal) (m ((c : Thread nD τ).loc main_arg0)) (m ((c : Thread nD τ).loc main_arg1))
          (ix2 (⟨t.val % 2 * 2048 + (j 0).val, by idx_bounds; omega⟩ : Fin 4096) (j 1)) := by
  blk_simp [iblk]
  refine (host0 m c _).trans ?_
  generalize val_main_v14 (F := Ideal) _ _ = Y
  blk_point [idx t]

theorem host1 (c : Dev nD) (i : S4096x512.Idx) :
    (V m c main_v14 i : EReal) = m ((c : Thread nD τ).loc main_arg2) i := by
  entry_read
  rfl

theorem part1 (c : Dev nD) (t : Fin cfg0.N) (hn : t.val / 2 = 0) (j : S2048x512.Idx) :
    (iblk m c 1 t j : EReal) = m ((c : Thread nD τ).loc main_arg2)
      (ix2 (⟨t.val % 2 * 2048 + (j 0).val, by idx_bounds; omega⟩ : Fin 4096) (j 1)) := by
  blk_simp [iblk]
  refine (host1 m c _).trans ?_
  blk_point [idx1 t hn]

theorem host2 (c : Dev nD) (i : S4096x512.Idx) :
    (V m c main_v15 i : EReal) = m ((c : Thread nD τ).loc main_arg3) i := by
  entry_read
  rfl

theorem part2 (c : Dev nD) (t : Fin cfg0.N) (hn : t.val / 2 = 1) (j : S2048x512.Idx) :
    (iblk m c 2 t j : EReal) = m ((c : Thread nD τ).loc main_arg3)
      (ix2 (⟨t.val % 2 * 2048 + (j 0).val, by idx_bounds; omega⟩ : Fin 4096) (j 1)) := by
  blk_simp [iblk]
  refine (host2 m c _).trans ?_
  blk_point [idx2 t hn]

theorem host3 (c : Dev nD) (i : S4096x512.Idx) :
    (V m c main_v16 i : EReal) = m ((c : Thread nD τ).loc main_arg4) i := by
  entry_read
  rfl

theorem part3 (c : Dev nD) (t : Fin cfg0.N) (hn : t.val / 2 = 2) (j : S2048x512.Idx) :
    (iblk m c 3 t j : EReal) = m ((c : Thread nD τ).loc main_arg4)
      (ix2 (⟨t.val % 2 * 2048 + (j 0).val, by idx_bounds; omega⟩ : Fin 4096) (j 1)) := by
  blk_simp [iblk]
  refine (host3 m c _).trans ?_
  blk_point [idx3 t hn]

theorem host4 (c : Dev nD) (i : S4096x512.Idx) :
    (V m c main_v17 i : EReal) = m ((c : Thread nD τ).loc main_arg5) i := by
  entry_read
  rfl

theorem part4 (c : Dev nD) (t : Fin cfg0.N) (hn : t.val / 2 = 3) (j : S2048x512.Idx) :
    (iblk m c 4 t j : EReal) = m ((c : Thread nD τ).loc main_arg5)
      (ix2 (⟨t.val % 2 * 2048 + (j 0).val, by idx_bounds; omega⟩ : Fin 4096) (j 1)) := by
  blk_simp [iblk]
  refine (host4 m c _).trans ?_
  blk_point [idx4 t hn]

/-- The four gradients side by side. -/
theorem refCat (X2 X3 X4 X5 : FVec Ideal S4096x512 .f32) (p : Fin 4096) (n : Fin 4) (k : Fin 512) :
    (val_main_v0 (F := Ideal) X2 X3 X4 X5 (ix2 p (⟨n.val * 512 + k.val, by omega⟩ : Fin 2048)) : EReal)
      = (![X2 (ix2 p k), X3 (ix2 p k), X4 (ix2 p k), X5 (ix2 p k)] n : EReal) := by
  unfold val_main_v0
  pointwise
  fin_cases n
  · refine (dif_pos (show 0 * 512 + k.val < 512 by omega)).trans ?_
    exact congrArg (fun q => X2 (ix2 p q)) (Fin.ext (show 0 * 512 + k.val = k.val by omega))
  · refine (dif_neg (show ¬ 1 * 512 + k.val < 512 by omega)).trans ((dif_pos (show 1 * 512 + k.val - 512 < 512 by omega)).trans ?_)
    exact congrArg (fun q => X3 (ix2 p q)) (Fin.ext (show 1 * 512 + k.val - 512 = k.val by omega))
  · refine (dif_neg (show ¬ 2 * 512 + k.val < 512 by omega)).trans ((dif_neg (show ¬ 2 * 512 + k.val - 512 < 512 by omega)).trans ((dif_pos (show 2 * 512 + k.val - 512 - 512 < 512 by omega)).trans ?_))
    exact congrArg (fun q => X4 (ix2 p q)) (Fin.ext (show 2 * 512 + k.val - 512 - 512 = k.val by omega))
  · refine (dif_neg (show ¬ 3 * 512 + k.val < 512 by omega)).trans ((dif_neg (show ¬ 3 * 512 + k.val - 512 < 512 by omega)).trans ((dif_neg (show ¬ 3 * 512 + k.val - 512 - 512 < 512 by omega)).trans ?_))
    exact congrArg (fun q => X5 (ix2 p q)) (Fin.ext (show 3 * 512 + k.val - 512 - 512 - 512 = k.val by omega))

theorem ref (X0 : FVec Ideal S4096x1024 .f32) (X1 : FVec Ideal S1024 .f32) (X2 X3 X4 X5 : FVec Ideal S4096x512 .f32) (n : Fin 4) (a : Fin 1024) (k : Fin 512) :
    (val_main_v20 (F := Ideal) X0 X1 X2 X3 X4 X5 (ix3 n a k) : EReal) = ∑ p : Fin 4096,
      val_main_v14 (F := Ideal) X0 X1 (ix2 p a) * (![X2 (ix2 p k), X3 (ix2 p k), X4 (ix2 p k), X5 (ix2 p k)] n : EReal) := by
  simp only [val_main_v20_apply, val_main_v19_apply, val_main_v18_apply, val_main_v17_apply, val_main_v16_apply]
  generalize val_main_v14 (F := Ideal) X0 X1 = Y
  pointwise
  refine Finset.sum_congr rfl fun p _ => ?_
  refine Eq.trans (mul_comm _ _) (congrArg₂ _ ?_ (Eq.trans ?_ (refCat X2 X3 X4 X5 p n k)))
  · blk_point
  · generalize val_main_v0 (F := Ideal) X2 X3 X4 X5 = Z
    blk_point

theorem two0 (x0 x2 : FVec Ideal S2048x1024 .bf16) (x1 x3 : FVec Ideal S2048x512 .bf16) (y) :
    (k0_pay13 (F := Ideal) (k0_pay3 (F := Ideal) x0 x1 (k0_pay2 (F := Ideal) x2 x3)) y : EReal) =
      ∑ k : Fin 2048, x2 (ix2 k (y 1)) * x3 (ix2 k (y 2)) + ∑ k : Fin 2048, x0 (ix2 k (y 1)) * x1 (ix2 k (y 2)) := by
  pointwise [k0_pay13, k0_pay3, k0_pay2, k0_pay1]

theorem two1 (x0 x2 : FVec Ideal S2048x1024 .bf16) (x1 x3 : FVec Ideal S2048x512 .bf16) (y) :
    (k0_pay13 (F := Ideal) (k0_pay6 (F := Ideal) x0 x1 (k0_pay5 (F := Ideal) x2 x3)) y : EReal) =
      ∑ k : Fin 2048, x2 (ix2 k (y 1)) * x3 (ix2 k (y 2)) + ∑ k : Fin 2048, x0 (ix2 k (y 1)) * x1 (ix2 k (y 2)) := by
  pointwise [k0_pay13, k0_pay6, k0_pay5, k0_pay4]

theorem two2 (x0 x2 : FVec Ideal S2048x1024 .bf16) (x1 x3 : FVec Ideal S2048x512 .bf16) (y) :
    (k0_pay13 (F := Ideal) (k0_pay9 (F := Ideal) x0 x1 (k0_pay8 (F := Ideal) x2 x3)) y : EReal) =
      ∑ k : Fin 2048, x2 (ix2 k (y 1)) * x3 (ix2 k (y 2)) + ∑ k : Fin 2048, x0 (ix2 k (y 1)) * x1 (ix2 k (y 2)) := by
  pointwise [k0_pay13, k0_pay9, k0_pay8, k0_pay7]

theorem two3 (x0 x2 : FVec Ideal S2048x1024 .bf16) (x1 x3 : FVec Ideal S2048x512 .bf16) (y) :
    (k0_pay13 (F := Ideal) (k0_pay12 (F := Ideal) x0 x1 (k0_pay11 (F := Ideal) x2 x3)) y : EReal) =
      ∑ k : Fin 2048, x2 (ix2 k (y 1)) * x3 (ix2 k (y 2)) + ∑ k : Fin 2048, x0 (ix2 k (y 1)) * x1 (ix2 k (y 2)) := by
  pointwise [k0_pay13, k0_pay12, k0_pay11, k0_pay10]

theorem point0 (c : Dev nD) (t : Fin cfg0.N) (h1 : t.val % 2 = 1) (hn : t.val / 2 = 0) (y : S1x1024x512.Idx) :
    ((dats m 0 c).after 5 t y : EReal) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (0 : Fin 4) (y 1) (y 2)) := by
  rw [after0_5, outsAt0_B m c t (by omega) (by omega) (by omega) (by omega) (by omega) (by omega) (by omega)]
  frame_out
  have e := outsAt0_A m c ⟨t.val - 1, Nat.lt_of_le_of_lt (Nat.sub_le _ _) t.isLt⟩ (by dsimp only; omega) (by dsimp only; omega) (by dsimp only; omega) (by dsimp only; omega) (by dsimp only; omega) (by dsimp only; omega) (by dsimp only; omega)
  dsimp only at e
  rw [e]
  frame_out
  rw [read_unread_whole]
  refine (two0 _ _ _ _ _).trans ?_
  refine Eq.trans ?_ (ref _ _ _ _ _ _ _ _ _).symm
  refine Eq.trans ?_ (Fin.sum_mul_add_fin 2 2048 _)
  rw [Fin.sum_univ_two]
  have hp : (t.val - 1) / 2 = 0 := by omega
  refine congrArg₂ _ (Finset.sum_congr rfl fun k _ => congrArg₂ _ ((part0 m c _ _).trans ?_) ((part1 m c _ hp _).trans ?_))
    (Finset.sum_congr rfl fun k _ => congrArg₂ _ ((part0 m c _ _).trans ?_) ((part1 m c _ hn _).trans ?_))
  · generalize val_main_v14 (F := Ideal) _ _ = Y
    blk_point
  · exact congrArg (fun q => (show FVec Ideal S4096x512 .f32 from m ((c : Thread nD τ).loc main_arg2)) (ix2 q (y 2)))
      (Fin.ext (show (t.val - 1) % 2 * 2048 + k.val = 0 * 2048 + k.val by omega))
  · generalize val_main_v14 (F := Ideal) _ _ = Y
    blk_point
  · exact congrArg (fun q => (show FVec Ideal S4096x512 .f32 from m ((c : Thread nD τ).loc main_arg2)) (ix2 q (y 2)))
      (Fin.ext (show t.val % 2 * 2048 + k.val = 1 * 2048 + k.val by omega))

theorem point1 (c : Dev nD) (t : Fin cfg0.N) (h1 : t.val % 2 = 1) (hn : t.val / 2 = 1) (y : S1x1024x512.Idx) :
    ((dats m 0 c).after 5 t y : EReal) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (1 : Fin 4) (y 1) (y 2)) := by
  rw [after0_5, outsAt0_D m c t (by omega) (by omega) (by omega) (by omega) (by omega) (by omega) (by omega)]
  frame_out
  have e := outsAt0_C m c ⟨t.val - 1, Nat.lt_of_le_of_lt (Nat.sub_le _ _) t.isLt⟩ (by dsimp only; omega) (by dsimp only; omega) (by dsimp only; omega) (by dsimp only; omega) (by dsimp only; omega) (by dsimp only; omega) (by dsimp only; omega)
  dsimp only at e
  rw [e]
  frame_out
  rw [read_unread_whole]
  refine (two1 _ _ _ _ _).trans ?_
  refine Eq.trans ?_ (ref _ _ _ _ _ _ _ _ _).symm
  refine Eq.trans ?_ (Fin.sum_mul_add_fin 2 2048 _)
  rw [Fin.sum_univ_two]
  have hp : (t.val - 1) / 2 = 1 := by omega
  refine congrArg₂ _ (Finset.sum_congr rfl fun k _ => congrArg₂ _ ((part0 m c _ _).trans ?_) ((part2 m c _ hp _).trans ?_))
    (Finset.sum_congr rfl fun k _ => congrArg₂ _ ((part0 m c _ _).trans ?_) ((part2 m c _ hn _).trans ?_))
  · generalize val_main_v14 (F := Ideal) _ _ = Y
    blk_point
  · exact congrArg (fun q => (show FVec Ideal S4096x512 .f32 from m ((c : Thread nD τ).loc main_arg3)) (ix2 q (y 2)))
      (Fin.ext (show (t.val - 1) % 2 * 2048 + k.val = 0 * 2048 + k.val by omega))
  · generalize val_main_v14 (F := Ideal) _ _ = Y
    blk_point
  · exact congrArg (fun q => (show FVec Ideal S4096x512 .f32 from m ((c : Thread nD τ).loc main_arg3)) (ix2 q (y 2)))
      (Fin.ext (show t.val % 2 * 2048 + k.val = 1 * 2048 + k.val by omega))

theorem point2 (c : Dev nD) (t : Fin cfg0.N) (h1 : t.val % 2 = 1) (hn : t.val / 2 = 2) (y : S1x1024x512.Idx) :
    ((dats m 0 c).after 5 t y : EReal) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (2 : Fin 4) (y 1) (y 2)) := by
  rw [after0_5, outsAt0_F m c t (by omega) (by omega) (by omega) (by omega) (by omega) (by omega) (by omega)]
  frame_out
  have e := outsAt0_E m c ⟨t.val - 1, Nat.lt_of_le_of_lt (Nat.sub_le _ _) t.isLt⟩ (by dsimp only; omega) (by dsimp only; omega) (by dsimp only; omega) (by dsimp only; omega) (by dsimp only; omega) (by dsimp only; omega) (by dsimp only; omega)
  dsimp only at e
  rw [e]
  frame_out
  rw [read_unread_whole]
  refine (two2 _ _ _ _ _).trans ?_
  refine Eq.trans ?_ (ref _ _ _ _ _ _ _ _ _).symm
  refine Eq.trans ?_ (Fin.sum_mul_add_fin 2 2048 _)
  rw [Fin.sum_univ_two]
  have hp : (t.val - 1) / 2 = 2 := by omega
  refine congrArg₂ _ (Finset.sum_congr rfl fun k _ => congrArg₂ _ ((part0 m c _ _).trans ?_) ((part3 m c _ hp _).trans ?_))
    (Finset.sum_congr rfl fun k _ => congrArg₂ _ ((part0 m c _ _).trans ?_) ((part3 m c _ hn _).trans ?_))
  · generalize val_main_v14 (F := Ideal) _ _ = Y
    blk_point
  · exact congrArg (fun q => (show FVec Ideal S4096x512 .f32 from m ((c : Thread nD τ).loc main_arg4)) (ix2 q (y 2)))
      (Fin.ext (show (t.val - 1) % 2 * 2048 + k.val = 0 * 2048 + k.val by omega))
  · generalize val_main_v14 (F := Ideal) _ _ = Y
    blk_point
  · exact congrArg (fun q => (show FVec Ideal S4096x512 .f32 from m ((c : Thread nD τ).loc main_arg4)) (ix2 q (y 2)))
      (Fin.ext (show t.val % 2 * 2048 + k.val = 1 * 2048 + k.val by omega))

theorem point3 (c : Dev nD) (t : Fin cfg0.N) (h1 : t.val % 2 = 1) (hn : t.val / 2 = 3) (y : S1x1024x512.Idx) :
    ((dats m 0 c).after 5 t y : EReal) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (3 : Fin 4) (y 1) (y 2)) := by
  rw [after0_5, outsAt0_H m c t (by omega) (by omega) (by omega) (by omega) (by omega) (by omega) (by omega)]
  frame_out
  have e := outsAt0_G m c ⟨t.val - 1, Nat.lt_of_le_of_lt (Nat.sub_le _ _) t.isLt⟩ (by dsimp only; omega) (by dsimp only; omega) (by dsimp only; omega) (by dsimp only; omega) (by dsimp only; omega) (by dsimp only; omega) (by dsimp only; omega)
  dsimp only at e
  rw [e]
  frame_out
  rw [read_unread_whole]
  refine (two3 _ _ _ _ _).trans ?_
  refine Eq.trans ?_ (ref _ _ _ _ _ _ _ _ _).symm
  refine Eq.trans ?_ (Fin.sum_mul_add_fin 2 2048 _)
  rw [Fin.sum_univ_two]
  have hp : (t.val - 1) / 2 = 3 := by omega
  refine congrArg₂ _ (Finset.sum_congr rfl fun k _ => congrArg₂ _ ((part0 m c _ _).trans ?_) ((part4 m c _ hp _).trans ?_))
    (Finset.sum_congr rfl fun k _ => congrArg₂ _ ((part0 m c _ _).trans ?_) ((part4 m c _ hn _).trans ?_))
  · generalize val_main_v14 (F := Ideal) _ _ = Y
    blk_point
  · exact congrArg (fun q => (show FVec Ideal S4096x512 .f32 from m ((c : Thread nD τ).loc main_arg5)) (ix2 q (y 2)))
      (Fin.ext (show (t.val - 1) % 2 * 2048 + k.val = 0 * 2048 + k.val by omega))
  · generalize val_main_v14 (F := Ideal) _ _ = Y
    blk_point
  · exact congrArg (fun q => (show FVec Ideal S4096x512 .f32 from m ((c : Thread nD τ).loc main_arg5)) (ix2 q (y 2)))
      (Fin.ext (show t.val % 2 * 2048 + k.val = 1 * 2048 + k.val by omega))

theorem final (c : Dev nD) : (dats m 0 c).arrAt 5 (cfgs 0).N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  have h1 : t.val % 2 = 1 := (flush0_5 t).mp hf
  have ht : t.val < 8 := lt_of_lt_of_eq t.isLt N_0
  have e : ((dats m 0 c).after 5 t y : EReal) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (⟨t.val / 2, by omega⟩ : Fin 4) (y 1) (y 2)) := by
    have hs : t.val / 2 = 0 ∨ t.val / 2 = 1 ∨ t.val / 2 = 2 ∨ t.val / 2 = 3 := by omega
    rcases hs with h | h | h | h
    · rw [show (⟨t.val / 2, by omega⟩ : Fin 4) = 0 from Fin.ext h]
      exact point0 m c t h1 h y
    · rw [show (⟨t.val / 2, by omega⟩ : Fin 4) = 1 from Fin.ext h]
      exact point1 m c t h1 h y
    · rw [show (⟨t.val / 2, by omega⟩ : Fin 4) = 2 from Fin.ext h]
      exact point2 m c t h1 h y
    · rw [show (⟨t.val / 2, by omega⟩ : Fin 4) = 3 from Fin.ext h]
      exact point3 m c t h1 h y
  refine e.trans ?_
  generalize val_main_v20 (F := Ideal) _ _ _ _ _ _ = Y
  blk_point [idx t]

end Cert.InDwIdeal.Val
-- ==== Proof.InDwClaim.lean ====
/- The two claims about the weight gradient of the input projection that the generated frames do not give: the reference's frame, and equal results. -/
module

public import proofs.«01_k».proof.Defs
public import proofs.«01_k».proof.Proof.Gen.InDwIdeal.Frame
public import proofs.«01_k».proof.Proof.Gen.InDwRefIdeal.Read
public import proofs.«01_k».proof.Proof.InDwVal
public import Idealize.ShloMosaic.Lib.Claim
public import Idealize.ShloMosaic.Init

@[expose] public section

set_option maxRecDepth 16384

noncomputable section

open Idealize.ShloMosaic Idealize.ShloMosaic.TcCoe Idealize.SL.Sem

namespace Cert.InDwClaim

/-- The reference's own run leaves its arguments as they were. -/
theorem refKeeps (m : (ℓ : Loc Cert.InDwRefIdeal.nD Cert.InDwRefIdeal.τ Cert.InDwRefIdeal.sig) → Buf (Elt Ideal) ℓ) (ρ) :
    θ_run (Cert.InDwRefIdeal.defs (F := Ideal)) (onTc (τ := Cert.InDwRefIdeal.τ) (Cert.InDwRefIdeal.main (F := Ideal))) ⟨m, fun _ => 0, ρ⟩ fun r => ∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3)
      ∧ r.2.mem ((c.tc : Thread Cert.InDwRefIdeal.nD Cert.InDwRefIdeal.τ).loc Cert.InDwRefIdeal.main_arg4) = m ((c.tc : Thread Cert.InDwRefIdeal.nD Cert.InDwRefIdeal.τ).loc Cert.InDwRefIdeal.main_arg4)
      ∧ r.2.mem ((c.tc : Thread Cert.InDwRefIdeal.nD Cert.InDwRefIdeal.τ).loc Cert.InDwRefIdeal.main_arg5) = m ((c.tc : Thread Cert.InDwRefIdeal.nD Cert.InDwRefIdeal.τ).loc Cert.InDwRefIdeal.main_arg5) :=
  (θ_run Cert.InDwRefIdeal.defs _ _).mono (fun r h c => (h c).2) (Cert.InDwRefIdeal.Value.run (F := Ideal) m ρ)

/-- The reference declares no semaphore. -/
theorem refFrame : Cert.quiescent_InDwRefIdeal := fun m ρ _ =>
  (θ_run Cert.InDwRefIdeal.defs _ _).mono (fun r h => ⟨h, Idealize.ShloMosaic.sem_eq_zero_of_no_sems (by decide) r.2⟩) (refKeeps m ρ)

/-- The reference's results as its named stages. -/
theorem refRun (m : (ℓ : Loc Cert.InDwRefIdeal.nD Cert.InDwRefIdeal.τ Cert.InDwRefIdeal.sig) → Buf (Elt Ideal) ℓ) (ρ) :
    θ_run (Cert.InDwRefIdeal.defs (F := Ideal)) (onTc (τ := Cert.InDwRefIdeal.τ) (Cert.InDwRefIdeal.main (F := Ideal))) ⟨m, fun _ => 0, ρ⟩ fun r => ∀ c : Dev Cert.InDwRefIdeal.nD,
      r.2.mem ((c.tc : Thread Cert.InDwRefIdeal.nD Cert.InDwRefIdeal.τ).loc Cert.InDwRefIdeal.main_v20)
          = Cert.InDwRefIdeal.Read.val_main_v20 (F := Ideal) (m ((c.tc : Thread Cert.InDwRefIdeal.nD Cert.InDwRefIdeal.τ).loc Cert.InDwRefIdeal.main_arg0)) (m ((c.tc : Thread Cert.InDwRefIdeal.nD Cert.InDwRefIdeal.τ).loc Cert.InDwRefIdeal.main_arg1)) (m ((c.tc : Thread Cert.InDwRefIdeal.nD Cert.InDwRefIdeal.τ).loc Cert.InDwRefIdeal.main_arg2)) (m ((c.tc : Thread Cert.InDwRefIdeal.nD Cert.InDwRefIdeal.τ).loc Cert.InDwRefIdeal.main_arg3)) (m ((c.tc : Thread Cert.InDwRefIdeal.nD Cert.InDwRefIdeal.τ).loc Cert.InDwRefIdeal.main_arg4)) (m ((c.tc : Thread Cert.InDwRefIdeal.nD Cert.InDwRefIdeal.τ).loc Cert.InDwRefIdeal.main_arg5)) :=
  (θ_run Cert.InDwRefIdeal.defs _ _).mono (fun r h c => (h c).1.trans (Cert.InDwRefIdeal.Read.val_main_v20_eq _ _ _ _ _ _))
    (Cert.InDwRefIdeal.Value.run (F := Ideal) m ρ)

/-- The kernel's result arrays and the reference's agree over the extended reals. -/
theorem algebraic : Cert.algebraic_InDwIdeal_InDwRefIdeal := by
  intro m g m' g' _ hagree
  refine ⟨fun c => Cert.InDwRefIdeal.Read.val_main_v20 (F := Ideal) (m ((c.tc : Thread Cert.InDwIdeal.nD Cert.InDwIdeal.τ).loc Cert.InDwIdeal.main_arg0)) (m ((c.tc : Thread Cert.InDwIdeal.nD Cert.InDwIdeal.τ).loc Cert.InDwIdeal.main_arg1)) (m ((c.tc : Thread Cert.InDwIdeal.nD Cert.InDwIdeal.τ).loc Cert.InDwIdeal.main_arg2)) (m ((c.tc : Thread Cert.InDwIdeal.nD Cert.InDwIdeal.τ).loc Cert.InDwIdeal.main_arg3)) (m ((c.tc : Thread Cert.InDwIdeal.nD Cert.InDwIdeal.τ).loc Cert.InDwIdeal.main_arg4)) (m ((c.tc : Thread Cert.InDwIdeal.nD Cert.InDwIdeal.τ).loc Cert.InDwIdeal.main_arg5)), ?_, ?_⟩
  · exact (θ_run Cert.InDwIdeal.defs _ _).mono (fun r h c => ⟨((h.2 c).1 5).trans (Cert.InDwIdeal.Val.final m c), h.1 c⟩)
      (θ_run_and (Cert.InDwIdeal.Gen.unchanged m g) (Cert.InDwIdeal.Gen.run_main m g))
  · exact (θ_run Cert.InDwRefIdeal.defs _ _).mono (fun r h c => ⟨(h.2 c).trans (by rw [(hagree c).1, (hagree c).2.1, (hagree c).2.2.1, (hagree c).2.2.2.1, (hagree c).2.2.2.2.1, (hagree c).2.2.2.2.2]), h.1 c⟩)
      (θ_run_and (refKeeps m' g') (refRun m' g'))

end Cert.InDwClaim

end
-- ==== Proof.InProjVal.lean ====
/- The normalised input projection: what the kernel leaves in its three result arrays. -/
module

public import proofs.«01_k».proof.Proof.Gen.InProjIdeal.Frame
public import proofs.«01_k».proof.Proof.Gen.InProjRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InProjIdeal.Val

open Cert.InProjIdeal Cert.InProjIdeal.Gen
open Cert.InProjRefIdeal.Read

/-- A row's mean square plus the norm's small constant. -/
def ms (h : Fin 1024 → EReal) : EReal :=
  Ideal.div (∑ k, h k * h k) (Ideal.ofBits FTy.f32 1149239296#32) + Ideal.ofBits FTy.f32 897988541#32

/-- One element of a normalised row. -/
def nrm (h g : Fin 1024 → EReal) (k : Fin 1024) : EReal := h k * Ideal.rsqrt (ms h) * g k

variable (m : (ℓ : Loc nD τ sig) → Buf (Elt Ideal) ℓ)

theorem idx : ∀ t : Fin cfg0.N, win0_0.index t = ![t.val, 0]
    ∧ win0_1.index t = ![0, 0]
    ∧ win0_2.index t = ![0, 0, 0]
    ∧ win0_3.index t = ![t.val, 0]
    ∧ win0_4.index t = ![t.val, 0]
    ∧ win0_5.index t = ![0, t.val, 0] :=
  (by decide +kernel : ∀ t : Fin grid0.N, _)

theorem hostG (c : Dev nD) (i : S1x1024.Idx) : (V m c main_v0 i : EReal) = (show FVec Ideal S1024 .f32 from m ((c : Thread nD τ).loc main_arg1)) (ix1 (i 1)) := by
  simp only [V, hostOps0]
  entry_read
  pointwise

theorem hostW (c : Dev nD) (i : S4x1024x512.Idx) :
    (V m c main_v3 i : EReal) = (show FVec Ideal S1024x2048 .f32 from m ((c : Thread nD τ).loc main_arg2)) (ix2 (i 1) (⟨(i 0).val * 512 + (i 2).val, by idx_bounds i; omega⟩ : Fin 2048)) := by
  simp only [V, hostOps0]
  entry_read
  pointwise

theorem part0 (c : Dev nD) (t : Fin cfg0.N) (j : S512x1024.Idx) :
    (iblk m c 0 t j : EReal) = (show FVec Ideal S4096x1024 .f32 from m ((c : Thread nD τ).loc main_arg0)) (ix2 (⟨t.val * 512 + (j 0).val, by idx_bounds; omega⟩ : Fin 4096) (j 1)) := by
  blk_simp [iblk]
  blk_point [V, idx t]

theorem part1 (c : Dev nD) (t : Fin cfg0.N) (j : S1x1024.Idx) :
    (iblk m c 1 t j : EReal) = (show FVec Ideal S1024 .f32 from m ((c : Thread nD τ).loc main_arg1)) (ix1 (j 1)) := by
  blk_simp [iblk]
  refine (hostG m c _).trans ?_
  blk_point [idx t]

theorem part2 (c : Dev nD) (t : Fin cfg0.N) (j : S4x1024x512.Idx) :
    (iblk m c 2 t j : EReal) = (show FVec Ideal S1024x2048 .f32 from m ((c : Thread nD τ).loc main_arg2)) (ix2 (j 1) (⟨(j 0).val * 512 + (j 2).val, by idx_bounds j; omega⟩ : Fin 2048)) := by
  blk_simp [iblk]
  refine (hostW m c _).trans ?_
  blk_point [idx t]

/-! The reference's stages. -/

theorem refN (X0 : FVec Ideal S4096x1024 .f32) (X1 : FVec Ideal S1024 .f32) (i) :
    (val_main_v12 (F := Ideal) X0 X1 i : EReal) = nrm (fun k => X0 (ix2 (i 0) k)) (fun k => X1 (ix1 k)) (i 1) := by
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  pointwise [nrm, ms, val_main_cst, val_main_cst_0, val_main_cst_1]
  blk_point

theorem refN' (X0 : FVec Ideal S4096x1024 .f32) (X1 : FVec Ideal S1024 .f32) (i) :
    (val_main_v31 (F := Ideal) X0 X1 i : EReal) = nrm (fun k => X0 (ix2 (i 0) k)) (fun k => X1 (ix1 k)) (i 1) := by
  simp only [val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply]
  pointwise [nrm, ms, val_main_cst_2, val_main_cst_3, val_main_cst_4]
  blk_point

theorem refP (X0 : FVec Ideal S4096x1024 .f32) (X1 : FVec Ideal S1024 .f32) (X2 : FVec Ideal S1024x2048 .f32) (p : Fin 4096) (q : Fin 2048) :
    (val_main_v13 (F := Ideal) X0 X1 X2 (ix2 p q) : EReal)
      = ∑ k, nrm (fun k => X0 (ix2 p k)) (fun k => X1 (ix1 k)) k * X2 (ix2 k q) := by
  rw [val_main_v13_apply]
  refine Finset.sum_congr rfl fun k _ => congrArg₂ _ ((Eq.trans ?_ (refN X0 X1 (ix2 p k)))) ?_
  · generalize val_main_v12 (F := Ideal) X0 X1 = Y
    blk_point
  · blk_point

theorem refU (X0 : FVec Ideal S4096x1024 .f32) (X1 : FVec Ideal S1024 .f32) (X2 : FVec Ideal S1024x2048 .f32) (i) :
    (val_main_v14 (F := Ideal) X0 X1 X2 i : EReal) = val_main_v13 (F := Ideal) X0 X1 X2 (ix2 (i 0) (⟨0 * 512 + (i 1).val, by idx_bounds i; omega⟩ : Fin 2048)) := by
  simp only [val_main_v14_apply]
  generalize val_main_v13 (F := Ideal) X0 X1 X2 = Y
  blk_point

theorem refQ0 (X0 : FVec Ideal S4096x1024 .f32) (X1 : FVec Ideal S1024 .f32) (X2 : FVec Ideal S1024x2048 .f32) (p : Fin 4096) (q : Fin 512) :
    (val_main_v38 (F := Ideal) X0 X1 X2 (ix3 (0 : Fin 3) p q) : EReal)
      = val_main_v13 (F := Ideal) X0 X1 X2 (ix2 p (⟨1 * 512 + q.val, by omega⟩ : Fin 2048)) * Ideal.ofBits FTy.f32 1043900987#32 := by
  rw [val_main_v38_apply]
  unfold val_main_v37
  pointwise [val_main_v34_apply, val_main_v33_apply, val_main_v32_apply, val_main_v15_apply, val_main_cst_5]
  generalize val_main_v13 (F := Ideal) X0 X1 X2 = Y
  blk_point

theorem refQ1 (X0 : FVec Ideal S4096x1024 .f32) (X1 : FVec Ideal S1024 .f32) (X2 : FVec Ideal S1024x2048 .f32) (p : Fin 4096) (q : Fin 512) :
    (val_main_v38 (F := Ideal) X0 X1 X2 (ix3 (1 : Fin 3) p q) : EReal)
      = val_main_v13 (F := Ideal) X0 X1 X2 (ix2 p (⟨2 * 512 + q.val, by omega⟩ : Fin 2048)) := by
  rw [val_main_v38_apply]
  unfold val_main_v37
  pointwise [val_main_v35_apply, val_main_v16_apply]
  generalize val_main_v13 (F := Ideal) X0 X1 X2 = Y
  blk_point

theorem refQ2 (X0 : FVec Ideal S4096x1024 .f32) (X1 : FVec Ideal S1024 .f32) (X2 : FVec Ideal S1024x2048 .f32) (p : Fin 4096) (q : Fin 512) :
    (val_main_v38 (F := Ideal) X0 X1 X2 (ix3 (2 : Fin 3) p q) : EReal)
      = val_main_v13 (F := Ideal) X0 X1 X2 (ix2 p (⟨3 * 512 + q.val, by omega⟩ : Fin 2048)) := by
  rw [val_main_v38_apply]
  unfold val_main_v37
  pointwise [val_main_v36_apply, val_main_v17_apply]
  generalize val_main_v13 (F := Ideal) X0 X1 X2 = Y
  blk_point

/-! The kernel's values from the blocks it reads. -/

/-- One projected element from the blocks. -/
def prj (x : Vec Ideal S512x1024 .f32) (g : Vec Ideal S1x1024 .f32) (W : Vec Ideal S4x1024x512 .bf16) (n : Fin 4) (p q : Fin 512) : EReal :=
  ∑ k, nrm (fun k => x (ix2 p k)) (fun k => g (ix2 0 k)) k * W (ix3 n k q)

theorem n_pay (x : Vec Ideal S512x1024 .f32) (g : Vec Ideal S1x1024 .f32) (y) :
    (k0_pay3 (F := Ideal) x g y : EReal) = nrm (fun k => x (ix2 (y 0) k)) (fun k => g (ix2 0 k)) (y 1) := by
  pointwise [k0_pay3, nrm, ms]

theorem u_pay (x : Vec Ideal S512x1024 .f32) (g : Vec Ideal S1x1024 .f32) (W : Vec Ideal S4x1024x512 .bf16) (y) :
    (k0_pay4 (F := Ideal) x g (View.ld W r0_2) y : EReal) = prj x g W 0 (y 0) (y 1) := by
  pointwise [k0_pay4, k0_pay3, prj, nrm, ms]

theorem q_pay (x : Vec Ideal S512x1024 .f32) (g : Vec Ideal S1x1024 .f32) (W : Vec Ideal S4x1024x512 .bf16) (y) :
    (k0_pay5 (F := Ideal) x g (View.ld W r0_4) y : EReal) = prj x g W 1 (y 1) (y 2) * Ideal.ofBits FTy.f32 1043900987#32 := by
  pointwise [k0_pay5, k0_pay3, prj, nrm, ms]

theorem k_pay (x : Vec Ideal S512x1024 .f32) (g : Vec Ideal S1x1024 .f32) (W : Vec Ideal S4x1024x512 .bf16) (y) :
    (k0_pay1 (F := Ideal) (k0_pay6 (F := Ideal) x g W) (View.ld W r0_6) y : EReal) = prj x g W 2 (y 1) (y 2) := by
  pointwise [k0_pay1, k0_pay6, k0_pay3, prj, nrm, ms]

theorem v_pay (x : Vec Ideal S512x1024 .f32) (g : Vec Ideal S1x1024 .f32) (W : Vec Ideal S4x1024x512 .bf16) (y) :
    (k0_pay2 (F := Ideal) (k0_pay6 (F := Ideal) x g W) (View.ld W r0_8) y : EReal) = prj x g W 3 (y 1) (y 2) := by
  pointwise [k0_pay2, k0_pay6, k0_pay3, prj, nrm, ms]

/-- One grid point's projected elements are the reference's. -/
theorem prj_at (c : Dev nD) (t : Fin cfg0.N) (n : Fin 4) (p q : Fin 512) :
    prj (iblk m c 0 t) (iblk m c 1 t) (iblk m c 2 t) n p q
      = val_main_v13 (F := Ideal) (m ((c : Thread nD τ).loc main_arg0)) (m ((c : Thread nD τ).loc main_arg1)) (m ((c : Thread nD τ).loc main_arg2)) (ix2 (⟨t.val * 512 + p.val, by idx_bounds; omega⟩ : Fin 4096) (⟨n.val * 512 + q.val, by omega⟩ : Fin 2048)) := by
  refine Eq.trans ?_ (refP _ _ _ _ _).symm
  refine Finset.sum_congr rfl fun k _ => congrArg₂ _ ?_ (part2 m c t _)
  exact congrFun (congr (congrArg nrm (funext fun k => part0 m c t _)) (funext fun k => part1 m c t _)) k

/-! The kernel's three result arrays. -/

theorem final3 (c : Dev nD) : (dats m 0 c).arrAt 3 (cfgs 0).N = val_main_v31 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (n_pay _ _ y).trans ?_
  refine (congrFun (congr (congrArg nrm (funext fun k => part0 m c t _)) (funext fun k => part1 m c t _)) (y 1)).trans ?_
  refine (refN' _ _ (ix2 (⟨t.val * 512 + (y 0).val, by idx_bounds; omega⟩ : Fin 4096) (y 1))).symm.trans ?_
  generalize val_main_v31 (F := Ideal) _ _ = Y
  blk_point [idx t]

theorem final4 (c : Dev nD) : (dats m 0 c).arrAt 4 (cfgs 0).N = val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  refine (u_pay _ _ _ y).trans ((prj_at m c t 0 (y 0) (y 1)).trans ?_)
  refine (refU _ _ _ (ix2 (⟨t.val * 512 + (y 0).val, by idx_bounds; omega⟩ : Fin 4096) (y 1))).symm.trans ?_
  generalize val_main_v14 (F := Ideal) _ _ _ = Y
  blk_point [idx t]

theorem final5 (c : Dev nD) : (dats m 0 c).arrAt 5 (cfgs 0).N = val_main_v38 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  canon_tiles x h
  · refine (v_pay _ _ _ x).trans ((prj_at m c t 3 (x 1) (x 2)).trans ((refQ2 _ _ _ (⟨t.val * 512 + (x 1).val, by idx_bounds; omega⟩ : Fin 4096) (x 2)).symm.trans ?_))
    generalize val_main_v38 (F := Ideal) _ _ _ = Y
    blk_point [idx t]
  · refine (k_pay _ _ _ x).trans ((prj_at m c t 2 (x 1) (x 2)).trans ((refQ1 _ _ _ (⟨t.val * 512 + (x 1).val, by idx_bounds; omega⟩ : Fin 4096) (x 2)).symm.trans ?_))
    generalize val_main_v38 (F := Ideal) _ _ _ = Y
    blk_point [idx t]
  · refine (q_pay _ _ _ x).trans ((congrArg (fun r : EReal => r * Ideal.ofBits FTy.f32 1043900987#32) (prj_at m c t 1 (x 1) (x 2))).trans
      ((refQ0 _ _ _ (⟨t.val * 512 + (x 1).val, by idx_bounds; omega⟩ : Fin 4096) (x 2)).symm.trans ?_))
    generalize val_main_v38 (F := Ideal) _ _ _ = Y
    blk_point [idx t]

end Cert.InProjIdeal.Val
-- ==== Proof.InProjClaim.lean ====
/- The two claims about the input projection that the generated frames do not give: the reference's frame, and equal results. -/
module

public import proofs.«01_k».proof.Defs
public import proofs.«01_k».proof.Proof.Gen.InProjIdeal.Frame
public import proofs.«01_k».proof.Proof.Gen.InProjRefIdeal.Read
public import proofs.«01_k».proof.Proof.InProjVal
public import Idealize.ShloMosaic.Lib.Claim
public import Idealize.ShloMosaic.Init

@[expose] public section

set_option maxRecDepth 16384

noncomputable section

open Idealize.ShloMosaic Idealize.ShloMosaic.TcCoe Idealize.SL.Sem

namespace Cert.InProjClaim

/-- The reference's own run leaves its arguments as they were. -/
theorem refKeeps (m : (ℓ : Loc Cert.InProjRefIdeal.nD Cert.InProjRefIdeal.τ Cert.InProjRefIdeal.sig) → Buf (Elt Ideal) ℓ) (ρ) :
    θ_run (Cert.InProjRefIdeal.defs (F := Ideal)) (onTc (τ := Cert.InProjRefIdeal.τ) (Cert.InProjRefIdeal.main (F := Ideal))) ⟨m, fun _ => 0, ρ⟩ fun r => ∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2) :=
  (θ_run Cert.InProjRefIdeal.defs _ _).mono (fun r h c => (h c).2.2.2) (Cert.InProjRefIdeal.Value.run (F := Ideal) m ρ)

/-- The reference declares no semaphore. -/
theorem refFrame : Cert.quiescent_InProjRefIdeal := fun m ρ _ =>
  (θ_run Cert.InProjRefIdeal.defs _ _).mono (fun r h => ⟨h, Idealize.ShloMosaic.sem_eq_zero_of_no_sems (by decide) r.2⟩) (refKeeps m ρ)

/-- The reference's results as its named stages. -/
theorem refRun (m : (ℓ : Loc Cert.InProjRefIdeal.nD Cert.InProjRefIdeal.τ Cert.InProjRefIdeal.sig) → Buf (Elt Ideal) ℓ) (ρ) :
    θ_run (Cert.InProjRefIdeal.defs (F := Ideal)) (onTc (τ := Cert.InProjRefIdeal.τ) (Cert.InProjRefIdeal.main (F := Ideal))) ⟨m, fun _ => 0, ρ⟩ fun r => ∀ c : Dev Cert.InProjRefIdeal.nD,
      r.2.mem ((c.tc : Thread Cert.InProjRefIdeal.nD Cert.InProjRefIdeal.τ).loc Cert.InProjRefIdeal.main_v31)
          = Cert.InProjRefIdeal.Read.val_main_v31 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1))
      ∧ r.2.mem ((c.tc : Thread Cert.InProjRefIdeal.nD Cert.InProjRefIdeal.τ).loc Cert.InProjRefIdeal.main_v14)
          = Cert.InProjRefIdeal.Read.val_main_v14 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v38)
          = Cert.InProjRefIdeal.Read.val_main_v38 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) :=
  (θ_run Cert.InProjRefIdeal.defs _ _).mono (fun r h c => ⟨(h c).1.trans (Cert.InProjRefIdeal.Read.val_main_v31_eq _ _), (h c).2.1.trans (Cert.InProjRefIdeal.Read.val_main_v14_eq _ _ _), (h c).2.2.1.trans (Cert.InProjRefIdeal.Read.val_main_v38_eq _ _ _)⟩)
    (Cert.InProjRefIdeal.Value.run (F := Ideal) m ρ)

/-- The kernel's result arrays and the reference's agree over the extended reals. -/
theorem algebraic : Cert.algebraic_InProjIdeal_InProjRefIdeal := by
  intro m g m' g' _ hagree
  refine ⟨fun c => Cert.InProjRefIdeal.Read.val_main_v31 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Read.val_main_v14 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v38 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · exact (θ_run Cert.InProjIdeal.defs _ _).mono (fun r h c => ⟨((h.2 c).1 3).trans (Cert.InProjIdeal.Val.final3 m c), ((h.2 c).1 4).trans (Cert.InProjIdeal.Val.final4 m c), ((h.2 c).1 5).trans (Cert.InProjIdeal.Val.final5 m c), h.1 c⟩)
      (θ_run_and (Cert.InProjIdeal.Gen.unchanged m g) (Cert.InProjIdeal.Gen.run_main m g))
  · exact (θ_run Cert.InProjRefIdeal.defs _ _).mono (fun r h c => ⟨(h.2 c).1.trans (by rw [(hagree c).1, (hagree c).2.1]),
      (h.2 c).2.1.trans (by rw [(hagree c).1, (hagree c).2.1, (hagree c).2.2]),
      (h.2 c).2.2.trans (by rw [(hagree c).1, (hagree c).2.1, (hagree c).2.2]), h.1 c⟩)
      (θ_run_and (refKeeps m' g') (refRun m' g'))

end Cert.InProjClaim

end
-- ==== Proof.OutProjVal.lean ====
/- The mixers' norms, the output projection and the next norm: what the kernel leaves in its three result arrays. -/
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Val

open Cert.OutProjIdeal Cert.OutProjIdeal.Gen
open Cert.OutProjRefIdeal.Read

/-- A mixer's row's mean square plus the norm's small constant. -/
def ms (h : Fin 512 → EReal) : EReal :=
  Ideal.div (∑ k, h k * h k) (Ideal.ofBits FTy.f32 1140850688#32) + Ideal.ofBits FTy.f32 897988541#32

/-- One element of a mixer's normalised row. -/
def nrm (h g : Fin 512 → EReal) (k : Fin 512) : EReal := h k * Ideal.rsqrt (ms h) * g k

/-- A block row's mean square plus the norm's small constant. -/
def msw (h : Fin 1024 → EReal) : EReal :=
  Ideal.div (∑ k, h k * h k) (Ideal.ofBits FTy.f32 1149239296#32) + Ideal.ofBits FTy.f32 897988541#32

/-- One element of a block row normalised. -/
def nrmw (h g : Fin 1024 → EReal) (k : Fin 1024) : EReal := h k * Ideal.rsqrt (msw h) * g k

/-- Two rows side by side. -/
def cat (f g : Fin 512 → EReal) (q : Fin 1024) : EReal :=
  if h : q.val < 512 then f ⟨q.val, h⟩ else g ⟨q.val - 512, by omega⟩

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0] :=
  (by decide +kernel : ∀ t : Fin grid0.N, _)

theorem host3 (c : Dev nD) (i : S1x512.Idx) : (V m c main_v0 i : EReal) = (show FVec Ideal S512 .f32 from m ((c : Thread nD τ).loc main_arg3)) (ix1 (i 1)) := by
  simp only [V, hostOps0]
  entry_read
  pointwise

theorem host4 (c : Dev nD) (i : S1x512.Idx) : (V m c main_v1 i : EReal) = (show FVec Ideal S512 .f32 from m ((c : Thread nD τ).loc main_arg4)) (ix1 (i 1)) := by
  simp only [V, hostOps0]
  entry_read
  pointwise

theorem host5 (c : Dev nD) (i : S1024x1024.Idx) : (V m c main_v2 i : EReal) = (show FVec Ideal S1024x1024 .f32 from m ((c : Thread nD τ).loc main_arg5)) i := by
  simp only [V, hostOps0]
  entry_read
  rfl

theorem host6 (c : Dev nD) (i : S1x1024.Idx) : (V m c main_v3 i : EReal) = (show FVec Ideal S1024 .f32 from m ((c : Thread nD τ).loc main_arg6)) (ix1 (i 1)) := by
  simp only [V, hostOps0]
  entry_read
  pointwise

theorem part0 (c : Dev nD) (t : Fin cfg0.N) (j : S512x512.Idx) :
    (iblk m c 0 t j : EReal) = (show FVec Ideal S4096x512 .f32 from m ((c : Thread nD τ).loc main_arg0)) (ix2 (⟨t.val * 512 + (j 0).val, by idx_bounds; omega⟩ : Fin 4096) (j 1)) := by
  blk_simp [iblk]
  blk_point [V, idx t]

theorem part1 (c : Dev nD) (t : Fin cfg0.N) (j : S512x512.Idx) :
    (iblk m c 1 t j : EReal) = (show FVec Ideal S4096x512 .f32 from m ((c : Thread nD τ).loc main_arg1)) (ix2 (⟨t.val * 512 + (j 0).val, by idx_bounds; omega⟩ : Fin 4096) (j 1)) := by
  blk_simp [iblk]
  blk_point [V, idx t]

theorem part2 (c : Dev nD) (t : Fin cfg0.N) (j : S512x1024.Idx) :
    (iblk m c 2 t j : EReal) = (show FVec Ideal S4096x1024 .f32 from m ((c : Thread nD τ).loc main_arg2)) (ix2 (⟨t.val * 512 + (j 0).val, by idx_bounds; omega⟩ : Fin 4096) (j 1)) := by
  blk_simp [iblk]
  blk_point [V, idx t]

theorem part3 (c : Dev nD) (t : Fin cfg0.N) (j : S1x512.Idx) :
    (iblk m c 3 t j : EReal) = (show FVec Ideal S512 .f32 from m ((c : Thread nD τ).loc main_arg3)) (ix1 (j 1)) := by
  blk_simp [iblk]
  refine (host3 m c _).trans ?_
  blk_point [idx t]

theorem part4 (c : Dev nD) (t : Fin cfg0.N) (j : S1x512.Idx) :
    (iblk m c 4 t j : EReal) = (show FVec Ideal S512 .f32 from m ((c : Thread nD τ).loc main_arg4)) (ix1 (j 1)) := by
  blk_simp [iblk]
  refine (host4 m c _).trans ?_
  blk_point [idx t]

theorem part5 (c : Dev nD) (t : Fin cfg0.N) (j : S1024x1024.Idx) :
    (iblk m c 5 t j : EReal) = (show FVec Ideal S1024x1024 .f32 from m ((c : Thread nD τ).loc main_arg5)) j := by
  blk_simp [iblk]
  refine (host5 m c _).trans ?_
  blk_point [idx t]

theorem part6 (c : Dev nD) (t : Fin cfg0.N) (j : S1x1024.Idx) :
    (iblk m c 6 t j : EReal) = (show FVec Ideal S1024 .f32 from m ((c : Thread nD τ).loc main_arg6)) (ix1 (j 1)) := by
  blk_simp [iblk]
  refine (host6 m c _).trans ?_
  blk_point [idx t]

/-! The reference's stages. -/

theorem refA (X0 : FVec Ideal S4096x512 .f32) (X3 : FVec Ideal S512 .f32) (p : Fin 4096) (q : Fin 512) :
    (val_main_v12 (F := Ideal) X0 X3 (ix2 p q) : EReal) = nrm (fun k => X0 (ix2 p k)) (fun k => X3 (ix1 k)) q := by
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  pointwise [nrm, ms, val_main_cst, val_main_cst_0, val_main_cst_1]
  blk_point

theorem refB (X1 : FVec Ideal S4096x512 .f32) (X4 : FVec Ideal S512 .f32) (p : Fin 4096) (q : Fin 512) :
    (val_main_v25 (F := Ideal) X1 X4 (ix2 p q) : EReal) = nrm (fun k => X1 (ix2 p k)) (fun k => X4 (ix1 k)) q := by
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply]
  pointwise [nrm, ms, val_main_cst_2, val_main_cst_3, val_main_cst_4]
  blk_point

theorem refA2 (X0 : FVec Ideal S4096x512 .f32) (X3 : FVec Ideal S512 .f32) (p : Fin 4096) (q : Fin 512) :
    (val_main_v39 (F := Ideal) X0 X3 (ix2 p q) : EReal) = nrm (fun k => X0 (ix2 p k)) (fun k => X3 (ix1 k)) q := by
  simp only [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply]
  pointwise [nrm, ms, val_main_cst_5, val_main_cst_6, val_main_cst_7]
  blk_point

theorem refB2 (X1 : FVec Ideal S4096x512 .f32) (X4 : FVec Ideal S512 .f32) (p : Fin 4096) (q : Fin 512) :
    (val_main_v52 (F := Ideal) X1 X4 (ix2 p q) : EReal) = nrm (fun k => X1 (ix2 p k)) (fun k => X4 (ix1 k)) q := by
  simp only [val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply]
  pointwise [nrm, ms, val_main_cst_8, val_main_cst_9, val_main_cst_10]
  blk_point

theorem refCat (X0 : FVec Ideal S4096x512 .f32) (X1 : FVec Ideal S4096x512 .f32) (X3 X4 : FVec Ideal S512 .f32) (p : Fin 4096) (q : Fin 1024) :
    (val_main_v26 (F := Ideal) X0 X1 X3 X4 (ix2 p q) : EReal)
      = cat (nrm (fun k => X0 (ix2 p k)) (fun k => X3 (ix1 k))) (nrm (fun k => X1 (ix2 p k)) (fun k => X4 (ix1 k))) q := by
  unfold val_main_v26
  have ea := refA X0 X3 p
  have eb := refB X1 X4 p
  generalize val_main_v12 (F := Ideal) X0 X3 = Y at ea ⊢
  generalize val_main_v25 (F := Ideal) X1 X4 = Z at eb ⊢
  pointwise [cat]
  exact dite_congr rfl (fun h => ea _) (fun h => eb _)

theorem refCat2 (X0 : FVec Ideal S4096x512 .f32) (X1 : FVec Ideal S4096x512 .f32) (X3 X4 : FVec Ideal S512 .f32) (p : Fin 4096) (q : Fin 1024) :
    (val_main_v53 (F := Ideal) X0 X1 X3 X4 (ix2 p q) : EReal)
      = cat (nrm (fun k => X0 (ix2 p k)) (fun k => X3 (ix1 k))) (nrm (fun k => X1 (ix2 p k)) (fun k => X4 (ix1 k))) q := by
  unfold val_main_v53
  have ea := refA2 X0 X3 p
  have eb := refB2 X1 X4 p
  generalize val_main_v39 (F := Ideal) X0 X3 = Y at ea ⊢
  generalize val_main_v52 (F := Ideal) X1 X4 = Z at eb ⊢
  pointwise [cat]
  exact dite_congr rfl (fun h => ea _) (fun h => eb _)

theorem refH (X0 X1 : FVec Ideal S4096x512 .f32) (X2 : FVec Ideal S4096x1024 .f32) (X3 X4 : FVec Ideal S512 .f32) (X5 : FVec Ideal S1024x1024 .f32) (p : Fin 4096) (q : Fin 1024) :
    (val_main_v55 (F := Ideal) X0 X1 X2 X3 X4 X5 (ix2 p q) : EReal) = X2 (ix2 p q) + ∑ k, cat (nrm (fun k => X0 (ix2 p k)) (fun k => X3 (ix1 k))) (nrm (fun k => X1 (ix2 p k)) (fun k => X4 (ix1 k))) k * X5 (ix2 k q) := by
  rw [val_main_v55_apply, val_main_v54_apply]
  refine congrArg (fun r : EReal => X2 (ix2 p q) + r) (Finset.sum_congr rfl fun k _ => congrArg₂ _ ((Eq.trans ?_ (refCat2 X0 X1 X3 X4 p k))) ?_)
  · generalize val_main_v53 (F := Ideal) X0 X1 X3 X4 = Y
    blk_point
  · blk_point

theorem refN (X0 X1 : FVec Ideal S4096x512 .f32) (X2 : FVec Ideal S4096x1024 .f32) (X3 X4 : FVec Ideal S512 .f32) (X5 : FVec Ideal S1024x1024 .f32) (X6 : FVec Ideal S1024 .f32) (i) :
    (val_main_v70 (F := Ideal) X0 X1 X2 X3 X4 X5 X6 i : EReal)
      = nrmw (fun k => val_main_v55 (F := Ideal) X0 X1 X2 X3 X4 X5 (ix2 (i 0) k)) (fun k => X6 (ix1 k)) (i 1) := by
  simp only [val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply]
  generalize val_main_v55 (F := Ideal) X0 X1 X2 X3 X4 X5 = Y
  pointwise [nrmw, msw, val_main_cst_11, val_main_cst_12, val_main_cst_13]
  blk_point

/-! The kernel's values from the blocks it reads. -/

theorem mix_pay (u a : Vec Ideal S512x512 .f32) (g h : Vec Ideal S1x512 .f32) (y) :
    (k0_pay3 (F := Ideal) u a g h y : EReal) = cat (nrm (fun k => u (ix2 (y 0) k)) (fun k => g (ix2 0 k)))
      (nrm (fun k => a (ix2 (y 0) k)) (fun k => h (ix2 0 k))) (y 1) := by
  pointwise [k0_pay3, cat, nrm, ms]

/-- The block's new row from the blocks. -/
def row (u a : Vec Ideal S512x512 .f32) (x : Vec Ideal S512x1024 .f32) (g h : Vec Ideal S1x512 .f32) (W : Vec Ideal S1024x1024 .bf16)
    (p : Fin 512) (q : Fin 1024) : EReal :=
  x (ix2 p q) + ∑ k, cat (nrm (fun k => u (ix2 p k)) (fun k => g (ix2 0 k))) (nrm (fun k => a (ix2 p k)) (fun k => h (ix2 0 k))) k * W (ix2 k q)

theorem prod_pay (u a : Vec Ideal S512x512 .f32) (x : Vec Ideal S512x1024 .f32) (g h : Vec Ideal S1x512 .f32) (W : Vec Ideal S1024x1024 .bf16)
    (G : Vec Ideal S1x1024 .f32) (y) : (k0_pay1 (F := Ideal) x (k0_pay5 (F := Ideal) u a x g h W G) y : EReal) = row u a x g h W (y 0) (y 1) := by
  have e : ∀ z, (k0_pay3 (F := Ideal) (View.ld u r0_0) (View.ld a r0_0) (View.ld g r0_1) (View.ld h r0_1) z : EReal)
      = cat (nrm (fun k => u (ix2 (z 0) k)) (fun k => g (ix2 0 k))) (nrm (fun k => a (ix2 (z 0) k)) (fun k => h (ix2 0 k))) (z 1) := by
    have l0 : View.ld u r0_0 = u := View.ld_unit_lit _ u (by decide)
    have l1 : View.ld a r0_0 = a := View.ld_unit_lit _ a (by decide)
    have l2 : View.ld g r0_1 = g := View.ld_unit_lit _ g (by decide)
    have l3 : View.ld h r0_1 = h := View.ld_unit_lit _ h (by decide)
    rw [l0, l1, l2, l3]
    exact mix_pay u a g h
  pointwise [k0_pay1, k0_pay5, k0_pay4, row]
  generalize k0_pay3 (F := Ideal) (View.ld u r0_0) (View.ld a r0_0) (View.ld g r0_1) (View.ld h r0_1) = Y at e ⊢
  exact congrArg _ (Finset.sum_congr rfl fun k _ => congrArg₂ _ (e _) rfl)

theorem next_pay (x : Vec Ideal S512x1024 .f32) (P : FVec Ideal S512x1024 .f32) (G : Vec Ideal S1x1024 .f32) (y) :
    (k0_pay2 (F := Ideal) x P G y : EReal) = nrmw (fun k => k0_pay1 (F := Ideal) x P (ix2 (y 0) k)) (fun k => G (ix2 0 k)) (y 1) := by
  pointwise [k0_pay2, k0_pay1, nrmw, msw]

theorem cat_at (c : Dev nD) (t : Fin cfg0.N) (p : Fin 512) :
    cat (nrm (fun k => iblk m c 0 t (ix2 p k)) (fun k => iblk m c 3 t (ix2 (0 : Fin 1) k)))
      (nrm (fun k => iblk m c 1 t (ix2 p k)) (fun k => iblk m c 4 t (ix2 (0 : Fin 1) k)))
      = cat (nrm (fun k => (show FVec Ideal S4096x512 .f32 from m ((c : Thread nD τ).loc main_arg0)) (ix2 (⟨t.val * 512 + p.val, by idx_bounds; omega⟩ : Fin 4096) k)) (fun k => (show FVec Ideal S512 .f32 from m ((c : Thread nD τ).loc main_arg3)) (ix1 k))) (nrm (fun k => (show FVec Ideal S4096x512 .f32 from m ((c : Thread nD τ).loc main_arg1)) (ix2 (⟨t.val * 512 + p.val, by idx_bounds; omega⟩ : Fin 4096) k)) (fun k => (show FVec Ideal S512 .f32 from m ((c : Thread nD τ).loc main_arg4)) (ix1 k))) :=
  congr (congrArg cat (congr (congrArg nrm (funext fun k => part0 m c t _)) (funext fun k => part3 m c t _)))
    (congr (congrArg nrm (funext fun k => part1 m c t _)) (funext fun k => part4 m c t _))

theorem row_at (c : Dev nD) (t : Fin cfg0.N) (p : Fin 512) (q : Fin 1024) :
    row (iblk m c 0 t) (iblk m c 1 t) (iblk m c 2 t) (iblk m c 3 t) (iblk m c 4 t) (iblk m c 5 t) p q
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (⟨t.val * 512 + p.val, by idx_bounds; omega⟩ : Fin 4096) q) := by
  refine Eq.trans ?_ (refH _ _ _ _ _ _ _ _).symm
  exact congrArg₂ (fun a b : EReal => a + b) (part2 m c t _)
    (Finset.sum_congr rfl fun k _ => congrArg₂ _ (congrFun (cat_at m c t p) k) (part5 m c t _))

/-! The kernel's three result arrays. -/

theorem final7 (c : Dev nD) : (dats m 0 c).arrAt 7 (cfgs 0).N = val_main_v56 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  refine (mix_pay _ _ _ _ y).trans ((congrFun (cat_at m c t (y 0)) (y 1)).trans ?_)
  refine (refCat _ _ _ _ (⟨t.val * 512 + (y 0).val, by idx_bounds; omega⟩ : Fin 4096) (y 1)).symm.trans ?_
  rw [val_main_v56_apply]
  generalize val_main_v26 (F := Ideal) _ _ _ _ = Y
  pointwise
  blk_point [idx t]

theorem final8 (c : Dev nD) : (dats m 0 c).arrAt 8 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  refine (prod_pay _ _ _ _ _ _ _ y).trans ((row_at m c t (y 0) (y 1)).trans ?_)
  generalize val_main_v55 (F := Ideal) _ _ _ _ _ _ = Y
  blk_point [idx t]

theorem final9 (c : Dev nD) : (dats m 0 c).arrAt 9 (cfgs 0).N = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  refine (next_pay _ _ _ y).trans ?_
  have e : (fun k => k0_pay1 (F := Ideal) (iblk m c 2 t) (k0_pay5 (F := Ideal) (iblk m c 0 t) (iblk m c 1 t) (iblk m c 2 t) (iblk m c 3 t) (iblk m c 4 t) (iblk m c 5 t) (iblk m c 6 t)) (ix2 (y 0) k) : Fin 1024 → EReal)
      = fun k => val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (⟨t.val * 512 + (y 0).val, by idx_bounds; omega⟩ : Fin 4096) k) :=
    funext fun k => (prod_pay _ _ _ _ _ _ _ _).trans (row_at m c t (y 0) k)
  refine (congrFun (congr (congrArg nrmw e) (funext fun k => part6 m c t _)) (y 1)).trans ?_
  refine (refN _ _ _ _ _ _ _ (ix2 (⟨t.val * 512 + (y 0).val, by idx_bounds; omega⟩ : Fin 4096) (y 1))).symm.trans ?_
  generalize val_main_v70 (F := Ideal) _ _ _ _ _ _ _ = Y
  blk_point [idx t]

end Cert.OutProjIdeal.Val
-- ==== Proof.OutProjClaim.lean ====
/- The two claims about the output projection that the generated frames do not give: the reference's frame, and equal results. -/
module

public import proofs.«01_k».proof.Defs
public import proofs.«01_k».proof.Proof.Gen.OutProjIdeal.Frame
public import proofs.«01_k».proof.Proof.Gen.OutProjRefIdeal.Read
public import proofs.«01_k».proof.Proof.OutProjVal
public import Idealize.ShloMosaic.Lib.Claim
public import Idealize.ShloMosaic.Init

@[expose] public section

set_option maxRecDepth 16384

noncomputable section

open Idealize.ShloMosaic Idealize.ShloMosaic.TcCoe Idealize.SL.Sem

namespace Cert.OutProjClaim

/-- The reference's own run leaves its arguments as they were. -/
theorem refKeeps (m : (ℓ : Loc Cert.OutProjRefIdeal.nD Cert.OutProjRefIdeal.τ Cert.OutProjRefIdeal.sig) → Buf (Elt Ideal) ℓ) (ρ) :
    θ_run (Cert.OutProjRefIdeal.defs (F := Ideal)) (onTc (τ := Cert.OutProjRefIdeal.τ) (Cert.OutProjRefIdeal.main (F := Ideal))) ⟨m, fun _ => 0, ρ⟩ fun r => ∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6) :=
  (θ_run Cert.OutProjRefIdeal.defs _ _).mono (fun r h c => (h c).2.2.2) (Cert.OutProjRefIdeal.Value.run (F := Ideal) m ρ)

/-- The reference declares no semaphore. -/
theorem refFrame : Cert.quiescent_OutProjRefIdeal := fun m ρ _ =>
  (θ_run Cert.OutProjRefIdeal.defs _ _).mono (fun r h => ⟨h, Idealize.ShloMosaic.sem_eq_zero_of_no_sems (by decide) r.2⟩) (refKeeps m ρ)

/-- The reference's results as its named stages. -/
theorem refRun (m : (ℓ : Loc Cert.OutProjRefIdeal.nD Cert.OutProjRefIdeal.τ Cert.OutProjRefIdeal.sig) → Buf (Elt Ideal) ℓ) (ρ) :
    θ_run (Cert.OutProjRefIdeal.defs (F := Ideal)) (onTc (τ := Cert.OutProjRefIdeal.τ) (Cert.OutProjRefIdeal.main (F := Ideal))) ⟨m, fun _ => 0, ρ⟩ fun r => ∀ c : Dev Cert.OutProjRefIdeal.nD,
      r.2.mem ((c.tc : Thread Cert.OutProjRefIdeal.nD Cert.OutProjRefIdeal.τ).loc Cert.OutProjRefIdeal.main_v56)
          = Cert.OutProjRefIdeal.Read.val_main_v56 (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4))
      ∧ r.2.mem ((c.tc : Thread Cert.OutProjRefIdeal.nD Cert.OutProjRefIdeal.τ).loc Cert.OutProjRefIdeal.main_v55)
          = Cert.OutProjRefIdeal.Read.val_main_v55 (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))
      ∧ r.2.mem ((c.tc : Thread Cert.OutProjRefIdeal.nD Cert.OutProjRefIdeal.τ).loc Cert.OutProjRefIdeal.main_v70)
          = Cert.OutProjRefIdeal.Read.val_main_v70 (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) :=
  (θ_run Cert.OutProjRefIdeal.defs _ _).mono (fun r h c => ⟨(h c).1.trans (Cert.OutProjRefIdeal.Read.val_main_v56_eq _ _ _ _), (h c).2.1.trans (Cert.OutProjRefIdeal.Read.val_main_v55_eq _ _ _ _ _ _), (h c).2.2.1.trans (Cert.OutProjRefIdeal.Read.val_main_v70_eq m c)⟩)
    (Cert.OutProjRefIdeal.Value.run (F := Ideal) m ρ)

/-- The kernel's result arrays and the reference's agree over the extended reals. -/
theorem algebraic : Cert.algebraic_OutProjIdeal_OutProjRefIdeal := by
  intro m g m' g' _ hagree
  refine ⟨fun c => Cert.OutProjRefIdeal.Read.val_main_v56 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)),
    fun c => Cert.OutProjRefIdeal.Read.val_main_v55 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)),
    fun c => Cert.OutProjRefIdeal.Read.val_main_v70 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)), ?_, ?_⟩
  · exact (θ_run Cert.OutProjIdeal.defs _ _).mono (fun r h c => ⟨((h.2 c).1 7).trans (Cert.OutProjIdeal.Val.final7 m c), ((h.2 c).1 8).trans (Cert.OutProjIdeal.Val.final8 m c), ((h.2 c).1 9).trans (Cert.OutProjIdeal.Val.final9 m c), h.1 c⟩)
      (θ_run_and (Cert.OutProjIdeal.Gen.unchanged m g) (Cert.OutProjIdeal.Gen.run_main m g))
  · exact (θ_run Cert.OutProjRefIdeal.defs _ _).mono (fun r h c => ⟨(h.2 c).1.trans (by rw [(hagree c).1, (hagree c).2.1, (hagree c).2.2.2.1, (hagree c).2.2.2.2.1]),
      (h.2 c).2.1.trans (by rw [(hagree c).1, (hagree c).2.1, (hagree c).2.2.1, (hagree c).2.2.2.1, (hagree c).2.2.2.2.1, (hagree c).2.2.2.2.2.1]),
      (h.2 c).2.2.trans (by rw [(hagree c).1, (hagree c).2.1, (hagree c).2.2.1, (hagree c).2.2.2.1, (hagree c).2.2.2.2.1, (hagree c).2.2.2.2.2.1, (hagree c).2.2.2.2.2.2]), h.1 c⟩)
      (θ_run_and (refKeeps m' g') (refRun m' g'))

end Cert.OutProjClaim

end
-- ==== Proof.MlpFwdParts.lean ====
/- The MLP, the final norm, the loss and its gradient: the rows the kernel works on, read at an index. -/
module

public import proofs.«01_k».proof.Proof.Gen.MlpFwdIdeal.Frame
public import proofs.«01_k».proof.Proof.Gen.MlpFwdRefIdeal.Read
public import proofs.«01_k».proof.Proof.Rms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MlpFwdIdeal.Val

open Cert.MlpFwdIdeal Cert.MlpFwdIdeal.Gen
open Cert.MlpFwdRefIdeal.Read

/-! A row of the final norm, the loss and the gradient, over the extended reals. -/

/-- A row's mean square plus the norm's small constant. -/
def ms (h : Fin 1024 → EReal) : EReal :=
  Ideal.div (∑ k, h k * h k) (Ideal.ofBits FTy.f32 1149239296#32) + Ideal.ofBits FTy.f32 897988541#32

/-- The normalised row less the target. -/
def df (h g y : Fin 1024 → EReal) (q : Fin 1024) : EReal := h q * Ideal.rsqrt (ms h) * g q - y q

/-- The loss's gradient at the norm's scaled output, as the kernel spells it. -/
def kd (h g y : Fin 1024 → EReal) (q : Fin 1024) : EReal := df h g y q * Ideal.ofBits FTy.f32 981467136#32

/-- The same, as the reference spells it. -/
def rd (h g y : Fin 1024 → EReal) (q : Fin 1024) : EReal :=
  Ideal.div (Ideal.ofBits FTy.f32 1056964608#32 * Ideal.ofBits FTy.f32 1065353216#32) (Ideal.ofBits FTy.f32 1149239296#32)
    * (Ideal.ofBits FTy.f32 1073741824#32 * df h g y q)

theorem wscale (a : EReal) :
    Ideal.div (Ideal.ofBits FTy.f32 1056964608#32 * Ideal.ofBits FTy.f32 1065353216#32) (Ideal.ofBits FTy.f32 1149239296#32)
      * (Ideal.ofBits FTy.f32 1073741824#32 * a) = a * Ideal.ofBits FTy.f32 981467136#32 := by
  have h1 : Ideal.ofBits FTy.f32 1056964608#32 = ((1 / 2 : ℝ) : EReal) := by
    simp [Ideal.ofBits, Ideal.ieee, -EReal.coe_mul]; norm_num
  have h2 : Ideal.ofBits FTy.f32 1065353216#32 = ((1 : ℝ) : EReal) := by
    simp [Ideal.ofBits, Ideal.ieee, -EReal.coe_mul]; norm_num
  have h3 : Ideal.ofBits FTy.f32 1073741824#32 = ((2 : ℝ) : EReal) := by
    simp [Ideal.ofBits, Ideal.ieee, -EReal.coe_mul]; norm_num
  have h4 : Ideal.ofBits FTy.f32 981467136#32 = ((1 / 1024 : ℝ) : EReal) := by
    simp [Ideal.ofBits, Ideal.ieee, -EReal.coe_mul]; norm_num
  rw [h1, h2, h3, h4, Cert.Rms.w1024, Cert.Rms.div_real _ _ (by norm_num), ← EReal.coe_mul, ← EReal.coe_mul, ← mul_assoc, ← EReal.coe_mul,
    mul_comm]
  norm_num

theorem kd_eq (h g y : Fin 1024 → EReal) (q) : kd h g y q = rd h g y q := (wscale _).symm

def kdx (h g y : Fin 1024 → EReal) (q : Fin 1024) : EReal :=
  Ideal.rsqrt (ms h) * (kd h g y q * g q - h q * Ideal.rsqrt (ms h)
    * Ideal.div (∑ k, kd h g y k * g k * (h k * Ideal.rsqrt (ms h))) (Ideal.ofBits FTy.f32 1149239296#32))

def rdx (h g y : Fin 1024 → EReal) (q : Fin 1024) : EReal :=
  rd h g y q * g q * Ideal.rsqrt (ms h)
    + h q * Ideal.div ((∑ k, h k * (rd h g y k * g k)) * (Ideal.ofBits FTy.f32 3204448256#32 * Ideal.div (Ideal.rsqrt (ms h)) (ms h))) (Ideal.ofBits FTy.f32 1149239296#32)
    + Ideal.div ((∑ k, h k * (rd h g y k * g k)) * (Ideal.ofBits FTy.f32 3204448256#32 * Ideal.div (Ideal.rsqrt (ms h)) (ms h))) (Ideal.ofBits FTy.f32 1149239296#32) * h q

theorem dx_row (h g y : Fin 1024 → EReal) (q) : kdx h g y q = rdx h g y q := by
  have e := Cert.Rms.bwd1024 h (fun k => rd h g y k * g k) 0 (rd h g y q * g q) (h q) _ _ rfl rfl
  rw [zero_add, zero_add] at e
  unfold kdx
  simp only [kd_eq]
  exact e

variable (m : (ℓ : Loc nD τ sig) → Buf (Elt Ideal) ℓ)

theorem idx : ∀ t : Fin cfg0.N, win0_0.index t = ![t.val, 0]
    ∧ win0_1.index t = ![t.val, 0]
    ∧ win0_2.index t = ![0, 0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0] :=
  (by decide +kernel : ∀ t : Fin grid0.N, _)

theorem host0 (c : Dev nD) (i : S4096x1024.Idx) :
    (V m c main_v13 i : EReal) = val_main_v12 (F := Ideal) (m ((c : Thread nD τ).loc main_arg0)) (m ((c : Thread nD τ).loc main_arg1)) i := by
  simp only [V, hostOps0]
  entry_read
  rfl

theorem hostU (c : Dev nD) (i : S4x1024x1024.Idx) :
    (V m c main_v16 i : EReal) = (show FVec Ideal S1024x4096 .f32 from m ((c : Thread nD τ).loc main_arg2)) (ix2 (i 1) (⟨1024 * (i 0).val + (i 2).val, by idx_bounds i; omega⟩ : Fin 4096)) := by
  simp only [V, hostOps0]
  entry_read
  pointwise
  blk_point

theorem hostD (c : Dev nD) (i : S4096x1024.Idx) :
    (V m c main_v20 i : EReal) = m ((c : Thread nD τ).loc main_arg3) i := by
  simp only [V, hostOps0]
  entry_read
  pointwise
  blk_point

theorem hostG (c : Dev nD) (i : S1x1024.Idx) :
    (V m c main_v19 i : EReal) = (show FVec Ideal S1024 .f32 from m ((c : Thread nD τ).loc main_arg4)) (ix1 (i 1)) := by
  simp only [V, hostOps0]
  entry_read
  pointwise

/-- The rectified hidden rows of the reference. -/
theorem refHid (X0 : FVec Ideal S4096x1024 .f32) (X1 : FVec Ideal S1024 .f32) (X2 : FVec Ideal S1024x4096 .f32) (i) :
    (val_main_v14 (F := Ideal) X0 X1 X2 i : EReal)
      = max (∑ k : Fin 1024, val_main_v12 (F := Ideal) X0 X1 (ix2 (i 0) k) * X2 (ix2 k (i 1))) 0 := by
  simp only [val_main_v14_apply, val_main_v13_apply]
  generalize val_main_v12 (F := Ideal) X0 X1 = Z
  pointwise [val_main_call0_v0, val_main_call0_cst]
  blk_point

theorem refHid' (X0 : FVec Ideal S4096x1024 .f32) (X1 : FVec Ideal S1024 .f32) (X2 : FVec Ideal S1024x4096 .f32) (i) :
    (val_main_v86 (F := Ideal) X0 X1 X2 i : EReal) = val_main_v14 (F := Ideal) X0 X1 X2 i := rfl

theorem refH2 (X0 : FVec Ideal S4096x1024 .f32) (X1 : FVec Ideal S1024 .f32) (X2 : FVec Ideal S1024x4096 .f32) (X3 : FVec Ideal S4096x1024 .f32) (i) :
    (val_main_v17 (F := Ideal) X0 X1 X2 X3 i : EReal)
      = X0 i + ∑ k : Fin 4096, val_main_v14 (F := Ideal) X0 X1 X2 (ix2 (i 0) k) * val_main_v14 (F := Ideal) X0 X1 X2 (ix2 (i 0) k) * X3 (ix2 k (i 1)) := by
  simp only [val_main_v17_apply, val_main_v16_apply, val_main_v15_apply]
  generalize val_main_v14 (F := Ideal) X0 X1 X2 = Z
  pointwise
  blk_point

theorem refLoss (X0 : FVec Ideal S4096x1024 .f32) (X1 : FVec Ideal S1024 .f32) (X2 : FVec Ideal S1024x4096 .f32) (X3 : FVec Ideal S4096x1024 .f32)
    (X4 : FVec Ideal S1024 .f32) (X5 : FVec Ideal S4096x1024 .f32) (i) :
    (val_main_v88 (F := Ideal) X0 X1 X2 X3 X4 X5 i : EReal) = ∑ p : Fin 4096,
      df (fun k => val_main_v17 (F := Ideal) X0 X1 X2 X3 (ix2 p k)) (fun k => X4 (ix1 k)) (fun k => X5 (ix2 p k)) (i 1)
        * df (fun k => val_main_v17 (F := Ideal) X0 X1 X2 X3 (ix2 p k)) (fun k => X4 (ix1 k)) (fun k => X5 (ix2 p k)) (i 1) := by
  simp only [val_main_v88_apply, val_main_v33_apply, val_main_v32_apply, val_main_v31_apply, val_main_v30_apply, val_main_v29_apply,
    val_main_v28_apply, val_main_v27_apply, val_main_v26_apply, val_main_v25_apply, val_main_v24_apply, val_main_v23_apply, val_main_v22_apply,
    val_main_v21_apply, val_main_v20_apply, val_main_v19_apply, val_main_v18_apply]
  generalize val_main_v17 (F := Ideal) X0 X1 X2 X3 = H
  pointwise [df, ms, val_main_cst_5, val_main_cst_4, val_main_cst_3, val_main_cst_2]
  blk_point

theorem refDg (X0 : FVec Ideal S4096x1024 .f32) (X1 : FVec Ideal S1024 .f32) (X2 : FVec Ideal S1024x4096 .f32) (X3 : FVec Ideal S4096x1024 .f32)
    (X4 : FVec Ideal S1024 .f32) (X5 : FVec Ideal S4096x1024 .f32) (i) :
    (val_main_v89 (F := Ideal) X0 X1 X2 X3 X4 X5 i : EReal) = ∑ p : Fin 4096,
      val_main_v17 (F := Ideal) X0 X1 X2 X3 (ix2 p (i 1)) * Ideal.rsqrt (ms (fun k => val_main_v17 (F := Ideal) X0 X1 X2 X3 (ix2 p k)))
        * rd (fun k => val_main_v17 (F := Ideal) X0 X1 X2 X3 (ix2 p k)) (fun k => X4 (ix1 k)) (fun k => X5 (ix2 p k)) (i 1) := by
  simp only [val_main_v89_apply, val_main_v70_apply, val_main_v67_apply, val_main_v66_apply, val_main_v65_apply, val_main_v64_apply,
    val_main_v63_apply, val_main_v62_apply, val_main_v61_apply, val_main_v60_apply, val_main_v59_apply, val_main_v53_apply, val_main_v52_apply,
    val_main_v50_apply, val_main_v49_apply, val_main_v48_apply, val_main_v47_apply, val_main_v46_apply, val_main_v45_apply, val_main_v41_apply,
    val_main_v40_apply, val_main_v39_apply, val_main_v38_apply, val_main_v37_apply, val_main_v36_apply, val_main_v35_apply, val_main_v34_apply, Fin.sum_univ_one]
  generalize val_main_v17 (F := Ideal) X0 X1 X2 X3 = H
  pointwise [rd, df, ms, val_main_cst_6, val_main_cst_7, val_main_cst_8, val_main_cst_10, val_main_cst_15, val_main_cst_16, val_main_cst_17, val_main_cst_18, val_main_cst_19]
  blk_point

theorem refDx (X0 : FVec Ideal S4096x1024 .f32) (X1 : FVec Ideal S1024 .f32) (X2 : FVec Ideal S1024x4096 .f32) (X3 : FVec Ideal S4096x1024 .f32)
    (X4 : FVec Ideal S1024 .f32) (X5 : FVec Ideal S4096x1024 .f32) (i) :
    (val_main_v84 (F := Ideal) X0 X1 X2 X3 X4 X5 i : EReal)
      = rdx (fun k => val_main_v17 (F := Ideal) X0 X1 X2 X3 (ix2 (i 0) k)) (fun k => X4 (ix1 k)) (fun k => X5 (ix2 (i 0) k)) (i 1) := by
  simp only [val_main_v84_apply, val_main_v83_apply, val_main_v82_apply, val_main_v81_apply, val_main_v80_apply, val_main_v79_apply, val_main_v78_apply,
    val_main_v77_apply, val_main_v76_apply, val_main_v75_apply, val_main_v74_apply, val_main_v73_apply, val_main_v72_apply, val_main_v71_apply,
    val_main_v69_apply, val_main_v68_apply, val_main_v64_apply, val_main_v44_apply, val_main_v43_apply, val_main_v42_apply,
    val_main_v63_apply, val_main_v62_apply, val_main_v61_apply, val_main_v60_apply, val_main_v59_apply, val_main_v53_apply, val_main_v52_apply,
    val_main_v50_apply, val_main_v49_apply, val_main_v48_apply, val_main_v47_apply, val_main_v46_apply, val_main_v45_apply, val_main_v41_apply,
    val_main_v40_apply, val_main_v39_apply, val_main_v38_apply, val_main_v37_apply, val_main_v36_apply, val_main_v35_apply, val_main_v34_apply, Fin.sum_univ_one]
  generalize val_main_v17 (F := Ideal) X0 X1 X2 X3 = H
  pointwise [rdx, rd, df, ms, val_main_cst_6, val_main_cst_7, val_main_cst_8, val_main_cst_9, val_main_cst_10, val_main_cst_15, val_main_cst_16, val_main_cst_17,
    val_main_cst_20, val_main_cst_21, val_main_cst_22]
  blk_point

theorem refDx' (X0 : FVec Ideal S4096x1024 .f32) (X1 : FVec Ideal S1024 .f32) (X2 : FVec Ideal S1024x4096 .f32) (X3 : FVec Ideal S4096x1024 .f32)
    (X4 : FVec Ideal S1024 .f32) (X5 : FVec Ideal S4096x1024 .f32) (i) :
    (val_main_v87 (F := Ideal) X0 X1 X2 X3 X4 X5 i : EReal) = val_main_v84 (F := Ideal) X0 X1 X2 X3 X4 X5 i := rfl

theorem part0 (c : Dev nD) (t : Fin cfg0.N) (j : S512x1024.Idx) :
    (iblk m c 0 t j : EReal) = val_main_v12 (F := Ideal) (m ((c : Thread nD τ).loc main_arg0)) (m ((c : Thread nD τ).loc main_arg1))
      (ix2 (⟨t.val * 512 + (j 0).val, by idx_bounds; omega⟩ : Fin 4096) (j 1)) := by
  blk_simp [iblk]
  refine (host0 m c _).trans ?_
  generalize val_main_v12 (F := Ideal) _ _ = Y
  blk_point [idx t]

theorem part1 (c : Dev nD) (t : Fin cfg0.N) (j : S512x1024.Idx) :
    (iblk m c 1 t j : EReal) = m ((c : Thread nD τ).loc main_arg0)
      (ix2 (⟨t.val * 512 + (j 0).val, by idx_bounds; omega⟩ : Fin 4096) (j 1)) := by
  blk_simp [iblk]
  blk_point [V, idx t]

theorem part2 (c : Dev nD) (t : Fin cfg0.N) (j : S4x1024x1024.Idx) :
    (iblk m c 2 t j : EReal) = (show FVec Ideal S1024x4096 .f32 from m ((c : Thread nD τ).loc main_arg2))
      (ix2 (j 1) (⟨1024 * (j 0).val + (j 2).val, by idx_bounds j; omega⟩ : Fin 4096)) := by
  blk_simp [iblk]
  refine (hostU m c _).trans ?_
  blk_point [idx t]

theorem part3 (c : Dev nD) (t : Fin cfg0.N) (j : S4096x1024.Idx) :
    (iblk m c 3 t j : EReal) = m ((c : Thread nD τ).loc main_arg3) j := by
  blk_simp [iblk]
  refine (hostD m c _).trans ?_
  blk_point [idx t]

theorem part4 (c : Dev nD) (t : Fin cfg0.N) (j : S1x1024.Idx) :
    (iblk m c 4 t j : EReal) = (show FVec Ideal S1024 .f32 from m ((c : Thread nD τ).loc main_arg4)) (ix1 (j 1)) := by
  blk_simp [iblk]
  refine (hostG m c _).trans ?_
  blk_point [idx t]

theorem part5 (c : Dev nD) (t : Fin cfg0.N) (j : S512x1024.Idx) :
    (iblk m c 5 t j : EReal) = m ((c : Thread nD τ).loc main_arg5)
      (ix2 (⟨t.val * 512 + (j 0).val, by idx_bounds; omega⟩ : Fin 4096) (j 1)) := by
  blk_simp [iblk]
  blk_point [V, idx t]

/-! The kernel's values from the blocks it reads. -/

/-- One rectified hidden element from the blocks. -/
def hid (C : FVec Ideal S512x1024 .bf16) (D : FVec Ideal S4x1024x1024 .bf16) (n : Fin 4) (p : Fin 512) (q : Fin 1024) : EReal :=
  max (∑ x : Fin 1024, C (ix2 p x) * D (ix3 n x q)) 0

theorem tile0 (C : Vec Ideal S512x1024 .bf16) (D : Vec Ideal S4x1024x1024 .bf16) (x : S512x1024.Idx) :
    (k0_pay8 (F := Ideal) C (View.ld D (Rect.unit ![0, 0, 0] ![1, 1024, 1024] inb_S4x1024x1024_S1x1024x1024_0_0_0)) x : EReal)
      = hid C D 0 (x 0) (x 1) := by
  pointwise [k0_pay8, k0_pay7, k0_pay6, hid]

theorem tile1 (C : Vec Ideal S512x1024 .bf16) (D : Vec Ideal S4x1024x1024 .bf16) (x : S512x1024.Idx) :
    (k0_pay11 (F := Ideal) C (View.ld D (Rect.unit ![1, 0, 0] ![1, 1024, 1024] inb_S4x1024x1024_S1x1024x1024_1_0_0)) x : EReal)
      = hid C D 1 (x 0) (x 1) := by
  pointwise [k0_pay11, k0_pay10, k0_pay6, hid]

theorem tile2 (C : Vec Ideal S512x1024 .bf16) (D : Vec Ideal S4x1024x1024 .bf16) (x : S512x1024.Idx) :
    (k0_pay14 (F := Ideal) C (View.ld D (Rect.unit ![2, 0, 0] ![1, 1024, 1024] inb_S4x1024x1024_S1x1024x1024_2_0_0)) x : EReal)
      = hid C D 2 (x 0) (x 1) := by
  pointwise [k0_pay14, k0_pay13, k0_pay6, hid]

theorem tile3 (C : Vec Ideal S512x1024 .bf16) (D : Vec Ideal S4x1024x1024 .bf16) (x : S512x1024.Idx) :
    (k0_pay17 (F := Ideal) (k0_pay6 C) (View.ld D (Rect.unit ![3, 0, 0] ![1, 1024, 1024] inb_S4x1024x1024_S1x1024x1024_3_0_0)) x : EReal)
      = hid C D 3 (x 0) (x 1) := by
  pointwise [k0_pay17, k0_pay16, k0_pay6, hid]

theorem pay18_at (v1 v10 v19 v28 : FVec Ideal S512x1024 .bf16) (v29 : Vec Ideal S1x1024x1024 .bf16) (v38 : Vec Ideal S512x1024 .f32)
    (v40 : Vec Ideal S4096x1024 .bf16) (y) :
    (k0_pay18 (F := Ideal) v1 v10 v19 v28 v29 v38 v40 y : EReal) = v38 y +
      ∑ n : Fin 4, ∑ k : Fin 1024, (![v10 (ix2 (y 0) k), v19 (ix2 (y 0) k), v28 (ix2 (y 0) k),
        k0_pay17 (F := Ideal) v1 v29 (ix2 (y 0) k) * k0_pay17 (F := Ideal) v1 v29 (ix2 (y 0) k)] n : EReal)
          * v40 (ix2 (⟨n.val * 1024 + k.val, by omega⟩ : Fin 4096) (y 1)) := by
  pointwise [k0_pay18, k0_pay17, k0_pay16]
  refine congrArg _ ((Fin.sum_mul_add_fin 4 1024 _).symm.trans ?_)
  rw [Fin.sum_univ_four, Fin.sum_univ_four]
  refine congrArg₂ _ (congrArg₂ _ (congrArg₂ _ ?_ ?_) ?_) ?_ <;> refine Finset.sum_congr rfl fun k _ => congrArg₂ _ ?_ rfl
  · refine (dif_pos (show 0 * 1024 + k.val < 1024 by omega)).trans ?_
    exact congrArg (fun q => v10 (ix2 (y 0) q)) (Fin.ext (show 0 * 1024 + k.val = k.val by omega))
  · refine (dif_neg (show ¬ 1 * 1024 + k.val < 1024 by omega)).trans ((dif_pos (show 1 * 1024 + k.val - 1024 < 1024 by omega)).trans ?_)
    exact congrArg (fun q => v19 (ix2 (y 0) q)) (Fin.ext (show 1 * 1024 + k.val - 1024 = k.val by omega))
  · refine (dif_neg (show ¬ 2 * 1024 + k.val < 1024 by omega)).trans ((dif_neg (show ¬ 2 * 1024 + k.val - 1024 < 1024 by omega)).trans
      ((dif_pos (show 2 * 1024 + k.val - 1024 - 1024 < 1024 by omega)).trans ?_))
    exact congrArg (fun q => v28 (ix2 (y 0) q)) (Fin.ext (show 2 * 1024 + k.val - 1024 - 1024 = k.val by omega))
  · refine (dif_neg (show ¬ 3 * 1024 + k.val < 1024 by omega)).trans ((dif_neg (show ¬ 3 * 1024 + k.val - 1024 < 1024 by omega)).trans
      ((dif_neg (show ¬ 3 * 1024 + k.val - 1024 - 1024 < 1024 by omega)).trans ?_))
    exact congrArg (fun q : Fin 1024 => max (∑ x, v1 (ix2 (y 0) x) * v29 (ix3 0 x q)) 0 * max (∑ x, v1 (ix2 (y 0) x) * v29 (ix3 0 x q)) 0)
      (Fin.ext (show 3 * 1024 + k.val - 1024 - 1024 - 1024 = k.val by omega))

theorem sq0 (C : Vec Ideal S512x1024 .bf16) (D : Vec Ideal S4x1024x1024 .bf16) (p : Fin 512) (q : Fin 1024) :
    (k0_pay9 (F := Ideal) C (View.ld D (Rect.unit ![0, 0, 0] ![1, 1024, 1024] inb_S4x1024x1024_S1x1024x1024_0_0_0)) (ix2 p q) : EReal)
      = hid C D 0 p q * hid C D 0 p q := by
  pointwise [k0_pay9, k0_pay7, k0_pay6, hid]

theorem sq1 (C : Vec Ideal S512x1024 .bf16) (D : Vec Ideal S4x1024x1024 .bf16) (p : Fin 512) (q : Fin 1024) :
    (k0_pay12 (F := Ideal) C (View.ld D (Rect.unit ![1, 0, 0] ![1, 1024, 1024] inb_S4x1024x1024_S1x1024x1024_1_0_0)) (ix2 p q) : EReal)
      = hid C D 1 p q * hid C D 1 p q := by
  pointwise [k0_pay12, k0_pay10, k0_pay6, hid]

theorem sq2 (C : Vec Ideal S512x1024 .bf16) (D : Vec Ideal S4x1024x1024 .bf16) (p : Fin 512) (q : Fin 1024) :
    (k0_pay15 (F := Ideal) C (View.ld D (Rect.unit ![2, 0, 0] ![1, 1024, 1024] inb_S4x1024x1024_S1x1024x1024_2_0_0)) (ix2 p q) : EReal)
      = hid C D 2 p q * hid C D 2 p q := by
  pointwise [k0_pay15, k0_pay13, k0_pay6, hid]

/-- The residual rows after the MLP, as the kernel forms them from its blocks. -/
def h2 (C : Vec Ideal S512x1024 .bf16) (D : Vec Ideal S4x1024x1024 .bf16) (X : Vec Ideal S512x1024 .f32) (E : Vec Ideal S4096x1024 .bf16) :
    FVec Ideal S512x1024 .f32 :=
  k0_pay18 (F := Ideal) (k0_pay6 C)
    (k0_pay9 C (View.ld D (Rect.unit ![0, 0, 0] ![1, 1024, 1024] inb_S4x1024x1024_S1x1024x1024_0_0_0)))
    (k0_pay12 C (View.ld D (Rect.unit ![1, 0, 0] ![1, 1024, 1024] inb_S4x1024x1024_S1x1024x1024_1_0_0)))
    (k0_pay15 C (View.ld D (Rect.unit ![2, 0, 0] ![1, 1024, 1024] inb_S4x1024x1024_S1x1024x1024_2_0_0)))
    (View.ld D (Rect.unit ![3, 0, 0] ![1, 1024, 1024] inb_S4x1024x1024_S1x1024x1024_3_0_0)) X E

theorem h2_blk (C : Vec Ideal S512x1024 .bf16) (D : Vec Ideal S4x1024x1024 .bf16) (X : Vec Ideal S512x1024 .f32) (E : Vec Ideal S4096x1024 .bf16) (y) :
    (h2 C D X E y : EReal) = X y + ∑ n : Fin 4, ∑ k : Fin 1024, hid C D n (y 0) k * hid C D n (y 0) k
      * E (ix2 (⟨n.val * 1024 + k.val, by omega⟩ : Fin 4096) (y 1)) := by
  refine (pay18_at _ _ _ _ _ _ _ y).trans (congrArg _ (Finset.sum_congr rfl fun n _ => Finset.sum_congr rfl fun k _ => congrArg₂ _ ?_ rfl))
  fin_cases n
  · exact sq0 C D (y 0) k
  · exact sq1 C D (y 0) k
  · exact sq2 C D (y 0) k
  · exact congrArg₂ (fun a b : EReal => a * b) (tile3 C D (ix2 (y 0) k)) (tile3 C D (ix2 (y 0) k))

theorem dx_pay (v1 v10 v19 v28 : FVec Ideal S512x1024 .bf16) (v29 : Vec Ideal S1x1024x1024 .bf16) (v38 : Vec Ideal S512x1024 .f32)
    (v40 : Vec Ideal S4096x1024 .bf16) (v57 : Vec Ideal S1x1024 .f32) (v61 : Vec Ideal S512x1024 .f32) (y) :
    (k0_pay4 (F := Ideal) (k0_pay21 v1 v10 v19 v28 v29 v38 v40) (k0_pay22 v1 v10 v19 v28 v29 v38 v40) (k0_pay23 v57)
        (k0_pay24 v1 v10 v19 v28 v29 v38 v40 v57 v61) y : EReal)
      = kdx (fun k => k0_pay18 (F := Ideal) v1 v10 v19 v28 v29 v38 v40 (ix2 (y 0) k)) (fun k => v57 (ix2 0 k)) (fun k => v61 (ix2 (y 0) k)) (y 1) := by
  pointwise [k0_pay4, k0_pay2, k0_pay21, k0_pay22, k0_pay23, k0_pay24, kdx, kd, df, ms]

theorem loss_pay (v1 v10 v19 v28 : FVec Ideal S512x1024 .bf16) (v29 : Vec Ideal S1x1024x1024 .bf16) (v38 : Vec Ideal S512x1024 .f32)
    (v40 : Vec Ideal S4096x1024 .bf16) (v57 : Vec Ideal S1x1024 .f32) (v61 : Vec Ideal S512x1024 .f32) (a : Vec Ideal S1x1024 .f32) (j) :
    (k0_pay1 (F := Ideal) (k0_pay25 a) (k0_pay26 v1 v10 v19 v28 v29 v38 v40 v57 v61) j : EReal)
      = a j + ∑ p : Fin 512,
          df (fun k => k0_pay18 (F := Ideal) v1 v10 v19 v28 v29 v38 v40 (ix2 p k)) (fun k => v57 (ix2 0 k)) (fun k => v61 (ix2 p k)) (j 1)
          * df (fun k => k0_pay18 (F := Ideal) v1 v10 v19 v28 v29 v38 v40 (ix2 p k)) (fun k => v57 (ix2 0 k)) (fun k => v61 (ix2 p k)) (j 1) := by
  pointwise [k0_pay1, k0_pay25, k0_pay26, k0_pay21, k0_pay22, k0_pay23, k0_pay24, df, ms]

theorem dg_pay (v1 v10 v19 v28 : FVec Ideal S512x1024 .bf16) (v29 : Vec Ideal S1x1024x1024 .bf16) (v38 : Vec Ideal S512x1024 .f32)
    (v40 : Vec Ideal S4096x1024 .bf16) (v57 : Vec Ideal S1x1024 .f32) (v61 : Vec Ideal S512x1024 .f32) (a : Vec Ideal S1x1024 .f32) (j) :
    (k0_pay3 (F := Ideal) (k0_pay22 v1 v10 v19 v28 v29 v38 v40) (k0_pay24 v1 v10 v19 v28 v29 v38 v40 v57 v61) a j : EReal)
      = a j + ∑ p : Fin 512,
          kd (fun k => k0_pay18 (F := Ideal) v1 v10 v19 v28 v29 v38 v40 (ix2 p k)) (fun k => v57 (ix2 0 k)) (fun k => v61 (ix2 p k)) (j 1)
          * (k0_pay18 (F := Ideal) v1 v10 v19 v28 v29 v38 v40 (ix2 p (j 1))
            * Ideal.rsqrt (ms (fun k => k0_pay18 (F := Ideal) v1 v10 v19 v28 v29 v38 v40 (ix2 p k)))) := by
  pointwise [k0_pay3, k0_pay2, k0_pay21, k0_pay22, k0_pay23, k0_pay24, kd, df, ms]

theorem zero19 (j : S1x1024.Idx) : (k0_pay19 (F := Ideal) j : EReal) = 0 := by
  pointwise [k0_pay19]

theorem zero20 (j : S1x1024.Idx) : (k0_pay20 (F := Ideal) j : EReal) = 0 := by
  pointwise [k0_pay20]

end Cert.MlpFwdIdeal.Val
-- ==== Proof.MlpFwdVal.lean ====
/- The MLP, the final norm, the loss and its gradient: what the kernel leaves in its five result arrays. -/
module

public import proofs.«01_k».proof.Proof.Gen.MlpFwdIdeal.Frame
public import proofs.«01_k».proof.Proof.Gen.MlpFwdRefIdeal.Read
public import proofs.«01_k».proof.Proof.Rms
public import proofs.«01_k».proof.Proof.MlpFwdParts
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MlpFwdIdeal.Val

open Cert.MlpFwdIdeal Cert.MlpFwdIdeal.Gen
open Cert.MlpFwdRefIdeal.Read

variable (m : (ℓ : Loc nD τ sig) → Buf (Elt Ideal) ℓ)

theorem hid_at (c : Dev nD) (t : Fin cfg0.N) (n : Fin 4) (p : Fin 512) (q : Fin 1024) :
    hid (iblk m c 0 t) (iblk m c 2 t) n p q
      = val_main_v14 (F := Ideal) (m ((c : Thread nD τ).loc main_arg0)) (m ((c : Thread nD τ).loc main_arg1)) (m ((c : Thread nD τ).loc main_arg2))
          (ix2 (⟨t.val * 512 + p.val, by idx_bounds; omega⟩ : Fin 4096) (⟨n.val * 1024 + q.val, by omega⟩ : Fin 4096)) := by
  refine Eq.trans ?_ (refHid _ _ _ _).symm
  simp only [hid, part0, part2]
  generalize val_main_v12 (F := Ideal) _ _ = Y
  blk_point [idx t]

/-- The residual rows after the MLP at one grid point. -/
def h2At (c : Dev nD) (t : Fin cfg0.N) : FVec Ideal S512x1024 .f32 := h2 (iblk m c 0 t) (iblk m c 2 t) (iblk m c 1 t) (iblk m c 3 t)

/-- The reference's residual rows after the MLP. -/
def H (c : Dev nD) : FVec Ideal S4096x1024 .f32 := val_main_v17 (F := Ideal) (m ((c : Thread nD τ).loc main_arg0)) (m ((c : Thread nD τ).loc main_arg1)) (m ((c : Thread nD τ).loc main_arg2)) (m ((c : Thread nD τ).loc main_arg3))

theorem h2_at (c : Dev nD) (t : Fin cfg0.N) (y) :
    (h2At m c t y : EReal) = H m c (ix2 (⟨t.val * 512 + (y 0).val, by idx_bounds; omega⟩ : Fin 4096) (y 1)) := by
  refine (h2_blk _ _ _ _ y).trans ((congrArg₂ _ ((part1 m c t y).trans ?_) ?_).trans (refH2 _ _ _ _ _).symm)
  · blk_point
  · refine Eq.trans ?_ (Fin.sum_mul_add_fin 4 1024 _)
    refine Finset.sum_congr rfl fun n _ => Finset.sum_congr rfl fun k _ => ?_
    refine congrArg₂ _ (congrArg₂ _ ((hid_at m c t n (y 0) k).trans ?_) ((hid_at m c t n (y 0) k).trans ?_)) ((part3 m c t _).trans ?_)
    · generalize val_main_v14 (F := Ideal) _ _ _ = Y
      blk_point
    · generalize val_main_v14 (F := Ideal) _ _ _ = Y
      blk_point
    · blk_point

/-- The gain's row, the target's rows and the residual's rows the loss is taken over. -/
def gRow (c : Dev nD) : Fin 1024 → EReal := fun k => (show FVec Ideal S1024 .f32 from m ((c : Thread nD τ).loc main_arg4)) (ix1 k)
def yRow (c : Dev nD) (p : Fin 4096) : Fin 1024 → EReal := fun k => (show FVec Ideal S4096x1024 .f32 from m ((c : Thread nD τ).loc main_arg5)) (ix2 p k)
def hRow (c : Dev nD) (p : Fin 4096) : Fin 1024 → EReal := fun k => H m c (ix2 p k)

theorem h_row (c : Dev nD) (t : Fin cfg0.N) (p : Fin 512) :
    (fun k => h2At m c t (ix2 p k) : Fin 1024 → EReal) = hRow m c (⟨t.val * 512 + p.val, by idx_bounds; omega⟩ : Fin 4096) :=
  funext fun k => h2_at m c t _

theorem g_row (c : Dev nD) (t : Fin cfg0.N) :
    (fun k => iblk m c 4 t (ix2 (0 : Fin 1) k) : Fin 1024 → EReal) = gRow m c :=
  funext fun k => part4 m c t _

theorem y_row (c : Dev nD) (t : Fin cfg0.N) (p : Fin 512) :
    (fun k => iblk m c 5 t (ix2 p k) : Fin 1024 → EReal) = yRow m c (⟨t.val * 512 + p.val, by idx_bounds; omega⟩ : Fin 4096) :=
  funext fun k => part5 m c t _

theorem dx_at (c : Dev nD) (t : Fin cfg0.N) (y : S512x1024.Idx) :
    kdx (fun k => h2At m c t (ix2 (y 0) k)) (fun k => iblk m c 4 t (ix2 (0 : Fin 1) k)) (fun k => iblk m c 5 t (ix2 (y 0) k)) (y 1)
      = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (⟨t.val * 512 + (y 0).val, by idx_bounds; omega⟩ : Fin 4096) (y 1)) := by
  refine Eq.trans ?_ (refDx _ _ _ _ _ _ _).symm
  exact (congrFun (congr (congr (congrArg kdx (h_row m c t (y 0))) (g_row m c t)) (y_row m c t (y 0))) (y 1)).trans (dx_row _ _ _ _)

theorem final7 (c : Dev nD) : (dats m 0 c).arrAt 7 (cfgs 0).N = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  have e : (dats m 0 c).after 7 t y
      = kdx (fun k => h2At m c t (ix2 (y 0) k)) (fun k => iblk m c 4 t (ix2 (0 : Fin 1) k)) (fun k => iblk m c 5 t (ix2 (y 0) k)) (y 1) := by
    by_cases h0 : t.val % 8 = 0
    · rw [after0_7, outsAt0_A m c t h0]
      frame_out
      exact dx_pay _ _ _ _ _ _ _ _ _ y
    · rw [after0_7, outsAt0_B m c t h0]
      frame_out
      exact dx_pay _ _ _ _ _ _ _ _ _ y
  refine e.trans ((dx_at m c t y).trans ?_)
  generalize val_main_v84 (F := Ideal) _ _ _ _ _ _ = Y
  blk_point [idx t]

theorem final8 (c : Dev nD) : (dats m 0 c).arrAt 8 (cfgs 0).N = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  have e : (dats m 0 c).after 8 t y
      = kdx (fun k => h2At m c t (ix2 (y 0) k)) (fun k => iblk m c 4 t (ix2 (0 : Fin 1) k)) (fun k => iblk m c 5 t (ix2 (y 0) k)) (y 1) := by
    by_cases h0 : t.val % 8 = 0
    · rw [after0_8, outsAt0_A m c t h0]
      frame_out
      exact dx_pay _ _ _ _ _ _ _ _ _ y
    · rw [after0_8, outsAt0_B m c t h0]
      frame_out
      exact dx_pay _ _ _ _ _ _ _ _ _ y
  refine e.trans ((dx_at m c t y).trans (Eq.trans ?_ (refDx' _ _ _ _ _ _ _).symm))
  generalize val_main_v84 (F := Ideal) _ _ _ _ _ _ = Y
  blk_point [idx t]

theorem final6 (c : Dev nD) : (dats m 0 c).arrAt 6 (cfgs 0).N = val_main_v86 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  refine Eq.trans ?_ (refHid' _ _ _ _).symm
  have hc : t.val % 8 = 0 ∨ ¬ t.val % 8 = 0 := em _
  rcases hc with hc | hc
  · rw [after0_6, outsAt0_A m c t hc]
    frame_out
    clear hc
    canon_tiles x h
    · refine (tile3 _ _ x).trans ((hid_at m c t 3 (x 0) (x 1)).trans ?_)
      generalize val_main_v14 (F := Ideal) _ _ _ = Y
      blk_point [idx t]
    · refine (tile2 _ _ x).trans ((hid_at m c t 2 (x 0) (x 1)).trans ?_)
      generalize val_main_v14 (F := Ideal) _ _ _ = Y
      blk_point [idx t]
    · refine (tile1 _ _ x).trans ((hid_at m c t 1 (x 0) (x 1)).trans ?_)
      generalize val_main_v14 (F := Ideal) _ _ _ = Y
      blk_point [idx t]
    · refine (tile0 _ _ x).trans ((hid_at m c t 0 (x 0) (x 1)).trans ?_)
      generalize val_main_v14 (F := Ideal) _ _ _ = Y
      blk_point [idx t]
  · rw [after0_6, outsAt0_B m c t hc]
    frame_out
    clear hc
    canon_tiles x h
    · refine (tile3 _ _ x).trans ((hid_at m c t 3 (x 0) (x 1)).trans ?_)
      generalize val_main_v14 (F := Ideal) _ _ _ = Y
      blk_point [idx t]
    · refine (tile2 _ _ x).trans ((hid_at m c t 2 (x 0) (x 1)).trans ?_)
      generalize val_main_v14 (F := Ideal) _ _ _ = Y
      blk_point [idx t]
    · refine (tile1 _ _ x).trans ((hid_at m c t 1 (x 0) (x 1)).trans ?_)
      generalize val_main_v14 (F := Ideal) _ _ _ = Y
      blk_point [idx t]
    · refine (tile0 _ _ x).trans ((hid_at m c t 0 (x 0) (x 1)).trans ?_)
      generalize val_main_v14 (F := Ideal) _ _ _ = Y
      blk_point [idx t]

/-- One grid point's part in the squared error's column sums. -/
def lossAt (c : Dev nD) (t : Fin cfg0.N) (j : S1x1024.Idx) : EReal :=
  ∑ p : Fin 512, df (fun k => h2At m c t (ix2 p k)) (fun k => iblk m c 4 t (ix2 (0 : Fin 1) k)) (fun k => iblk m c 5 t (ix2 p k)) (j 1)
    * df (fun k => h2At m c t (ix2 p k)) (fun k => iblk m c 4 t (ix2 (0 : Fin 1) k)) (fun k => iblk m c 5 t (ix2 p k)) (j 1)

theorem loss_at (c : Dev nD) (t : Fin cfg0.N) (j : S1x1024.Idx) : lossAt m c t j = ∑ p : Fin 512,
    (fun l : Fin 4096 => df (hRow m c l) (gRow m c) (yRow m c l) (j 1) * df (hRow m c l) (gRow m c) (yRow m c l) (j 1))
      (⟨t.val * 512 + p.val, by idx_bounds; omega⟩ : Fin 4096) := by
  refine Finset.sum_congr rfl fun p _ => ?_
  have e := congrFun (congr (congr (congrArg df (h_row m c t p)) (g_row m c t)) (y_row m c t p)) (j 1)
  exact congrArg₂ _ e e

theorem loss_sum (c : Dev nD) (j : S1x1024.Idx) : (∑ t : Fin 8, lossAt m c t j : EReal) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  refine Eq.trans ?_ (refLoss _ _ _ _ _ _ _).symm
  refine Eq.trans ?_ (Fin.sum_mul_add_fin 8 512 _)
  exact Finset.sum_congr rfl fun t _ => loss_at m c t j

theorem final9 (c : Dev nD) : (dats m 0 c).arrAt 9 (cfgs 0).N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0)
    (fun t j => lossAt m c t j)
    (fun t h j => by rw [outsAt0_A m c t h]; frame_out; exact (loss_pay _ _ _ _ _ _ _ _ _ _ j).trans (by rw [zero19]; rfl))
    (fun t h j => by rw [outsAt0_B m c t h]; frame_out; exact loss_pay _ _ _ _ _ _ _ _ _ _ j)
    (le_of_eq N_0) t0_7 rfl j, zero_add]
  refine (loss_sum m c j).trans ?_
  blk_point [idx t0_7]

/-- One grid point's part in the gain's gradient. -/
def dgAt (c : Dev nD) (t : Fin cfg0.N) (j : S1x1024.Idx) : EReal :=
  ∑ p : Fin 512, kd (fun k => h2At m c t (ix2 p k)) (fun k => iblk m c 4 t (ix2 (0 : Fin 1) k)) (fun k => iblk m c 5 t (ix2 p k)) (j 1)
    * (h2At m c t (ix2 p (j 1)) * Ideal.rsqrt (ms (fun k => h2At m c t (ix2 p k))))

theorem dg_at (c : Dev nD) (t : Fin cfg0.N) (j : S1x1024.Idx) : dgAt m c t j = ∑ p : Fin 512,
    (fun l : Fin 4096 => H m c (ix2 l (j 1)) * Ideal.rsqrt (ms (hRow m c l)) * rd (hRow m c l) (gRow m c) (yRow m c l) (j 1))
      (⟨t.val * 512 + p.val, by idx_bounds; omega⟩ : Fin 4096) := by
  refine Finset.sum_congr rfl fun p _ => Eq.trans (mul_comm _ _) (congrArg₂ _ (congrArg₂ _ ?_ ?_) ?_)
  · exact h2_at m c t _
  · exact congrArg (fun r => Ideal.rsqrt (ms r)) (h_row m c t p)
  · exact (congrFun (congr (congr (congrArg kd (h_row m c t p)) (g_row m c t)) (y_row m c t p)) (j 1)).trans (kd_eq _ _ _ _)

theorem dg_sum (c : Dev nD) (j : S1x1024.Idx) : (∑ t : Fin 8, dgAt m c t j : EReal) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  refine Eq.trans ?_ (refDg _ _ _ _ _ _ _).symm
  refine Eq.trans ?_ (Fin.sum_mul_add_fin 8 512 _)
  exact Finset.sum_congr rfl fun t _ => dg_at m c t j

theorem final10 (c : Dev nD) : (dats m 0 c).arrAt 10 (cfgs 0).N = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0)
    (fun t j => dgAt m c t j)
    (fun t h j => by rw [outsAt0_A m c t h]; frame_out; exact (dg_pay _ _ _ _ _ _ _ _ _ _ j).trans (by rw [zero20]; rfl))
    (fun t h j => by rw [outsAt0_B m c t h]; frame_out; exact dg_pay _ _ _ _ _ _ _ _ _ _ j)
    (le_of_eq N_0) t0_7 rfl j, zero_add]
  refine (dg_sum m c j).trans ?_
  blk_point [idx t0_7]

end Cert.MlpFwdIdeal.Val
-- ==== Proof.MlpFwdClaim.lean ====
/- The two claims about the MLP with the loss that the generated frames do not give: the reference's frame, and equal results. -/
module

public import proofs.«01_k».proof.Defs
public import proofs.«01_k».proof.Proof.Gen.MlpFwdIdeal.Frame
public import proofs.«01_k».proof.Proof.Gen.MlpFwdRefIdeal.Read
public import proofs.«01_k».proof.Proof.MlpFwdVal
public import Idealize.ShloMosaic.Lib.Claim
public import Idealize.ShloMosaic.Init

@[expose] public section

set_option maxRecDepth 16384

noncomputable section

open Idealize.ShloMosaic Idealize.ShloMosaic.TcCoe Idealize.SL.Sem

namespace Cert.MlpFwdClaim

/-- The reference's own run leaves its arguments as they were. -/
theorem refKeeps (m : (ℓ : Loc Cert.MlpFwdRefIdeal.nD Cert.MlpFwdRefIdeal.τ Cert.MlpFwdRefIdeal.sig) → Buf (Elt Ideal) ℓ) (ρ) :
    θ_run (Cert.MlpFwdRefIdeal.defs (F := Ideal)) (onTc (τ := Cert.MlpFwdRefIdeal.τ) (Cert.MlpFwdRefIdeal.main (F := Ideal))) ⟨m, fun _ => 0, ρ⟩ fun r => ∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5) :=
  (θ_run Cert.MlpFwdRefIdeal.defs _ _).mono (fun r h c => (h c).2.2.2.2.2) (Cert.MlpFwdRefIdeal.Value.run (F := Ideal) m ρ)

/-- The reference declares no semaphore. -/
theorem refFrame : Cert.quiescent_MlpFwdRefIdeal := fun m ρ _ =>
  (θ_run Cert.MlpFwdRefIdeal.defs _ _).mono (fun r h => ⟨h, Idealize.ShloMosaic.sem_eq_zero_of_no_sems (by decide) r.2⟩) (refKeeps m ρ)

/-- The reference's results as its named stages. -/
theorem refRun (m : (ℓ : Loc Cert.MlpFwdRefIdeal.nD Cert.MlpFwdRefIdeal.τ Cert.MlpFwdRefIdeal.sig) → Buf (Elt Ideal) ℓ) (ρ) :
    θ_run (Cert.MlpFwdRefIdeal.defs (F := Ideal)) (onTc (τ := Cert.MlpFwdRefIdeal.τ) (Cert.MlpFwdRefIdeal.main (F := Ideal))) ⟨m, fun _ => 0, ρ⟩ fun r => ∀ c : Dev Cert.MlpFwdRefIdeal.nD,
      r.2.mem ((c.tc : Thread Cert.MlpFwdRefIdeal.nD Cert.MlpFwdRefIdeal.τ).loc Cert.MlpFwdRefIdeal.main_v86)
          = Cert.MlpFwdRefIdeal.Read.val_main_v86 (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2))
      ∧ r.2.mem ((c.tc : Thread Cert.MlpFwdRefIdeal.nD Cert.MlpFwdRefIdeal.τ).loc Cert.MlpFwdRefIdeal.main_v84)
          = Cert.MlpFwdRefIdeal.Read.val_main_v84 (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5))
      ∧ r.2.mem ((c.tc : Thread Cert.MlpFwdRefIdeal.nD Cert.MlpFwdRefIdeal.τ).loc Cert.MlpFwdRefIdeal.main_v87)
          = Cert.MlpFwdRefIdeal.Read.val_main_v87 (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5))
      ∧ r.2.mem ((c.tc : Thread Cert.MlpFwdRefIdeal.nD Cert.MlpFwdRefIdeal.τ).loc Cert.MlpFwdRefIdeal.main_v88)
          = Cert.MlpFwdRefIdeal.Read.val_main_v88 (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5))
      ∧ r.2.mem ((c.tc : Thread Cert.MlpFwdRefIdeal.nD Cert.MlpFwdRefIdeal.τ).loc Cert.MlpFwdRefIdeal.main_v89)
          = Cert.MlpFwdRefIdeal.Read.val_main_v89 (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) :=
  (θ_run Cert.MlpFwdRefIdeal.defs _ _).mono (fun r h c => ⟨(h c).1.trans (Cert.MlpFwdRefIdeal.Read.val_main_v86_eq _ _ _), (h c).2.1.trans (Cert.MlpFwdRefIdeal.Read.val_main_v84_eq m c), (h c).2.2.1.trans (Cert.MlpFwdRefIdeal.Read.val_main_v87_eq m c), (h c).2.2.2.1.trans (Cert.MlpFwdRefIdeal.Read.val_main_v88_eq m c), (h c).2.2.2.2.1.trans (Cert.MlpFwdRefIdeal.Read.val_main_v89_eq m c)⟩)
    (Cert.MlpFwdRefIdeal.Value.run (F := Ideal) m ρ)

/-- The kernel's result arrays and the reference's agree over the extended reals. -/
theorem algebraic : Cert.algebraic_MlpFwdIdeal_MlpFwdRefIdeal := by
  intro m g m' g' _ hagree
  refine ⟨fun c => Cert.MlpFwdRefIdeal.Read.val_main_v86 (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)),
    fun c => Cert.MlpFwdRefIdeal.Read.val_main_v84 (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)),
    fun c => Cert.MlpFwdRefIdeal.Read.val_main_v87 (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)),
    fun c => Cert.MlpFwdRefIdeal.Read.val_main_v88 (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)),
    fun c => Cert.MlpFwdRefIdeal.Read.val_main_v89 (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)), ?_, ?_⟩
  · exact (θ_run Cert.MlpFwdIdeal.defs _ _).mono (fun r h c => ⟨((h.2 c).1 6).trans (Cert.MlpFwdIdeal.Val.final6 m c), ((h.2 c).1 7).trans (Cert.MlpFwdIdeal.Val.final7 m c), ((h.2 c).1 8).trans (Cert.MlpFwdIdeal.Val.final8 m c), ((h.2 c).1 9).trans (Cert.MlpFwdIdeal.Val.final9 m c), ((h.2 c).1 10).trans (Cert.MlpFwdIdeal.Val.final10 m c), h.1 c⟩)
      (θ_run_and (Cert.MlpFwdIdeal.Gen.unchanged m g) (Cert.MlpFwdIdeal.Gen.run_main m g))
  · exact (θ_run Cert.MlpFwdRefIdeal.defs _ _).mono (fun r h c => ⟨(h.2 c).1.trans (by rw [(hagree c).1, (hagree c).2.1, (hagree c).2.2.1]),
      (h.2 c).2.1.trans (by rw [(hagree c).1, (hagree c).2.1, (hagree c).2.2.1, (hagree c).2.2.2.1, (hagree c).2.2.2.2.1, (hagree c).2.2.2.2.2]),
      (h.2 c).2.2.1.trans (by rw [(hagree c).1, (hagree c).2.1, (hagree c).2.2.1, (hagree c).2.2.2.1, (hagree c).2.2.2.2.1, (hagree c).2.2.2.2.2]),
      (h.2 c).2.2.2.1.trans (by rw [(hagree c).1, (hagree c).2.1, (hagree c).2.2.1, (hagree c).2.2.2.1, (hagree c).2.2.2.2.1, (hagree c).2.2.2.2.2]),
      (h.2 c).2.2.2.2.trans (by rw [(hagree c).1, (hagree c).2.1, (hagree c).2.2.1, (hagree c).2.2.2.1, (hagree c).2.2.2.2.1, (hagree c).2.2.2.2.2]), h.1 c⟩)
      (θ_run_and (refKeeps m' g') (refRun m' g'))

end Cert.MlpFwdClaim

end
-- ==== Proof.AdamwVal.lean ====
/- One optimiser step on a shard of a large weight: what the kernel leaves in its three result arrays. -/
module

public import proofs.«01_k».proof.Proof.Gen.AdamwIdeal.Frame
public import proofs.«01_k».proof.Proof.Gen.AdamwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.AdamwIdeal.Val

open Cert.AdamwIdeal Cert.AdamwIdeal.Gen
open Cert.AdamwRefIdeal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem part0 (c : Dev nD) (t : Fin cfg0.N) (j : S256x1024.Idx) :
    (iblk m c 0 t j : EReal) = (show FVec Ideal S1024x1024 .f32 from (m ((c : Thread nD τ).loc main_arg0))) (ix2 (⟨t.val * 256 + (j 0).val, by idx_bounds; omega⟩ : Fin 1024) (j 1)) := by
  blk_simp [iblk]
  blk_point [V, idx t]

theorem part1 (c : Dev nD) (t : Fin cfg0.N) (j : S256x1024.Idx) :
    (iblk m c 1 t j : EReal) = (show FVec Ideal S1024x1024 .f32 from (m ((c : Thread nD τ).loc main_arg1))) (ix2 (⟨t.val * 256 + (j 0).val, by idx_bounds; omega⟩ : Fin 1024) (j 1)) := by
  blk_simp [iblk]
  blk_point [V, idx t]

theorem part2 (c : Dev nD) (t : Fin cfg0.N) (j : S256x1024.Idx) :
    (iblk m c 2 t j : EReal) = (show FVec Ideal S1024x1024 .f32 from (m ((c : Thread nD τ).loc main_arg2))) (ix2 (⟨t.val * 256 + (j 0).val, by idx_bounds; omega⟩ : Fin 1024) (j 1)) := by
  blk_simp [iblk]
  blk_point [V, idx t]

theorem part3 (c : Dev nD) (t : Fin cfg0.N) (j : S256x1024.Idx) :
    (iblk m c 3 t j : EReal) = (show FVec Ideal S1024x1024 .f32 from (m ((c : Thread nD τ).loc main_arg3))) (ix2 (⟨t.val * 256 + (j 0).val, by idx_bounds; omega⟩ : Fin 1024) (j 1)) := by
  blk_simp [iblk]
  blk_point [V, idx t]

theorem final5 (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  simp only [val_main_v4_apply, val_main_v3_apply, val_main_v2_apply, val_main_v1_apply, val_main_v0_apply]
  pointwise [k0_pay1, val_main_cst, val_main_cst_0]
  simp only [part1 m c t, part2 m c t]
  blk_point [idx t]

theorem final6 (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  simp only [val_main_v10_apply, val_main_v9_apply, val_main_v8_apply, val_main_v7_apply, val_main_v6_apply, val_main_v5_apply]
  pointwise [k0_pay2, val_main_cst_1, val_main_cst_2]
  simp only [part1 m c t, part3 m c t]
  blk_point [idx t]

theorem final4 (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  pointwise [k0_pay3, k0_pay1, k0_pay2, val_main_cst, val_main_cst_0, val_main_cst_1, val_main_cst_2, val_main_cst_3, val_main_cst_4, val_main_cst_5, val_main_cst_6, val_main_cst_7]
  simp only [part0 m c t, part1 m c t, part2 m c t, part3 m c t]
  blk_point [idx t]

end Cert.AdamwIdeal.Val
-- ==== Proof.AdamwClaim.lean ====
/- The two claims about the optimiser that the generated frames do not give: the reference's frame, and equal results. -/
module

public import proofs.«01_k».proof.Defs
public import proofs.«01_k».proof.Proof.Gen.AdamwIdeal.Frame
public import proofs.«01_k».proof.Proof.Gen.AdamwRefIdeal.Read
public import proofs.«01_k».proof.Proof.AdamwVal
public import Idealize.ShloMosaic.Lib.Claim
public import Idealize.ShloMosaic.Init

@[expose] public section

set_option maxRecDepth 16384

noncomputable section

open Idealize.ShloMosaic Idealize.ShloMosaic.TcCoe Idealize.SL.Sem

namespace Cert.AdamwClaim

/-- The reference's own run leaves its arguments as they were. -/
theorem refKeeps (m : (ℓ : Loc Cert.AdamwRefIdeal.nD Cert.AdamwRefIdeal.τ Cert.AdamwRefIdeal.sig) → Buf (Elt Ideal) ℓ) (ρ) :
    θ_run (Cert.AdamwRefIdeal.defs (F := Ideal)) (onTc (τ := Cert.AdamwRefIdeal.τ) (Cert.AdamwRefIdeal.main (F := Ideal))) ⟨m, fun _ => 0, ρ⟩ fun r => ∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3) :=
  (θ_run Cert.AdamwRefIdeal.defs _ _).mono (fun r h c => (h c).2.2.2) (Cert.AdamwRefIdeal.Value.run (F := Ideal) m ρ)

/-- The reference declares no semaphore. -/
theorem refFrame : Cert.quiescent_AdamwRefIdeal := fun m ρ _ =>
  (θ_run Cert.AdamwRefIdeal.defs _ _).mono (fun r h => ⟨h, Idealize.ShloMosaic.sem_eq_zero_of_no_sems (by decide) r.2⟩) (refKeeps m ρ)

/-- The reference's results as its named stages. -/
theorem refRun (m : (ℓ : Loc Cert.AdamwRefIdeal.nD Cert.AdamwRefIdeal.τ Cert.AdamwRefIdeal.sig) → Buf (Elt Ideal) ℓ) (ρ) :
    θ_run (Cert.AdamwRefIdeal.defs (F := Ideal)) (onTc (τ := Cert.AdamwRefIdeal.τ) (Cert.AdamwRefIdeal.main (F := Ideal))) ⟨m, fun _ => 0, ρ⟩ fun r => ∀ c : Dev Cert.AdamwRefIdeal.nD,
      r.2.mem ((c.tc : Thread Cert.AdamwRefIdeal.nD Cert.AdamwRefIdeal.τ).loc Cert.AdamwRefIdeal.main_v23)
          = Cert.AdamwRefIdeal.Read.val_main_v23 (F := Ideal) (m ((c.tc : Thread Cert.AdamwRefIdeal.nD Cert.AdamwRefIdeal.τ).loc Cert.AdamwRefIdeal.main_arg0)) (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg2)) (m ((c.tc : Thread Cert.AdamwRefIdeal.nD Cert.AdamwRefIdeal.τ).loc Cert.AdamwRefIdeal.main_arg3))
      ∧ r.2.mem ((c.tc : Thread Cert.AdamwRefIdeal.nD Cert.AdamwRefIdeal.τ).loc Cert.AdamwRefIdeal.main_v4)
          = Cert.AdamwRefIdeal.Read.val_main_v4 (F := Ideal) (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg2))
      ∧ r.2.mem ((c.tc : Thread Cert.AdamwRefIdeal.nD Cert.AdamwRefIdeal.τ).loc Cert.AdamwRefIdeal.main_v10)
          = Cert.AdamwRefIdeal.Read.val_main_v10 (F := Ideal) (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg3)) :=
  (θ_run Cert.AdamwRefIdeal.defs _ _).mono (fun r h c => ⟨(h c).1.trans (Cert.AdamwRefIdeal.Read.val_main_v23_eq _ _ _ _), (h c).2.1.trans (Cert.AdamwRefIdeal.Read.val_main_v4_eq _ _), (h c).2.2.1.trans (Cert.AdamwRefIdeal.Read.val_main_v10_eq _ _)⟩)
    (Cert.AdamwRefIdeal.Value.run (F := Ideal) m ρ)

/-- The kernel's result arrays and the reference's agree over the extended reals. -/
theorem algebraic : Cert.algebraic_AdamwIdeal_AdamwRefIdeal := by
  intro m g m' g' _ hagree
  refine ⟨fun c => Cert.AdamwRefIdeal.Read.val_main_v23 (F := Ideal) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg3)),
    fun c => Cert.AdamwRefIdeal.Read.val_main_v4 (F := Ideal) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)),
    fun c => Cert.AdamwRefIdeal.Read.val_main_v10 (F := Ideal) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg3)), ?_, ?_⟩
  · exact (θ_run Cert.AdamwIdeal.defs _ _).mono (fun r h c => ⟨((h.2 c).1 4).trans (Cert.AdamwIdeal.Val.final4 m c), ((h.2 c).1 5).trans (Cert.AdamwIdeal.Val.final5 m c), ((h.2 c).1 6).trans (Cert.AdamwIdeal.Val.final6 m c), h.1 c⟩)
      (θ_run_and (Cert.AdamwIdeal.Gen.unchanged m g) (Cert.AdamwIdeal.Gen.run_main m g))
  · exact (θ_run Cert.AdamwRefIdeal.defs _ _).mono (fun r h c => ⟨(h.2 c).1.trans (by rw [(hagree c).1, (hagree c).2.1, (hagree c).2.2.1, (hagree c).2.2.2]),
      (h.2 c).2.1.trans (by rw [(hagree c).2.1, (hagree c).2.2.1]),
      (h.2 c).2.2.trans (by rw [(hagree c).2.1, (hagree c).2.2.2]), h.1 c⟩)
      (θ_run_and (refKeeps m' g') (refRun m' g'))

end Cert.AdamwClaim

end
-- ==== Proof.AdamwInVal.lean ====
/- One optimiser step on a shard of a large weight: what the kernel leaves in its three result arrays. -/
module

public import proofs.«01_k».proof.Proof.Gen.AdamwInIdeal.Frame
public import proofs.«01_k».proof.Proof.Gen.AdamwInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.AdamwInIdeal.Val

open Cert.AdamwInIdeal Cert.AdamwInIdeal.Gen
open Cert.AdamwInRefIdeal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem part0 (c : Dev nD) (t : Fin cfg0.N) (j : S256x512.Idx) :
    (iblk m c 0 t j : EReal) = (show FVec Ideal S1024x512 .f32 from (m ((c : Thread nD τ).loc main_arg0))) (ix2 (⟨t.val * 256 + (j 0).val, by idx_bounds; omega⟩ : Fin 1024) (j 1)) := by
  blk_simp [iblk]
  blk_point [V, idx t]

theorem part1 (c : Dev nD) (t : Fin cfg0.N) (j : S256x512.Idx) :
    (iblk m c 1 t j : EReal) = (show FVec Ideal S1024x512 .f32 from (m ((c : Thread nD τ).loc main_arg1))) (ix2 (⟨t.val * 256 + (j 0).val, by idx_bounds; omega⟩ : Fin 1024) (j 1)) := by
  blk_simp [iblk]
  blk_point [V, idx t]

theorem part2 (c : Dev nD) (t : Fin cfg0.N) (j : S256x512.Idx) :
    (iblk m c 2 t j : EReal) = (show FVec Ideal S1024x512 .f32 from (m ((c : Thread nD τ).loc main_arg2))) (ix2 (⟨t.val * 256 + (j 0).val, by idx_bounds; omega⟩ : Fin 1024) (j 1)) := by
  blk_simp [iblk]
  blk_point [V, idx t]

theorem part3 (c : Dev nD) (t : Fin cfg0.N) (j : S256x512.Idx) :
    (iblk m c 3 t j : EReal) = (show FVec Ideal S1024x512 .f32 from (m ((c : Thread nD τ).loc main_arg3))) (ix2 (⟨t.val * 256 + (j 0).val, by idx_bounds; omega⟩ : Fin 1024) (j 1)) := by
  blk_simp [iblk]
  blk_point [V, idx t]

theorem final5 (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  simp only [val_main_v4_apply, val_main_v3_apply, val_main_v2_apply, val_main_v1_apply, val_main_v0_apply]
  pointwise [k0_pay1, val_main_cst, val_main_cst_0]
  simp only [part1 m c t, part2 m c t]
  blk_point [idx t]

theorem final6 (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  simp only [val_main_v10_apply, val_main_v9_apply, val_main_v8_apply, val_main_v7_apply, val_main_v6_apply, val_main_v5_apply]
  pointwise [k0_pay2, val_main_cst_1, val_main_cst_2]
  simp only [part1 m c t, part3 m c t]
  blk_point [idx t]

theorem final4 (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  pointwise [k0_pay3, k0_pay1, k0_pay2, val_main_cst, val_main_cst_0, val_main_cst_1, val_main_cst_2, val_main_cst_3, val_main_cst_4, val_main_cst_5, val_main_cst_6, val_main_cst_7]
  simp only [part0 m c t, part1 m c t, part2 m c t, part3 m c t]
  blk_point [idx t]

end Cert.AdamwInIdeal.Val
-- ==== Proof.AdamwInClaim.lean ====
/- The two claims about the optimiser that the generated frames do not give: the reference's frame, and equal results. -/
module

public import proofs.«01_k».proof.Defs
public import proofs.«01_k».proof.Proof.Gen.AdamwInIdeal.Frame
public import proofs.«01_k».proof.Proof.Gen.AdamwInRefIdeal.Read
public import proofs.«01_k».proof.Proof.AdamwInVal
public import Idealize.ShloMosaic.Lib.Claim
public import Idealize.ShloMosaic.Init

@[expose] public section

set_option maxRecDepth 16384

noncomputable section

open Idealize.ShloMosaic Idealize.ShloMosaic.TcCoe Idealize.SL.Sem

namespace Cert.AdamwInClaim

/-- The reference's own run leaves its arguments as they were. -/
theorem refKeeps (m : (ℓ : Loc Cert.AdamwInRefIdeal.nD Cert.AdamwInRefIdeal.τ Cert.AdamwInRefIdeal.sig) → Buf (Elt Ideal) ℓ) (ρ) :
    θ_run (Cert.AdamwInRefIdeal.defs (F := Ideal)) (onTc (τ := Cert.AdamwInRefIdeal.τ) (Cert.AdamwInRefIdeal.main (F := Ideal))) ⟨m, fun _ => 0, ρ⟩ fun r => ∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3) :=
  (θ_run Cert.AdamwInRefIdeal.defs _ _).mono (fun r h c => (h c).2.2.2) (Cert.AdamwInRefIdeal.Value.run (F := Ideal) m ρ)

/-- The reference declares no semaphore. -/
theorem refFrame : Cert.quiescent_AdamwInRefIdeal := fun m ρ _ =>
  (θ_run Cert.AdamwInRefIdeal.defs _ _).mono (fun r h => ⟨h, Idealize.ShloMosaic.sem_eq_zero_of_no_sems (by decide) r.2⟩) (refKeeps m ρ)

/-- The reference's results as its named stages. -/
theorem refRun (m : (ℓ : Loc Cert.AdamwInRefIdeal.nD Cert.AdamwInRefIdeal.τ Cert.AdamwInRefIdeal.sig) → Buf (Elt Ideal) ℓ) (ρ) :
    θ_run (Cert.AdamwInRefIdeal.defs (F := Ideal)) (onTc (τ := Cert.AdamwInRefIdeal.τ) (Cert.AdamwInRefIdeal.main (F := Ideal))) ⟨m, fun _ => 0, ρ⟩ fun r => ∀ c : Dev Cert.AdamwInRefIdeal.nD,
      r.2.mem ((c.tc : Thread Cert.AdamwInRefIdeal.nD Cert.AdamwInRefIdeal.τ).loc Cert.AdamwInRefIdeal.main_v23)
          = Cert.AdamwInRefIdeal.Read.val_main_v23 (F := Ideal) (m ((c.tc : Thread Cert.AdamwInRefIdeal.nD Cert.AdamwInRefIdeal.τ).loc Cert.AdamwInRefIdeal.main_arg0)) (m ((c.tc : Thread Cert.AdamwInRefIdeal.nD Cert.AdamwInRefIdeal.τ).loc Cert.AdamwInRefIdeal.main_arg1)) (m ((c.tc : Thread Cert.AdamwInRefIdeal.nD Cert.AdamwInRefIdeal.τ).loc Cert.AdamwInRefIdeal.main_arg2)) (m ((c.tc : Thread Cert.AdamwInRefIdeal.nD Cert.AdamwInRefIdeal.τ).loc Cert.AdamwInRefIdeal.main_arg3))
      ∧ r.2.mem ((c.tc : Thread Cert.AdamwInRefIdeal.nD Cert.AdamwInRefIdeal.τ).loc Cert.AdamwInRefIdeal.main_v4)
          = Cert.AdamwInRefIdeal.Read.val_main_v4 (F := Ideal) (m ((c.tc : Thread Cert.AdamwInRefIdeal.nD Cert.AdamwInRefIdeal.τ).loc Cert.AdamwInRefIdeal.main_arg1)) (m ((c.tc : Thread Cert.AdamwInRefIdeal.nD Cert.AdamwInRefIdeal.τ).loc Cert.AdamwInRefIdeal.main_arg2))
      ∧ r.2.mem ((c.tc : Thread Cert.AdamwInRefIdeal.nD Cert.AdamwInRefIdeal.τ).loc Cert.AdamwInRefIdeal.main_v10)
          = Cert.AdamwInRefIdeal.Read.val_main_v10 (F := Ideal) (m ((c.tc : Thread Cert.AdamwInRefIdeal.nD Cert.AdamwInRefIdeal.τ).loc Cert.AdamwInRefIdeal.main_arg1)) (m ((c.tc : Thread Cert.AdamwInRefIdeal.nD Cert.AdamwInRefIdeal.τ).loc Cert.AdamwInRefIdeal.main_arg3)) :=
  (θ_run Cert.AdamwInRefIdeal.defs _ _).mono (fun r h c => ⟨(h c).1.trans (Cert.AdamwInRefIdeal.Read.val_main_v23_eq _ _ _ _), (h c).2.1.trans (Cert.AdamwInRefIdeal.Read.val_main_v4_eq _ _), (h c).2.2.1.trans (Cert.AdamwInRefIdeal.Read.val_main_v10_eq _ _)⟩)
    (Cert.AdamwInRefIdeal.Value.run (F := Ideal) m ρ)

/-- The kernel's result arrays and the reference's agree over the extended reals. -/
theorem algebraic : Cert.algebraic_AdamwInIdeal_AdamwInRefIdeal := by
  intro m g m' g' _ hagree
  refine ⟨fun c => Cert.AdamwInRefIdeal.Read.val_main_v23 (F := Ideal) (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg2)) (m ((c.tc : Thread Cert.AdamwInIdeal.nD Cert.AdamwInIdeal.τ).loc Cert.AdamwInIdeal.main_arg3)),
    fun c => Cert.AdamwInRefIdeal.Read.val_main_v4 (F := Ideal) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg2)),
    fun c => Cert.AdamwInRefIdeal.Read.val_main_v10 (F := Ideal) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg3)), ?_, ?_⟩
  · exact (θ_run Cert.AdamwInIdeal.defs _ _).mono (fun r h c => ⟨((h.2 c).1 4).trans (Cert.AdamwInIdeal.Val.final4 m c), ((h.2 c).1 5).trans (Cert.AdamwInIdeal.Val.final5 m c), ((h.2 c).1 6).trans (Cert.AdamwInIdeal.Val.final6 m c), h.1 c⟩)
      (θ_run_and (Cert.AdamwInIdeal.Gen.unchanged m g) (Cert.AdamwInIdeal.Gen.run_main m g))
  · exact (θ_run Cert.AdamwInRefIdeal.defs _ _).mono (fun r h c => ⟨(h.2 c).1.trans (by rw [(hagree c).1, (hagree c).2.1, (hagree c).2.2.1, (hagree c).2.2.2]),
      (h.2 c).2.1.trans (by rw [(hagree c).2.1, (hagree c).2.2.1]),
      (h.2 c).2.2.trans (by rw [(hagree c).2.1, (hagree c).2.2.2]), h.1 c⟩)
      (θ_run_and (refKeeps m' g') (refRun m' g'))

end Cert.AdamwInClaim

end
-- ==== Proof.AdamwOutVal.lean ====
/- One optimiser step on a shard of a large weight: what the kernel leaves in its three result arrays. -/
module

public import proofs.«01_k».proof.Proof.Gen.AdamwOutIdeal.Frame
public import proofs.«01_k».proof.Proof.Gen.AdamwOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.AdamwOutIdeal.Val

open Cert.AdamwOutIdeal Cert.AdamwOutIdeal.Gen
open Cert.AdamwOutRefIdeal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem part0 (c : Dev nD) (t : Fin cfg0.N) (j : S256x1024.Idx) :
    (iblk m c 0 t j : EReal) = (show FVec Ideal S256x1024 .f32 from (m ((c : Thread nD τ).loc main_arg0))) (ix2 (⟨t.val * 256 + (j 0).val, by idx_bounds; omega⟩ : Fin 256) (j 1)) := by
  blk_simp [iblk]
  blk_point [V, idx t]

theorem part1 (c : Dev nD) (t : Fin cfg0.N) (j : S256x1024.Idx) :
    (iblk m c 1 t j : EReal) = (show FVec Ideal S256x1024 .f32 from (m ((c : Thread nD τ).loc main_arg1))) (ix2 (⟨t.val * 256 + (j 0).val, by idx_bounds; omega⟩ : Fin 256) (j 1)) := by
  blk_simp [iblk]
  blk_point [V, idx t]

theorem part2 (c : Dev nD) (t : Fin cfg0.N) (j : S256x1024.Idx) :
    (iblk m c 2 t j : EReal) = (show FVec Ideal S256x1024 .f32 from (m ((c : Thread nD τ).loc main_arg2))) (ix2 (⟨t.val * 256 + (j 0).val, by idx_bounds; omega⟩ : Fin 256) (j 1)) := by
  blk_simp [iblk]
  blk_point [V, idx t]

theorem part3 (c : Dev nD) (t : Fin cfg0.N) (j : S256x1024.Idx) :
    (iblk m c 3 t j : EReal) = (show FVec Ideal S256x1024 .f32 from (m ((c : Thread nD τ).loc main_arg3))) (ix2 (⟨t.val * 256 + (j 0).val, by idx_bounds; omega⟩ : Fin 256) (j 1)) := by
  blk_simp [iblk]
  blk_point [V, idx t]

theorem final5 (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  simp only [val_main_v4_apply, val_main_v3_apply, val_main_v2_apply, val_main_v1_apply, val_main_v0_apply]
  pointwise [k0_pay1, val_main_cst, val_main_cst_0]
  simp only [part1 m c t, part2 m c t]
  blk_point [idx t]

theorem final6 (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  simp only [val_main_v10_apply, val_main_v9_apply, val_main_v8_apply, val_main_v7_apply, val_main_v6_apply, val_main_v5_apply]
  pointwise [k0_pay2, val_main_cst_1, val_main_cst_2]
  simp only [part1 m c t, part3 m c t]
  blk_point [idx t]

theorem final4 (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  pointwise [k0_pay3, k0_pay1, k0_pay2, val_main_cst, val_main_cst_0, val_main_cst_1, val_main_cst_2, val_main_cst_3, val_main_cst_4, val_main_cst_5, val_main_cst_6, val_main_cst_7]
  simp only [part0 m c t, part1 m c t, part2 m c t, part3 m c t]
  blk_point [idx t]

end Cert.AdamwOutIdeal.Val
-- ==== Proof.AdamwOutClaim.lean ====
/- The two claims about the optimiser that the generated frames do not give: the reference's frame, and equal results. -/
module

public import proofs.«01_k».proof.Defs
public import proofs.«01_k».proof.Proof.Gen.AdamwOutIdeal.Frame
public import proofs.«01_k».proof.Proof.Gen.AdamwOutRefIdeal.Read
public import proofs.«01_k».proof.Proof.AdamwOutVal
public import Idealize.ShloMosaic.Lib.Claim
public import Idealize.ShloMosaic.Init

@[expose] public section

set_option maxRecDepth 16384

noncomputable section

open Idealize.ShloMosaic Idealize.ShloMosaic.TcCoe Idealize.SL.Sem

namespace Cert.AdamwOutClaim

/-- The reference's own run leaves its arguments as they were. -/
theorem refKeeps (m : (ℓ : Loc Cert.AdamwOutRefIdeal.nD Cert.AdamwOutRefIdeal.τ Cert.AdamwOutRefIdeal.sig) → Buf (Elt Ideal) ℓ) (ρ) :
    θ_run (Cert.AdamwOutRefIdeal.defs (F := Ideal)) (onTc (τ := Cert.AdamwOutRefIdeal.τ) (Cert.AdamwOutRefIdeal.main (F := Ideal))) ⟨m, fun _ => 0, ρ⟩ fun r => ∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3) :=
  (θ_run Cert.AdamwOutRefIdeal.defs _ _).mono (fun r h c => (h c).2.2.2) (Cert.AdamwOutRefIdeal.Value.run (F := Ideal) m ρ)

/-- The reference declares no semaphore. -/
theorem refFrame : Cert.quiescent_AdamwOutRefIdeal := fun m ρ _ =>
  (θ_run Cert.AdamwOutRefIdeal.defs _ _).mono (fun r h => ⟨h, Idealize.ShloMosaic.sem_eq_zero_of_no_sems (by decide) r.2⟩) (refKeeps m ρ)

/-- The reference's results as its named stages. -/
theorem refRun (m : (ℓ : Loc Cert.AdamwOutRefIdeal.nD Cert.AdamwOutRefIdeal.τ Cert.AdamwOutRefIdeal.sig) → Buf (Elt Ideal) ℓ) (ρ) :
    θ_run (Cert.AdamwOutRefIdeal.defs (F := Ideal)) (onTc (τ := Cert.AdamwOutRefIdeal.τ) (Cert.AdamwOutRefIdeal.main (F := Ideal))) ⟨m, fun _ => 0, ρ⟩ fun r => ∀ c : Dev Cert.AdamwOutRefIdeal.nD,
      r.2.mem ((c.tc : Thread Cert.AdamwOutRefIdeal.nD Cert.AdamwOutRefIdeal.τ).loc Cert.AdamwOutRefIdeal.main_v23)
          = Cert.AdamwOutRefIdeal.Read.val_main_v23 (F := Ideal) (m ((c.tc : Thread Cert.AdamwOutRefIdeal.nD Cert.AdamwOutRefIdeal.τ).loc Cert.AdamwOutRefIdeal.main_arg0)) (m ((c.tc : Thread Cert.AdamwOutRefIdeal.nD Cert.AdamwOutRefIdeal.τ).loc Cert.AdamwOutRefIdeal.main_arg1)) (m ((c.tc : Thread Cert.AdamwOutRefIdeal.nD Cert.AdamwOutRefIdeal.τ).loc Cert.AdamwOutRefIdeal.main_arg2)) (m ((c.tc : Thread Cert.AdamwOutRefIdeal.nD Cert.AdamwOutRefIdeal.τ).loc Cert.AdamwOutRefIdeal.main_arg3))
      ∧ r.2.mem ((c.tc : Thread Cert.AdamwOutRefIdeal.nD Cert.AdamwOutRefIdeal.τ).loc Cert.AdamwOutRefIdeal.main_v4)
          = Cert.AdamwOutRefIdeal.Read.val_main_v4 (F := Ideal) (m ((c.tc : Thread Cert.AdamwOutRefIdeal.nD Cert.AdamwOutRefIdeal.τ).loc Cert.AdamwOutRefIdeal.main_arg1)) (m ((c.tc : Thread Cert.AdamwOutRefIdeal.nD Cert.AdamwOutRefIdeal.τ).loc Cert.AdamwOutRefIdeal.main_arg2))
      ∧ r.2.mem ((c.tc : Thread Cert.AdamwOutRefIdeal.nD Cert.AdamwOutRefIdeal.τ).loc Cert.AdamwOutRefIdeal.main_v10)
          = Cert.AdamwOutRefIdeal.Read.val_main_v10 (F := Ideal) (m ((c.tc : Thread Cert.AdamwOutRefIdeal.nD Cert.AdamwOutRefIdeal.τ).loc Cert.AdamwOutRefIdeal.main_arg1)) (m ((c.tc : Thread Cert.AdamwOutRefIdeal.nD Cert.AdamwOutRefIdeal.τ).loc Cert.AdamwOutRefIdeal.main_arg3)) :=
  (θ_run Cert.AdamwOutRefIdeal.defs _ _).mono (fun r h c => ⟨(h c).1.trans (Cert.AdamwOutRefIdeal.Read.val_main_v23_eq _ _ _ _), (h c).2.1.trans (Cert.AdamwOutRefIdeal.Read.val_main_v4_eq _ _), (h c).2.2.1.trans (Cert.AdamwOutRefIdeal.Read.val_main_v10_eq _ _)⟩)
    (Cert.AdamwOutRefIdeal.Value.run (F := Ideal) m ρ)

/-- The kernel's result arrays and the reference's agree over the extended reals. -/
theorem algebraic : Cert.algebraic_AdamwOutIdeal_AdamwOutRefIdeal := by
  intro m g m' g' _ hagree
  refine ⟨fun c => Cert.AdamwOutRefIdeal.Read.val_main_v23 (F := Ideal) (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg2)) (m ((c.tc : Thread Cert.AdamwOutIdeal.nD Cert.AdamwOutIdeal.τ).loc Cert.AdamwOutIdeal.main_arg3)),
    fun c => Cert.AdamwOutRefIdeal.Read.val_main_v4 (F := Ideal) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg2)),
    fun c => Cert.AdamwOutRefIdeal.Read.val_main_v10 (F := Ideal) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg3)), ?_, ?_⟩
  · exact (θ_run Cert.AdamwOutIdeal.defs _ _).mono (fun r h c => ⟨((h.2 c).1 4).trans (Cert.AdamwOutIdeal.Val.final4 m c), ((h.2 c).1 5).trans (Cert.AdamwOutIdeal.Val.final5 m c), ((h.2 c).1 6).trans (Cert.AdamwOutIdeal.Val.final6 m c), h.1 c⟩)
      (θ_run_and (Cert.AdamwOutIdeal.Gen.unchanged m g) (Cert.AdamwOutIdeal.Gen.run_main m g))
  · exact (θ_run Cert.AdamwOutRefIdeal.defs _ _).mono (fun r h c => ⟨(h.2 c).1.trans (by rw [(hagree c).1, (hagree c).2.1, (hagree c).2.2.1, (hagree c).2.2.2]),
      (h.2 c).2.1.trans (by rw [(hagree c).2.1, (hagree c).2.2.1]),
      (h.2 c).2.2.trans (by rw [(hagree c).2.1, (hagree c).2.2.2]), h.1 c⟩)
      (θ_run_and (refKeeps m' g') (refRun m' g'))

end Cert.AdamwOutClaim

end
-- ==== Proof.PoolMath.lean ====
/- Facts of the trailing and leading windows of the pool mixer, over the extended reals: a banded sum over all tokens as a short sum,
   the doubling sums of rotated rows as the same short sum, and the counts that divide them. -/
module

public import Idealize.ShloMosaic.Lib.Pipeline.ValueKit
public import Idealize.ShloMosaic.Lib.KernelVsHost
public import proofs.«01_k».proof.Proof.Rms

@[expose] public section

noncomputable section

open Idealize.ShloMosaic
open scoped BigOperators

namespace Cert.Pool

/-- A row of 4096 entries continued by zeros. -/
def ext (f : Fin 4096 → EReal) (n : ℕ) : EReal := if h : n < 4096 then f ⟨n, h⟩ else 0

theorem ext_val (f : Fin 4096 → EReal) (t : Fin 4096) : ext f t.val = f t := dif_pos t.isLt

/-- The tokens `t` whose window of `w` tokens reaches back to `s`. -/
theorem band_ahead (f : Fin 4096 → EReal) (s w : ℕ) :
    ∑ t : Fin 4096, f t * (if s ≤ t.val ∧ t.val < s + w then (1 : EReal) else 0) = ∑ d ∈ Finset.range w, ext f (s + d) := by
  have e : ∀ t : Fin 4096, f t * (if s ≤ t.val ∧ t.val < s + w then (1 : EReal) else 0)
      = (fun n => if s ≤ n ∧ n < s + w then ext f n else 0) t.val := fun t => by
    show _ = if s ≤ t.val ∧ t.val < s + w then ext f t.val else 0
    by_cases h : s ≤ t.val ∧ t.val < s + w
    · rw [if_pos h, if_pos h, mul_one, ext_val]
    · rw [if_neg h, if_neg h, mul_zero]
  rw [Finset.sum_congr rfl fun t _ => e t, Fin.sum_univ_eq_sum_range (fun n => if s ≤ n ∧ n < s + w then ext f n else 0) 4096]
  have a : ∑ n ∈ Finset.range 4096, (if s ≤ n ∧ n < s + w then ext f n else 0)
      = ∑ n ∈ Finset.range (4096 + s + w), (if s ≤ n ∧ n < s + w then ext f n else 0) := by
    refine Finset.sum_subset (fun n h => ?_) fun n _ h => ?_
    · rw [Finset.mem_range] at h ⊢; omega
    · rw [Finset.mem_range] at h
      by_cases h' : s ≤ n ∧ n < s + w
      · rw [if_pos h']; exact dif_neg h
      · exact if_neg h'
  rw [a, ← Finset.sum_filter]
  have b : (Finset.range (4096 + s + w)).filter (fun n => s ≤ n ∧ n < s + w) = Finset.Ico s (s + w) := by
    ext n; simp only [Finset.mem_filter, Finset.mem_range, Finset.mem_Ico]; omega
  rw [b, Finset.sum_Ico_eq_sum_range, Nat.add_sub_cancel_left]

/-- A row of 4096 entries with zeros before it, read `d` places before `t`. -/
def before (f : Fin 4096 → EReal) (t d : ℕ) : EReal := if d ≤ t then ext f (t - d) else 0

/-- The tokens `s` in the window of `w` tokens that ends at `t`. -/
theorem band_behind (f : Fin 4096 → EReal) (t w : ℕ) (ht : t < 4096) :
    ∑ s : Fin 4096, (if s.val ≤ t ∧ t < s.val + w then (1 : EReal) else 0) * f s = ∑ d ∈ Finset.range w, before f t d := by
  have e : ∀ s : Fin 4096, (if s.val ≤ t ∧ t < s.val + w then (1 : EReal) else 0) * f s
      = (fun n => if n ≤ t ∧ t < n + w then ext f n else 0) s.val := fun s => by
    show _ = if s.val ≤ t ∧ t < s.val + w then ext f s.val else 0
    by_cases h : s.val ≤ t ∧ t < s.val + w
    · rw [if_pos h, if_pos h, one_mul, ext_val]
    · rw [if_neg h, if_neg h, zero_mul]
  rw [Finset.sum_congr rfl fun s _ => e s, Fin.sum_univ_eq_sum_range (fun n => if n ≤ t ∧ t < n + w then ext f n else 0) 4096]
  have a : ∑ n ∈ Finset.range 4096, (if n ≤ t ∧ t < n + w then ext f n else 0)
      = ∑ n ∈ Finset.range (t + 1), (if n ≤ t ∧ t < n + w then ext f n else 0) := by
    refine (Finset.sum_subset (fun n h => ?_) fun n _ h => ?_).symm
    · rw [Finset.mem_range] at h ⊢; omega
    · rw [Finset.mem_range] at h
      exact if_neg (by omega)
  rw [a, ← Finset.sum_range_reflect]
  have b : ∑ d ∈ Finset.range w, before f t d = ∑ d ∈ Finset.range (t + 1 + w), (if d < w then before f t d else 0) := by
    rw [← Finset.sum_filter]
    refine Finset.sum_congr ?_ fun _ _ => rfl
    ext n; simp only [Finset.mem_filter, Finset.mem_range]; omega
  rw [b]
  refine (Finset.sum_congr rfl fun d hd => ?_).trans (Finset.sum_subset (fun n h => ?_) fun d _ h => ?_)
  · rw [Finset.mem_range] at hd
    show (if t + 1 - 1 - d ≤ t ∧ t < t + 1 - 1 - d + w then ext f (t + 1 - 1 - d) else 0) = if d < w then before f t d else 0
    unfold before
    by_cases h : d < w
    · rw [if_pos h, if_pos (show d ≤ t by omega), if_pos (by omega)]; rfl
    · rw [if_neg h, if_neg (by omega)]
  · rw [Finset.mem_range] at h ⊢; omega
  · rw [Finset.mem_range] at h
    by_cases h' : d < w
    · rw [if_pos h']; exact if_neg (by omega)
    · exact if_neg h'

/-! The doubling sums: each step adds to a row the row `k` places on (or back). -/

theorem dbl2 (h : ℕ → EReal) (i : ℕ) : h i + h (i + 1) = ∑ d ∈ Finset.range 2, h (i + d) := by
  simp only [Finset.sum_range_succ, Finset.sum_range_zero, zero_add, Nat.add_zero]

theorem dbl (h H : ℕ → EReal) (k i : ℕ) (e : ∀ i, H i = ∑ d ∈ Finset.range k, h (i + d)) :
    H i + H (i + k) = ∑ d ∈ Finset.range (k + k), h (i + d) := by
  rw [e, e, Finset.sum_range_add]
  exact congrArg _ (Finset.sum_congr rfl fun d _ => by rw [Nat.add_assoc])

/-! The rotated rows of a 528-row array of 128 columns. -/

/-- A column of the array, continued by zeros. -/
def col (x : FVec Ideal (⟨2, ![528, 128]⟩ : Shape) .f32) (q : Fin 128) (n : ℕ) : EReal := if h : n < 528 then x (ix2 (⟨n, h⟩ : Fin 528) q) else 0

theorem col_val (x : FVec Ideal (⟨2, ![528, 128]⟩ : Shape) .f32) (q : Fin 128) (n : ℕ) (h : n < 528) : col x q n = x (ix2 (⟨n, h⟩ : Fin 528) q) := dif_pos h

theorem col_addf (x y : FVec Ideal (⟨2, ![528, 128]⟩ : Shape) .f32) (q : Fin 128) (n : ℕ) (h : n < 528) : col (addf x y) q n = col x q n + col y q n := by
  rw [col_val _ _ _ h, col_val _ _ _ h, col_val _ _ _ h]; rfl

theorem col_rot (n : BitVec 32) (x : FVec Ideal (⟨2, ![528, 128]⟩ : Shape) .f32)
    (h : Shape.Rotates (⟨2, ![528, 128]⟩ : Shape) 0 none) (q : Fin 128) (i k : ℕ) (hi : i < 528) (hk : k < 528) (e : (i + 528 - n.toNat % 528) % 528 = k) :
    col (dynamicRotate 0 n none x h) q i = col x q k := by
  rw [col_val _ _ _ hi, col_val _ _ _ hk]
  refine Idealize.ShloMosaic.dynamicRotate_apply _ _ _ _ _ _ fun b => ?_
  match b with
  | ⟨0, _⟩ => exact e.symm
  | ⟨1, _⟩ => rfl

theorem on1 (n : BitVec 32) (hn : n.toNat = 527) (x : FVec Ideal (⟨2, ![528, 128]⟩ : Shape) .f32)
    (h : Shape.Rotates (⟨2, ![528, 128]⟩ : Shape) 0 none) (q : Fin 128) (i : ℕ) (hi : i + (1 + 1) ≤ 528) :
    col (addf x (dynamicRotate 0 n none x h)) q i = ∑ d ∈ Finset.range (1 + 1), col x q (i + d) := by
  rw [col_addf _ _ _ _ (by omega), col_rot n x h q i (i + 1) (by omega) (by omega) (by omega), dbl2]

theorem on (n : BitVec 32) (k : ℕ) (hk : 0 < k ∧ k ≤ 528) (hn : n.toNat = 528 - k) (x y : FVec Ideal (⟨2, ![528, 128]⟩ : Shape) .f32)
    (h : Shape.Rotates (⟨2, ![528, 128]⟩ : Shape) 0 none) (q : Fin 128)
    (e : ∀ i, i + k ≤ 528 → col y q i = ∑ d ∈ Finset.range k, col x q (i + d)) (i : ℕ) (hi : i + (k + k) ≤ 528) :
    col (addf y (dynamicRotate 0 n none y h)) q i = ∑ d ∈ Finset.range (k + k), col x q (i + d) := by
  rw [col_addf _ _ _ _ (by omega), col_rot n y h q i (i + k) (by omega) (by omega) (by omega), e i (by omega), e (i + k) (by omega), Finset.sum_range_add]
  exact congrArg _ (Finset.sum_congr rfl fun d _ => by rw [Nat.add_assoc])

theorem back1 (n : BitVec 32) (hn : n.toNat = 1) (x : FVec Ideal (⟨2, ![528, 128]⟩ : Shape) .f32)
    (h : Shape.Rotates (⟨2, ![528, 128]⟩ : Shape) 0 none) (q : Fin 128) (i : ℕ) (h1 : 1 + 1 ≤ i + 1) (hi : i < 528) :
    col (addf x (dynamicRotate 0 n none x h)) q i = ∑ d ∈ Finset.range (1 + 1), col x q (i - d) := by
  rw [col_addf _ _ _ _ hi, col_rot n x h q i (i - 1) (by omega) (by omega) (by omega)]
  simp only [Finset.sum_range_succ, Finset.sum_range_zero, zero_add, Nat.sub_zero]

theorem back (n : BitVec 32) (k : ℕ) (hk : 0 < k ∧ k < 528) (hn : n.toNat = k) (x y : FVec Ideal (⟨2, ![528, 128]⟩ : Shape) .f32)
    (h : Shape.Rotates (⟨2, ![528, 128]⟩ : Shape) 0 none) (q : Fin 128)
    (e : ∀ i, k ≤ i + 1 → i < 528 → col y q i = ∑ d ∈ Finset.range k, col x q (i - d)) (i : ℕ) (h1 : k + k ≤ i + 1) (hi : i < 528) :
    col (addf y (dynamicRotate 0 n none y h)) q i = ∑ d ∈ Finset.range (k + k), col x q (i - d) := by
  rw [col_addf _ _ _ _ hi, col_rot n y h q i (i - k) (by omega) (by omega) (by omega), e i (by omega) hi, e (i - k) (by omega) (by omega), Finset.sum_range_add]
  exact congrArg _ (Finset.sum_congr rfl fun d _ => by rw [Nat.sub_sub])

/-! The counts. -/

theorem toInt_nat (a : ℕ) (ha : a < 2 ^ 31) : (BitVec.ofNat 32 a).toInt = (a : ℤ) := by
  have t : (BitVec.ofNat 32 a).toNat = a := by rw [BitVec.toNat_ofNat]; exact Nat.mod_eq_of_lt (by omega)
  rw [BitVec.toInt_eq_toNat_of_lt (by omega), t]

theorem toInt_count (n w : ℕ) (hn : n + 1 < 2 ^ 31) (hw : w < 2 ^ 31) :
    (IntOp.minsi (BitVec.ofNat 32 n + 1#32) (BitVec.ofNat 32 w)).toInt = ((min (n + 1) w : ℕ) : ℤ) := by
  have e : BitVec.ofNat 32 n + 1#32 = BitVec.ofNat 32 (n + 1) := by rw [BitVec.ofNat_add]
  rw [e]
  unfold IntOp.minsi
  rw [BitVec.slt_eq_decide, toInt_nat _ hn, toInt_nat _ hw]
  split_ifs with h <;> simp only [decide_eq_true_eq] at h <;> rw [toInt_nat _ (by assumption)] <;> congr 1 <;> omega

theorem div_count (x : EReal) (n : ℕ) (hn : n ≠ 0) : Ideal.div x (((n : ℤ) : ℝ) : EReal) = x * Ideal.div 1 (((n : ℤ) : ℝ) : EReal) := by
  have h : ((n : ℤ) : ℝ) ≠ 0 := by exact_mod_cast hn
  rw [Rms.div_real _ _ h, Rms.div_real _ _ h, one_mul]

/-! Words. -/

theorem band_word (s t w : ℕ) (hs : s < 4096) (ht : t < 4096) (hw : w < 4096) :
    (IntOp.andi (IntOp.cmpi .sle (BitVec.ofNat 32 s) (BitVec.ofNat 32 t)) (IntOp.cmpi .slt (BitVec.ofNat 32 t) (IntOp.addi (BitVec.ofNat 32 s) (BitVec.ofNat 32 w))))
      = if s ≤ t ∧ t < s + w then 1#1 else 0#1 := by
  show (BitVec.ofBool ((BitVec.ofNat 32 s).sle (BitVec.ofNat 32 t)) &&& BitVec.ofBool ((BitVec.ofNat 32 t).slt (BitVec.ofNat 32 s + BitVec.ofNat 32 w))) = _
  rw [← BitVec.ofNat_add, BitVec.sle_eq_decide, BitVec.slt_eq_decide, toInt_nat s (by omega), toInt_nat t (by omega), toInt_nat (s + w) (by omega)]
  by_cases h1 : s ≤ t
  · by_cases h2 : t < s + w
    · rw [decide_eq_true (by exact_mod_cast h1), decide_eq_true (by exact_mod_cast h2), if_pos ⟨h1, h2⟩]; rfl
    · rw [decide_eq_true (by exact_mod_cast h1), decide_eq_false (by exact_mod_cast h2), if_neg (fun h => h2 h.2)]; rfl
  · by_cases h2 : t < s + w
    · rw [decide_eq_false (by exact_mod_cast h1), decide_eq_true (by exact_mod_cast h2), if_neg (fun h => h1 h.1)]; rfl
    · rw [decide_eq_false (by exact_mod_cast h1), decide_eq_false (by exact_mod_cast h2), if_neg (fun h => h1 h.1)]; rfl

theorem cnt_word (c p w : ℕ) (hc : c < 8) (hp : p < 512) (hw : w < 4096) :
    (IntOp.minsi (IntOp.addi (IntOp.addi (Scalar.muli (BitVec.ofNat 32 c) 512#32) (BitVec.ofNat 32 p)) 1#32) (BitVec.ofNat 32 w)).toInt = ((min (c * 512 + p + 1) w : ℕ) : ℤ) := by
  refine Eq.trans ?_ (toInt_count (c * 512 + p) w (by omega) (by omega))
  rw [BitVec.ofNat_add, BitVec.ofNat_mul]
  rfl

theorem inv_word (w : ℕ) (hw : w ≠ 0) : Ideal.div 1 (((w : ℤ) : ℝ) : EReal) = (((w : ℝ)⁻¹ : ℝ) : EReal) := by
  rw [Rms.div_real _ _ (by exact_mod_cast hw), one_mul]; norm_cast

theorem word2 : Ideal.ofBits FTy.f32 1056964608#32 = Ideal.div 1 ((((2 : ℕ) : ℤ) : ℝ) : EReal) := by
  rw [inv_word 2 (by decide)]
  simp [Ideal.ofBits, Ideal.ieee, -EReal.coe_mul]; norm_num

theorem word4 : Ideal.ofBits FTy.f32 1048576000#32 = Ideal.div 1 ((((4 : ℕ) : ℤ) : ℝ) : EReal) := by
  rw [inv_word 4 (by decide)]
  simp [Ideal.ofBits, Ideal.ieee, -EReal.coe_mul]; norm_num

theorem word8 : Ideal.ofBits FTy.f32 1040187392#32 = Ideal.div 1 ((((8 : ℕ) : ℤ) : ℝ) : EReal) := by
  rw [inv_word 8 (by decide)]
  simp [Ideal.ofBits, Ideal.ieee, -EReal.coe_mul]; norm_num

theorem word16 : Ideal.ofBits FTy.f32 1031798784#32 = Ideal.div 1 ((((16 : ℕ) : ℤ) : ℝ) : EReal) := by
  rw [inv_word 16 (by decide)]
  simp [Ideal.ofBits, Ideal.ieee, -EReal.coe_mul]; norm_num

/-- Rows of a tile with the rows that come after it. -/
theorem col_ahead (A : FVec Ideal (⟨2, ![512, 128]⟩ : Shape) .f32) (B : FVec Ideal (⟨2, ![16, 128]⟩ : Shape) .f32) (h) (q : Fin 128) (n : ℕ) (hn : n < 528) :
    col (concatenate (⟨2, ![528, 128]⟩ : Shape) 0 [⟨(⟨2, ![512, 128]⟩ : Shape), A⟩, ⟨(⟨2, ![16, 128]⟩ : Shape), B⟩] h) q n
      = if h : n < 512 then A (ix2 (⟨n, h⟩ : Fin 512) q) else B (ix2 (⟨n - 512, by omega⟩ : Fin 16) q) := by
  rw [col_val _ _ _ hn]
  pointwise

/-- Rows of a tile with the rows that come before it. -/
theorem col_behind (A : FVec Ideal (⟨2, ![16, 128]⟩ : Shape) .f32) (B : FVec Ideal (⟨2, ![512, 128]⟩ : Shape) .f32) (h) (q : Fin 128) (n : ℕ) (hn : n < 528) :
    col (concatenate (⟨2, ![528, 128]⟩ : Shape) 0 [⟨(⟨2, ![16, 128]⟩ : Shape), A⟩, ⟨(⟨2, ![512, 128]⟩ : Shape), B⟩] h) q n
      = if h : n < 16 then A (ix2 (⟨n, h⟩ : Fin 16) q) else B (ix2 (⟨n - 16, by omega⟩ : Fin 512) q) := by
  rw [col_val _ _ _ hn]
  pointwise

end Cert.Pool

end
-- ==== Proof.PoolUVal.lean ====
/- The gradient of the pool mixer's windows: what the kernel leaves in its result array equals the reference. -/
module

public import proofs.«01_k».proof.Proof.Gen.PoolUIdeal.Frame
public import proofs.«01_k».proof.Proof.Gen.PoolURefIdeal.Read
public import proofs.«01_k».proof.Proof.PoolMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolUIdeal.Val

open Cert.PoolUIdeal Cert.PoolUIdeal.Gen
open Cert.PoolURefIdeal.Read

/-! The reference. -/

theorem ref_win (g : Fin 4) : val_main_v12 (F := Ideal) (ix1 g) = BitVec.ofNat 32 (2 ^ (g.val + 1)) := by
  pointwise [val_main_v12, val_main_v11, val_main_v10, val_main_v9, val_main_v8, val_main_v7, val_main_v6, val_main_v5, val_main_v4, val_main_v2, val_main_c, val_main_c_0, val_main_c_1, val_main_c_2, val_main_c_3, val_main_c_4, val_main_c_5, val_main_call0_v0, val_main_call0_v1, val_main_call1_v0, val_main_call2_v0]
  fin_cases g <;> rfl

theorem ref_band (g : Fin 4) (t s : Fin 4096) : (val_main_v28 (F := Ideal) (ix3 g t s) : EReal) = if s.val ≤ t.val ∧ t.val < s.val + 2 ^ (g.val + 1) then 1 else 0 := by
  pointwise [val_main_v28, val_main_v27, val_main_v26, val_main_v25, val_main_v17, val_main_v24, val_main_v23, val_main_v22, val_main_v21, val_main_v20, val_main_v19, val_main_v18, val_main_v16, val_main_v15, val_main_v14, val_main_v13, val_main_v3, val_main_call3_v0, val_main_call3_v1, val_main_cst_6, val_main_cst_7, id]
  rw [ref_win, Pool.band_word s.val t.val (2 ^ (g.val + 1)) s.isLt t.isLt (by fin_cases g <;> decide)]
  split_ifs <;> rfl

theorem ref_cnt (g : Fin 4) (s : Fin 4096) : (val_main_v37 (F := Ideal) (ix2 s g) : EReal) = (((min (s.val + 1) (2 ^ (g.val + 1)) : ℕ) : ℤ) : ℝ) := by
  pointwise [val_main_v37, val_main_v36, val_main_v35, val_main_v34, val_main_v33, val_main_v32, val_main_v31, val_main_v30, val_main_v29, val_main_v3, val_main_c_8, id]
  rw [ref_win]
  exact congrArg (fun z : ℤ => ((z : ℝ) : EReal)) (Pool.toInt_count s.val (2 ^ (g.val + 1)) (by omega) (by fin_cases g <;> decide))

/-- A column's entries over their counts. -/
def share (x : Fin 4096 → EReal) (w : ℕ) (s : Fin 4096) : EReal := x s * Ideal.div 1 (((((min (s.val + 1) w : ℕ) : ℤ) : ℝ)) : EReal)

theorem ref_pt (x : FVec Ideal S4096x512 .f32) (s : Fin 4096) (g : Fin 4) (q : Fin 128) :
    (val_main_v54 (F := Ideal) x (ix2 s (⟨g.val * 128 + q.val, by omega⟩ : Fin 512)) : EReal)
      = -x (ix2 s (⟨g.val * 128 + q.val, by omega⟩ : Fin 512))
        + ∑ t : Fin 4096, share (fun t => x (ix2 t (⟨g.val * 128 + q.val, by omega⟩ : Fin 512))) (2 ^ (g.val + 1)) t * (if s.val ≤ t.val ∧ t.val < s.val + 2 ^ (g.val + 1) then (1 : EReal) else 0) := by
  pointwise [val_main_v54, val_main_v53, val_main_v52, val_main_v51, val_main_v50, val_main_v49, val_main_v48, val_main_v47, val_main_v46, val_main_v45, val_main_v41, val_main_v40]
  refine congrArg _ (Finset.sum_congr rfl fun t _ => congrArg₂ _ ?_ (ref_band g t s))
  rw [ref_cnt]
  exact Pool.div_count _ _ (by have := Nat.two_pow_pos (g.val + 1); omega)

theorem ref_val (x : FVec Ideal S4096x512 .f32) (s : Fin 4096) (g : Fin 4) (q : Fin 128) (w o : ℕ) (hw : 2 ^ (g.val + 1) = w) (ho : g.val * 128 = o) (h : o + q.val < 512) :
    (val_main_v54 (F := Ideal) x (ix2 s (⟨o + q.val, h⟩ : Fin 512)) : EReal)
      = ∑ d ∈ Finset.range w, Pool.ext (share (fun t => x (ix2 t (⟨o + q.val, h⟩ : Fin 512))) w) (s.val + d) - x (ix2 s (⟨o + q.val, h⟩ : Fin 512)) := by
  subst hw ho
  rw [ref_pt, ← Pool.band_ahead, sub_eq_add_neg, add_comm]

/-! The kernel's payloads. -/

def A0 (x : Vec Ideal S512x512 .f32) (r : FVec Ideal S512x1 .f32) : FVec Ideal S512x128 .f32 := mulf (extractStridedSlice S512x128 ![0, 0] x slices_S512x512_o0_0_S512x128) (broadcastTo S512x128 r broadcasts_S512x1_S512x128)

def B0 (v4 : FVec Ideal S16x512 .f32) : FVec Ideal S16x128 .f32 := mulf (extractStridedSlice S16x128 ![0, 0] v4 slices_S16x512_o0_0_S16x128) (broadcast S16x128 (Scalar.ofBits (F := Ideal) .f32 0x3F000000#32))

theorem A0_at (x : Vec Ideal S512x512 .f32) (r : FVec Ideal S512x1 .f32) (p : Fin 512) (q : Fin 128) :
    (A0 x r (ix2 p q) : EReal) = x (ix2 p (⟨0 + q.val, by omega⟩ : Fin 512)) * r (ix2 p (0 : Fin 1)) := by
  pointwise [A0]

theorem B0_at (v4 : FVec Ideal S16x512 .f32) (p : Fin 16) (q : Fin 128) :
    (B0 v4 (ix2 p q) : EReal) = v4 (ix2 p (⟨0 + q.val, by omega⟩ : Fin 512)) * Ideal.ofBits FTy.f32 1056964608#32 := by
  pointwise [B0]

theorem pay0 (x : Vec Ideal S512x512 .f32) (v4 : FVec Ideal S16x512 .f32) (r : FVec Ideal S512x1 .f32) (p : Fin 512) (q : Fin 128) :
    (k0_pay9 (F := Ideal) v4 (k0_pay7 x) (A0 x r) (ix2 p q) : EReal)
      = ∑ d ∈ Finset.range 2, Pool.col (concatenate S528x128 0 [⟨S512x128, A0 x r⟩, ⟨S16x128, B0 v4⟩] concatenates_S512x128_S16x128_S528x128_d0) q (p.val + d) - x (ix2 p (⟨0 + q.val, by omega⟩ : Fin 512)) := by
  have hp := p.isLt
  have e := (Pool.on1 527#32 rfl (concatenate S528x128 0 [⟨S512x128, A0 x r⟩, ⟨S16x128, B0 v4⟩] concatenates_S512x128_S16x128_S528x128_d0) rotates_S528x128_d0 q) p.val (by omega)
  rw [Pool.col_val _ _ _ (by omega)] at e
  unfold k0_pay9 k0_pay7
  refine Eq.trans ?_ (congrArg (fun z : EReal => z - x (ix2 p (⟨0 + q.val, by omega⟩ : Fin 512))) e)
  clear e
  unfold A0 B0
  generalize hY : (addf _ _ : FVec Ideal S528x128 .f32) = Y
  pointwise

def A1 (x : Vec Ideal S512x512 .f32) (r : FVec Ideal S512x1 .f32) : FVec Ideal S512x128 .f32 := mulf (extractStridedSlice S512x128 ![0, 128] x slices_S512x512_o0_128_S512x128) (broadcastTo S512x128 r broadcasts_S512x1_S512x128)

def B1 (v4 : FVec Ideal S16x512 .f32) : FVec Ideal S16x128 .f32 := mulf (extractStridedSlice S16x128 ![0, 128] v4 slices_S16x512_o0_128_S16x128) (broadcast S16x128 (Scalar.ofBits (F := Ideal) .f32 0x3E800000#32))

theorem A1_at (x : Vec Ideal S512x512 .f32) (r : FVec Ideal S512x1 .f32) (p : Fin 512) (q : Fin 128) :
    (A1 x r (ix2 p q) : EReal) = x (ix2 p (⟨128 + q.val, by omega⟩ : Fin 512)) * r (ix2 p (0 : Fin 1)) := by
  pointwise [A1]

theorem B1_at (v4 : FVec Ideal S16x512 .f32) (p : Fin 16) (q : Fin 128) :
    (B1 v4 (ix2 p q) : EReal) = v4 (ix2 p (⟨128 + q.val, by omega⟩ : Fin 512)) * Ideal.ofBits FTy.f32 1048576000#32 := by
  pointwise [B1]

theorem pay1 (x : Vec Ideal S512x512 .f32) (v4 : FVec Ideal S16x512 .f32) (r : FVec Ideal S512x1 .f32) (p : Fin 512) (q : Fin 128) :
    (k0_pay10 (F := Ideal) x v4 r (ix2 p q) : EReal)
      = ∑ d ∈ Finset.range 4, Pool.col (concatenate S528x128 0 [⟨S512x128, A1 x r⟩, ⟨S16x128, B1 v4⟩] concatenates_S512x128_S16x128_S528x128_d0) q (p.val + d) - x (ix2 p (⟨128 + q.val, by omega⟩ : Fin 512)) := by
  have hp := p.isLt
  have e := (Pool.on 526#32 2 (by omega) rfl (concatenate S528x128 0 [⟨S512x128, A1 x r⟩, ⟨S16x128, B1 v4⟩] concatenates_S512x128_S16x128_S528x128_d0) _ rotates_S528x128_d0 q (Pool.on1 527#32 rfl (concatenate S528x128 0 [⟨S512x128, A1 x r⟩, ⟨S16x128, B1 v4⟩] concatenates_S512x128_S16x128_S528x128_d0) rotates_S528x128_d0 q)) p.val (by omega)
  rw [Pool.col_val _ _ _ (by omega)] at e
  unfold k0_pay10
  refine Eq.trans ?_ (congrArg (fun z : EReal => z - x (ix2 p (⟨128 + q.val, by omega⟩ : Fin 512))) e)
  clear e
  unfold A1 B1
  generalize hY : (addf _ _ : FVec Ideal S528x128 .f32) = Y
  pointwise

def A2 (x : Vec Ideal S512x512 .f32) (r : FVec Ideal S512x1 .f32) : FVec Ideal S512x128 .f32 := mulf (extractStridedSlice S512x128 ![0, 256] x slices_S512x512_o0_256_S512x128) (broadcastTo S512x128 r broadcasts_S512x1_S512x128)

def B2 (v4 : FVec Ideal S16x512 .f32) : FVec Ideal S16x128 .f32 := mulf (extractStridedSlice S16x128 ![0, 256] v4 slices_S16x512_o0_256_S16x128) (broadcast S16x128 (Scalar.ofBits (F := Ideal) .f32 0x3E000000#32))

theorem A2_at (x : Vec Ideal S512x512 .f32) (r : FVec Ideal S512x1 .f32) (p : Fin 512) (q : Fin 128) :
    (A2 x r (ix2 p q) : EReal) = x (ix2 p (⟨256 + q.val, by omega⟩ : Fin 512)) * r (ix2 p (0 : Fin 1)) := by
  pointwise [A2]

theorem B2_at (v4 : FVec Ideal S16x512 .f32) (p : Fin 16) (q : Fin 128) :
    (B2 v4 (ix2 p q) : EReal) = v4 (ix2 p (⟨256 + q.val, by omega⟩ : Fin 512)) * Ideal.ofBits FTy.f32 1040187392#32 := by
  pointwise [B2]

theorem pay2 (x : Vec Ideal S512x512 .f32) (v4 : FVec Ideal S16x512 .f32) (r : FVec Ideal S512x1 .f32) (p : Fin 512) (q : Fin 128) :
    (k0_pay11 (F := Ideal) x v4 r (ix2 p q) : EReal)
      = ∑ d ∈ Finset.range 8, Pool.col (concatenate S528x128 0 [⟨S512x128, A2 x r⟩, ⟨S16x128, B2 v4⟩] concatenates_S512x128_S16x128_S528x128_d0) q (p.val + d) - x (ix2 p (⟨256 + q.val, by omega⟩ : Fin 512)) := by
  have hp := p.isLt
  have e := (Pool.on 524#32 4 (by omega) rfl (concatenate S528x128 0 [⟨S512x128, A2 x r⟩, ⟨S16x128, B2 v4⟩] concatenates_S512x128_S16x128_S528x128_d0) _ rotates_S528x128_d0 q (Pool.on 526#32 2 (by omega) rfl (concatenate S528x128 0 [⟨S512x128, A2 x r⟩, ⟨S16x128, B2 v4⟩] concatenates_S512x128_S16x128_S528x128_d0) _ rotates_S528x128_d0 q (Pool.on1 527#32 rfl (concatenate S528x128 0 [⟨S512x128, A2 x r⟩, ⟨S16x128, B2 v4⟩] concatenates_S512x128_S16x128_S528x128_d0) rotates_S528x128_d0 q))) p.val (by omega)
  rw [Pool.col_val _ _ _ (by omega)] at e
  unfold k0_pay11
  refine Eq.trans ?_ (congrArg (fun z : EReal => z - x (ix2 p (⟨256 + q.val, by omega⟩ : Fin 512))) e)
  clear e
  unfold A2 B2
  generalize hY : (addf _ _ : FVec Ideal S528x128 .f32) = Y
  pointwise

def A3 (x : Vec Ideal S512x512 .f32) (r : FVec Ideal S512x1 .f32) : FVec Ideal S512x128 .f32 := mulf (extractStridedSlice S512x128 ![0, 384] x slices_S512x512_o0_384_S512x128) (broadcastTo S512x128 r broadcasts_S512x1_S512x128)

def B3 (v4 : FVec Ideal S16x512 .f32) : FVec Ideal S16x128 .f32 := mulf (extractStridedSlice S16x128 ![0, 384] v4 slices_S16x512_o0_384_S16x128) (broadcast S16x128 (Scalar.ofBits (F := Ideal) .f32 0x3D800000#32))

theorem A3_at (x : Vec Ideal S512x512 .f32) (r : FVec Ideal S512x1 .f32) (p : Fin 512) (q : Fin 128) :
    (A3 x r (ix2 p q) : EReal) = x (ix2 p (⟨384 + q.val, by omega⟩ : Fin 512)) * r (ix2 p (0 : Fin 1)) := by
  pointwise [A3]

theorem B3_at (v4 : FVec Ideal S16x512 .f32) (p : Fin 16) (q : Fin 128) :
    (B3 v4 (ix2 p q) : EReal) = v4 (ix2 p (⟨384 + q.val, by omega⟩ : Fin 512)) * Ideal.ofBits FTy.f32 1031798784#32 := by
  pointwise [B3]

theorem pay3 (x : Vec Ideal S512x512 .f32) (v4 : FVec Ideal S16x512 .f32) (r : FVec Ideal S512x1 .f32) (p : Fin 512) (q : Fin 128) :
    (k0_pay1 (F := Ideal) x v4 r (ix2 p q) : EReal)
      = ∑ d ∈ Finset.range 16, Pool.col (concatenate S528x128 0 [⟨S512x128, A3 x r⟩, ⟨S16x128, B3 v4⟩] concatenates_S512x128_S16x128_S528x128_d0) q (p.val + d) - x (ix2 p (⟨384 + q.val, by omega⟩ : Fin 512)) := by
  have hp := p.isLt
  have e := (Pool.on 520#32 8 (by omega) rfl (concatenate S528x128 0 [⟨S512x128, A3 x r⟩, ⟨S16x128, B3 v4⟩] concatenates_S512x128_S16x128_S528x128_d0) _ rotates_S528x128_d0 q (Pool.on 524#32 4 (by omega) rfl (concatenate S528x128 0 [⟨S512x128, A3 x r⟩, ⟨S16x128, B3 v4⟩] concatenates_S512x128_S16x128_S528x128_d0) _ rotates_S528x128_d0 q (Pool.on 526#32 2 (by omega) rfl (concatenate S528x128 0 [⟨S512x128, A3 x r⟩, ⟨S16x128, B3 v4⟩] concatenates_S512x128_S16x128_S528x128_d0) _ rotates_S528x128_d0 q (Pool.on1 527#32 rfl (concatenate S528x128 0 [⟨S512x128, A3 x r⟩, ⟨S16x128, B3 v4⟩] concatenates_S512x128_S16x128_S528x128_d0) rotates_S528x128_d0 q)))) p.val (by omega)
  rw [Pool.col_val _ _ _ (by omega)] at e
  unfold k0_pay1
  refine Eq.trans ?_ (congrArg (fun z : EReal => z - x (ix2 p (⟨384 + q.val, by omega⟩ : Fin 512))) e)
  clear e
  unfold A3 B3
  generalize hY : (addf _ _ : FVec Ideal S528x128 .f32) = Y
  pointwise

/-! The blocks the kernel reads. -/

variable (m : (ℓ : Loc nD τ sig) → Buf (Elt Ideal) ℓ)

theorem idx : ∀ t : Fin cfg0.N, win0_0.index t = ![t.val, 0]
    ∧ win0_1.index t = ![min ((t.val + 1) * 32) 255, 0]
    ∧ win0_2.index t = ![t.val, 0] :=
  (by decide +kernel : ∀ t : Fin grid0.N, _)

theorem crd : ∀ t : Fin cfg0.N, (grid0.coords t 0).val = t.val ∧ Scalar.cmpi .eq (BitVec.ofNat 32 (grid0.coords t 0).val) 7#32 = if t.val = 7 then 1#1 else 0#1 :=
  (by decide +kernel : ∀ t : Fin grid0.N, _)

theorem lt8 (t : Fin cfg0.N) : t.val < 8 := lt_of_lt_of_eq t.isLt N_0

/-- The array the kernel reads, on device `c`. -/
def X (c : Dev nD) : FVec Ideal S4096x512 .f32 := m ((c : Thread nD τ).loc main_arg0)

theorem part0 (c : Dev nD) (t : Fin cfg0.N) (p : Fin 512) (k : Fin 512) :
    (iblk m c 0 t (ix2 p k) : EReal) = X m c (ix2 (⟨t.val * 512 + p.val, by have := lt8 t; omega⟩ : Fin 4096) k) := by
  unfold X
  blk_simp [iblk]
  blk_point [V, idx t]

theorem part1 (c : Dev nD) (t : Fin cfg0.N) (h : t.val ≠ 7) (p : Fin 16) (k : Fin 512) :
    (iblk m c 1 t (ix2 p k) : EReal) = X m c (ix2 (⟨t.val * 512 + 512 + p.val, by have := lt8 t; omega⟩ : Fin 4096) k) := by
  have h8 := lt8 t
  have e : min ((t.val + 1) * 32) 255 = (t.val + 1) * 32 := by omega
  unfold X
  blk_simp [iblk]
  blk_point [V, idx t]

theorem ld0 (u : Vec Ideal S512x512 .f32) : View.ld u r0_0 = u := View.ld_unit_lit _ u (by decide)

theorem ld1 (u : Vec Ideal S16x512 .f32) : View.ld u r0_1 = u := View.ld_unit_lit _ u (by decide)

theorem out_eq (i : grid0.Coords) (x0 : Vec Ideal S512x512 .f32) (x1 : Vec Ideal S16x512 .f32) : out0_2 i x0 x1
    = View.canon [⟨r0_5, k0_pay1 x0 (k0_pay12 i x0 x1) (k0_pay6 (F := Ideal) i)⟩,
      ⟨r0_4, k0_pay11 x0 (k0_pay12 i x0 x1) (k0_pay5 (F := Ideal) i)⟩,
      ⟨r0_3, k0_pay10 x0 (k0_pay12 i x0 x1) (k0_pay4 (F := Ideal) i)⟩,
      ⟨r0_2, k0_pay9 (k0_pay12 i x0 x1) (k0_pay7 x0) (k0_pay8 i x0)⟩] := by
  unfold out0_2
  rw [ld0]

theorem halo (c : Dev nD) (t : Fin cfg0.N) (p : Fin 16) (k : Fin 512) :
    (k0_pay12 (F := Ideal) (grid0.coords t) (iblk m c 0 t) (iblk m c 1 t) (ix2 p k) : EReal)
      = if h : t.val * 512 + 512 + p.val < 4096 then X m c (ix2 (⟨t.val * 512 + 512 + p.val, h⟩ : Fin 4096) k) else 0 := by
  have h8 := lt8 t
  unfold k0_pay12
  refine (congrArg (fun v => k0_pay2 (F := Ideal) (grid0.coords t) v (ix2 p k)) (ld1 (iblk m c 1 t))).trans ?_
  have e : ∀ v : Vec Ideal S16x512 .f32, (k0_pay2 (F := Ideal) (grid0.coords t) v (ix2 p k) : EReal) = Scalar.select (Scalar.cmpi .eq (BitVec.ofNat 32 (grid0.coords t 0).val) 7#32) 0 (v (ix2 p k)) := fun v => by
    pointwise [k0_pay2]
  rw [e, (crd t).2]
  by_cases h : t.val = 7
  · rw [if_pos h, dif_neg (by omega)]; rfl
  · rw [if_neg h, dif_pos (by omega)]; exact part1 m c t h p k

theorem col_at (c : Dev nD) (t : Fin cfg0.N) (f : Fin 4096 → EReal) (A : FVec Ideal S512x128 .f32) (B : FVec Ideal S16x128 .f32) (q : Fin 128)
    (hA : ∀ p : Fin 512, (A (ix2 p q) : EReal) = f (⟨t.val * 512 + p.val, by have := lt8 t; omega⟩ : Fin 4096))
    (hB : ∀ p : Fin 16, (B (ix2 p q) : EReal) = Pool.ext f (t.val * 512 + 512 + p.val)) (n : ℕ) (hn : n < 528) :
    Pool.col (concatenate S528x128 0 [⟨S512x128, A⟩, ⟨S16x128, B⟩] concatenates_S512x128_S16x128_S528x128_d0) q n = Pool.ext f (t.val * 512 + n) := by
  have h8 := lt8 t
  rw [Pool.col_ahead _ _ _ _ _ hn]
  by_cases h : n < 512
  · rw [dif_pos h, hA]; exact (Pool.ext_val f (⟨t.val * 512 + n, by omega⟩ : Fin 4096)).symm
  · rw [dif_neg h, hB]; exact congrArg _ (show t.val * 512 + 512 + (n - 512) = t.val * 512 + n by omega)

/-- One over the count, in the first columns. -/
def R0 (i : grid0.Coords) : FVec Ideal S512x1 .f32 :=
  divf (broadcast S512x1 (Scalar.ofBits (F := Ideal) .f32 0x3F800000#32)) (sitofp .f32 (minsi (addi (k0_pay3 i) (broadcast S512x1 1#32)) (broadcast S512x1 2#32)))

theorem inv0 (t : Fin cfg0.N) (p : Fin 512) : (R0 (grid0.coords t) (ix2 p (0 : Fin 1)) : EReal) = Ideal.div 1 (((((min (t.val * 512 + p.val + 1) 2 : ℕ) : ℤ) : ℝ)) : EReal) := by
  pointwise [R0, k0_pay3]
  refine congrArg (Ideal.div 1) (congrArg (fun z : ℤ => ((z : ℝ) : EReal)) ?_)
  rw [(crd t).1]
  exact Pool.cnt_word t.val p.val 2 (lt8 t) p.isLt (by decide)

theorem tile0 (c : Dev nD) (t : Fin cfg0.N) (p : Fin 512) (q : Fin 128) :
    (k0_pay9 (F := Ideal) (k0_pay12 (grid0.coords t) (iblk m c 0 t) (iblk m c 1 t)) (k0_pay7 (iblk m c 0 t)) (k0_pay8 (grid0.coords t) (iblk m c 0 t)) (ix2 p q) : EReal)
      = val_main_v54 (F := Ideal) (X m c) (ix2 (⟨t.val * 512 + p.val, by have := lt8 t; omega⟩ : Fin 4096) (⟨0 + q.val, by omega⟩ : Fin 512)) := by
  have h8 := lt8 t
  refine (pay0 (iblk m c 0 t) _ (R0 (grid0.coords t)) p q).trans (Eq.trans (congrArg₂ (fun a b : EReal => a - b) (Finset.sum_congr rfl fun d hd => ?_) (part0 m c t p _))
    (ref_val (X m c) (⟨t.val * 512 + p.val, by omega⟩ : Fin 4096) 0 q 2 0 rfl rfl (by omega)).symm)
  rw [Finset.mem_range] at hd
  refine (col_at c t (share (fun s => X m c (ix2 s (⟨0 + q.val, by omega⟩ : Fin 512))) 2) _ _ q (fun p => ?_) (fun p => ?_) (p.val + d) (by omega)).trans
    (congrArg _ (Nat.add_assoc _ _ _).symm)
  · exact (A0_at _ _ p q).trans (congrArg₂ (fun a b : EReal => a * b) (part0 m c t p _) (inv0 t p))
  · refine (B0_at _ p q).trans ((congrArg (fun a : EReal => a * Ideal.ofBits FTy.f32 1056964608#32) (halo m c t p _)).trans ?_)
    unfold Pool.ext share
    by_cases h : t.val * 512 + 512 + p.val < 4096
    · rw [dif_pos h, dif_pos h, Pool.word2]
      exact congrArg (fun n : ℕ => X m c (ix2 (⟨t.val * 512 + 512 + p.val, h⟩ : Fin 4096) (⟨0 + q.val, by omega⟩ : Fin 512)) * Ideal.div 1 ((((n : ℤ) : ℝ)) : EReal))
        (show 2 = min (t.val * 512 + 512 + p.val + 1) 2 by omega)
    · rw [dif_neg h, dif_neg h, zero_mul]

theorem inv1 (t : Fin cfg0.N) (p : Fin 512) : (k0_pay4 (F := Ideal) (grid0.coords t) (ix2 p (0 : Fin 1)) : EReal) = Ideal.div 1 (((((min (t.val * 512 + p.val + 1) 4 : ℕ) : ℤ) : ℝ)) : EReal) := by
  pointwise [k0_pay4, k0_pay3]
  refine congrArg (Ideal.div 1) (congrArg (fun z : ℤ => ((z : ℝ) : EReal)) ?_)
  rw [(crd t).1]
  exact Pool.cnt_word t.val p.val 4 (lt8 t) p.isLt (by decide)

theorem tile1 (c : Dev nD) (t : Fin cfg0.N) (p : Fin 512) (q : Fin 128) :
    (k0_pay10 (F := Ideal) (iblk m c 0 t) (k0_pay12 (grid0.coords t) (iblk m c 0 t) (iblk m c 1 t)) (k0_pay4 (F := Ideal) (grid0.coords t)) (ix2 p q) : EReal)
      = val_main_v54 (F := Ideal) (X m c) (ix2 (⟨t.val * 512 + p.val, by have := lt8 t; omega⟩ : Fin 4096) (⟨128 + q.val, by omega⟩ : Fin 512)) := by
  have h8 := lt8 t
  refine (pay1 (iblk m c 0 t) _ (k0_pay4 (F := Ideal) (grid0.coords t)) p q).trans (Eq.trans (congrArg₂ (fun a b : EReal => a - b) (Finset.sum_congr rfl fun d hd => ?_) (part0 m c t p _))
    (ref_val (X m c) (⟨t.val * 512 + p.val, by omega⟩ : Fin 4096) 1 q 4 128 rfl rfl (by omega)).symm)
  rw [Finset.mem_range] at hd
  refine (col_at c t (share (fun s => X m c (ix2 s (⟨128 + q.val, by omega⟩ : Fin 512))) 4) _ _ q (fun p => ?_) (fun p => ?_) (p.val + d) (by omega)).trans
    (congrArg _ (Nat.add_assoc _ _ _).symm)
  · exact (A1_at _ _ p q).trans (congrArg₂ (fun a b : EReal => a * b) (part0 m c t p _) (inv1 t p))
  · refine (B1_at _ p q).trans ((congrArg (fun a : EReal => a * Ideal.ofBits FTy.f32 1048576000#32) (halo m c t p _)).trans ?_)
    unfold Pool.ext share
    by_cases h : t.val * 512 + 512 + p.val < 4096
    · rw [dif_pos h, dif_pos h, Pool.word4]
      exact congrArg (fun n : ℕ => X m c (ix2 (⟨t.val * 512 + 512 + p.val, h⟩ : Fin 4096) (⟨128 + q.val, by omega⟩ : Fin 512)) * Ideal.div 1 ((((n : ℤ) : ℝ)) : EReal))
        (show 4 = min (t.val * 512 + 512 + p.val + 1) 4 by omega)
    · rw [dif_neg h, dif_neg h, zero_mul]

theorem inv2 (t : Fin cfg0.N) (p : Fin 512) : (k0_pay5 (F := Ideal) (grid0.coords t) (ix2 p (0 : Fin 1)) : EReal) = Ideal.div 1 (((((min (t.val * 512 + p.val + 1) 8 : ℕ) : ℤ) : ℝ)) : EReal) := by
  pointwise [k0_pay5, k0_pay3]
  refine congrArg (Ideal.div 1) (congrArg (fun z : ℤ => ((z : ℝ) : EReal)) ?_)
  rw [(crd t).1]
  exact Pool.cnt_word t.val p.val 8 (lt8 t) p.isLt (by decide)

theorem tile2 (c : Dev nD) (t : Fin cfg0.N) (p : Fin 512) (q : Fin 128) :
    (k0_pay11 (F := Ideal) (iblk m c 0 t) (k0_pay12 (grid0.coords t) (iblk m c 0 t) (iblk m c 1 t)) (k0_pay5 (F := Ideal) (grid0.coords t)) (ix2 p q) : EReal)
      = val_main_v54 (F := Ideal) (X m c) (ix2 (⟨t.val * 512 + p.val, by have := lt8 t; omega⟩ : Fin 4096) (⟨256 + q.val, by omega⟩ : Fin 512)) := by
  have h8 := lt8 t
  refine (pay2 (iblk m c 0 t) _ (k0_pay5 (F := Ideal) (grid0.coords t)) p q).trans (Eq.trans (congrArg₂ (fun a b : EReal => a - b) (Finset.sum_congr rfl fun d hd => ?_) (part0 m c t p _))
    (ref_val (X m c) (⟨t.val * 512 + p.val, by omega⟩ : Fin 4096) 2 q 8 256 rfl rfl (by omega)).symm)
  rw [Finset.mem_range] at hd
  refine (col_at c t (share (fun s => X m c (ix2 s (⟨256 + q.val, by omega⟩ : Fin 512))) 8) _ _ q (fun p => ?_) (fun p => ?_) (p.val + d) (by omega)).trans
    (congrArg _ (Nat.add_assoc _ _ _).symm)
  · exact (A2_at _ _ p q).trans (congrArg₂ (fun a b : EReal => a * b) (part0 m c t p _) (inv2 t p))
  · refine (B2_at _ p q).trans ((congrArg (fun a : EReal => a * Ideal.ofBits FTy.f32 1040187392#32) (halo m c t p _)).trans ?_)
    unfold Pool.ext share
    by_cases h : t.val * 512 + 512 + p.val < 4096
    · rw [dif_pos h, dif_pos h, Pool.word8]
      exact congrArg (fun n : ℕ => X m c (ix2 (⟨t.val * 512 + 512 + p.val, h⟩ : Fin 4096) (⟨256 + q.val, by omega⟩ : Fin 512)) * Ideal.div 1 ((((n : ℤ) : ℝ)) : EReal))
        (show 8 = min (t.val * 512 + 512 + p.val + 1) 8 by omega)
    · rw [dif_neg h, dif_neg h, zero_mul]

theorem inv3 (t : Fin cfg0.N) (p : Fin 512) : (k0_pay6 (F := Ideal) (grid0.coords t) (ix2 p (0 : Fin 1)) : EReal) = Ideal.div 1 (((((min (t.val * 512 + p.val + 1) 16 : ℕ) : ℤ) : ℝ)) : EReal) := by
  pointwise [k0_pay6, k0_pay3]
  refine congrArg (Ideal.div 1) (congrArg (fun z : ℤ => ((z : ℝ) : EReal)) ?_)
  rw [(crd t).1]
  exact Pool.cnt_word t.val p.val 16 (lt8 t) p.isLt (by decide)

theorem tile3 (c : Dev nD) (t : Fin cfg0.N) (p : Fin 512) (q : Fin 128) :
    (k0_pay1 (F := Ideal) (iblk m c 0 t) (k0_pay12 (grid0.coords t) (iblk m c 0 t) (iblk m c 1 t)) (k0_pay6 (F := Ideal) (grid0.coords t)) (ix2 p q) : EReal)
      = val_main_v54 (F := Ideal) (X m c) (ix2 (⟨t.val * 512 + p.val, by have := lt8 t; omega⟩ : Fin 4096) (⟨384 + q.val, by omega⟩ : Fin 512)) := by
  have h8 := lt8 t
  refine (pay3 (iblk m c 0 t) _ (k0_pay6 (F := Ideal) (grid0.coords t)) p q).trans (Eq.trans (congrArg₂ (fun a b : EReal => a - b) (Finset.sum_congr rfl fun d hd => ?_) (part0 m c t p _))
    (ref_val (X m c) (⟨t.val * 512 + p.val, by omega⟩ : Fin 4096) 3 q 16 384 rfl rfl (by omega)).symm)
  rw [Finset.mem_range] at hd
  refine (col_at c t (share (fun s => X m c (ix2 s (⟨384 + q.val, by omega⟩ : Fin 512))) 16) _ _ q (fun p => ?_) (fun p => ?_) (p.val + d) (by omega)).trans
    (congrArg _ (Nat.add_assoc _ _ _).symm)
  · exact (A3_at _ _ p q).trans (congrArg₂ (fun a b : EReal => a * b) (part0 m c t p _) (inv3 t p))
  · refine (B3_at _ p q).trans ((congrArg (fun a : EReal => a * Ideal.ofBits FTy.f32 1031798784#32) (halo m c t p _)).trans ?_)
    unfold Pool.ext share
    by_cases h : t.val * 512 + 512 + p.val < 4096
    · rw [dif_pos h, dif_pos h, Pool.word16]
      exact congrArg (fun n : ℕ => X m c (ix2 (⟨t.val * 512 + 512 + p.val, h⟩ : Fin 4096) (⟨384 + q.val, by omega⟩ : Fin 512)) * Ideal.div 1 ((((n : ℤ) : ℝ)) : EReal))
        (show 16 = min (t.val * 512 + 512 + p.val + 1) 16 by omega)
    · rw [dif_neg h, dif_neg h, zero_mul]

theorem final (c : Dev nD) : (dats m 0 c).arrAt 2 (cfgs 0).N = val_main_v54 (F := Ideal) (m ((c : Thread nD τ).loc main_arg0)) := by
  refine (dats m 0 c).arrAt_eq_of_covers 2 _ (by decide +kernel) fun t hf y => ?_
  blk_simp
  rw [after0_2]
  refine (congrFun (out_eq _ _ _) y).trans ?_
  canon_tiles x h
  · refine (congrArg _ (Idealize.ShloMosaic.eq_ix2 x)).trans ((tile3 m c t (x 0) (x 1)).trans ?_)
    unfold X
    generalize val_main_v54 (F := Ideal) _ = Y
    blk_point [idx t]
  · refine (congrArg _ (Idealize.ShloMosaic.eq_ix2 x)).trans ((tile2 m c t (x 0) (x 1)).trans ?_)
    unfold X
    generalize val_main_v54 (F := Ideal) _ = Y
    blk_point [idx t]
  · refine (congrArg _ (Idealize.ShloMosaic.eq_ix2 x)).trans ((tile1 m c t (x 0) (x 1)).trans ?_)
    unfold X
    generalize val_main_v54 (F := Ideal) _ = Y
    blk_point [idx t]
  · refine (congrArg _ (Idealize.ShloMosaic.eq_ix2 x)).trans ((tile0 m c t (x 0) (x 1)).trans ?_)
    unfold X
    generalize val_main_v54 (F := Ideal) _ = Y
    blk_point [idx t]

end Cert.PoolUIdeal.Val
-- ==== Proof.PoolUClaim.lean ====
/- The two claims about the gradient of the pooling's input that the generated frames do not give: the reference's frame, and equal results. -/
module

public import proofs.«01_k».proof.Defs
public import proofs.«01_k».proof.Proof.Gen.PoolUIdeal.Frame
public import proofs.«01_k».proof.Proof.Gen.PoolURefIdeal.Read
public import proofs.«01_k».proof.Proof.PoolUVal
public import Idealize.ShloMosaic.Lib.Claim
public import Idealize.ShloMosaic.Init

@[expose] public section

set_option maxRecDepth 16384

noncomputable section

open Idealize.ShloMosaic Idealize.ShloMosaic.TcCoe Idealize.SL.Sem

namespace Cert.PoolUClaim

/-- The reference's own run leaves its arguments as they were. -/
theorem refKeeps (m : (ℓ : Loc Cert.PoolURefIdeal.nD Cert.PoolURefIdeal.τ Cert.PoolURefIdeal.sig) → Buf (Elt Ideal) ℓ) (ρ) :
    θ_run (Cert.PoolURefIdeal.defs (F := Ideal)) (onTc (τ := Cert.PoolURefIdeal.τ) (Cert.PoolURefIdeal.main (F := Ideal))) ⟨m, fun _ => 0, ρ⟩ fun r => ∀ c : Dev Cert.PoolURefIdeal.nD,
      r.2.mem ((c.tc : Thread Cert.PoolURefIdeal.nD Cert.PoolURefIdeal.τ).loc Cert.PoolURefIdeal.main_arg0) = m ((c.tc : Thread Cert.PoolURefIdeal.nD Cert.PoolURefIdeal.τ).loc Cert.PoolURefIdeal.main_arg0) :=
  (θ_run Cert.PoolURefIdeal.defs _ _).mono (fun r h c => (h c).2) (Cert.PoolURefIdeal.Value.run (F := Ideal) m ρ)

/-- The reference declares no semaphore. -/
theorem refFrame : Cert.quiescent_PoolURefIdeal := fun m ρ _ =>
  (θ_run Cert.PoolURefIdeal.defs _ _).mono (fun r h => ⟨h, Idealize.ShloMosaic.sem_eq_zero_of_no_sems (by decide) r.2⟩) (refKeeps m ρ)

/-- The reference's results as its named stages. -/
theorem refRun (m : (ℓ : Loc Cert.PoolURefIdeal.nD Cert.PoolURefIdeal.τ Cert.PoolURefIdeal.sig) → Buf (Elt Ideal) ℓ) (ρ) :
    θ_run (Cert.PoolURefIdeal.defs (F := Ideal)) (onTc (τ := Cert.PoolURefIdeal.τ) (Cert.PoolURefIdeal.main (F := Ideal))) ⟨m, fun _ => 0, ρ⟩ fun r => ∀ c : Dev Cert.PoolURefIdeal.nD,
      r.2.mem ((c.tc : Thread Cert.PoolURefIdeal.nD Cert.PoolURefIdeal.τ).loc Cert.PoolURefIdeal.main_v54)
          = Cert.PoolURefIdeal.Read.val_main_v54 (F := Ideal) (m ((c.tc : Thread Cert.PoolURefIdeal.nD Cert.PoolURefIdeal.τ).loc Cert.PoolURefIdeal.main_arg0)) :=
  (θ_run Cert.PoolURefIdeal.defs _ _).mono (fun r h c => (h c).1.trans (Cert.PoolURefIdeal.Read.val_main_v54_eq _))
    (Cert.PoolURefIdeal.Value.run (F := Ideal) m ρ)

/-- The kernel's result arrays and the reference's agree over the extended reals. -/
theorem algebraic : Cert.algebraic_PoolUIdeal_PoolURefIdeal := by
  intro m g m' g' _ hagree
  refine ⟨fun c => Cert.PoolURefIdeal.Read.val_main_v54 (F := Ideal) (m ((c.tc : Thread Cert.PoolUIdeal.nD Cert.PoolUIdeal.τ).loc Cert.PoolUIdeal.main_arg0)), ?_, ?_⟩
  · exact (θ_run Cert.PoolUIdeal.defs _ _).mono (fun r h c => ⟨((h.2 c).1 2).trans (Cert.PoolUIdeal.Val.final m c), h.1 c⟩)
      (θ_run_and (Cert.PoolUIdeal.Gen.unchanged m g) (Cert.PoolUIdeal.Gen.run_main m g))
  · exact (θ_run Cert.PoolURefIdeal.defs _ _).mono (fun r h c => ⟨(h.2 c).trans (by rw [(hagree c)]), h.1 c⟩)
      (θ_run_and (refKeeps m' g') (refRun m' g'))

end Cert.PoolUClaim

end
-- ==== Proof.PoolWVal.lean ====
/- The pool mixer backward: what the kernel leaves in its result arrays equals the reference. -/
module

public import proofs.«01_k».proof.Proof.Gen.PoolWIdeal.Frame
public import proofs.«01_k».proof.Proof.Gen.PoolWRefIdeal.Read
public import proofs.«01_k».proof.Proof.PoolMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolWIdeal.Val

open Cert.PoolWIdeal Cert.PoolWIdeal.Gen
open Cert.PoolWRefIdeal.Read

/-! The reference. -/

theorem ref_win (g : Fin 4) : val_main_v11 (F := Ideal) (ix1 g) = BitVec.ofNat 32 (2 ^ (g.val + 1)) := by
  pointwise [val_main_v11, val_main_v10, val_main_v9, val_main_v8, val_main_v7, val_main_v6, val_main_v5, val_main_v4, val_main_v3, val_main_v1, val_main_c, val_main_c_0, val_main_c_1, val_main_c_2, val_main_c_3, val_main_c_4, val_main_c_5, val_main_call0_v0, val_main_call0_v1, val_main_call1_v0, val_main_call2_v0]
  fin_cases g <;> rfl

theorem ref_band (g : Fin 4) (t s : Fin 4096) : (val_main_v27 (F := Ideal) (ix3 g t s) : EReal) = if s.val ≤ t.val ∧ t.val < s.val + 2 ^ (g.val + 1) then 1 else 0 := by
  pointwise [val_main_v27, val_main_v26, val_main_v25, val_main_v24, val_main_v16, val_main_v23, val_main_v22, val_main_v21, val_main_v20, val_main_v19, val_main_v18, val_main_v17, val_main_v15, val_main_v14, val_main_v13, val_main_v12, val_main_v2, val_main_call3_v0, val_main_call3_v1, val_main_cst, val_main_cst_6, id]
  rw [ref_win, Pool.band_word s.val t.val (2 ^ (g.val + 1)) s.isLt t.isLt (by fin_cases g <;> decide)]
  split_ifs <;> rfl

theorem ref_cnt (g : Fin 4) (s : Fin 4096) : (val_main_v36 (F := Ideal) (ix2 s g) : EReal) = (((min (s.val + 1) (2 ^ (g.val + 1)) : ℕ) : ℤ) : ℝ) := by
  pointwise [val_main_v36, val_main_v35, val_main_v34, val_main_v33, val_main_v32, val_main_v31, val_main_v30, val_main_v29, val_main_v28, val_main_v2, val_main_c_7, id]
  rw [ref_win]
  exact congrArg (fun z : ℤ => ((z : ℝ) : EReal)) (Pool.toInt_count s.val (2 ^ (g.val + 1)) (by omega) (by fin_cases g <;> decide))

/-- A column's mean over the last `w` tokens, minus the token itself. -/
def pooled (x : Fin 4096 → EReal) (w : ℕ) (t : Fin 4096) : EReal :=
  (∑ d ∈ Finset.range w, Pool.before x t.val d) * Ideal.div 1 (((((min (t.val + 1) w : ℕ) : ℤ) : ℝ)) : EReal) - x t

theorem ref_pooled (x : FVec Ideal S4096x512 .f32) (t : Fin 4096) (g : Fin 4) (q : Fin 128) :
    (val_main_v42 (F := Ideal) x (ix3 t g q) : EReal) = pooled (fun s => x (ix2 s (⟨g.val * 128 + q.val, by omega⟩ : Fin 512))) (2 ^ (g.val + 1)) t := by
  unfold pooled
  rw [← Pool.band_behind _ _ _ t.isLt, ← Pool.div_count _ _ (by have := Nat.two_pow_pos (g.val + 1); omega)]
  pointwise [val_main_v42, val_main_v41, val_main_v40, val_main_v39, val_main_v38, val_main_v37, val_main_v0]
  rw [ref_cnt]
  refine congrArg (fun z : EReal => Ideal.div z _ - _) (Finset.sum_congr rfl fun s _ => ?_)
  rw [ref_band, mul_comm]

/-! The kernel's pooled rows. -/

def A0 (v3 : FVec Ideal S16x512 .f32) : FVec Ideal S16x128 .f32 := extractStridedSlice S16x128 ![0, 0] v3 slices_S16x512_o0_0_S16x128

def B0 (x : Vec Ideal S512x512 .f32) : FVec Ideal S512x128 .f32 := extractStridedSlice S512x128 ![0, 0] x slices_S512x512_o0_0_S512x128

theorem A0_at (v3 : FVec Ideal S16x512 .f32) (p : Fin 16) (q : Fin 128) : (A0 v3 (ix2 p q) : EReal) = v3 (ix2 p (⟨0 + q.val, by omega⟩ : Fin 512)) := by
  pointwise [A0]

theorem B0_at (x : Vec Ideal S512x512 .f32) (p : Fin 512) (q : Fin 128) : (B0 x (ix2 p q) : EReal) = x (ix2 p (⟨0 + q.val, by omega⟩ : Fin 512)) := by
  pointwise [B0]

theorem pay0 (v3 : FVec Ideal S16x512 .f32) (x : Vec Ideal S512x512 .f32) (r : FVec Ideal S512x1 .f32) (p : Fin 512) (q : Fin 128) :
    (k0_pay13 (F := Ideal) r (B0 x) (concatenate S528x128 0 [⟨S16x128, A0 v3⟩, ⟨S512x128, B0 x⟩] concatenates_S16x128_S512x128_S528x128_d0) (ix2 p q) : EReal)
      = (∑ d ∈ Finset.range 2, Pool.col (concatenate S528x128 0 [⟨S16x128, A0 v3⟩, ⟨S512x128, B0 x⟩] concatenates_S16x128_S512x128_S528x128_d0) q (16 + p.val - d)) * r (ix2 p (0 : Fin 1)) - x (ix2 p (⟨0 + q.val, by omega⟩ : Fin 512)) := by
  have hp := p.isLt
  have e := (Pool.back1 1#32 rfl (concatenate S528x128 0 [⟨S16x128, A0 v3⟩, ⟨S512x128, B0 x⟩] concatenates_S16x128_S512x128_S528x128_d0) rotates_S528x128_d0 q) (16 + p.val) (by omega) (by omega)
  rw [Pool.col_val _ _ _ (by omega)] at e
  unfold k0_pay13
  refine Eq.trans ?_ (congrArg (fun z : EReal => z * r (ix2 p (0 : Fin 1)) - x (ix2 p (⟨0 + q.val, by omega⟩ : Fin 512))) e)
  clear e
  unfold A0 B0
  generalize hY : (addf _ _ : FVec Ideal S528x128 .f32) = Y
  pointwise

def A1 (v3 : FVec Ideal S16x512 .f32) : FVec Ideal S16x128 .f32 := extractStridedSlice S16x128 ![0, 128] v3 slices_S16x512_o0_128_S16x128

def B1 (x : Vec Ideal S512x512 .f32) : FVec Ideal S512x128 .f32 := extractStridedSlice S512x128 ![0, 128] x slices_S512x512_o0_128_S512x128

theorem A1_at (v3 : FVec Ideal S16x512 .f32) (p : Fin 16) (q : Fin 128) : (A1 v3 (ix2 p q) : EReal) = v3 (ix2 p (⟨128 + q.val, by omega⟩ : Fin 512)) := by
  pointwise [A1]

theorem B1_at (x : Vec Ideal S512x512 .f32) (p : Fin 512) (q : Fin 128) : (B1 x (ix2 p q) : EReal) = x (ix2 p (⟨128 + q.val, by omega⟩ : Fin 512)) := by
  pointwise [B1]

theorem pay1 (v3 : FVec Ideal S16x512 .f32) (x : Vec Ideal S512x512 .f32) (r : FVec Ideal S512x1 .f32) (p : Fin 512) (q : Fin 128) :
    (k0_pay14 (F := Ideal) v3 x r (ix2 p q) : EReal)
      = (∑ d ∈ Finset.range 4, Pool.col (concatenate S528x128 0 [⟨S16x128, A1 v3⟩, ⟨S512x128, B1 x⟩] concatenates_S16x128_S512x128_S528x128_d0) q (16 + p.val - d)) * r (ix2 p (0 : Fin 1)) - x (ix2 p (⟨128 + q.val, by omega⟩ : Fin 512)) := by
  have hp := p.isLt
  have e := (Pool.back 2#32 2 (by omega) rfl (concatenate S528x128 0 [⟨S16x128, A1 v3⟩, ⟨S512x128, B1 x⟩] concatenates_S16x128_S512x128_S528x128_d0) _ rotates_S528x128_d0 q (Pool.back1 1#32 rfl (concatenate S528x128 0 [⟨S16x128, A1 v3⟩, ⟨S512x128, B1 x⟩] concatenates_S16x128_S512x128_S528x128_d0) rotates_S528x128_d0 q)) (16 + p.val) (by omega) (by omega)
  rw [Pool.col_val _ _ _ (by omega)] at e
  unfold k0_pay14
  refine Eq.trans ?_ (congrArg (fun z : EReal => z * r (ix2 p (0 : Fin 1)) - x (ix2 p (⟨128 + q.val, by omega⟩ : Fin 512))) e)
  clear e
  unfold A1 B1
  generalize hY : (addf _ _ : FVec Ideal S528x128 .f32) = Y
  pointwise

def A2 (v3 : FVec Ideal S16x512 .f32) : FVec Ideal S16x128 .f32 := extractStridedSlice S16x128 ![0, 256] v3 slices_S16x512_o0_256_S16x128

def B2 (x : Vec Ideal S512x512 .f32) : FVec Ideal S512x128 .f32 := extractStridedSlice S512x128 ![0, 256] x slices_S512x512_o0_256_S512x128

theorem A2_at (v3 : FVec Ideal S16x512 .f32) (p : Fin 16) (q : Fin 128) : (A2 v3 (ix2 p q) : EReal) = v3 (ix2 p (⟨256 + q.val, by omega⟩ : Fin 512)) := by
  pointwise [A2]

theorem B2_at (x : Vec Ideal S512x512 .f32) (p : Fin 512) (q : Fin 128) : (B2 x (ix2 p q) : EReal) = x (ix2 p (⟨256 + q.val, by omega⟩ : Fin 512)) := by
  pointwise [B2]

theorem pay2 (v3 : FVec Ideal S16x512 .f32) (x : Vec Ideal S512x512 .f32) (r : FVec Ideal S512x1 .f32) (p : Fin 512) (q : Fin 128) :
    (k0_pay15 (F := Ideal) v3 x r (ix2 p q) : EReal)
      = (∑ d ∈ Finset.range 8, Pool.col (concatenate S528x128 0 [⟨S16x128, A2 v3⟩, ⟨S512x128, B2 x⟩] concatenates_S16x128_S512x128_S528x128_d0) q (16 + p.val - d)) * r (ix2 p (0 : Fin 1)) - x (ix2 p (⟨256 + q.val, by omega⟩ : Fin 512)) := by
  have hp := p.isLt
  have e := (Pool.back 4#32 4 (by omega) rfl (concatenate S528x128 0 [⟨S16x128, A2 v3⟩, ⟨S512x128, B2 x⟩] concatenates_S16x128_S512x128_S528x128_d0) _ rotates_S528x128_d0 q (Pool.back 2#32 2 (by omega) rfl (concatenate S528x128 0 [⟨S16x128, A2 v3⟩, ⟨S512x128, B2 x⟩] concatenates_S16x128_S512x128_S528x128_d0) _ rotates_S528x128_d0 q (Pool.back1 1#32 rfl (concatenate S528x128 0 [⟨S16x128, A2 v3⟩, ⟨S512x128, B2 x⟩] concatenates_S16x128_S512x128_S528x128_d0) rotates_S528x128_d0 q))) (16 + p.val) (by omega) (by omega)
  rw [Pool.col_val _ _ _ (by omega)] at e
  unfold k0_pay15
  refine Eq.trans ?_ (congrArg (fun z : EReal => z * r (ix2 p (0 : Fin 1)) - x (ix2 p (⟨256 + q.val, by omega⟩ : Fin 512))) e)
  clear e
  unfold A2 B2
  generalize hY : (addf _ _ : FVec Ideal S528x128 .f32) = Y
  pointwise

def A3 (v3 : FVec Ideal S16x512 .f32) : FVec Ideal S16x128 .f32 := extractStridedSlice S16x128 ![0, 384] v3 slices_S16x512_o0_384_S16x128

def B3 (x : Vec Ideal S512x512 .f32) : FVec Ideal S512x128 .f32 := extractStridedSlice S512x128 ![0, 384] x slices_S512x512_o0_384_S512x128

theorem A3_at (v3 : FVec Ideal S16x512 .f32) (p : Fin 16) (q : Fin 128) : (A3 v3 (ix2 p q) : EReal) = v3 (ix2 p (⟨384 + q.val, by omega⟩ : Fin 512)) := by
  pointwise [A3]

theorem B3_at (x : Vec Ideal S512x512 .f32) (p : Fin 512) (q : Fin 128) : (B3 x (ix2 p q) : EReal) = x (ix2 p (⟨384 + q.val, by omega⟩ : Fin 512)) := by
  pointwise [B3]

theorem pay3 (v3 : FVec Ideal S16x512 .f32) (x : Vec Ideal S512x512 .f32) (r : FVec Ideal S512x1 .f32) (p : Fin 512) (q : Fin 128) :
    (k0_pay16 (F := Ideal) v3 x r (ix2 p q) : EReal)
      = (∑ d ∈ Finset.range 16, Pool.col (concatenate S528x128 0 [⟨S16x128, A3 v3⟩, ⟨S512x128, B3 x⟩] concatenates_S16x128_S512x128_S528x128_d0) q (16 + p.val - d)) * r (ix2 p (0 : Fin 1)) - x (ix2 p (⟨384 + q.val, by omega⟩ : Fin 512)) := by
  have hp := p.isLt
  have e := (Pool.back 8#32 8 (by omega) rfl (concatenate S528x128 0 [⟨S16x128, A3 v3⟩, ⟨S512x128, B3 x⟩] concatenates_S16x128_S512x128_S528x128_d0) _ rotates_S528x128_d0 q (Pool.back 4#32 4 (by omega) rfl (concatenate S528x128 0 [⟨S16x128, A3 v3⟩, ⟨S512x128, B3 x⟩] concatenates_S16x128_S512x128_S528x128_d0) _ rotates_S528x128_d0 q (Pool.back 2#32 2 (by omega) rfl (concatenate S528x128 0 [⟨S16x128, A3 v3⟩, ⟨S512x128, B3 x⟩] concatenates_S16x128_S512x128_S528x128_d0) _ rotates_S528x128_d0 q (Pool.back1 1#32 rfl (concatenate S528x128 0 [⟨S16x128, A3 v3⟩, ⟨S512x128, B3 x⟩] concatenates_S16x128_S512x128_S528x128_d0) rotates_S528x128_d0 q)))) (16 + p.val) (by omega) (by omega)
  rw [Pool.col_val _ _ _ (by omega)] at e
  unfold k0_pay16
  refine Eq.trans ?_ (congrArg (fun z : EReal => z * r (ix2 p (0 : Fin 1)) - x (ix2 p (⟨384 + q.val, by omega⟩ : Fin 512))) e)
  clear e
  unfold A3 B3
  generalize hY : (addf _ _ : FVec Ideal S528x128 .f32) = Y
  pointwise

/-! The blocks the kernel reads. -/

variable (m : (ℓ : Loc nD τ sig) → Buf (Elt Ideal) ℓ)

theorem idx : ∀ t : Fin cfg0.N, win0_0.index t = ![t.val, 0]
    ∧ win0_1.index t = ![t.val * 32 - 1, 0]
    ∧ win0_2.index t = ![t.val, 0]
    ∧ win0_3.index t = ![0, 0, 0]
    ∧ win0_4.index t = ![0, 0]
    ∧ win0_5.index t = ![t.val, 0]
    ∧ win0_6.index t = ![0, 0, 0]
    ∧ win0_7.index t = ![0, 0] :=
  (by decide +kernel : ∀ t : Fin grid0.N, _)

theorem crd : ∀ t : Fin cfg0.N, (grid0.coords t 0).val = t.val ∧ Scalar.cmpi .eq (BitVec.ofNat 32 (grid0.coords t 0).val) 0#32 = if t.val = 0 then 1#1 else 0#1 :=
  (by decide +kernel : ∀ t : Fin grid0.N, _)

theorem lt8 (t : Fin cfg0.N) : t.val < 8 := lt_of_lt_of_eq t.isLt N_0

/-- The array the kernel pools, on device `c`. -/
def X (c : Dev nD) : FVec Ideal S4096x512 .f32 := m ((c : Thread nD τ).loc main_arg0)

theorem part0 (c : Dev nD) (t : Fin cfg0.N) (p : Fin 512) (k : Fin 512) :
    (iblk m c 0 t (ix2 p k) : EReal) = X m c (ix2 (⟨t.val * 512 + p.val, by have := lt8 t; omega⟩ : Fin 4096) k) := by
  unfold X
  blk_simp [iblk]
  blk_point [V, idx t]

theorem part1 (c : Dev nD) (t : Fin cfg0.N) (h : t.val ≠ 0) (p : Fin 16) (k : Fin 512) :
    (iblk m c 1 t (ix2 p k) : EReal) = X m c (ix2 (⟨t.val * 512 + p.val - 16, by have := lt8 t; omega⟩ : Fin 4096) k) := by
  have h8 := lt8 t
  unfold X
  blk_simp [iblk]
  blk_point [V, idx t]

theorem halo (c : Dev nD) (t : Fin cfg0.N) (p : Fin 16) (k : Fin 512) :
    (k0_pay5 (F := Ideal) (grid0.coords t) (iblk m c 1 t) (ix2 p k) : EReal)
      = if h : t.val = 0 then 0 else X m c (ix2 (⟨t.val * 512 + p.val - 16, by have := lt8 t; omega⟩ : Fin 4096) k) := by
  have e : ∀ v : Vec Ideal S16x512 .f32, (k0_pay5 (F := Ideal) (grid0.coords t) v (ix2 p k) : EReal) = Scalar.select (Scalar.cmpi .eq (BitVec.ofNat 32 (grid0.coords t 0).val) 0#32) 0 (v (ix2 p k)) := fun v => by
    pointwise [k0_pay5]
  rw [e, (crd t).2]
  by_cases h : t.val = 0
  · rw [if_pos h, dif_pos h]; rfl
  · rw [if_neg h, dif_neg h]; exact part1 m c t h p k

theorem col_at (t : Fin cfg0.N) (f : Fin 4096 → EReal) (A : FVec Ideal S16x128 .f32) (B : FVec Ideal S512x128 .f32) (q : Fin 128)
    (hA : ∀ p : Fin 16, (A (ix2 p q) : EReal) = if h : t.val = 0 then 0 else f (⟨t.val * 512 + p.val - 16, by have := lt8 t; omega⟩ : Fin 4096))
    (hB : ∀ p : Fin 512, (B (ix2 p q) : EReal) = f (⟨t.val * 512 + p.val, by have := lt8 t; omega⟩ : Fin 4096))
    (p : Fin 512) (d : ℕ) (hd : d < 16) :
    Pool.col (concatenate S528x128 0 [⟨S16x128, A⟩, ⟨S512x128, B⟩] concatenates_S16x128_S512x128_S528x128_d0) q (16 + p.val - d) = Pool.before f (t.val * 512 + p.val) d := by
  have h8 := lt8 t
  have hp := p.isLt
  rw [Pool.col_behind _ _ _ _ _ (by omega)]
  unfold Pool.before
  by_cases h : 16 + p.val - d < 16
  · rw [dif_pos h, hA]
    by_cases ht : t.val = 0
    · rw [dif_pos ht, if_neg (by omega)]
    · rw [dif_neg ht, if_pos (by omega)]
      refine Eq.trans ?_ (Pool.ext_val f (⟨t.val * 512 + p.val - d, by omega⟩ : Fin 4096)).symm
      exact congrArg f (Fin.ext (show t.val * 512 + (16 + p.val - d) - 16 = t.val * 512 + p.val - d by omega))
  · rw [dif_neg h, hB, if_pos (by omega)]
    refine Eq.trans ?_ (Pool.ext_val f (⟨t.val * 512 + p.val - d, by omega⟩ : Fin 4096)).symm
    exact congrArg f (Fin.ext (show t.val * 512 + (16 + p.val - d - 16) = t.val * 512 + p.val - d by omega))

theorem inv0 (t : Fin cfg0.N) (p : Fin 512) : (k0_pay7 (F := Ideal) (grid0.coords t) (ix2 p (0 : Fin 1)) : EReal) = Ideal.div 1 (((((min (t.val * 512 + p.val + 1) 2 : ℕ) : ℤ) : ℝ)) : EReal) := by
  pointwise [k0_pay7, k0_pay6]
  refine congrArg (Ideal.div 1) (congrArg (fun z : ℤ => ((z : ℝ) : EReal)) ?_)
  rw [(crd t).1]
  exact Pool.cnt_word t.val p.val 2 (lt8 t) p.isLt (by decide)

theorem pool0 (c : Dev nD) (t : Fin cfg0.N) (p : Fin 512) (q : Fin 128) :
    (k0_pay13 (F := Ideal) (k0_pay7 (F := Ideal) (grid0.coords t)) (k0_pay11 (iblk m c 0 t)) (k0_pay12 (grid0.coords t) (iblk m c 1 t) (iblk m c 0 t)) (ix2 p q) : EReal)
      = val_main_v42 (F := Ideal) (X m c) (ix3 (⟨t.val * 512 + p.val, by have := lt8 t; omega⟩ : Fin 4096) (0 : Fin 4) q) := by
  have h8 := lt8 t
  refine (pay0 (k0_pay5 (F := Ideal) (grid0.coords t) (iblk m c 1 t)) (iblk m c 0 t) (k0_pay7 (F := Ideal) (grid0.coords t)) p q).trans (Eq.trans ?_
    (ref_pooled (X m c) (⟨t.val * 512 + p.val, by omega⟩ : Fin 4096) 0 q).symm)
  have hk : (⟨(((0 : Fin 4)).val) * 128 + q.val, by omega⟩ : Fin 512) = (⟨0 + q.val, by omega⟩ : Fin 512) := Fin.ext (by simp)
  rw [hk]
  refine congrArg₂ (fun a b : EReal => a - b) (congrArg₂ (fun a b : EReal => a * b) (Finset.sum_congr rfl fun d hd => ?_) (inv0 t p)) (part0 m c t p _)
  have hd' : d < 2 := Finset.mem_range.mp hd
  refine col_at t (fun s => X m c (ix2 s (⟨0 + q.val, by omega⟩ : Fin 512))) _ _ q (fun p => ?_) (fun p => ?_) p d (by omega)
  · exact (A0_at _ p q).trans (halo m c t p _)
  · exact (B0_at _ p q).trans (part0 m c t p _)

theorem inv1 (t : Fin cfg0.N) (p : Fin 512) : (k0_pay8 (F := Ideal) (grid0.coords t) (ix2 p (0 : Fin 1)) : EReal) = Ideal.div 1 (((((min (t.val * 512 + p.val + 1) 4 : ℕ) : ℤ) : ℝ)) : EReal) := by
  pointwise [k0_pay8, k0_pay6]
  refine congrArg (Ideal.div 1) (congrArg (fun z : ℤ => ((z : ℝ) : EReal)) ?_)
  rw [(crd t).1]
  exact Pool.cnt_word t.val p.val 4 (lt8 t) p.isLt (by decide)

theorem pool1 (c : Dev nD) (t : Fin cfg0.N) (p : Fin 512) (q : Fin 128) :
    (k0_pay14 (F := Ideal) (k0_pay5 (F := Ideal) (grid0.coords t) (iblk m c 1 t)) (iblk m c 0 t) (k0_pay8 (F := Ideal) (grid0.coords t)) (ix2 p q) : EReal)
      = val_main_v42 (F := Ideal) (X m c) (ix3 (⟨t.val * 512 + p.val, by have := lt8 t; omega⟩ : Fin 4096) (1 : Fin 4) q) := by
  have h8 := lt8 t
  refine (pay1 (k0_pay5 (F := Ideal) (grid0.coords t) (iblk m c 1 t)) (iblk m c 0 t) (k0_pay8 (F := Ideal) (grid0.coords t)) p q).trans (Eq.trans ?_
    (ref_pooled (X m c) (⟨t.val * 512 + p.val, by omega⟩ : Fin 4096) 1 q).symm)
  have hk : (⟨(((1 : Fin 4)).val) * 128 + q.val, by omega⟩ : Fin 512) = (⟨128 + q.val, by omega⟩ : Fin 512) := Fin.ext (by simp)
  rw [hk]
  refine congrArg₂ (fun a b : EReal => a - b) (congrArg₂ (fun a b : EReal => a * b) (Finset.sum_congr rfl fun d hd => ?_) (inv1 t p)) (part0 m c t p _)
  have hd' : d < 4 := Finset.mem_range.mp hd
  refine col_at t (fun s => X m c (ix2 s (⟨128 + q.val, by omega⟩ : Fin 512))) _ _ q (fun p => ?_) (fun p => ?_) p d (by omega)
  · exact (A1_at _ p q).trans (halo m c t p _)
  · exact (B1_at _ p q).trans (part0 m c t p _)

theorem inv2 (t : Fin cfg0.N) (p : Fin 512) : (k0_pay9 (F := Ideal) (grid0.coords t) (ix2 p (0 : Fin 1)) : EReal) = Ideal.div 1 (((((min (t.val * 512 + p.val + 1) 8 : ℕ) : ℤ) : ℝ)) : EReal) := by
  pointwise [k0_pay9, k0_pay6]
  refine congrArg (Ideal.div 1) (congrArg (fun z : ℤ => ((z : ℝ) : EReal)) ?_)
  rw [(crd t).1]
  exact Pool.cnt_word t.val p.val 8 (lt8 t) p.isLt (by decide)

theorem pool2 (c : Dev nD) (t : Fin cfg0.N) (p : Fin 512) (q : Fin 128) :
    (k0_pay15 (F := Ideal) (k0_pay5 (F := Ideal) (grid0.coords t) (iblk m c 1 t)) (iblk m c 0 t) (k0_pay9 (F := Ideal) (grid0.coords t)) (ix2 p q) : EReal)
      = val_main_v42 (F := Ideal) (X m c) (ix3 (⟨t.val * 512 + p.val, by have := lt8 t; omega⟩ : Fin 4096) (2 : Fin 4) q) := by
  have h8 := lt8 t
  refine (pay2 (k0_pay5 (F := Ideal) (grid0.coords t) (iblk m c 1 t)) (iblk m c 0 t) (k0_pay9 (F := Ideal) (grid0.coords t)) p q).trans (Eq.trans ?_
    (ref_pooled (X m c) (⟨t.val * 512 + p.val, by omega⟩ : Fin 4096) 2 q).symm)
  have hk : (⟨(((2 : Fin 4)).val) * 128 + q.val, by omega⟩ : Fin 512) = (⟨256 + q.val, by omega⟩ : Fin 512) := Fin.ext (by simp)
  rw [hk]
  refine congrArg₂ (fun a b : EReal => a - b) (congrArg₂ (fun a b : EReal => a * b) (Finset.sum_congr rfl fun d hd => ?_) (inv2 t p)) (part0 m c t p _)
  have hd' : d < 8 := Finset.mem_range.mp hd
  refine col_at t (fun s => X m c (ix2 s (⟨256 + q.val, by omega⟩ : Fin 512))) _ _ q (fun p => ?_) (fun p => ?_) p d (by omega)
  · exact (A2_at _ p q).trans (halo m c t p _)
  · exact (B2_at _ p q).trans (part0 m c t p _)

theorem inv3 (t : Fin cfg0.N) (p : Fin 512) : (k0_pay10 (F := Ideal) (grid0.coords t) (ix2 p (0 : Fin 1)) : EReal) = Ideal.div 1 (((((min (t.val * 512 + p.val + 1) 16 : ℕ) : ℤ) : ℝ)) : EReal) := by
  pointwise [k0_pay10, k0_pay6]
  refine congrArg (Ideal.div 1) (congrArg (fun z : ℤ => ((z : ℝ) : EReal)) ?_)
  rw [(crd t).1]
  exact Pool.cnt_word t.val p.val 16 (lt8 t) p.isLt (by decide)

theorem pool3 (c : Dev nD) (t : Fin cfg0.N) (p : Fin 512) (q : Fin 128) :
    (k0_pay16 (F := Ideal) (k0_pay5 (F := Ideal) (grid0.coords t) (iblk m c 1 t)) (iblk m c 0 t) (k0_pay10 (F := Ideal) (grid0.coords t)) (ix2 p q) : EReal)
      = val_main_v42 (F := Ideal) (X m c) (ix3 (⟨t.val * 512 + p.val, by have := lt8 t; omega⟩ : Fin 4096) (3 : Fin 4) q) := by
  have h8 := lt8 t
  refine (pay3 (k0_pay5 (F := Ideal) (grid0.coords t) (iblk m c 1 t)) (iblk m c 0 t) (k0_pay10 (F := Ideal) (grid0.coords t)) p q).trans (Eq.trans ?_
    (ref_pooled (X m c) (⟨t.val * 512 + p.val, by omega⟩ : Fin 4096) 3 q).symm)
  have hk : (⟨(((3 : Fin 4)).val) * 128 + q.val, by omega⟩ : Fin 512) = (⟨384 + q.val, by omega⟩ : Fin 512) := Fin.ext (by simp)
  rw [hk]
  refine congrArg₂ (fun a b : EReal => a - b) (congrArg₂ (fun a b : EReal => a * b) (Finset.sum_congr rfl fun d hd => ?_) (inv3 t p)) (part0 m c t p _)
  have hd' : d < 16 := Finset.mem_range.mp hd
  refine col_at t (fun s => X m c (ix2 s (⟨384 + q.val, by omega⟩ : Fin 512))) _ _ q (fun p => ?_) (fun p => ?_) p d (by omega)
  · exact (A3_at _ p q).trans (halo m c t p _)
  · exact (B3_at _ p q).trans (part0 m c t p _)

/-- The gradient that reaches the kernel, the weights and the scale, on device `c`. -/
def D (c : Dev nD) : FVec Ideal S4096x512 .f32 := m ((c : Thread nD τ).loc main_arg1)

def W (c : Dev nD) : FVec Ideal S4x128x128 .f32 := m ((c : Thread nD τ).loc main_arg2)

def S (c : Dev nD) : FVec Ideal S512 .f32 := m ((c : Thread nD τ).loc main_arg3)

theorem host3 (c : Dev nD) (i : S4x128x128.Idx) : (V m c main_v0 i : EReal) = W m c i := by
  unfold W
  simp only [V, hostOps0]
  entry_read
  rfl

theorem host4 (c : Dev nD) (i : S1x512.Idx) : (V m c main_v1 i : EReal) = S m c (ix1 (i 1)) := by
  unfold S
  simp only [V, hostOps0]
  entry_read
  pointwise

theorem part2 (c : Dev nD) (t : Fin cfg0.N) (p : Fin 512) (k : Fin 512) :
    (iblk m c 2 t (ix2 p k) : EReal) = D m c (ix2 (⟨t.val * 512 + p.val, by have := lt8 t; omega⟩ : Fin 4096) k) := by
  unfold D
  blk_simp [iblk]
  blk_point [V, idx t]

theorem part3 (c : Dev nD) (t : Fin cfg0.N) (j : S4x128x128.Idx) : (iblk m c 3 t j : EReal) = W m c j := by
  blk_simp [iblk]
  refine (host3 m c _).trans ?_
  blk_point [idx t]

theorem part4 (c : Dev nD) (t : Fin cfg0.N) (j : S1x512.Idx) : (iblk m c 4 t j : EReal) = S m c (ix1 (j 1)) := by
  blk_simp [iblk]
  refine (host4 m c _).trans ?_
  blk_point [idx t]

/-- A column of the group `g`. -/
def at' (g : Fin 4) (q : Fin 128) : Fin 512 := ⟨g.val * 128 + q.val, by omega⟩

theorem ref_du (x1 : FVec Ideal S4096x512 .f32) (w : FVec Ideal S4x128x128 .f32) (s : FVec Ideal S512 .f32) (t : Fin 4096) (g : Fin 4) (q : Fin 128) :
    (val_main_v63 (F := Ideal) x1 w s (ix2 t (at' g q)) : EReal)
      = ∑ k : Fin 128, (x1 (ix2 t (at' g k)) * s (ix1 (at' g k))) * w (ix3 g q k) := by
  pointwise [val_main_v63, val_main_v60, val_main_v59, val_main_v58, val_main_v57, val_main_v55, val_main_v54, val_main_v48, at']

theorem ref_dw (x0 x1 : FVec Ideal S4096x512 .f32) (s : FVec Ideal S512 .f32) (g : Fin 4) (i j : Fin 128) :
    (val_main_v62 (F := Ideal) x0 x1 s (ix3 g i j) : EReal)
      = ∑ l : Fin 4096, (x1 (ix2 l (at' g j)) * s (ix1 (at' g j))) * val_main_v42 (F := Ideal) x0 (ix3 l g i) := by
  pointwise [val_main_v62, val_main_v61, val_main_v58, val_main_v57, val_main_v55, val_main_v54, val_main_v48, val_main_v44, val_main_v43, at']

theorem ref_ds (x0 x1 : FVec Ideal S4096x512 .f32) (w : FVec Ideal S4x128x128 .f32) (g : Fin 4) (q : Fin 128) :
    (val_main_v64 (F := Ideal) x0 x1 w (ix2 (0 : Fin 1) (at' g q)) : EReal)
      = ∑ l : Fin 4096, (∑ k : Fin 128, w (ix3 g k q) * val_main_v42 (F := Ideal) x0 (ix3 l g k)) * x1 (ix2 l (at' g q)) := by
  pointwise [val_main_v64, val_main_v56, val_main_v53, val_main_v52, val_main_v51, val_main_v47, val_main_v46, val_main_v45, val_main_v44, val_main_v43, val_main_cst_8, val_main_cst_9, at']
  exact Fin.sum_univ_one _

/-! One grid point's parts. -/

/-- The gradient before the scale, mapped back. -/
def duOf (d : Vec Ideal S512x512 .f32) (w : Vec Ideal S4x128x128 .bf16) (s : Vec Ideal S1x512 .f32) (g : Fin 4) (p : Fin 512) (q : Fin 128) : EReal :=
  ∑ k : Fin 128, (d (ix2 p (at' g k)) * s (ix2 (0 : Fin 1) (at' g k))) * w (ix3 g q k)

/-- A weight's gradient from the rows of one point. -/
def dwOf (v : Fin 512 → Fin 128 → EReal) (d : Vec Ideal S512x512 .f32) (s : Vec Ideal S1x512 .f32) (g : Fin 4) (i j : Fin 128) : EReal :=
  ∑ p : Fin 512, v p i * (d (ix2 p (at' g j)) * s (ix2 (0 : Fin 1) (at' g j)))

/-- A scale's gradient from the rows of one point. -/
def dsOf (v : Fin 512 → Fin 128 → EReal) (d : Vec Ideal S512x512 .f32) (w : Vec Ideal S4x128x128 .bf16) (g : Fin 4) (q : Fin 128) : EReal :=
  ∑ p : Fin 512, d (ix2 p (at' g q)) * ∑ k : Fin 128, v p k * w (ix3 g k q)

theorem du0 (d : Vec Ideal S512x512 .f32) (w : Vec Ideal S4x128x128 .bf16) (s : Vec Ideal S1x512 .f32) (y) :
    (k0_pay22 (F := Ideal) (View.ld d (Rect.unit ![0, 0] ![512, 128] inb_S512x512_S512x128_0_0)) (View.ld s (Rect.unit ![0, 0] ![1, 128] inb_S1x512_S1x128_0_0)) (View.ld w (Rect.unit ![0, 0, 0] ![1, 128, 128] inb_S4x128x128_S1x128x128_0_0_0)) y : EReal) = duOf d w s 0 (y 0) (y 1) := by
  pointwise [k0_pay22, k0_pay21, duOf, at']

theorem dw0 (v : FVec Ideal S512x128 .f32) (d : Vec Ideal S512x512 .f32) (s : Vec Ideal S1x512 .f32) (z : Vec Ideal S4x128x128 .f32) (y) :
    (k0_pay23 (F := Ideal) v (View.ld d (Rect.unit ![0, 0] ![512, 128] inb_S512x512_S512x128_0_0)) (View.ld s (Rect.unit ![0, 0] ![1, 128] inb_S1x512_S1x128_0_0)) (View.ld z (Rect.unit ![0, 0, 0] ![1, 128, 128] inb_S4x128x128_S1x128x128_0_0_0)) y : EReal)
      = z (ix3 (0 : Fin 4) (y 1) (y 2)) + dwOf (fun p k => v (ix2 p k)) d s 0 (y 1) (y 2) := by
  pointwise [k0_pay23, k0_pay19, k0_pay21, dwOf, at']

theorem ds0 (v : FVec Ideal S512x128 .f32) (d : Vec Ideal S512x512 .f32) (w : Vec Ideal S4x128x128 .bf16) (z : Vec Ideal S1x512 .f32) (y) :
    (k0_pay20 (F := Ideal) v (View.ld d (Rect.unit ![0, 0] ![512, 128] inb_S512x512_S512x128_0_0)) (View.ld z (Rect.unit ![0, 0] ![1, 128] inb_S1x512_S1x128_0_0)) (View.ld w (Rect.unit ![0, 0, 0] ![1, 128, 128] inb_S4x128x128_S1x128x128_0_0_0)) y : EReal)
      = z (ix2 (0 : Fin 1) (at' 0 (y 1))) + dsOf (fun p k => v (ix2 p k)) d w 0 (y 1) := by
  pointwise [k0_pay20, k0_pay19, dsOf, at']

theorem du1 (d : Vec Ideal S512x512 .f32) (w : Vec Ideal S4x128x128 .bf16) (s : Vec Ideal S1x512 .f32) (y) :
    (k0_pay27 (F := Ideal) (View.ld d (Rect.unit ![0, 128] ![512, 128] inb_S512x512_S512x128_0_128)) (View.ld s (Rect.unit ![0, 128] ![1, 128] inb_S1x512_S1x128_0_128)) (View.ld w (Rect.unit ![1, 0, 0] ![1, 128, 128] inb_S4x128x128_S1x128x128_1_0_0)) y : EReal) = duOf d w s 1 (y 0) (y 1) := by
  pointwise [k0_pay27, k0_pay26, duOf, at']

theorem dw1 (v : FVec Ideal S512x128 .bf16) (d : Vec Ideal S512x512 .f32) (s : Vec Ideal S1x512 .f32) (z : Vec Ideal S4x128x128 .f32) (y) :
    (k0_pay28 (F := Ideal) v (View.ld d (Rect.unit ![0, 128] ![512, 128] inb_S512x512_S512x128_0_128)) (View.ld s (Rect.unit ![0, 128] ![1, 128] inb_S1x512_S1x128_0_128)) (View.ld z (Rect.unit ![1, 0, 0] ![1, 128, 128] inb_S4x128x128_S1x128x128_1_0_0)) y : EReal)
      = z (ix3 (1 : Fin 4) (y 1) (y 2)) + dwOf (fun p k => v (ix2 p k)) d s 1 (y 1) (y 2) := by
  pointwise [k0_pay28, k0_pay26, dwOf, at']

theorem ds1 (v : FVec Ideal S512x128 .bf16) (d : Vec Ideal S512x512 .f32) (w : Vec Ideal S4x128x128 .bf16) (z : Vec Ideal S1x512 .f32) (y) :
    (k0_pay25 (F := Ideal) v (View.ld d (Rect.unit ![0, 128] ![512, 128] inb_S512x512_S512x128_0_128)) (View.ld z (Rect.unit ![0, 128] ![1, 128] inb_S1x512_S1x128_0_128)) (View.ld w (Rect.unit ![1, 0, 0] ![1, 128, 128] inb_S4x128x128_S1x128x128_1_0_0)) y : EReal)
      = z (ix2 (0 : Fin 1) (at' 1 (y 1))) + dsOf (fun p k => v (ix2 p k)) d w 1 (y 1) := by
  pointwise [k0_pay25, dsOf, at']

theorem low1 (v : FVec Ideal S512x128 .f32) (p : Fin 512) (k : Fin 128) : (k0_pay24 (F := Ideal) v (ix2 p k) : EReal) = v (ix2 p k) := by
  pointwise [k0_pay24]

theorem du2 (d : Vec Ideal S512x512 .f32) (w : Vec Ideal S4x128x128 .bf16) (s : Vec Ideal S1x512 .f32) (y) :
    (k0_pay32 (F := Ideal) (View.ld d (Rect.unit ![0, 256] ![512, 128] inb_S512x512_S512x128_0_256)) (View.ld s (Rect.unit ![0, 256] ![1, 128] inb_S1x512_S1x128_0_256)) (View.ld w (Rect.unit ![2, 0, 0] ![1, 128, 128] inb_S4x128x128_S1x128x128_2_0_0)) y : EReal) = duOf d w s 2 (y 0) (y 1) := by
  pointwise [k0_pay32, k0_pay31, duOf, at']

theorem dw2 (v : FVec Ideal S512x128 .bf16) (d : Vec Ideal S512x512 .f32) (s : Vec Ideal S1x512 .f32) (z : Vec Ideal S4x128x128 .f32) (y) :
    (k0_pay33 (F := Ideal) v (View.ld d (Rect.unit ![0, 256] ![512, 128] inb_S512x512_S512x128_0_256)) (View.ld s (Rect.unit ![0, 256] ![1, 128] inb_S1x512_S1x128_0_256)) (View.ld z (Rect.unit ![2, 0, 0] ![1, 128, 128] inb_S4x128x128_S1x128x128_2_0_0)) y : EReal)
      = z (ix3 (2 : Fin 4) (y 1) (y 2)) + dwOf (fun p k => v (ix2 p k)) d s 2 (y 1) (y 2) := by
  pointwise [k0_pay33, k0_pay31, dwOf, at']

theorem ds2 (v : FVec Ideal S512x128 .bf16) (d : Vec Ideal S512x512 .f32) (w : Vec Ideal S4x128x128 .bf16) (z : Vec Ideal S1x512 .f32) (y) :
    (k0_pay30 (F := Ideal) v (View.ld d (Rect.unit ![0, 256] ![512, 128] inb_S512x512_S512x128_0_256)) (View.ld z (Rect.unit ![0, 256] ![1, 128] inb_S1x512_S1x128_0_256)) (View.ld w (Rect.unit ![2, 0, 0] ![1, 128, 128] inb_S4x128x128_S1x128x128_2_0_0)) y : EReal)
      = z (ix2 (0 : Fin 1) (at' 2 (y 1))) + dsOf (fun p k => v (ix2 p k)) d w 2 (y 1) := by
  pointwise [k0_pay30, dsOf, at']

theorem low2 (v : FVec Ideal S512x128 .f32) (p : Fin 512) (k : Fin 128) : (k0_pay29 (F := Ideal) v (ix2 p k) : EReal) = v (ix2 p k) := by
  pointwise [k0_pay29]

theorem du3 (d : Vec Ideal S512x512 .f32) (w : Vec Ideal S4x128x128 .bf16) (s : Vec Ideal S1x512 .f32) (y) :
    (k0_pay3 (F := Ideal) (View.ld d (Rect.unit ![0, 384] ![512, 128] inb_S512x512_S512x128_0_384)) (View.ld s (Rect.unit ![0, 384] ![1, 128] inb_S1x512_S1x128_0_384)) (View.ld w (Rect.unit ![3, 0, 0] ![1, 128, 128] inb_S4x128x128_S1x128x128_3_0_0)) y : EReal) = duOf d w s 3 (y 0) (y 1) := by
  pointwise [k0_pay3, k0_pay2, duOf, at']

theorem dw3 (v : FVec Ideal S512x128 .bf16) (d : Vec Ideal S512x512 .f32) (s : Vec Ideal S1x512 .f32) (z : Vec Ideal S4x128x128 .f32) (y) :
    (k0_pay4 (F := Ideal) v (View.ld d (Rect.unit ![0, 384] ![512, 128] inb_S512x512_S512x128_0_384)) (View.ld s (Rect.unit ![0, 384] ![1, 128] inb_S1x512_S1x128_0_384)) (View.ld z (Rect.unit ![3, 0, 0] ![1, 128, 128] inb_S4x128x128_S1x128x128_3_0_0)) y : EReal)
      = z (ix3 (3 : Fin 4) (y 1) (y 2)) + dwOf (fun p k => v (ix2 p k)) d s 3 (y 1) (y 2) := by
  pointwise [k0_pay4, k0_pay2, dwOf, at']

theorem ds3 (v : FVec Ideal S512x128 .bf16) (d : Vec Ideal S512x512 .f32) (w : Vec Ideal S4x128x128 .bf16) (z : Vec Ideal S1x512 .f32) (y) :
    (k0_pay1 (F := Ideal) v (View.ld d (Rect.unit ![0, 384] ![512, 128] inb_S512x512_S512x128_0_384)) (k0_pay35 (View.ld z (Rect.unit ![0, 384] ![1, 128] inb_S1x512_S1x128_0_384))) (View.ld w (Rect.unit ![3, 0, 0] ![1, 128, 128] inb_S4x128x128_S1x128x128_3_0_0)) y : EReal)
      = z (ix2 (0 : Fin 1) (at' 3 (y 1))) + dsOf (fun p k => v (ix2 p k)) d w 3 (y 1) := by
  pointwise [k0_pay1, k0_pay35, dsOf, at']

theorem low3 (v : FVec Ideal S512x128 .f32) (p : Fin 512) (k : Fin 128) : (k0_pay34 (F := Ideal) v (ix2 p k) : EReal) = v (ix2 p k) := by
  pointwise [k0_pay34]

/-! The first result. -/

theorem du_tile (c : Dev nD) (t : Fin cfg0.N) (g : Fin 4) (p : Fin 512) (q : Fin 128) :
    duOf (iblk m c 2 t) (iblk m c 3 t) (iblk m c 4 t) g p q
      = val_main_v63 (F := Ideal) (D m c) (W m c) (S m c) (ix2 (⟨t.val * 512 + p.val, by have := lt8 t; omega⟩ : Fin 4096) (at' g q)) := by
  refine Eq.trans ?_ (ref_du _ _ _ _ g q).symm
  refine Finset.sum_congr rfl fun k _ => congrArg₂ (fun a b : EReal => a * b) (congrArg₂ (fun a b : EReal => a * b) (part2 m c t p _) (part4 m c t _)) (part3 m c t _)

/-- The stores to the first result, the last first. -/
def L5 (c : Dev nD) (t : Fin cfg0.N) : List (View.Piece (Elt Ideal) S512x512 .f32) :=
  [⟨Rect.unit ![0, 384] ![512, 128] inb_S512x512_S512x128_0_384, k0_pay3 (F := Ideal) (View.ld (iblk m c 2 t) (Rect.unit ![0, 384] ![512, 128] inb_S512x512_S512x128_0_384)) (View.ld (iblk m c 4 t) (Rect.unit ![0, 384] ![1, 128] inb_S1x512_S1x128_0_384)) (View.ld (iblk m c 3 t) (Rect.unit ![3, 0, 0] ![1, 128, 128] inb_S4x128x128_S1x128x128_3_0_0))⟩,
    ⟨Rect.unit ![0, 256] ![512, 128] inb_S512x512_S512x128_0_256, k0_pay32 (F := Ideal) (View.ld (iblk m c 2 t) (Rect.unit ![0, 256] ![512, 128] inb_S512x512_S512x128_0_256)) (View.ld (iblk m c 4 t) (Rect.unit ![0, 256] ![1, 128] inb_S1x512_S1x128_0_256)) (View.ld (iblk m c 3 t) (Rect.unit ![2, 0, 0] ![1, 128, 128] inb_S4x128x128_S1x128x128_2_0_0))⟩,
    ⟨Rect.unit ![0, 128] ![512, 128] inb_S512x512_S512x128_0_128, k0_pay27 (F := Ideal) (View.ld (iblk m c 2 t) (Rect.unit ![0, 128] ![512, 128] inb_S512x512_S512x128_0_128)) (View.ld (iblk m c 4 t) (Rect.unit ![0, 128] ![1, 128] inb_S1x512_S1x128_0_128)) (View.ld (iblk m c 3 t) (Rect.unit ![1, 0, 0] ![1, 128, 128] inb_S4x128x128_S1x128x128_1_0_0))⟩,
    ⟨Rect.unit ![0, 0] ![512, 128] inb_S512x512_S512x128_0_0, k0_pay22 (F := Ideal) (View.ld (iblk m c 2 t) (Rect.unit ![0, 0] ![512, 128] inb_S512x512_S512x128_0_0)) (View.ld (iblk m c 4 t) (Rect.unit ![0, 0] ![1, 128] inb_S1x512_S1x128_0_0)) (View.ld (iblk m c 3 t) (Rect.unit ![0, 0, 0] ![1, 128, 128] inb_S4x128x128_S1x128x128_0_0_0))⟩]

theorem du_pieces (c : Dev nD) (t : Fin cfg0.N) (y : S512x512.Idx) : (View.canon (L5 m c t) y : EReal)
      = val_main_v63 (F := Ideal) (D m c) (W m c) (S m c) (ix2 (⟨t.val * 512 + (y 0).val, by have := lt8 t; have : (y 0).val < 512 := (y 0).isLt; omega⟩ : Fin 4096) (y 1)) := by
  unfold L5
  canon_tiles x h
  · refine (du3 _ _ _ x).trans ((du_tile m c t 3 (x 0) (x 1)).trans ?_)
    generalize val_main_v63 (F := Ideal) _ _ _ = Y
    blk_point [idx t, at']
  · refine (du2 _ _ _ x).trans ((du_tile m c t 2 (x 0) (x 1)).trans ?_)
    generalize val_main_v63 (F := Ideal) _ _ _ = Y
    blk_point [idx t, at']
  · refine (du1 _ _ _ x).trans ((du_tile m c t 1 (x 0) (x 1)).trans ?_)
    generalize val_main_v63 (F := Ideal) _ _ _ = Y
    blk_point [idx t, at']
  · refine (du0 _ _ _ x).trans ((du_tile m c t 0 (x 0) (x 1)).trans ?_)
    generalize val_main_v63 (F := Ideal) _ _ _ = Y
    blk_point [idx t, at']

theorem final5 (c : Dev nD) : (dats m 0 c).arrAt 5 (cfgs 0).N
    = val_main_v63 (F := Ideal) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h : t.val % 8 = 0
  · rw [outsAt0_A m c t h]; frame_out
    refine (du_pieces m c t y).trans ?_
    unfold D W S
    generalize val_main_v63 (F := Ideal) (m ((c : Thread nD τ).loc main_arg1)) (m ((c : Thread nD τ).loc main_arg2)) (m ((c : Thread nD τ).loc main_arg3)) = Y
    blk_point [idx t]
  · rw [outsAt0_B m c t h]; frame_out
    refine (du_pieces m c t y).trans ?_
    unfold D W S
    generalize val_main_v63 (F := Ideal) (m ((c : Thread nD τ).loc main_arg1)) (m ((c : Thread nD τ).loc main_arg2)) (m ((c : Thread nD τ).loc main_arg3)) = Y
    blk_point [idx t]

/-! The sums over the grid. -/

/-- Stores that cover an index leave there what they leave without the stores before them. -/
theorem canon_drop {Sh : Shape} {e : EltTy} (L' : List (View.Piece (Elt Ideal) Sh e)) :
    ∀ (L : List (View.Piece (Elt Ideal) Sh e)) (y : Sh.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

/-- The pooled row `p` of point `t`. -/
def row (c : Dev nD) (t : Fin cfg0.N) (p : Fin 512) (g : Fin 4) (k : Fin 128) : EReal :=
  val_main_v42 (F := Ideal) (X m c) (ix3 (⟨t.val * 512 + p.val, by have := lt8 t; omega⟩ : Fin 4096) g k)

/-- One grid point's part in a weight's gradient. -/
def dwAt (c : Dev nD) (t : Fin cfg0.N) (g : Fin 4) (i j : Fin 128) : EReal :=
  dwOf (fun p k => row m c t p g k) (iblk m c 2 t) (iblk m c 4 t) g i j

/-- One grid point's part in a scale's gradient. -/
def dsAt (c : Dev nD) (t : Fin cfg0.N) (g : Fin 4) (q : Fin 128) : EReal :=
  dsOf (fun p k => row m c t p g k) (iblk m c 2 t) (iblk m c 3 t) g q

/-- The stores to the weights' gradient over `z`, the last first. -/
def L6 (c : Dev nD) (t : Fin cfg0.N) (z : Vec Ideal S4x128x128 .f32) : List (View.Piece (Elt Ideal) S4x128x128 .f32) :=
  [⟨Rect.unit ![3, 0, 0] ![1, 128, 128] inb_S4x128x128_S1x128x128_3_0_0, k0_pay4 (F := Ideal) (k0_pay34 (k0_pay16 (F := Ideal) (k0_pay5 (F := Ideal) (grid0.coords t) (iblk m c 1 t)) (iblk m c 0 t) (k0_pay10 (F := Ideal) (grid0.coords t)))) (View.ld (iblk m c 2 t) (Rect.unit ![0, 384] ![512, 128] inb_S512x512_S512x128_0_384)) (View.ld (iblk m c 4 t) (Rect.unit ![0, 384] ![1, 128] inb_S1x512_S1x128_0_384)) (View.ld z (Rect.unit ![3, 0, 0] ![1, 128, 128] inb_S4x128x128_S1x128x128_3_0_0))⟩,
    ⟨Rect.unit ![2, 0, 0] ![1, 128, 128] inb_S4x128x128_S1x128x128_2_0_0, k0_pay33 (F := Ideal) (k0_pay29 (k0_pay15 (F := Ideal) (k0_pay5 (F := Ideal) (grid0.coords t) (iblk m c 1 t)) (iblk m c 0 t) (k0_pay9 (F := Ideal) (grid0.coords t)))) (View.ld (iblk m c 2 t) (Rect.unit ![0, 256] ![512, 128] inb_S512x512_S512x128_0_256)) (View.ld (iblk m c 4 t) (Rect.unit ![0, 256] ![1, 128] inb_S1x512_S1x128_0_256)) (View.ld z (Rect.unit ![2, 0, 0] ![1, 128, 128] inb_S4x128x128_S1x128x128_2_0_0))⟩,
    ⟨Rect.unit ![1, 0, 0] ![1, 128, 128] inb_S4x128x128_S1x128x128_1_0_0, k0_pay28 (F := Ideal) (k0_pay24 (k0_pay14 (F := Ideal) (k0_pay5 (F := Ideal) (grid0.coords t) (iblk m c 1 t)) (iblk m c 0 t) (k0_pay8 (F := Ideal) (grid0.coords t)))) (View.ld (iblk m c 2 t) (Rect.unit ![0, 128] ![512, 128] inb_S512x512_S512x128_0_128)) (View.ld (iblk m c 4 t) (Rect.unit ![0, 128] ![1, 128] inb_S1x512_S1x128_0_128)) (View.ld z (Rect.unit ![1, 0, 0] ![1, 128, 128] inb_S4x128x128_S1x128x128_1_0_0))⟩,
    ⟨Rect.unit ![0, 0, 0] ![1, 128, 128] inb_S4x128x128_S1x128x128_0_0_0, k0_pay23 (F := Ideal) (k0_pay13 (F := Ideal) (k0_pay7 (F := Ideal) (grid0.coords t)) (k0_pay11 (iblk m c 0 t)) (k0_pay12 (grid0.coords t) (iblk m c 1 t) (iblk m c 0 t))) (View.ld (iblk m c 2 t) (Rect.unit ![0, 0] ![512, 128] inb_S512x512_S512x128_0_0)) (View.ld (iblk m c 4 t) (Rect.unit ![0, 0] ![1, 128] inb_S1x512_S1x128_0_0)) (View.ld z (Rect.unit ![0, 0, 0] ![1, 128, 128] inb_S4x128x128_S1x128x128_0_0_0))⟩]

/-- The stores to the scale's gradient over `z`, the last first. -/
def L7 (c : Dev nD) (t : Fin cfg0.N) (z : Vec Ideal S1x512 .f32) : List (View.Piece (Elt Ideal) S1x512 .f32) :=
  [⟨Rect.unit ![0, 384] ![1, 128] inb_S1x512_S1x128_0_384, k0_pay1 (F := Ideal) (k0_pay34 (k0_pay16 (F := Ideal) (k0_pay5 (F := Ideal) (grid0.coords t) (iblk m c 1 t)) (iblk m c 0 t) (k0_pay10 (F := Ideal) (grid0.coords t)))) (View.ld (iblk m c 2 t) (Rect.unit ![0, 384] ![512, 128] inb_S512x512_S512x128_0_384)) (k0_pay35 (View.ld z (Rect.unit ![0, 384] ![1, 128] inb_S1x512_S1x128_0_384))) (View.ld (iblk m c 3 t) (Rect.unit ![3, 0, 0] ![1, 128, 128] inb_S4x128x128_S1x128x128_3_0_0))⟩,
    ⟨Rect.unit ![0, 256] ![1, 128] inb_S1x512_S1x128_0_256, k0_pay30 (F := Ideal) (k0_pay29 (k0_pay15 (F := Ideal) (k0_pay5 (F := Ideal) (grid0.coords t) (iblk m c 1 t)) (iblk m c 0 t) (k0_pay9 (F := Ideal) (grid0.coords t)))) (View.ld (iblk m c 2 t) (Rect.unit ![0, 256] ![512, 128] inb_S512x512_S512x128_0_256)) (View.ld z (Rect.unit ![0, 256] ![1, 128] inb_S1x512_S1x128_0_256)) (View.ld (iblk m c 3 t) (Rect.unit ![2, 0, 0] ![1, 128, 128] inb_S4x128x128_S1x128x128_2_0_0))⟩,
    ⟨Rect.unit ![0, 128] ![1, 128] inb_S1x512_S1x128_0_128, k0_pay25 (F := Ideal) (k0_pay24 (k0_pay14 (F := Ideal) (k0_pay5 (F := Ideal) (grid0.coords t) (iblk m c 1 t)) (iblk m c 0 t) (k0_pay8 (F := Ideal) (grid0.coords t)))) (View.ld (iblk m c 2 t) (Rect.unit ![0, 128] ![512, 128] inb_S512x512_S512x128_0_128)) (View.ld z (Rect.unit ![0, 128] ![1, 128] inb_S1x512_S1x128_0_128)) (View.ld (iblk m c 3 t) (Rect.unit ![1, 0, 0] ![1, 128, 128] inb_S4x128x128_S1x128x128_1_0_0))⟩,
    ⟨Rect.unit ![0, 0] ![1, 128] inb_S1x512_S1x128_0_0, k0_pay20 (F := Ideal) (k0_pay13 (F := Ideal) (k0_pay7 (F := Ideal) (grid0.coords t)) (k0_pay11 (iblk m c 0 t)) (k0_pay12 (grid0.coords t) (iblk m c 1 t) (iblk m c 0 t))) (View.ld (iblk m c 2 t) (Rect.unit ![0, 0] ![512, 128] inb_S512x512_S512x128_0_0)) (View.ld z (Rect.unit ![0, 0] ![1, 128] inb_S1x512_S1x128_0_0)) (View.ld (iblk m c 3 t) (Rect.unit ![0, 0, 0] ![1, 128, 128] inb_S4x128x128_S1x128x128_0_0_0))⟩]

theorem cover6 (c : Dev nD) (t : Fin cfg0.N) (z : Vec Ideal S4x128x128 .f32) (y : S4x128x128.Idx) : ∃ p ∈ L6 m c t z, y ∈ p.1.set := by
  exact View.cover_of_tiled_head _ _ _ (by rfl) _

theorem cover7 (c : Dev nD) (t : Fin cfg0.N) (z : Vec Ideal S1x512 .f32) (y : S1x512.Idx) : ∃ p ∈ L7 m c t z, y ∈ p.1.set := by
  exact View.cover_of_tiled_head _ _ _ (by rfl) _

theorem row0 (c : Dev nD) (t : Fin cfg0.N) : (fun (p : Fin 512) (k : Fin 128) => ((k0_pay13 (F := Ideal) (k0_pay7 (F := Ideal) (grid0.coords t)) (k0_pay11 (iblk m c 0 t)) (k0_pay12 (grid0.coords t) (iblk m c 1 t) (iblk m c 0 t))) (ix2 p k) : EReal)) = fun p k => row m c t p 0 k :=
  funext fun p => funext fun k => pool0 m c t p k

theorem row1 (c : Dev nD) (t : Fin cfg0.N) : (fun (p : Fin 512) (k : Fin 128) => ((k0_pay24 (k0_pay14 (F := Ideal) (k0_pay5 (F := Ideal) (grid0.coords t) (iblk m c 1 t)) (iblk m c 0 t) (k0_pay8 (F := Ideal) (grid0.coords t)))) (ix2 p k) : EReal)) = fun p k => row m c t p 1 k :=
  funext fun p => funext fun k => (low1 _ p k).trans (pool1 m c t p k)

theorem row2 (c : Dev nD) (t : Fin cfg0.N) : (fun (p : Fin 512) (k : Fin 128) => ((k0_pay29 (k0_pay15 (F := Ideal) (k0_pay5 (F := Ideal) (grid0.coords t) (iblk m c 1 t)) (iblk m c 0 t) (k0_pay9 (F := Ideal) (grid0.coords t)))) (ix2 p k) : EReal)) = fun p k => row m c t p 2 k :=
  funext fun p => funext fun k => (low2 _ p k).trans (pool2 m c t p k)

theorem row3 (c : Dev nD) (t : Fin cfg0.N) : (fun (p : Fin 512) (k : Fin 128) => ((k0_pay34 (k0_pay16 (F := Ideal) (k0_pay5 (F := Ideal) (grid0.coords t) (iblk m c 1 t)) (iblk m c 0 t) (k0_pay10 (F := Ideal) (grid0.coords t)))) (ix2 p k) : EReal)) = fun p k => row m c t p 3 k :=
  funext fun p => funext fun k => (low3 _ p k).trans (pool3 m c t p k)

theorem step6 (c : Dev nD) (t : Fin cfg0.N) (z : Vec Ideal S4x128x128 .f32) (y : S4x128x128.Idx) :
    (View.canon (L6 m c t z) y : EReal) = z y + dwAt m c t (y 0) (y 1) (y 2) := by
  unfold L6
  canon_tiles x h
  · refine (dw3 _ _ _ _ x).trans ((congrArg (fun v => z (ix3 (3 : Fin 4) (x 1) (x 2)) + dwOf v _ _ 3 (x 1) (x 2)) (row3 m c t)).trans ?_)
    have e : y = ix3 (3 : Fin 4) (x 1) (x 2) := by
      refine (Idealize.ShloMosaic.eq_ix3 y).trans ?_
      blk_point
    rw [e]
    rfl
  · refine (dw2 _ _ _ _ x).trans ((congrArg (fun v => z (ix3 (2 : Fin 4) (x 1) (x 2)) + dwOf v _ _ 2 (x 1) (x 2)) (row2 m c t)).trans ?_)
    have e : y = ix3 (2 : Fin 4) (x 1) (x 2) := by
      refine (Idealize.ShloMosaic.eq_ix3 y).trans ?_
      blk_point
    rw [e]
    rfl
  · refine (dw1 _ _ _ _ x).trans ((congrArg (fun v => z (ix3 (1 : Fin 4) (x 1) (x 2)) + dwOf v _ _ 1 (x 1) (x 2)) (row1 m c t)).trans ?_)
    have e : y = ix3 (1 : Fin 4) (x 1) (x 2) := by
      refine (Idealize.ShloMosaic.eq_ix3 y).trans ?_
      blk_point
    rw [e]
    rfl
  · refine (dw0 _ _ _ _ x).trans ((congrArg (fun v => z (ix3 (0 : Fin 4) (x 1) (x 2)) + dwOf v _ _ 0 (x 1) (x 2)) (row0 m c t)).trans ?_)
    have e : y = ix3 (0 : Fin 4) (x 1) (x 2) := by
      refine (Idealize.ShloMosaic.eq_ix3 y).trans ?_
      blk_point
    rw [e]
    rfl

theorem step7 (c : Dev nD) (t : Fin cfg0.N) (z : Vec Ideal S1x512 .f32) (g : Fin 4) (q : Fin 128) :
    (View.canon (L7 m c t z) (ix2 (0 : Fin 1) (at' g q)) : EReal) = z (ix2 (0 : Fin 1) (at' g q)) + dsAt m c t g q := by
  generalize hy : ix2 (0 : Fin 1) (at' g q) = y
  have h0 : (y 1).val = g.val * 128 + q.val := by rw [← hy]; rfl
  unfold L7
  canon_tiles x h
  · have hx : (x 1).val < 128 := (x 1).isLt
    have hg : g = 3 := Fin.ext (show g.val = 3 by omega)
    have hq : x 1 = q := Fin.ext (show (x 1).val = q.val by omega)
    refine (ds3 _ _ _ _ x).trans ((congrArg (fun v => z (ix2 (0 : Fin 1) (at' 3 (x 1))) + dsOf v _ _ 3 (x 1)) (row3 m c t)).trans ?_)
    rw [← hy, hq, hg]
    rfl
  · have hx : (x 1).val < 128 := (x 1).isLt
    have hg : g = 2 := Fin.ext (show g.val = 2 by omega)
    have hq : x 1 = q := Fin.ext (show (x 1).val = q.val by omega)
    refine (ds2 _ _ _ _ x).trans ((congrArg (fun v => z (ix2 (0 : Fin 1) (at' 2 (x 1))) + dsOf v _ _ 2 (x 1)) (row2 m c t)).trans ?_)
    rw [← hy, hq, hg]
    rfl
  · have hx : (x 1).val < 128 := (x 1).isLt
    have hg : g = 1 := Fin.ext (show g.val = 1 by omega)
    have hq : x 1 = q := Fin.ext (show (x 1).val = q.val by omega)
    refine (ds1 _ _ _ _ x).trans ((congrArg (fun v => z (ix2 (0 : Fin 1) (at' 1 (x 1))) + dsOf v _ _ 1 (x 1)) (row1 m c t)).trans ?_)
    rw [← hy, hq, hg]
    rfl
  · have hx : (x 1).val < 128 := (x 1).isLt
    have hg : g = 0 := Fin.ext (show g.val = 0 by omega)
    have hq : x 1 = q := Fin.ext (show (x 1).val = q.val by omega)
    refine (ds0 _ _ _ _ x).trans ((congrArg (fun v => z (ix2 (0 : Fin 1) (at' 0 (x 1))) + dsOf v _ _ 0 (x 1)) (row0 m c t)).trans ?_)
    rw [← hy, hq, hg]
    rfl

theorem zero6 (y : S4x128x128.Idx) : (k0_pay17 (F := Ideal) y : EReal) = 0 := by
  pointwise [k0_pay17]

theorem zero7 (y : S1x512.Idx) : (k0_pay18 (F := Ideal) y : EReal) = 0 := by
  pointwise [k0_pay18]

theorem dw_at (c : Dev nD) (t : Fin cfg0.N) (g : Fin 4) (i j : Fin 128) : dwAt m c t g i j = ∑ p : Fin 512,
    (fun l : Fin 4096 => (D m c (ix2 l (at' g j)) * S m c (ix1 (at' g j))) * val_main_v42 (F := Ideal) (X m c) (ix3 l g i))
      (⟨t.val * 512 + p.val, by have := lt8 t; omega⟩ : Fin 4096) := by
  unfold dwAt dwOf row
  exact Finset.sum_congr rfl fun p _ => Eq.trans (mul_comm _ _) (congrArg₂ (fun a b : EReal => a * b)
    (congrArg₂ (fun a b : EReal => a * b) (part2 m c t p _) (part4 m c t _)) rfl)

theorem dw_sum (c : Dev nD) (g : Fin 4) (i j : Fin 128) : (∑ t : Fin 8, dwAt m c t g i j : EReal) = val_main_v62 (F := Ideal) (X m c) (D m c) (S m c) (ix3 g i j) := by
  refine Eq.trans ?_ (ref_dw _ _ _ _ _ _).symm
  refine Eq.trans ?_ (Fin.sum_mul_add_fin 8 512 _)
  exact Finset.sum_congr rfl fun t _ => dw_at m c t g i j

theorem ds_at (c : Dev nD) (t : Fin cfg0.N) (g : Fin 4) (q : Fin 128) : dsAt m c t g q = ∑ p : Fin 512,
    (fun l : Fin 4096 => (∑ k : Fin 128, W m c (ix3 g k q) * val_main_v42 (F := Ideal) (X m c) (ix3 l g k)) * D m c (ix2 l (at' g q)))
      (⟨t.val * 512 + p.val, by have := lt8 t; omega⟩ : Fin 4096) := by
  unfold dsAt dsOf row
  exact Finset.sum_congr rfl fun p _ => Eq.trans (mul_comm _ _) (congrArg₂ (fun a b : EReal => a * b)
    (Finset.sum_congr rfl fun k _ => Eq.trans (mul_comm _ _) (congrArg₂ (fun a b : EReal => a * b) (part3 m c t _) rfl)) (part2 m c t p _))

theorem ds_sum (c : Dev nD) (g : Fin 4) (q : Fin 128) : (∑ t : Fin 8, dsAt m c t g q : EReal) = val_main_v64 (F := Ideal) (X m c) (D m c) (W m c) (ix2 (0 : Fin 1) (at' g q)) := by
  refine Eq.trans ?_ (ref_ds _ _ _ _ _).symm
  refine Eq.trans ?_ (Fin.sum_mul_add_fin 8 512 _)
  exact Finset.sum_congr rfl fun t _ => ds_at m c t g q

theorem first6 (c : Dev nD) (t : Fin cfg0.N) (h : t.val % 8 = 0) (y : S4x128x128.Idx) :
    ((outsAt0 m c t.val t.isLt).2.1 y : EReal) = 0 + dwAt m c t (y 0) (y 1) (y 2) := by
  rw [outsAt0_A m c t h]; frame_out
  simp (disch := decide) only [↓View.readCov_skip, ↓View.readCov_fill]
  refine (canon_drop [_] (L6 m c t (k0_pay17 (F := Ideal))) y (cover6 m c t _ y)).trans ((step6 m c t _ y).trans ?_)
  rw [zero6]

theorem next6 (c : Dev nD) (t : Fin cfg0.N) (h : ¬ t.val % 8 = 0) (y : S4x128x128.Idx) :
    ((outsAt0 m c t.val t.isLt).2.1 y : EReal) = (outsAt0 m c (t.val - 1) (Nat.lt_of_le_of_lt (Nat.sub_le _ _) t.isLt)).2.1 y + dwAt m c t (y 0) (y 1) (y 2) := by
  rw [outsAt0_B m c t h]; frame_out
  exact step6 m c t _ y

theorem first7 (c : Dev nD) (t : Fin cfg0.N) (h : t.val % 8 = 0) (g : Fin 4) (q : Fin 128) :
    ((outsAt0 m c t.val t.isLt).2.2 (ix2 (0 : Fin 1) (at' g q)) : EReal) = 0 + dsAt m c t g q := by
  rw [outsAt0_A m c t h]; frame_out
  simp (disch := decide) only [↓View.readCov_skip, ↓View.readCov_fill]
  refine (canon_drop [_] (L7 m c t (k0_pay18 (F := Ideal))) _ (cover7 m c t _ _)).trans ((step7 m c t _ g q).trans ?_)
  rw [zero7]

theorem next7 (c : Dev nD) (t : Fin cfg0.N) (h : ¬ t.val % 8 = 0) (g : Fin 4) (q : Fin 128) :
    ((outsAt0 m c t.val t.isLt).2.2 (ix2 (0 : Fin 1) (at' g q)) : EReal) = (outsAt0 m c (t.val - 1) (Nat.lt_of_le_of_lt (Nat.sub_le _ _) t.isLt)).2.2 (ix2 (0 : Fin 1) (at' g q)) + dsAt m c t g q := by
  rw [outsAt0_B m c t h]; frame_out
  exact step7 m c t _ g q

theorem final6 (c : Dev nD) : (dats m 0 c).arrAt 6 (cfgs 0).N
    = val_main_v62 (F := Ideal) (m ((c : Thread nD τ).loc main_arg0)) (m ((c : Thread nD τ).loc main_arg1)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => dwAt m c t (j 0) (j 1) (j 2))
    (fun t h j => first6 m c t h j)
    (fun t h j => next6 m c t h j)
    (le_of_eq N_0) t0_7 rfl j, zero_add]
  refine (dw_sum m c (j 0) (j 1) (j 2)).trans ?_
  unfold X D S
  generalize val_main_v62 (F := Ideal) (m ((c : Thread nD τ).loc main_arg0)) (m ((c : Thread nD τ).loc main_arg1)) (m ((c : Thread nD τ).loc main_arg3)) = Y
  blk_point [idx t0_7]

/-- The scale's gradient at column `q` of group `g`, at each point. -/
theorem col7 (c : Dev nD) (g : Fin 4) (q : Fin 128) : ((outsAt0 m c t0_7.val t0_7.isLt).2.2 (ix2 (0 : Fin 1) (at' g q)) : EReal)
    = val_main_v64 (F := Ideal) (X m c) (D m c) (W m c) (ix2 (0 : Fin 1) (at' g q)) := by
  have e := Pipeline.eq_sum_fin_of_reset_step_apply_last (fun n h (_ : Unit) => ((outsAt0 m c n h).2.2 (ix2 (0 : Fin 1) (at' g q)) : EReal)) 8 (fun _ => 0)
    (fun t _ => dsAt m c t g q)
    (fun t h _ => first7 m c t h g q)
    (fun t h _ => next7 m c t h g q)
    (le_of_eq N_0) t0_7 rfl ()
  rw [zero_add] at e
  exact e.trans (ds_sum m c g q)

theorem split7 (j : S1x512.Idx) : ∃ (g : Fin 4) (q : Fin 128), j = ix2 (0 : Fin 1) (at' g q) := by
  have h0 : (j 0).val < 1 := (j 0).isLt
  have h1 : (j 1).val < 512 := (j 1).isLt
  refine ⟨⟨(j 1).val / 128, by omega⟩, ⟨(j 1).val % 128, Nat.mod_lt _ (by decide)⟩, (Idealize.ShloMosaic.eq_ix2 j).trans ?_⟩
  refine congrArg₂ (fun a b => ix2 a b) (Fin.ext (show (j 0).val = 0 by omega)) (Fin.ext (show (j 1).val = (j 1).val / 128 * 128 + (j 1).val % 128 by omega))

theorem final7 (c : Dev nD) : (dats m 0 c).arrAt 7 (cfgs 0).N
    = val_main_v64 (F := Ideal) (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7]
  obtain ⟨g, q, rfl⟩ := split7 j
  refine (col7 m c g q).trans ?_
  unfold X D W
  generalize val_main_v64 (F := Ideal) (m ((c : Thread nD τ).loc main_arg0)) (m ((c : Thread nD τ).loc main_arg1)) (m ((c : Thread nD τ).loc main_arg2)) = Y
  blk_point [idx t0_7, at']

end Cert.PoolWIdeal.Val
-- ==== Proof.PoolWClaim.lean ====
/- The two claims about the gradient of the pooling's weights that the generated frames do not give: the reference's frame, and equal results. -/
module

public import proofs.«01_k».proof.Defs
public import proofs.«01_k».proof.Proof.Gen.PoolWIdeal.Frame
public import proofs.«01_k».proof.Proof.Gen.PoolWRefIdeal.Read
public import proofs.«01_k».proof.Proof.PoolWVal
public import Idealize.ShloMosaic.Lib.Claim
public import Idealize.ShloMosaic.Init

@[expose] public section

set_option maxRecDepth 16384

noncomputable section

open Idealize.ShloMosaic Idealize.ShloMosaic.TcCoe Idealize.SL.Sem

namespace Cert.PoolWClaim

/-- The reference's own run leaves its arguments as they were. -/
theorem refKeeps (m : (ℓ : Loc Cert.PoolWRefIdeal.nD Cert.PoolWRefIdeal.τ Cert.PoolWRefIdeal.sig) → Buf (Elt Ideal) ℓ) (ρ) :
    θ_run (Cert.PoolWRefIdeal.defs (F := Ideal)) (onTc (τ := Cert.PoolWRefIdeal.τ) (Cert.PoolWRefIdeal.main (F := Ideal))) ⟨m, fun _ => 0, ρ⟩ fun r => ∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1)
      ∧ r.2.mem ((c.tc : Thread Cert.PoolWRefIdeal.nD Cert.PoolWRefIdeal.τ).loc Cert.PoolWRefIdeal.main_arg2) = m ((c.tc : Thread Cert.PoolWRefIdeal.nD Cert.PoolWRefIdeal.τ).loc Cert.PoolWRefIdeal.main_arg2)
      ∧ r.2.mem ((c.tc : Thread Cert.PoolWRefIdeal.nD Cert.PoolWRefIdeal.τ).loc Cert.PoolWRefIdeal.main_arg3) = m ((c.tc : Thread Cert.PoolWRefIdeal.nD Cert.PoolWRefIdeal.τ).loc Cert.PoolWRefIdeal.main_arg3) :=
  (θ_run Cert.PoolWRefIdeal.defs _ _).mono (fun r h c => (h c).2.2.2) (Cert.PoolWRefIdeal.Value.run (F := Ideal) m ρ)

/-- The reference declares no semaphore. -/
theorem refFrame : Cert.quiescent_PoolWRefIdeal := fun m ρ _ =>
  (θ_run Cert.PoolWRefIdeal.defs _ _).mono (fun r h => ⟨h, Idealize.ShloMosaic.sem_eq_zero_of_no_sems (by decide) r.2⟩) (refKeeps m ρ)

/-- The reference's results as its named stages. -/
theorem refRun (m : (ℓ : Loc Cert.PoolWRefIdeal.nD Cert.PoolWRefIdeal.τ Cert.PoolWRefIdeal.sig) → Buf (Elt Ideal) ℓ) (ρ) :
    θ_run (Cert.PoolWRefIdeal.defs (F := Ideal)) (onTc (τ := Cert.PoolWRefIdeal.τ) (Cert.PoolWRefIdeal.main (F := Ideal))) ⟨m, fun _ => 0, ρ⟩ fun r => ∀ c : Dev Cert.PoolWRefIdeal.nD,
      r.2.mem ((c.tc : Thread Cert.PoolWRefIdeal.nD Cert.PoolWRefIdeal.τ).loc Cert.PoolWRefIdeal.main_v63)
          = Cert.PoolWRefIdeal.Read.val_main_v63 (F := Ideal) (m ((c.tc : Thread Cert.PoolWRefIdeal.nD Cert.PoolWRefIdeal.τ).loc Cert.PoolWRefIdeal.main_arg1)) (m ((c.tc : Thread Cert.PoolWRefIdeal.nD Cert.PoolWRefIdeal.τ).loc Cert.PoolWRefIdeal.main_arg2)) (m ((c.tc : Thread Cert.PoolWRefIdeal.nD Cert.PoolWRefIdeal.τ).loc Cert.PoolWRefIdeal.main_arg3))
      ∧ r.2.mem ((c.tc : Thread Cert.PoolWRefIdeal.nD Cert.PoolWRefIdeal.τ).loc Cert.PoolWRefIdeal.main_v62)
          = Cert.PoolWRefIdeal.Read.val_main_v62 (F := Ideal) (m ((c.tc : Thread Cert.PoolWRefIdeal.nD Cert.PoolWRefIdeal.τ).loc Cert.PoolWRefIdeal.main_arg0)) (m ((c.tc : Thread Cert.PoolWRefIdeal.nD Cert.PoolWRefIdeal.τ).loc Cert.PoolWRefIdeal.main_arg1)) (m ((c.tc : Thread Cert.PoolWRefIdeal.nD Cert.PoolWRefIdeal.τ).loc Cert.PoolWRefIdeal.main_arg3))
      ∧ r.2.mem ((c.tc : Thread Cert.PoolWRefIdeal.nD Cert.PoolWRefIdeal.τ).loc Cert.PoolWRefIdeal.main_v64)
          = Cert.PoolWRefIdeal.Read.val_main_v64 (F := Ideal) (m ((c.tc : Thread Cert.PoolWRefIdeal.nD Cert.PoolWRefIdeal.τ).loc Cert.PoolWRefIdeal.main_arg0)) (m ((c.tc : Thread Cert.PoolWRefIdeal.nD Cert.PoolWRefIdeal.τ).loc Cert.PoolWRefIdeal.main_arg1)) (m ((c.tc : Thread Cert.PoolWRefIdeal.nD Cert.PoolWRefIdeal.τ).loc Cert.PoolWRefIdeal.main_arg2)) :=
  (θ_run Cert.PoolWRefIdeal.defs _ _).mono (fun r h c => ⟨(h c).1.trans (Cert.PoolWRefIdeal.Read.val_main_v63_eq _ _ _), (h c).2.1.trans (Cert.PoolWRefIdeal.Read.val_main_v62_eq _ _ _), (h c).2.2.1.trans (Cert.PoolWRefIdeal.Read.val_main_v64_eq _ _ _)⟩)
    (Cert.PoolWRefIdeal.Value.run (F := Ideal) m ρ)

/-- The kernel's result arrays and the reference's agree over the extended reals. -/
theorem algebraic : Cert.algebraic_PoolWIdeal_PoolWRefIdeal := by
  intro m g m' g' _ hagree
  refine ⟨fun c => Cert.PoolWRefIdeal.Read.val_main_v63 (F := Ideal) (m ((c.tc : Thread Cert.PoolWIdeal.nD Cert.PoolWIdeal.τ).loc Cert.PoolWIdeal.main_arg1)) (m ((c.tc : Thread Cert.PoolWIdeal.nD Cert.PoolWIdeal.τ).loc Cert.PoolWIdeal.main_arg2)) (m ((c.tc : Thread Cert.PoolWIdeal.nD Cert.PoolWIdeal.τ).loc Cert.PoolWIdeal.main_arg3)),
    fun c => Cert.PoolWRefIdeal.Read.val_main_v62 (F := Ideal) (m ((c.tc : Thread Cert.PoolWIdeal.nD Cert.PoolWIdeal.τ).loc Cert.PoolWIdeal.main_arg0)) (m ((c.tc : Thread Cert.PoolWIdeal.nD Cert.PoolWIdeal.τ).loc Cert.PoolWIdeal.main_arg1)) (m ((c.tc : Thread Cert.PoolWIdeal.nD Cert.PoolWIdeal.τ).loc Cert.PoolWIdeal.main_arg3)),
    fun c => Cert.PoolWRefIdeal.Read.val_main_v64 (F := Ideal) (m ((c.tc : Thread Cert.PoolWIdeal.nD Cert.PoolWIdeal.τ).loc Cert.PoolWIdeal.main_arg0)) (m ((c.tc : Thread Cert.PoolWIdeal.nD Cert.PoolWIdeal.τ).loc Cert.PoolWIdeal.main_arg1)) (m ((c.tc : Thread Cert.PoolWIdeal.nD Cert.PoolWIdeal.τ).loc Cert.PoolWIdeal.main_arg2)), ?_, ?_⟩
  · exact (θ_run Cert.PoolWIdeal.defs _ _).mono (fun r h c => ⟨((h.2 c).1 5).trans (Cert.PoolWIdeal.Val.final5 m c), ((h.2 c).1 6).trans (Cert.PoolWIdeal.Val.final6 m c), ((h.2 c).1 7).trans (Cert.PoolWIdeal.Val.final7 m c), h.1 c⟩)
      (θ_run_and (Cert.PoolWIdeal.Gen.unchanged m g) (Cert.PoolWIdeal.Gen.run_main m g))
  · exact (θ_run Cert.PoolWRefIdeal.defs _ _).mono (fun r h c => ⟨(h.2 c).1.trans (by rw [(hagree c).2.1, (hagree c).2.2.1, (hagree c).2.2.2]),
      (h.2 c).2.1.trans (by rw [(hagree c).1, (hagree c).2.1, (hagree c).2.2.2]),
      (h.2 c).2.2.trans (by rw [(hagree c).1, (hagree c).2.1, (hagree c).2.2.1]), h.1 c⟩)
      (θ_run_and (refKeeps m' g') (refRun m' g'))

end Cert.PoolWClaim

end
-- ==== Proof.PoolFwdVal.lean ====
/- The pool mixer forward: what the kernel leaves in its result array equals the reference. -/
module

public import proofs.«01_k».proof.Proof.Gen.PoolFwdIdeal.Frame
public import proofs.«01_k».proof.Proof.Gen.PoolFwdRefIdeal.Read
public import proofs.«01_k».proof.Proof.PoolMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.PoolFwdIdeal.Val

open Cert.PoolFwdIdeal Cert.PoolFwdIdeal.Gen
open Cert.PoolFwdRefIdeal.Read

/-! The reference. -/

theorem ref_win (g : Fin 4) : val_main_v11 (F := Ideal) (ix1 g) = BitVec.ofNat 32 (2 ^ (g.val + 1)) := by
  pointwise [val_main_v11, val_main_v10, val_main_v9, val_main_v8, val_main_v7, val_main_v6, val_main_v5, val_main_v4, val_main_v3, val_main_v1, val_main_c, val_main_c_0, val_main_c_1, val_main_c_2, val_main_c_3, val_main_c_4, val_main_c_5, val_main_call0_v0, val_main_call0_v1, val_main_call1_v0, val_main_call2_v0]
  fin_cases g <;> rfl

theorem ref_band (g : Fin 4) (t s : Fin 4096) : (val_main_v27 (F := Ideal) (ix3 g t s) : EReal) = if s.val ≤ t.val ∧ t.val < s.val + 2 ^ (g.val + 1) then 1 else 0 := by
  pointwise [val_main_v27, val_main_v26, val_main_v25, val_main_v24, val_main_v16, val_main_v23, val_main_v22, val_main_v21, val_main_v20, val_main_v19, val_main_v18, val_main_v17, val_main_v15, val_main_v14, val_main_v13, val_main_v12, val_main_v2, val_main_call3_v0, val_main_call3_v1, val_main_cst, val_main_cst_6, id]
  rw [ref_win, Pool.band_word s.val t.val (2 ^ (g.val + 1)) s.isLt t.isLt (by fin_cases g <;> decide)]
  split_ifs <;> rfl

theorem ref_cnt (g : Fin 4) (s : Fin 4096) : (val_main_v36 (F := Ideal) (ix2 s g) : EReal) = (((min (s.val + 1) (2 ^ (g.val + 1)) : ℕ) : ℤ) : ℝ) := by
  pointwise [val_main_v36, val_main_v35, val_main_v34, val_main_v33, val_main_v32, val_main_v31, val_main_v30, val_main_v29, val_main_v28, val_main_v2, val_main_c_7, id]
  rw [ref_win]
  exact congrArg (fun z : ℤ => ((z : ℝ) : EReal)) (Pool.toInt_count s.val (2 ^ (g.val + 1)) (by omega) (by fin_cases g <;> decide))

/-- A column's mean over the last `w` tokens, minus the token itself. -/
def pooled (x : Fin 4096 → EReal) (w : ℕ) (t : Fin 4096) : EReal :=
  (∑ d ∈ Finset.range w, Pool.before x t.val d) * Ideal.div 1 (((((min (t.val + 1) w : ℕ) : ℤ) : ℝ)) : EReal) - x t

theorem ref_pooled (x : FVec Ideal S4096x512 .f32) (t : Fin 4096) (g : Fin 4) (q : Fin 128) :
    (val_main_v42 (F := Ideal) x (ix3 t g q) : EReal) = pooled (fun s => x (ix2 s (⟨g.val * 128 + q.val, by omega⟩ : Fin 512))) (2 ^ (g.val + 1)) t := by
  unfold pooled
  rw [← Pool.band_behind _ _ _ t.isLt, ← Pool.div_count _ _ (by have := Nat.two_pow_pos (g.val + 1); omega)]
  pointwise [val_main_v42, val_main_v41, val_main_v40, val_main_v39, val_main_v38, val_main_v37, val_main_v0]
  rw [ref_cnt]
  refine congrArg (fun z : EReal => Ideal.div z _ - _) (Finset.sum_congr rfl fun s _ => ?_)
  rw [ref_band, mul_comm]

/-! The kernel's pooled rows. -/

def A0 (v3 : FVec Ideal S16x512 .f32) : FVec Ideal S16x128 .f32 := extractStridedSlice S16x128 ![0, 0] v3 slices_S16x512_o0_0_S16x128

def B0 (x : Vec Ideal S512x512 .f32) : FVec Ideal S512x128 .f32 := extractStridedSlice S512x128 ![0, 0] x slices_S512x512_o0_0_S512x128

theorem A0_at (v3 : FVec Ideal S16x512 .f32) (p : Fin 16) (q : Fin 128) : (A0 v3 (ix2 p q) : EReal) = v3 (ix2 p (⟨0 + q.val, by omega⟩ : Fin 512)) := by
  pointwise [A0]

theorem B0_at (x : Vec Ideal S512x512 .f32) (p : Fin 512) (q : Fin 128) : (B0 x (ix2 p q) : EReal) = x (ix2 p (⟨0 + q.val, by omega⟩ : Fin 512)) := by
  pointwise [B0]

theorem pay0 (v3 : FVec Ideal S16x512 .f32) (x : Vec Ideal S512x512 .f32) (r : FVec Ideal S512x1 .f32) (p : Fin 512) (q : Fin 128) :
    (k0_pay13 (F := Ideal) r (B0 x) (concatenate S528x128 0 [⟨S16x128, A0 v3⟩, ⟨S512x128, B0 x⟩] concatenates_S16x128_S512x128_S528x128_d0) (ix2 p q) : EReal)
      = (∑ d ∈ Finset.range 2, Pool.col (concatenate S528x128 0 [⟨S16x128, A0 v3⟩, ⟨S512x128, B0 x⟩] concatenates_S16x128_S512x128_S528x128_d0) q (16 + p.val - d)) * r (ix2 p (0 : Fin 1)) - x (ix2 p (⟨0 + q.val, by omega⟩ : Fin 512)) := by
  have hp := p.isLt
  have e := (Pool.back1 1#32 rfl (concatenate S528x128 0 [⟨S16x128, A0 v3⟩, ⟨S512x128, B0 x⟩] concatenates_S16x128_S512x128_S528x128_d0) rotates_S528x128_d0 q) (16 + p.val) (by omega) (by omega)
  rw [Pool.col_val _ _ _ (by omega)] at e
  unfold k0_pay13
  refine Eq.trans ?_ (congrArg (fun z : EReal => z * r (ix2 p (0 : Fin 1)) - x (ix2 p (⟨0 + q.val, by omega⟩ : Fin 512))) e)
  clear e
  unfold A0 B0
  generalize hY : (addf _ _ : FVec Ideal S528x128 .f32) = Y
  pointwise

def A1 (v3 : FVec Ideal S16x512 .f32) : FVec Ideal S16x128 .f32 := extractStridedSlice S16x128 ![0, 128] v3 slices_S16x512_o0_128_S16x128

def B1 (x : Vec Ideal S512x512 .f32) : FVec Ideal S512x128 .f32 := extractStridedSlice S512x128 ![0, 128] x slices_S512x512_o0_128_S512x128

theorem A1_at (v3 : FVec Ideal S16x512 .f32) (p : Fin 16) (q : Fin 128) : (A1 v3 (ix2 p q) : EReal) = v3 (ix2 p (⟨128 + q.val, by omega⟩ : Fin 512)) := by
  pointwise [A1]

theorem B1_at (x : Vec Ideal S512x512 .f32) (p : Fin 512) (q : Fin 128) : (B1 x (ix2 p q) : EReal) = x (ix2 p (⟨128 + q.val, by omega⟩ : Fin 512)) := by
  pointwise [B1]

theorem pay1 (v3 : FVec Ideal S16x512 .f32) (x : Vec Ideal S512x512 .f32) (r : FVec Ideal S512x1 .f32) (p : Fin 512) (q : Fin 128) :
    (k0_pay10 (F := Ideal) v3 x r (ix2 p q) : EReal)
      = (∑ d ∈ Finset.range 4, Pool.col (concatenate S528x128 0 [⟨S16x128, A1 v3⟩, ⟨S512x128, B1 x⟩] concatenates_S16x128_S512x128_S528x128_d0) q (16 + p.val - d)) * r (ix2 p (0 : Fin 1)) - x (ix2 p (⟨128 + q.val, by omega⟩ : Fin 512)) := by
  have hp := p.isLt
  have e := (Pool.back 2#32 2 (by omega) rfl (concatenate S528x128 0 [⟨S16x128, A1 v3⟩, ⟨S512x128, B1 x⟩] concatenates_S16x128_S512x128_S528x128_d0) _ rotates_S528x128_d0 q (Pool.back1 1#32 rfl (concatenate S528x128 0 [⟨S16x128, A1 v3⟩, ⟨S512x128, B1 x⟩] concatenates_S16x128_S512x128_S528x128_d0) rotates_S528x128_d0 q)) (16 + p.val) (by omega) (by omega)
  rw [Pool.col_val _ _ _ (by omega)] at e
  unfold k0_pay10
  refine Eq.trans ?_ (congrArg (fun z : EReal => z * r (ix2 p (0 : Fin 1)) - x (ix2 p (⟨128 + q.val, by omega⟩ : Fin 512))) e)
  clear e
  unfold A1 B1
  generalize hY : (addf _ _ : FVec Ideal S528x128 .f32) = Y
  pointwise

def A2 (v3 : FVec Ideal S16x512 .f32) : FVec Ideal S16x128 .f32 := extractStridedSlice S16x128 ![0, 256] v3 slices_S16x512_o0_256_S16x128

def B2 (x : Vec Ideal S512x512 .f32) : FVec Ideal S512x128 .f32 := extractStridedSlice S512x128 ![0, 256] x slices_S512x512_o0_256_S512x128

theorem A2_at (v3 : FVec Ideal S16x512 .f32) (p : Fin 16) (q : Fin 128) : (A2 v3 (ix2 p q) : EReal) = v3 (ix2 p (⟨256 + q.val, by omega⟩ : Fin 512)) := by
  pointwise [A2]

theorem B2_at (x : Vec Ideal S512x512 .f32) (p : Fin 512) (q : Fin 128) : (B2 x (ix2 p q) : EReal) = x (ix2 p (⟨256 + q.val, by omega⟩ : Fin 512)) := by
  pointwise [B2]

theorem pay2 (v3 : FVec Ideal S16x512 .f32) (x : Vec Ideal S512x512 .f32) (r : FVec Ideal S512x1 .f32) (p : Fin 512) (q : Fin 128) :
    (k0_pay11 (F := Ideal) v3 x r (ix2 p q) : EReal)
      = (∑ d ∈ Finset.range 8, Pool.col (concatenate S528x128 0 [⟨S16x128, A2 v3⟩, ⟨S512x128, B2 x⟩] concatenates_S16x128_S512x128_S528x128_d0) q (16 + p.val - d)) * r (ix2 p (0 : Fin 1)) - x (ix2 p (⟨256 + q.val, by omega⟩ : Fin 512)) := by
  have hp := p.isLt
  have e := (Pool.back 4#32 4 (by omega) rfl (concatenate S528x128 0 [⟨S16x128, A2 v3⟩, ⟨S512x128, B2 x⟩] concatenates_S16x128_S512x128_S528x128_d0) _ rotates_S528x128_d0 q (Pool.back 2#32 2 (by omega) rfl (concatenate S528x128 0 [⟨S16x128, A2 v3⟩, ⟨S512x128, B2 x⟩] concatenates_S16x128_S512x128_S528x128_d0) _ rotates_S528x128_d0 q (Pool.back1 1#32 rfl (concatenate S528x128 0 [⟨S16x128, A2 v3⟩, ⟨S512x128, B2 x⟩] concatenates_S16x128_S512x128_S528x128_d0) rotates_S528x128_d0 q))) (16 + p.val) (by omega) (by omega)
  rw [Pool.col_val _ _ _ (by omega)] at e
  unfold k0_pay11
  refine Eq.trans ?_ (congrArg (fun z : EReal => z * r (ix2 p (0 : Fin 1)) - x (ix2 p (⟨256 + q.val, by omega⟩ : Fin 512))) e)
  clear e
  unfold A2 B2
  generalize hY : (addf _ _ : FVec Ideal S528x128 .f32) = Y
  pointwise

def A3 (v3 : FVec Ideal S16x512 .f32) : FVec Ideal S16x128 .f32 := extractStridedSlice S16x128 ![0, 384] v3 slices_S16x512_o0_384_S16x128

def B3 (x : Vec Ideal S512x512 .f32) : FVec Ideal S512x128 .f32 := extractStridedSlice S512x128 ![0, 384] x slices_S512x512_o0_384_S512x128

theorem A3_at (v3 : FVec Ideal S16x512 .f32) (p : Fin 16) (q : Fin 128) : (A3 v3 (ix2 p q) : EReal) = v3 (ix2 p (⟨384 + q.val, by omega⟩ : Fin 512)) := by
  pointwise [A3]

theorem B3_at (x : Vec Ideal S512x512 .f32) (p : Fin 512) (q : Fin 128) : (B3 x (ix2 p q) : EReal) = x (ix2 p (⟨384 + q.val, by omega⟩ : Fin 512)) := by
  pointwise [B3]

theorem pay3 (v3 : FVec Ideal S16x512 .f32) (x : Vec Ideal S512x512 .f32) (r : FVec Ideal S512x1 .f32) (p : Fin 512) (q : Fin 128) :
    (k0_pay12 (F := Ideal) v3 x r (ix2 p q) : EReal)
      = (∑ d ∈ Finset.range 16, Pool.col (concatenate S528x128 0 [⟨S16x128, A3 v3⟩, ⟨S512x128, B3 x⟩] concatenates_S16x128_S512x128_S528x128_d0) q (16 + p.val - d)) * r (ix2 p (0 : Fin 1)) - x (ix2 p (⟨384 + q.val, by omega⟩ : Fin 512)) := by
  have hp := p.isLt
  have e := (Pool.back 8#32 8 (by omega) rfl (concatenate S528x128 0 [⟨S16x128, A3 v3⟩, ⟨S512x128, B3 x⟩] concatenates_S16x128_S512x128_S528x128_d0) _ rotates_S528x128_d0 q (Pool.back 4#32 4 (by omega) rfl (concatenate S528x128 0 [⟨S16x128, A3 v3⟩, ⟨S512x128, B3 x⟩] concatenates_S16x128_S512x128_S528x128_d0) _ rotates_S528x128_d0 q (Pool.back 2#32 2 (by omega) rfl (concatenate S528x128 0 [⟨S16x128, A3 v3⟩, ⟨S512x128, B3 x⟩] concatenates_S16x128_S512x128_S528x128_d0) _ rotates_S528x128_d0 q (Pool.back1 1#32 rfl (concatenate S528x128 0 [⟨S16x128, A3 v3⟩, ⟨S512x128, B3 x⟩] concatenates_S16x128_S512x128_S528x128_d0) rotates_S528x128_d0 q)))) (16 + p.val) (by omega) (by omega)
  rw [Pool.col_val _ _ _ (by omega)] at e
  unfold k0_pay12
  refine Eq.trans ?_ (congrArg (fun z : EReal => z * r (ix2 p (0 : Fin 1)) - x (ix2 p (⟨384 + q.val, by omega⟩ : Fin 512))) e)
  clear e
  unfold A3 B3
  generalize hY : (addf _ _ : FVec Ideal S528x128 .f32) = Y
  pointwise

/-! The blocks the kernel reads. -/

variable (m : (ℓ : Loc nD τ sig) → Buf (Elt Ideal) ℓ)

theorem idx : ∀ t : Fin cfg0.N, win0_0.index t = ![t.val, 0]
    ∧ win0_1.index t = ![t.val * 32 - 1, 0]
    ∧ win0_2.index t = ![0, 0, 0]
    ∧ win0_3.index t = ![0, 0]
    ∧ win0_4.index t = ![t.val, 0] :=
  (by decide +kernel : ∀ t : Fin grid0.N, _)

theorem crd : ∀ t : Fin cfg0.N, (grid0.coords t 0).val = t.val ∧ Scalar.cmpi .eq (BitVec.ofNat 32 (grid0.coords t 0).val) 0#32 = if t.val = 0 then 1#1 else 0#1 :=
  (by decide +kernel : ∀ t : Fin grid0.N, _)

theorem lt8 (t : Fin cfg0.N) : t.val < 8 := lt_of_lt_of_eq t.isLt N_0

/-- The array the kernel pools, on device `c`. -/
def X (c : Dev nD) : FVec Ideal S4096x512 .f32 := m ((c : Thread nD τ).loc main_arg0)

theorem part0 (c : Dev nD) (t : Fin cfg0.N) (p : Fin 512) (k : Fin 512) :
    (iblk m c 0 t (ix2 p k) : EReal) = X m c (ix2 (⟨t.val * 512 + p.val, by have := lt8 t; omega⟩ : Fin 4096) k) := by
  unfold X
  blk_simp [iblk]
  blk_point [V, idx t]

theorem part1 (c : Dev nD) (t : Fin cfg0.N) (h : t.val ≠ 0) (p : Fin 16) (k : Fin 512) :
    (iblk m c 1 t (ix2 p k) : EReal) = X m c (ix2 (⟨t.val * 512 + p.val - 16, by have := lt8 t; omega⟩ : Fin 4096) k) := by
  have h8 := lt8 t
  unfold X
  blk_simp [iblk]
  blk_point [V, idx t]

theorem halo (c : Dev nD) (t : Fin cfg0.N) (p : Fin 16) (k : Fin 512) :
    (k0_pay2 (F := Ideal) (grid0.coords t) (iblk m c 1 t) (ix2 p k) : EReal)
      = if h : t.val = 0 then 0 else X m c (ix2 (⟨t.val * 512 + p.val - 16, by have := lt8 t; omega⟩ : Fin 4096) k) := by
  have e : ∀ v : Vec Ideal S16x512 .f32, (k0_pay2 (F := Ideal) (grid0.coords t) v (ix2 p k) : EReal) = Scalar.select (Scalar.cmpi .eq (BitVec.ofNat 32 (grid0.coords t 0).val) 0#32) 0 (v (ix2 p k)) := fun v => by
    pointwise [k0_pay2]
  rw [e, (crd t).2]
  by_cases h : t.val = 0
  · rw [if_pos h, dif_pos h]; rfl
  · rw [if_neg h, dif_neg h]; exact part1 m c t h p k

theorem col_at (t : Fin cfg0.N) (f : Fin 4096 → EReal) (A : FVec Ideal S16x128 .f32) (B : FVec Ideal S512x128 .f32) (q : Fin 128)
    (hA : ∀ p : Fin 16, (A (ix2 p q) : EReal) = if h : t.val = 0 then 0 else f (⟨t.val * 512 + p.val - 16, by have := lt8 t; omega⟩ : Fin 4096))
    (hB : ∀ p : Fin 512, (B (ix2 p q) : EReal) = f (⟨t.val * 512 + p.val, by have := lt8 t; omega⟩ : Fin 4096))
    (p : Fin 512) (d : ℕ) (hd : d < 16) :
    Pool.col (concatenate S528x128 0 [⟨S16x128, A⟩, ⟨S512x128, B⟩] concatenates_S16x128_S512x128_S528x128_d0) q (16 + p.val - d) = Pool.before f (t.val * 512 + p.val) d := by
  have h8 := lt8 t
  have hp := p.isLt
  rw [Pool.col_behind _ _ _ _ _ (by omega)]
  unfold Pool.before
  by_cases h : 16 + p.val - d < 16
  · rw [dif_pos h, hA]
    by_cases ht : t.val = 0
    · rw [dif_pos ht, if_neg (by omega)]
    · rw [dif_neg ht, if_pos (by omega)]
      refine Eq.trans ?_ (Pool.ext_val f (⟨t.val * 512 + p.val - d, by omega⟩ : Fin 4096)).symm
      exact congrArg f (Fin.ext (show t.val * 512 + (16 + p.val - d) - 16 = t.val * 512 + p.val - d by omega))
  · rw [dif_neg h, hB, if_pos (by omega)]
    refine Eq.trans ?_ (Pool.ext_val f (⟨t.val * 512 + p.val - d, by omega⟩ : Fin 4096)).symm
    exact congrArg f (Fin.ext (show t.val * 512 + (16 + p.val - d - 16) = t.val * 512 + p.val - d by omega))

theorem inv0 (t : Fin cfg0.N) (p : Fin 512) : (k0_pay4 (F := Ideal) (grid0.coords t) (ix2 p (0 : Fin 1)) : EReal) = Ideal.div 1 (((((min (t.val * 512 + p.val + 1) 2 : ℕ) : ℤ) : ℝ)) : EReal) := by
  pointwise [k0_pay4, k0_pay3]
  refine congrArg (Ideal.div 1) (congrArg (fun z : ℤ => ((z : ℝ) : EReal)) ?_)
  rw [(crd t).1]
  exact Pool.cnt_word t.val p.val 2 (lt8 t) p.isLt (by decide)

theorem pool0 (c : Dev nD) (t : Fin cfg0.N) (p : Fin 512) (q : Fin 128) :
    (k0_pay13 (F := Ideal) (k0_pay4 (F := Ideal) (grid0.coords t)) (k0_pay8 (iblk m c 0 t)) (k0_pay9 (grid0.coords t) (iblk m c 1 t) (iblk m c 0 t)) (ix2 p q) : EReal)
      = val_main_v42 (F := Ideal) (X m c) (ix3 (⟨t.val * 512 + p.val, by have := lt8 t; omega⟩ : Fin 4096) (0 : Fin 4) q) := by
  have h8 := lt8 t
  refine (pay0 (k0_pay2 (F := Ideal) (grid0.coords t) (iblk m c 1 t)) (iblk m c 0 t) (k0_pay4 (F := Ideal) (grid0.coords t)) p q).trans (Eq.trans ?_
    (ref_pooled (X m c) (⟨t.val * 512 + p.val, by omega⟩ : Fin 4096) 0 q).symm)
  have hk : (⟨(((0 : Fin 4)).val) * 128 + q.val, by omega⟩ : Fin 512) = (⟨0 + q.val, by omega⟩ : Fin 512) := Fin.ext (by simp)
  rw [hk]
  refine congrArg₂ (fun a b : EReal => a - b) (congrArg₂ (fun a b : EReal => a * b) (Finset.sum_congr rfl fun d hd => ?_) (inv0 t p)) (part0 m c t p _)
  have hd' : d < 2 := Finset.mem_range.mp hd
  refine col_at t (fun s => X m c (ix2 s (⟨0 + q.val, by omega⟩ : Fin 512))) _ _ q (fun p => ?_) (fun p => ?_) p d (by omega)
  · exact (A0_at _ p q).trans (halo m c t p _)
  · exact (B0_at _ p q).trans (part0 m c t p _)

theorem inv1 (t : Fin cfg0.N) (p : Fin 512) : (k0_pay5 (F := Ideal) (grid0.coords t) (ix2 p (0 : Fin 1)) : EReal) = Ideal.div 1 (((((min (t.val * 512 + p.val + 1) 4 : ℕ) : ℤ) : ℝ)) : EReal) := by
  pointwise [k0_pay5, k0_pay3]
  refine congrArg (Ideal.div 1) (congrArg (fun z : ℤ => ((z : ℝ) : EReal)) ?_)
  rw [(crd t).1]
  exact Pool.cnt_word t.val p.val 4 (lt8 t) p.isLt (by decide)

theorem pool1 (c : Dev nD) (t : Fin cfg0.N) (p : Fin 512) (q : Fin 128) :
    (k0_pay10 (F := Ideal) (k0_pay2 (F := Ideal) (grid0.coords t) (iblk m c 1 t)) (iblk m c 0 t) (k0_pay5 (F := Ideal) (grid0.coords t)) (ix2 p q) : EReal)
      = val_main_v42 (F := Ideal) (X m c) (ix3 (⟨t.val * 512 + p.val, by have := lt8 t; omega⟩ : Fin 4096) (1 : Fin 4) q) := by
  have h8 := lt8 t
  refine (pay1 (k0_pay2 (F := Ideal) (grid0.coords t) (iblk m c 1 t)) (iblk m c 0 t) (k0_pay5 (F := Ideal) (grid0.coords t)) p q).trans (Eq.trans ?_
    (ref_pooled (X m c) (⟨t.val * 512 + p.val, by omega⟩ : Fin 4096) 1 q).symm)
  have hk : (⟨(((1 : Fin 4)).val) * 128 + q.val, by omega⟩ : Fin 512) = (⟨128 + q.val, by omega⟩ : Fin 512) := Fin.ext (by simp)
  rw [hk]
  refine congrArg₂ (fun a b : EReal => a - b) (congrArg₂ (fun a b : EReal => a * b) (Finset.sum_congr rfl fun d hd => ?_) (inv1 t p)) (part0 m c t p _)
  have hd' : d < 4 := Finset.mem_range.mp hd
  refine col_at t (fun s => X m c (ix2 s (⟨128 + q.val, by omega⟩ : Fin 512))) _ _ q (fun p => ?_) (fun p => ?_) p d (by omega)
  · exact (A1_at _ p q).trans (halo m c t p _)
  · exact (B1_at _ p q).trans (part0 m c t p _)

theorem inv2 (t : Fin cfg0.N) (p : Fin 512) : (k0_pay6 (F := Ideal) (grid0.coords t) (ix2 p (0 : Fin 1)) : EReal) = Ideal.div 1 (((((min (t.val * 512 + p.val + 1) 8 : ℕ) : ℤ) : ℝ)) : EReal) := by
  pointwise [k0_pay6, k0_pay3]
  refine congrArg (Ideal.div 1) (congrArg (fun z : ℤ => ((z : ℝ) : EReal)) ?_)
  rw [(crd t).1]
  exact Pool.cnt_word t.val p.val 8 (lt8 t) p.isLt (by decide)

theorem pool2 (c : Dev nD) (t : Fin cfg0.N) (p : Fin 512) (q : Fin 128) :
    (k0_pay11 (F := Ideal) (k0_pay2 (F := Ideal) (grid0.coords t) (iblk m c 1 t)) (iblk m c 0 t) (k0_pay6 (F := Ideal) (grid0.coords t)) (ix2 p q) : EReal)
      = val_main_v42 (F := Ideal) (X m c) (ix3 (⟨t.val * 512 + p.val, by have := lt8 t; omega⟩ : Fin 4096) (2 : Fin 4) q) := by
  have h8 := lt8 t
  refine (pay2 (k0_pay2 (F := Ideal) (grid0.coords t) (iblk m c 1 t)) (iblk m c 0 t) (k0_pay6 (F := Ideal) (grid0.coords t)) p q).trans (Eq.trans ?_
    (ref_pooled (X m c) (⟨t.val * 512 + p.val, by omega⟩ : Fin 4096) 2 q).symm)
  have hk : (⟨(((2 : Fin 4)).val) * 128 + q.val, by omega⟩ : Fin 512) = (⟨256 + q.val, by omega⟩ : Fin 512) := Fin.ext (by simp)
  rw [hk]
  refine congrArg₂ (fun a b : EReal => a - b) (congrArg₂ (fun a b : EReal => a * b) (Finset.sum_congr rfl fun d hd => ?_) (inv2 t p)) (part0 m c t p _)
  have hd' : d < 8 := Finset.mem_range.mp hd
  refine col_at t (fun s => X m c (ix2 s (⟨256 + q.val, by omega⟩ : Fin 512))) _ _ q (fun p => ?_) (fun p => ?_) p d (by omega)
  · exact (A2_at _ p q).trans (halo m c t p _)
  · exact (B2_at _ p q).trans (part0 m c t p _)

theorem inv3 (t : Fin cfg0.N) (p : Fin 512) : (k0_pay7 (F := Ideal) (grid0.coords t) (ix2 p (0 : Fin 1)) : EReal) = Ideal.div 1 (((((min (t.val * 512 + p.val + 1) 16 : ℕ) : ℤ) : ℝ)) : EReal) := by
  pointwise [k0_pay7, k0_pay3]
  refine congrArg (Ideal.div 1) (congrArg (fun z : ℤ => ((z : ℝ) : EReal)) ?_)
  rw [(crd t).1]
  exact Pool.cnt_word t.val p.val 16 (lt8 t) p.isLt (by decide)

theorem pool3 (c : Dev nD) (t : Fin cfg0.N) (p : Fin 512) (q : Fin 128) :
    (k0_pay12 (F := Ideal) (k0_pay2 (F := Ideal) (grid0.coords t) (iblk m c 1 t)) (iblk m c 0 t) (k0_pay7 (F := Ideal) (grid0.coords t)) (ix2 p q) : EReal)
      = val_main_v42 (F := Ideal) (X m c) (ix3 (⟨t.val * 512 + p.val, by have := lt8 t; omega⟩ : Fin 4096) (3 : Fin 4) q) := by
  have h8 := lt8 t
  refine (pay3 (k0_pay2 (F := Ideal) (grid0.coords t) (iblk m c 1 t)) (iblk m c 0 t) (k0_pay7 (F := Ideal) (grid0.coords t)) p q).trans (Eq.trans ?_
    (ref_pooled (X m c) (⟨t.val * 512 + p.val, by omega⟩ : Fin 4096) 3 q).symm)
  have hk : (⟨(((3 : Fin 4)).val) * 128 + q.val, by omega⟩ : Fin 512) = (⟨384 + q.val, by omega⟩ : Fin 512) := Fin.ext (by simp)
  rw [hk]
  refine congrArg₂ (fun a b : EReal => a - b) (congrArg₂ (fun a b : EReal => a * b) (Finset.sum_congr rfl fun d hd => ?_) (inv3 t p)) (part0 m c t p _)
  have hd' : d < 16 := Finset.mem_range.mp hd
  refine col_at t (fun s => X m c (ix2 s (⟨384 + q.val, by omega⟩ : Fin 512))) _ _ q (fun p => ?_) (fun p => ?_) p d (by omega)
  · exact (A3_at _ p q).trans (halo m c t p _)
  · exact (B3_at _ p q).trans (part0 m c t p _)

theorem host2 (c : Dev nD) (i : S4x128x128.Idx) : (V m c main_v0 i : EReal) = m ((c : Thread nD τ).loc main_arg1) i := by
  simp only [V, hostOps0]
  entry_read
  rfl

theorem host3 (c : Dev nD) (i : S1x512.Idx) : (V m c main_v1 i : EReal) = (show FVec Ideal S512 .f32 from m ((c : Thread nD τ).loc main_arg2)) (ix1 (i 1)) := by
  simp only [V, hostOps0]
  entry_read
  pointwise

theorem part2 (c : Dev nD) (t : Fin cfg0.N) (j : S4x128x128.Idx) : (iblk m c 2 t j : EReal) = m ((c : Thread nD τ).loc main_arg1) j := by
  blk_simp [iblk]
  refine (host2 m c _).trans ?_
  blk_point [idx t]

theorem part3 (c : Dev nD) (t : Fin cfg0.N) (j : S1x512.Idx) : (iblk m c 3 t j : EReal) = (show FVec Ideal S512 .f32 from m ((c : Thread nD τ).loc main_arg2)) (ix1 (j 1)) := by
  blk_simp [iblk]
  refine (host3 m c _).trans ?_
  blk_point [idx t]

theorem ld0 (u : Vec Ideal S16x512 .f32) : View.ld u r0_0 = u := View.ld_unit_lit _ u (by decide)

theorem ld1 (u : Vec Ideal S512x512 .f32) : View.ld u r0_1 = u := View.ld_unit_lit _ u (by decide)

theorem out_eq (i : grid0.Coords) (x0 : Vec Ideal S512x512 .f32) (x1 : Vec Ideal S16x512 .f32) (x2 : Vec Ideal S4x128x128 .bf16) (x3 : Vec Ideal S1x512 .f32) : out0_4 i x0 x1 x2 x3
    = View.canon [⟨r0_13, k0_pay1 (k0_pay17 (k0_pay12 (k0_pay2 i x1) x0 (k0_pay7 (F := Ideal) i)) (View.ld x2 r0_11)) (View.ld x3 r0_12)⟩,
      ⟨r0_10, k0_pay16 (k0_pay11 (k0_pay2 i x1) x0 (k0_pay6 (F := Ideal) i)) (View.ld x2 r0_8) (View.ld x3 r0_9)⟩,
      ⟨r0_7, k0_pay15 (k0_pay10 (k0_pay2 i x1) x0 (k0_pay5 (F := Ideal) i)) (View.ld x2 r0_5) (View.ld x3 r0_6)⟩,
      ⟨r0_4, k0_pay14 (k0_pay13 (k0_pay4 (F := Ideal) i) (k0_pay8 x0) (k0_pay9 i x1 x0)) (View.ld x2 r0_2) (View.ld x3 r0_3)⟩] := by
  unfold out0_4 k0_pay18
  rw [ld0, ld1]

/-- A mapped and scaled element. -/
def mapped (v : Fin 128 → EReal) (W : Vec Ideal S4x128x128 .bf16) (s : Vec Ideal S1x512 .f32) (g : Fin 4) (q : Fin 128) : EReal :=
  (∑ k, v k * W (ix3 g k q)) * s (ix2 (0 : Fin 1) (⟨g.val * 128 + q.val, by omega⟩ : Fin 512))

theorem map0 (v : FVec Ideal S512x128 .bf16) (W : Vec Ideal S4x128x128 .bf16) (s : Vec Ideal S1x512 .f32) (y) :
    (k0_pay14 (F := Ideal) v (View.ld W r0_2) (View.ld s r0_3) y : EReal) = mapped (fun k => v (ix2 (y 0) k)) W s 0 (y 1) := by
  pointwise [k0_pay14, mapped]

theorem map1 (v : FVec Ideal S512x128 .f32) (W : Vec Ideal S4x128x128 .bf16) (s : Vec Ideal S1x512 .f32) (y) :
    (k0_pay15 (F := Ideal) v (View.ld W r0_5) (View.ld s r0_6) y : EReal) = mapped (fun k => v (ix2 (y 0) k)) W s 1 (y 1) := by
  pointwise [k0_pay15, mapped]

theorem map2 (v : FVec Ideal S512x128 .f32) (W : Vec Ideal S4x128x128 .bf16) (s : Vec Ideal S1x512 .f32) (y) :
    (k0_pay16 (F := Ideal) v (View.ld W r0_8) (View.ld s r0_9) y : EReal) = mapped (fun k => v (ix2 (y 0) k)) W s 2 (y 1) := by
  pointwise [k0_pay16, mapped]

theorem map3 (v : FVec Ideal S512x128 .f32) (W : Vec Ideal S4x128x128 .bf16) (s : Vec Ideal S1x512 .f32) (y) :
    (k0_pay1 (F := Ideal) (k0_pay17 v (View.ld W r0_11)) (View.ld s r0_12) y : EReal) = mapped (fun k => v (ix2 (y 0) k)) W s 3 (y 1) := by
  pointwise [k0_pay1, k0_pay17, mapped]

theorem ref_mapped (x : FVec Ideal S4096x512 .f32) (W : FVec Ideal S4x128x128 .f32) (s : FVec Ideal S512 .f32) (t : Fin 4096) (g : Fin 4) (q : Fin 128) :
    (val_main_v50 (F := Ideal) x W s (ix2 t (⟨g.val * 128 + q.val, by omega⟩ : Fin 512)) : EReal)
      = (∑ k : Fin 128, W (ix3 g k q) * val_main_v42 (F := Ideal) x (ix3 t g k)) * s (ix1 (⟨g.val * 128 + q.val, by omega⟩ : Fin 512)) := by
  pointwise [val_main_v50, val_main_v49, val_main_v48, val_main_v47, val_main_v46, val_main_v45, val_main_v44, val_main_v43]

theorem tile (c : Dev nD) (t : Fin cfg0.N) (p : Fin 512) (g : Fin 4) (q : Fin 128) (v : Fin 128 → EReal)
    (hv : ∀ k, v k = val_main_v42 (F := Ideal) (X m c) (ix3 (⟨t.val * 512 + p.val, by have := lt8 t; omega⟩ : Fin 4096) g k)) :
    mapped v (iblk m c 2 t) (iblk m c 3 t) g q
      = val_main_v50 (F := Ideal) (X m c) (m ((c : Thread nD τ).loc main_arg1)) (m ((c : Thread nD τ).loc main_arg2))
          (ix2 (⟨t.val * 512 + p.val, by have := lt8 t; omega⟩ : Fin 4096) (⟨g.val * 128 + q.val, by omega⟩ : Fin 512)) := by
  refine Eq.trans ?_ (ref_mapped _ _ _ _ g q).symm
  unfold mapped
  refine congrArg₂ (fun a b : EReal => a * b) (Finset.sum_congr rfl fun k _ => ?_) (part3 m c t _)
  exact (congrArg₂ (fun a b : EReal => a * b) (hv k) (part2 m c t _)).trans (mul_comm _ _)

theorem final (c : Dev nD) : (dats m 0 c).arrAt 4 (cfgs 0).N
    = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (congrFun (out_eq _ _ _ _ _) y).trans ?_
  canon_tiles x h
  · refine (map3 _ _ _ x).trans ((tile m c t (x 0) 3 (x 1) _ fun k => pool3 m c t (x 0) k).trans ?_)
    unfold X
    generalize val_main_v50 (F := Ideal) _ _ _ = Y
    blk_point [idx t]
  · refine (map2 _ _ _ x).trans ((tile m c t (x 0) 2 (x 1) _ fun k => pool2 m c t (x 0) k).trans ?_)
    unfold X
    generalize val_main_v50 (F := Ideal) _ _ _ = Y
    blk_point [idx t]
  · refine (map1 _ _ _ x).trans ((tile m c t (x 0) 1 (x 1) _ fun k => pool1 m c t (x 0) k).trans ?_)
    unfold X
    generalize val_main_v50 (F := Ideal) _ _ _ = Y
    blk_point [idx t]
  · refine (map0 _ _ _ x).trans ((tile m c t (x 0) 0 (x 1) _ fun k => pool0 m c t (x 0) k).trans ?_)
    unfold X
    generalize val_main_v50 (F := Ideal) _ _ _ = Y
    blk_point [idx t]

end Cert.PoolFwdIdeal.Val
-- ==== Proof.PoolFwdClaim.lean ====
/- The two claims about the pooling that the generated frames do not give: the reference's frame, and equal results. -/
module

public import proofs.«01_k».proof.Defs
public import proofs.«01_k».proof.Proof.Gen.PoolFwdIdeal.Frame
public import proofs.«01_k».proof.Proof.Gen.PoolFwdRefIdeal.Read
public import proofs.«01_k».proof.Proof.PoolFwdVal
public import Idealize.ShloMosaic.Lib.Claim
public import Idealize.ShloMosaic.Init

@[expose] public section

set_option maxRecDepth 16384

noncomputable section

open Idealize.ShloMosaic Idealize.ShloMosaic.TcCoe Idealize.SL.Sem

namespace Cert.PoolFwdClaim

/-- The reference's own run leaves its arguments as they were. -/
theorem refKeeps (m : (ℓ : Loc Cert.PoolFwdRefIdeal.nD Cert.PoolFwdRefIdeal.τ Cert.PoolFwdRefIdeal.sig) → Buf (Elt Ideal) ℓ) (ρ) :
    θ_run (Cert.PoolFwdRefIdeal.defs (F := Ideal)) (onTc (τ := Cert.PoolFwdRefIdeal.τ) (Cert.PoolFwdRefIdeal.main (F := Ideal))) ⟨m, fun _ => 0, ρ⟩ fun r => ∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2) :=
  (θ_run Cert.PoolFwdRefIdeal.defs _ _).mono (fun r h c => (h c).2) (Cert.PoolFwdRefIdeal.Value.run (F := Ideal) m ρ)

/-- The reference declares no semaphore. -/
theorem refFrame : Cert.quiescent_PoolFwdRefIdeal := fun m ρ _ =>
  (θ_run Cert.PoolFwdRefIdeal.defs _ _).mono (fun r h => ⟨h, Idealize.ShloMosaic.sem_eq_zero_of_no_sems (by decide) r.2⟩) (refKeeps m ρ)

/-- The reference's results as its named stages. -/
theorem refRun (m : (ℓ : Loc Cert.PoolFwdRefIdeal.nD Cert.PoolFwdRefIdeal.τ Cert.PoolFwdRefIdeal.sig) → Buf (Elt Ideal) ℓ) (ρ) :
    θ_run (Cert.PoolFwdRefIdeal.defs (F := Ideal)) (onTc (τ := Cert.PoolFwdRefIdeal.τ) (Cert.PoolFwdRefIdeal.main (F := Ideal))) ⟨m, fun _ => 0, ρ⟩ fun r => ∀ c : Dev Cert.PoolFwdRefIdeal.nD,
      r.2.mem ((c.tc : Thread Cert.PoolFwdRefIdeal.nD Cert.PoolFwdRefIdeal.τ).loc Cert.PoolFwdRefIdeal.main_v50)
          = Cert.PoolFwdRefIdeal.Read.val_main_v50 (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) :=
  (θ_run Cert.PoolFwdRefIdeal.defs _ _).mono (fun r h c => (h c).1.trans (Cert.PoolFwdRefIdeal.Read.val_main_v50_eq _ _ _))
    (Cert.PoolFwdRefIdeal.Value.run (F := Ideal) m ρ)

/-- The kernel's result arrays and the reference's agree over the extended reals. -/
theorem algebraic : Cert.algebraic_PoolFwdIdeal_PoolFwdRefIdeal := by
  intro m g m' g' _ hagree
  refine ⟨fun c => Cert.PoolFwdRefIdeal.Read.val_main_v50 (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)), ?_, ?_⟩
  · exact (θ_run Cert.PoolFwdIdeal.defs _ _).mono (fun r h c => ⟨((h.2 c).1 4).trans (Cert.PoolFwdIdeal.Val.final m c), h.1 c⟩)
      (θ_run_and (Cert.PoolFwdIdeal.Gen.unchanged m g) (Cert.PoolFwdIdeal.Gen.run_main m g))
  · exact (θ_run Cert.PoolFwdRefIdeal.defs _ _).mono (fun r h c => ⟨(h.2 c).trans (by rw [(hagree c).1, (hagree c).2.1, (hagree c).2.2]), h.1 c⟩)
      (θ_run_and (refKeeps m' g') (refRun m' g'))

end Cert.PoolFwdClaim

end
-- ==== Proof.SumInOk.lean ====
/- The sum of the devices' pieces of a weight gradient: the table the kernel's index maps read. -/
module

public import proofs.«01_k».proof.Proof.Gen.SumInIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumInIdeal.Val

open Cert.SumInIdeal Cert.SumInIdeal.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Ideal) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Ideal) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Ideal) ℓ) : tbl m = table (devWord (m (((0 : Dev nD) : Thread nD τ).loc main_arg0))) := by
  funext j
  match j with
  | ⟨0, _⟩ =>
    exact tbl0 m

theorem okAt : ∀ d : Fin 8, ok0 (F := Ideal) (table (BitVec.ofNat 32 d.val)) := by decide +kernel

theorem ok (m : (ℓ : Loc nD τ sig) → Buf (Elt Ideal) ℓ) : Ok m := by
  unfold Ok
  rw [tbl_eq]
  obtain ⟨d, hd⟩ := devWord_eq (m (((0 : Dev nD) : Thread nD τ).loc main_arg0))
  rw [hd]
  exact okAt d

theorem idxAt : ∀ d : Fin 8, ∀ t : Fin grid0.N,
    (∀ k : Fin 8, (fun pf => ![cc0_transform_0 inb_S3_S1_0 numel1_S1 pf (grid0.coords t), cc0_transform_1 inb_S3_S1_0 numel1_S1 pf (grid0.coords t), cc0_transform_2 inb_S3_S1_0 numel1_S1 pf (grid0.coords t), cc0_transform_3 inb_S3_S1_0 numel1_S1 pf (grid0.coords t), cc0_transform_4 inb_S3_S1_0 numel1_S1 pf (grid0.coords t), cc0_transform_5 inb_S3_S1_0 numel1_S1 pf (grid0.coords t), cc0_transform_6 inb_S3_S1_0 numel1_S1 pf (grid0.coords t), cc0_transform_7 inb_S3_S1_0 numel1_S1 pf (grid0.coords t)] k) (table (BitVec.ofNat 32 d.val)) = ![if d = k then (k.val + 1) % 8 else k.val, t.val, 0])
    ∧ cc0_transform_8 inb_S3_S1_1 numel1_S1 inb_S3_S1_2 (table (BitVec.ofNat 32 d.val)) (grid0.coords t) = ![d.val / 2, d.val % 2, t.val, 0]
    ∧ cc0_transform_9 inb_S3_S1_2 numel1_S1 (table (BitVec.ofNat 32 d.val)) (grid0.coords t) = ![d.val % 2, t.val, 0] := by
  decide +kernel

theorem coversAt : ∀ d : Fin 8, (win0 ⟨table (BitVec.ofNat 32 d.val), okAt d⟩ 9).CoversWhere (fun β => β (0 : Fin 3) = d.val % 2) := by
  decide +kernel

end Cert.SumInIdeal.Val
-- ==== Proof.SumInVal.lean ====
/- The sum of the devices' pieces of a weight gradient: what the kernel leaves in its result array. -/
module

public import proofs.«01_k».proof.Proof.SumInOk
public import proofs.«01_k».proof.Proof.Gen.SumInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumInIdeal.Val

open Cert.SumInIdeal Cert.SumInIdeal.Gen

theorem idx8 (a : (pcfg0 (F := Ideal)).Adm) (d : Fin 8) (h : a.1 = table (BitVec.ofNat 32 d.val)) (t : Fin grid0.N) :
    (win0 a 8).index t = ![d.val / 2, d.val % 2, t.val, 0] := by
  obtain ⟨_, _⟩ := a
  subst h
  exact (idxAt d t).2.1

theorem idx9 (a : (pcfg0 (F := Ideal)).Adm) (d : Fin 8) (h : a.1 = table (BitVec.ofNat 32 d.val)) (t : Fin grid0.N) :
    (win0 a 9).index t = ![d.val % 2, t.val, 0] := by
  obtain ⟨_, _⟩ := a
  subst h
  exact (idxAt d t).2.2

theorem part8 (m : (ℓ : Loc nD τ sig) → Buf (Elt Ideal) ℓ) (hO : Ok m) (d : Fin 8) (h : tbl m = table (BitVec.ofNat 32 d.val)) (c : Dev nD) (t : Fin (cfgM m hO).N) (j : S1x1x256x512.Idx) :
    (iblk m hO c 8 t j : EReal) = (show FVec Ideal S4x2x512x512 .bf16 from (m ((c : Thread nD τ).loc main_arg2))) (ix4 (⟨d.val / 2, by omega⟩ : Fin 4) (⟨d.val % 2, by omega⟩ : Fin 2) (⟨t.val * 256 + (j 2).val, by have : t.val < 2 := t.isLt; idx_bounds j; omega⟩ : Fin 512) (j 3)) := by
  blk_simp [iblk]
  rw [← V_main_arg2 m c]
  show V m c main_arg2 _ = V m c main_arg2 _
  refine congrArg (V m c main_arg2) (funext fun a => Fin.ext ?_)
  refine (ValueKit.view_emb_slice_whole_unit_val main_arg2 _ _ _ j a).trans ?_
  show (win0 (adm m hO) 8).index t a * S1x1x256x512.size a + (j a).val = _
  rw [idx8 (adm m hO) d h t]
  fin_cases a
  · have := (j 0).isLt; show d.val / 2 * 1 + (j 0).val = d.val / 2; have h0 : (j 0).val < 1 := (j 0).isLt; omega
  · show d.val % 2 * 1 + (j 1).val = d.val % 2; have h0 : (j 1).val < 1 := (j 1).isLt; omega
  · rfl
  · show 0 * 512 + (j 3).val = (j 3).val; omega

theorem idx0 (a : (pcfg0 (F := Ideal)).Adm) (d : Fin 8) (h : a.1 = table (BitVec.ofNat 32 d.val)) (hd : d.val ≠ 0) (t : Fin grid0.N) :
    (win0 a 0).index t = ![0, t.val, 0] := by
  obtain ⟨_, _⟩ := a
  subst h
  exact ((idxAt d t).1 0).trans (by rw [if_neg (fun e => hd (congrArg Fin.val e))]; rfl)

theorem part0 (m : (ℓ : Loc nD τ sig) → Buf (Elt Ideal) ℓ) (hO : Ok m) (d : Fin 8) (h : tbl m = table (BitVec.ofNat 32 d.val)) (hd : d.val ≠ 0) (c : Dev nD) (t : Fin (cfgM m hO).N) (j : S1x256x512.Idx) :
    (iblk m hO c 0 t j : EReal) = (show FVec Ideal S8x512x512 .bf16 from (m ((c : Thread nD τ).loc main_arg1))) (ix3 (0 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 0).index t a * S1x256x512.size a + (j a).val = _
  rw [idx0 (adm m hO) d h hd t]
  fin_cases a
  · show 0 * 1 + (j 0).val = 0; have h0 : (j 0).val < 1 := (j 0).isLt; omega
  · rfl
  · show 0 * 512 + (j 2).val = (j 2).val; omega

theorem idx1 (a : (pcfg0 (F := Ideal)).Adm) (d : Fin 8) (h : a.1 = table (BitVec.ofNat 32 d.val)) (hd : d.val ≠ 1) (t : Fin grid0.N) :
    (win0 a 1).index t = ![1, t.val, 0] := by
  obtain ⟨_, _⟩ := a
  subst h
  exact ((idxAt d t).1 1).trans (by rw [if_neg (fun e => hd (congrArg Fin.val e))]; rfl)

theorem part1 (m : (ℓ : Loc nD τ sig) → Buf (Elt Ideal) ℓ) (hO : Ok m) (d : Fin 8) (h : tbl m = table (BitVec.ofNat 32 d.val)) (hd : d.val ≠ 1) (c : Dev nD) (t : Fin (cfgM m hO).N) (j : S1x256x512.Idx) :
    (iblk m hO c 1 t j : EReal) = (show FVec Ideal S8x512x512 .bf16 from (m ((c : Thread nD τ).loc main_arg1))) (ix3 (1 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 1).index t a * S1x256x512.size a + (j a).val = _
  rw [idx1 (adm m hO) d h hd t]
  fin_cases a
  · show 1 * 1 + (j 0).val = 1; have h0 : (j 0).val < 1 := (j 0).isLt; omega
  · rfl
  · show 0 * 512 + (j 2).val = (j 2).val; omega

theorem idx2 (a : (pcfg0 (F := Ideal)).Adm) (d : Fin 8) (h : a.1 = table (BitVec.ofNat 32 d.val)) (hd : d.val ≠ 2) (t : Fin grid0.N) :
    (win0 a 2).index t = ![2, t.val, 0] := by
  obtain ⟨_, _⟩ := a
  subst h
  exact ((idxAt d t).1 2).trans (by rw [if_neg (fun e => hd (congrArg Fin.val e))]; rfl)

theorem part2 (m : (ℓ : Loc nD τ sig) → Buf (Elt Ideal) ℓ) (hO : Ok m) (d : Fin 8) (h : tbl m = table (BitVec.ofNat 32 d.val)) (hd : d.val ≠ 2) (c : Dev nD) (t : Fin (cfgM m hO).N) (j : S1x256x512.Idx) :
    (iblk m hO c 2 t j : EReal) = (show FVec Ideal S8x512x512 .bf16 from (m ((c : Thread nD τ).loc main_arg1))) (ix3 (2 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 2).index t a * S1x256x512.size a + (j a).val = _
  rw [idx2 (adm m hO) d h hd t]
  fin_cases a
  · show 2 * 1 + (j 0).val = 2; have h0 : (j 0).val < 1 := (j 0).isLt; omega
  · rfl
  · show 0 * 512 + (j 2).val = (j 2).val; omega

theorem idx3 (a : (pcfg0 (F := Ideal)).Adm) (d : Fin 8) (h : a.1 = table (BitVec.ofNat 32 d.val)) (hd : d.val ≠ 3) (t : Fin grid0.N) :
    (win0 a 3).index t = ![3, t.val, 0] := by
  obtain ⟨_, _⟩ := a
  subst h
  exact ((idxAt d t).1 3).trans (by rw [if_neg (fun e => hd (congrArg Fin.val e))]; rfl)

theorem part3 (m : (ℓ : Loc nD τ sig) → Buf (Elt Ideal) ℓ) (hO : Ok m) (d : Fin 8) (h : tbl m = table (BitVec.ofNat 32 d.val)) (hd : d.val ≠ 3) (c : Dev nD) (t : Fin (cfgM m hO).N) (j : S1x256x512.Idx) :
    (iblk m hO c 3 t j : EReal) = (show FVec Ideal S8x512x512 .bf16 from (m ((c : Thread nD τ).loc main_arg1))) (ix3 (3 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 3).index t a * S1x256x512.size a + (j a).val = _
  rw [idx3 (adm m hO) d h hd t]
  fin_cases a
  · show 3 * 1 + (j 0).val = 3; have h0 : (j 0).val < 1 := (j 0).isLt; omega
  · rfl
  · show 0 * 512 + (j 2).val = (j 2).val; omega

theorem idx4 (a : (pcfg0 (F := Ideal)).Adm) (d : Fin 8) (h : a.1 = table (BitVec.ofNat 32 d.val)) (hd : d.val ≠ 4) (t : Fin grid0.N) :
    (win0 a 4).index t = ![4, t.val, 0] := by
  obtain ⟨_, _⟩ := a
  subst h
  exact ((idxAt d t).1 4).trans (by rw [if_neg (fun e => hd (congrArg Fin.val e))]; rfl)

theorem part4 (m : (ℓ : Loc nD τ sig) → Buf (Elt Ideal) ℓ) (hO : Ok m) (d : Fin 8) (h : tbl m = table (BitVec.ofNat 32 d.val)) (hd : d.val ≠ 4) (c : Dev nD) (t : Fin (cfgM m hO).N) (j : S1x256x512.Idx) :
    (iblk m hO c 4 t j : EReal) = (show FVec Ideal S8x512x512 .bf16 from (m ((c : Thread nD τ).loc main_arg1))) (ix3 (4 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 4).index t a * S1x256x512.size a + (j a).val = _
  rw [idx4 (adm m hO) d h hd t]
  fin_cases a
  · show 4 * 1 + (j 0).val = 4; have h0 : (j 0).val < 1 := (j 0).isLt; omega
  · rfl
  · show 0 * 512 + (j 2).val = (j 2).val; omega

theorem idx5 (a : (pcfg0 (F := Ideal)).Adm) (d : Fin 8) (h : a.1 = table (BitVec.ofNat 32 d.val)) (hd : d.val ≠ 5) (t : Fin grid0.N) :
    (win0 a 5).index t = ![5, t.val, 0] := by
  obtain ⟨_, _⟩ := a
  subst h
  exact ((idxAt d t).1 5).trans (by rw [if_neg (fun e => hd (congrArg Fin.val e))]; rfl)

theorem part5 (m : (ℓ : Loc nD τ sig) → Buf (Elt Ideal) ℓ) (hO : Ok m) (d : Fin 8) (h : tbl m = table (BitVec.ofNat 32 d.val)) (hd : d.val ≠ 5) (c : Dev nD) (t : Fin (cfgM m hO).N) (j : S1x256x512.Idx) :
    (iblk m hO c 5 t j : EReal) = (show FVec Ideal S8x512x512 .bf16 from (m ((c : Thread nD τ).loc main_arg1))) (ix3 (5 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 5).index t a * S1x256x512.size a + (j a).val = _
  rw [idx5 (adm m hO) d h hd t]
  fin_cases a
  · show 5 * 1 + (j 0).val = 5; have h0 : (j 0).val < 1 := (j 0).isLt; omega
  · rfl
  · show 0 * 512 + (j 2).val = (j 2).val; omega

theorem idx6 (a : (pcfg0 (F := Ideal)).Adm) (d : Fin 8) (h : a.1 = table (BitVec.ofNat 32 d.val)) (hd : d.val ≠ 6) (t : Fin grid0.N) :
    (win0 a 6).index t = ![6, t.val, 0] := by
  obtain ⟨_, _⟩ := a
  subst h
  exact ((idxAt d t).1 6).trans (by rw [if_neg (fun e => hd (congrArg Fin.val e))]; rfl)

theorem part6 (m : (ℓ : Loc nD τ sig) → Buf (Elt Ideal) ℓ) (hO : Ok m) (d : Fin 8) (h : tbl m = table (BitVec.ofNat 32 d.val)) (hd : d.val ≠ 6) (c : Dev nD) (t : Fin (cfgM m hO).N) (j : S1x256x512.Idx) :
    (iblk m hO c 6 t j : EReal) = (show FVec Ideal S8x512x512 .bf16 from (m ((c : Thread nD τ).loc main_arg1))) (ix3 (6 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 6).index t a * S1x256x512.size a + (j a).val = _
  rw [idx6 (adm m hO) d h hd t]
  fin_cases a
  · show 6 * 1 + (j 0).val = 6; have h0 : (j 0).val < 1 := (j 0).isLt; omega
  · rfl
  · show 0 * 512 + (j 2).val = (j 2).val; omega

theorem idx7 (a : (pcfg0 (F := Ideal)).Adm) (d : Fin 8) (h : a.1 = table (BitVec.ofNat 32 d.val)) (hd : d.val ≠ 7) (t : Fin grid0.N) :
    (win0 a 7).index t = ![7, t.val, 0] := by
  obtain ⟨_, _⟩ := a
  subst h
  exact ((idxAt d t).1 7).trans (by rw [if_neg (fun e => hd (congrArg Fin.val e))]; rfl)

theorem part7 (m : (ℓ : Loc nD τ sig) → Buf (Elt Ideal) ℓ) (hO : Ok m) (d : Fin 8) (h : tbl m = table (BitVec.ofNat 32 d.val)) (hd : d.val ≠ 7) (c : Dev nD) (t : Fin (cfgM m hO).N) (j : S1x256x512.Idx) :
    (iblk m hO c 7 t j : EReal) = (show FVec Ideal S8x512x512 .bf16 from (m ((c : Thread nD τ).loc main_arg1))) (ix3 (7 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 7).index t a * S1x256x512.size a + (j a).val = _
  rw [idx7 (adm m hO) d h hd t]
  fin_cases a
  · show 7 * 1 + (j 0).val = 7; have h0 : (j 0).val < 1 := (j 0).isLt; omega
  · rfl
  · show 0 * 512 + (j 2).val = (j 2).val; omega

theorem covers (a : (pcfg0 (F := Ideal)).Adm) (d : Fin 8) (h : a.1 = table (BitVec.ofNat 32 d.val)) :
    (win0 a 9).CoversWhere (fun β => β (0 : Fin 3) = d.val % 2) := by
  obtain ⟨_, _⟩ := a
  subst h
  exact coversAt d

/-- The sum of the devices' pieces, the device's own in its own place. -/
def total (d : Fin 8) (parts : FVec Ideal S8x512x512 .bf16) (own : FVec Ideal S4x2x512x512 .bf16) (r : Fin 512) (q : Fin 512) : EReal :=
  ∑ k : Fin 8, if d = k then own (ix4 (⟨d.val / 2, by omega⟩ : Fin 4) (⟨d.val % 2, by omega⟩ : Fin 2) r q) else parts (ix3 k r q)

end Cert.SumInIdeal.Val
-- ==== Proof.SumInOut.lean ====
/- The sum of the devices' pieces of a weight gradient: what the kernel leaves in its result array. -/
module

public import proofs.«01_k».proof.Proof.SumInVal
public import proofs.«01_k».proof.Proof.Gen.SumInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumInIdeal.Val

open Cert.SumInIdeal Cert.SumInIdeal.Gen

theorem sel_apply {ι α : Type} (c : BitVec 1) (a b : ι → α) (i : ι) : (Scalar.select c a b : ι → α) i = Scalar.select c (a i) (b i) := by
  unfold Scalar.select
  split <;> rfl

theorem cmp_dev : ∀ d k : Fin 8, Scalar.cmpi .eq (BitVec.ofNat 32 d.val) (BitVec.ofNat 32 k.val) = if d = k then 1#1 else 0#1 := by decide

theorem sel_dev {α : Type} (d k : Fin 8) (a b : α) : Scalar.select (Scalar.cmpi .eq (BitVec.ofNat 32 d.val) (BitVec.ofNat 32 k.val)) a b = if d = k then a else b := by
  rw [cmp_dev]
  unfold Scalar.select
  by_cases h : d = k
  · rw [if_pos h, if_pos h]; exact if_pos rfl
  · rw [if_neg h, if_neg h]; exact if_neg (by decide)

theorem castPart (x : Vec Ideal S1x256x512 .bf16) (r : Fin 256) (q : Fin 512) :
    shapeCast S256x512 x shapeCasts_S1x256x512_S256x512 (ix2 r q) = x (ix3 (0 : Fin 1) r q) :=
  shapeCast_apply x _ (ix2 r q) (ix3 (0 : Fin 1) r q) (by rewrite [Shape.rowMajor_val_three, Shape.rowMajor_val_two]; show (0 * 256 + r.val) * 512 + q.val = r.val * 512 + q.val; omega)

theorem castOwn (x : Vec Ideal S1x1x256x512 .bf16) (r : Fin 256) (q : Fin 512) :
    shapeCast S256x512 x shapeCasts_S1x1x256x512_S256x512 (ix2 r q) = x (ix4 (0 : Fin 1) (0 : Fin 1) r q) :=
  shapeCast_apply x _ (ix2 r q) (ix4 (0 : Fin 1) (0 : Fin 1) r q) (by rewrite [Shape.rowMajor_val_four, Shape.rowMajor_val_two]; show ((0 * 1 + 0) * 256 + r.val) * 512 + q.val = r.val * 512 + q.val; omega)

theorem castOut (x : FVec Ideal S256x512 .f32) (r : Fin 256) (q : Fin 512) :
    shapeCast S1x256x512 x shapeCasts_S256x512_S1x256x512 (ix3 (0 : Fin 1) r q) = x (ix2 r q) :=
  shapeCast_apply x _ (ix3 (0 : Fin 1) r q) (ix2 r q) (by rewrite [Shape.rowMajor_val_three, Shape.rowMajor_val_two]; show r.val * 512 + q.val = (0 * 256 + r.val) * 512 + q.val; omega)

theorem pay (d : Fin 8) (o : Vec Ideal S1x1x256x512 .bf16) (x0 x1 x2 x3 x4 x5 x6 x7 : Vec Ideal S1x256x512 .bf16) (r : Fin 256) (q : Fin 512) :
    (k0_pay1 (k0_pay4 (BitVec.ofNat 32 d.val) (k0_pay2 (BitVec.ofNat 32 d.val) o x0 o x1 o x2) (Scalar.cmpi .eq (BitVec.ofNat 32 d.val) 3#32) (k0_pay3 o) x3 o x4 o x5 o x6) (Scalar.cmpi .eq (BitVec.ofNat 32 d.val) 7#32) o x7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  unfold k0_pay1 k0_pay4 k0_pay2 k0_pay3
  dsimp only
  rw [castOut]
  simp only [addf, extf, Ideal.addf_def, Ideal.extf_def, sel_apply, castPart, castOwn]
  rw [Fin.sum_univ_eight]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((congrArg₂ (Scalar.select _) (castOwn o r q) (castPart x0 r q)).trans (sel_dev d 0 _ _))
    ((congrArg₂ (Scalar.select _) (castOwn o r q) (castPart x1 r q)).trans (sel_dev d 1 _ _)))
    ((congrArg₂ (Scalar.select _) (castOwn o r q) (castPart x2 r q)).trans (sel_dev d 2 _ _)))
    ((congrArg₂ (Scalar.select _) (castOwn o r q) (castPart x3 r q)).trans (sel_dev d 3 _ _)))
    ((congrArg₂ (Scalar.select _) (castOwn o r q) (castPart x4 r q)).trans (sel_dev d 4 _ _)))
    ((congrArg₂ (Scalar.select _) (castOwn o r q) (castPart x5 r q)).trans (sel_dev d 5 _ _)))
    ((congrArg₂ (Scalar.select _) (castOwn o r q) (castPart x6 r q)).trans (sel_dev d 6 _ _)))
    ((congrArg₂ (Scalar.select _) (castOwn o r q) (castPart x7 r q)).trans (sel_dev d 7 _ _)))

theorem pay_read (d : Fin 8) (w : BitVec 32) (hw : w = BitVec.ofNat 32 d.val) (p o : Vec Ideal S1x1x256x512 .bf16) (ho : p = o) (y0 y1 y2 y3 y4 y5 y6 y7 x0 x1 x2 x3 x4 x5 x6 x7 : Vec Ideal S1x256x512 .bf16) (h0 : y0 = x0) (h1 : y1 = x1) (h2 : y2 = x2) (h3 : y3 = x3) (h4 : y4 = x4) (h5 : y5 = x5) (h6 : y6 = x6) (h7 : y7 = x7) (r : Fin 256) (q : Fin 512) :
    (k0_pay1 (k0_pay4 w (k0_pay2 w p y0 p y1 p y2) (Scalar.cmpi .eq w 3#32) (k0_pay3 p) y3 p y4 p y5 p y6) (Scalar.cmpi .eq w 7#32) p y7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  subst hw ho h0 h1 h2 h3 h4 h5 h6 h7
  exact pay d p y0 y1 y2 y3 y4 y5 y6 y7 r q

theorem devTable_all : ∀ d : Fin 8, (View.readAt (Elt Ideal) (View.whole main_v7) (Rect.unit (s := S3) ![0] S1.size inb_S3_S1_0).toLoadRect (table (BitVec.ofNat 32 d.val) 0) (Shape.Idx.first (s := S1) (by decide)) : BitVec 32) = BitVec.ofNat 32 d.val := by
  decide +kernel

theorem tableWord (m : (ℓ : Loc nD τ sig) → Buf (Elt Ideal) ℓ) (d : Fin 8) (h : tbl m = table (BitVec.ofNat 32 d.val)) (h1) :
    (View.readAt (Elt Ideal) (View.whole main_v7) (Rect.unit (s := S3) ![0] S1.size inb_S3_S1_0).toLoadRect (tbl m 0) (Shape.Idx.first (s := S1) h1) : BitVec 32) = BitVec.ofNat 32 d.val := by
  rw [h]
  exact devTable_all d

/-- One element of the half the device writes. -/
theorem point (m : (ℓ : Loc nD τ sig) → Buf (Elt Ideal) ℓ) (hO : Ok m) (d : Fin 8) (h : tbl m = table (BitVec.ofNat 32 d.val)) (c : Dev nD) (t : Fin (cfgM m hO).N) (r : Fin 256) (q : Fin 512) :
    (outsAt0 m hO c t (ix3 (0 : Fin 1) r q) : EReal) = total d (m ((c : Thread nD τ).loc main_arg1)) (m ((c : Thread nD τ).loc main_arg2)) (⟨t.val * 256 + r.val, by have : t.val < 2 := t.isLt; omega⟩ : Fin 512) q := by
  unfold outsAt0
  frame_out
  refine (pay_read d _ (tableWord m d h _) _ (iblk m hO c 8 t) ((hs0_8 m hO t).read_unread _) _ _ _ _ _ _ _ _ (iblk m hO c 0 t) (iblk m hO c 1 t) (iblk m hO c 2 t) (iblk m hO c 3 t) (iblk m hO c 4 t) (iblk m hO c 5 t) (iblk m hO c 6 t) (iblk m hO c 7 t) ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) r q).trans ?_
  unfold total
  refine Finset.sum_congr rfl fun k _ => ?_
  by_cases hk : d = k
  · exact (if_pos hk).trans ((part8 m hO d h c t (ix4 (0 : Fin 1) (0 : Fin 1) r q)).trans (if_pos hk).symm)
  fin_cases k
  · exact if_neg hk |>.trans ((part0 m hO d h (fun e => hk (Fin.ext e)) c t (ix3 (0 : Fin 1) r q)).trans (if_neg hk).symm)
  · exact if_neg hk |>.trans ((part1 m hO d h (fun e => hk (Fin.ext e)) c t (ix3 (0 : Fin 1) r q)).trans (if_neg hk).symm)
  · exact if_neg hk |>.trans ((part2 m hO d h (fun e => hk (Fin.ext e)) c t (ix3 (0 : Fin 1) r q)).trans (if_neg hk).symm)
  · exact if_neg hk |>.trans ((part3 m hO d h (fun e => hk (Fin.ext e)) c t (ix3 (0 : Fin 1) r q)).trans (if_neg hk).symm)
  · exact if_neg hk |>.trans ((part4 m hO d h (fun e => hk (Fin.ext e)) c t (ix3 (0 : Fin 1) r q)).trans (if_neg hk).symm)
  · exact if_neg hk |>.trans ((part5 m hO d h (fun e => hk (Fin.ext e)) c t (ix3 (0 : Fin 1) r q)).trans (if_neg hk).symm)
  · exact if_neg hk |>.trans ((part6 m hO d h (fun e => hk (Fin.ext e)) c t (ix3 (0 : Fin 1) r q)).trans (if_neg hk).symm)
  · exact if_neg hk |>.trans ((part7 m hO d h (fun e => hk (Fin.ext e)) c t (ix3 (0 : Fin 1) r q)).trans (if_neg hk).symm)

theorem final (m : (ℓ : Loc nD τ sig) → Buf (Elt Ideal) ℓ) (hO : Ok m) (d : Fin 8) (h : tbl m = table (BitVec.ofNat 32 d.val)) (c : Dev nD) :
    (dats m hO 0 c).arrAt 9 (cfgM m hO).N = fun i : S2x512x512.Idx => if (i 0).val / 1 = d.val % 2 then total d (m ((c : Thread nD τ).loc main_arg1)) (m ((c : Thread nD τ).loc main_arg2)) (i 1) (i 2) else (dats m hO 0 c).A 9 i := by
  refine (dats m hO 0 c).arrAt_eq_of_coversWhere 9 _ (fun β => β (0 : Fin 3) = d.val % 2) (covers (adm m hO) d h)
    (fun t hf y => ?_) (fun j => Iff.rfl)
  blk_simp
  rw [after0_9]
  obtain ⟨z, hz⟩ : ∃ z : S1x256x512.Idx, z = y := ⟨y, rfl⟩
  subst hz
  have hy : z = ix3 (0 : Fin 1) (z 1) (z 2) := funext fun a => by
    fin_cases a
    · exact Fin.ext (by have h0 : (z 0).val < 1 := (z 0).isLt; show (z 0).val = 0; omega)
    · rfl
    · rfl
  refine (congrArg (outsAt0 m hO c t) hy).trans ((point m hO d h c t (z 1) (z 2)).trans ?_)
  refine congrArg₂ (total d _ _) (Fin.ext ?_) (Fin.ext ?_)
  · refine Eq.trans ?_ (ValueKit.view_emb_slice_whole_unit_val main_v8 _ _ _ z (1 : Fin 3)).symm
    show t.val * 256 + (z 1).val = (win0 (adm m hO) 9).index t 1 * 256 + (z 1).val
    rw [idx9 (adm m hO) d h t]
    rfl
  · refine Eq.trans ?_ (ValueKit.view_emb_slice_whole_unit_val main_v8 _ _ _ z (2 : Fin 3)).symm
    show (z 2).val = (win0 (adm m hO) 9).index t 2 * 512 + (z 2).val
    rw [idx9 (adm m hO) d h t]
    show (z 2).val = 0 * 512 + (z 2).val
    omega

end Cert.SumInIdeal.Val
-- ==== Proof.SumInEnd.lean ====
/- The sum of the devices' pieces of a weight gradient: what the kernel leaves in its result array. -/
module

public import proofs.«01_k».proof.Proof.SumInOut
public import proofs.«01_k».proof.Proof.Gen.SumInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumInIdeal.Val

open Cert.SumInIdeal Cert.SumInIdeal.Gen

theorem cmp_ref : ∀ d k : Fin 8, IntOp.cmpi .eq (BitVec.ofNat 32 k.val) (BitVec.ofNat 32 d.val) = if d = k then 1#1 else 0#1 := by decide

theorem ref_total (x0 : S1.Idx → BitVec 32) (x1 : FVec Ideal S8x512x512 .bf16) (x2 : FVec Ideal S4x2x512x512 .bf16) (d : Fin 8) (h : devWord x0 = BitVec.ofNat 32 d.val) (i : S512x512.Idx) :
    Cert.SumInRefIdeal.Read.val_main_v9 (F := Ideal) x0 x1 x2 i = total d x1 x2 (i 0) (i 1) := by
  rw [Cert.SumInRefIdeal.Read.val_main_v9_apply, Cert.SumInRefIdeal.Read.val_main_cst_apply]
  refine (congrArg (· + _) (Ideal.ofBits_zero .f32)).trans ((zero_add _).trans ?_)
  unfold total
  refine Finset.sum_congr rfl fun k _ => ?_
  rw [Cert.SumInRefIdeal.Read.val_main_v8_apply, Cert.SumInRefIdeal.Read.val_main_v7_apply, Cert.SumInRefIdeal.Read.val_main_call0_v0_apply, Cert.SumInRefIdeal.Read.val_main_v5_apply, Cert.SumInRefIdeal.Read.val_main_v4_apply, Cert.SumInRefIdeal.Read.val_main_v1_apply, Cert.SumInRefIdeal.Read.val_main_v0_apply, Cert.SumInRefIdeal.Read.val_main_v6_apply]
  have hd : Cert.SumInRefIdeal.Read.val_main_v3 (F := Ideal) x0 (fun a => a.elim0) = BitVec.ofNat 32 d.val := h
  refine (congrArg (fun b => Scalar.select b _ _) ((congrArg₂ (IntOp.cmpi .eq) (congrArg (BitVec.ofNat 32) (show (k.val * 1 + 0) * 1 + 0 = k.val from by omega)) hd).trans (cmp_ref d k))).trans ?_
  by_cases hk : d = k
  · rw [if_pos hk, if_pos hk]
    refine (if_pos rfl).trans (congrArg x2 (funext fun a => Fin.ext ?_))
    have h0 : (i 0).val < 512 := (i 0).isLt
    have h1 : (i 1).val < 512 := (i 1).isLt
    subst hk
    fin_cases a
    · show ((d.val * 512 + (i 0).val) * 512 + (i 1).val) / 524288 = d.val / 2; omega
    · show ((d.val * 512 + (i 0).val) * 512 + (i 1).val) / 262144 % 2 = d.val % 2; omega
    · show ((d.val * 512 + (i 0).val) * 512 + (i 1).val) / 512 % 512 = (i 0).val; omega
    · show ((d.val * 512 + (i 0).val) * 512 + (i 1).val) % 512 = (i 1).val; omega
  · rw [if_neg hk, if_neg hk]
    refine (if_neg (by decide)).trans (congrArg x1 (funext fun a => Fin.ext ?_))
    fin_cases a <;> rfl

/-- The line after the call: one of the two halves of the result array, by the device's parity. -/
def half (w : S_.Idx → BitVec 32) (x : FVec Ideal S2x512x512 .f32) : FVec Ideal S512x512 .f32 :=
  select (broadcastInDim S512x512 ![] bcast_S_S512x512 (cmpi .eq (andi w (constantI S_ 32 1#32)) (constantI S_ 32 0#32)))
    (shapeCast S512x512 (extractStridedSlice S1x512x512 ![0, 0, 0] x slices_S2x512x512_S1x512x512_0_0_0) shapeCasts_S1x512x512_S512x512)
    (shapeCast S512x512 (extractStridedSlice S1x512x512 ![1, 0, 0] x slices_S2x512x512_S1x512x512_1_0_0) shapeCasts_S1x512x512_S512x512)

theorem cmp_half : ∀ d : Fin 8, IntOp.cmpi .eq (IntOp.andi (BitVec.ofNat 32 d.val) 1#32) 0#32 = if d.val % 2 = 0 then 1#1 else 0#1 := by decide

theorem half_at (d : Fin 8) (w : S_.Idx → BitVec 32) (hw : ∀ i, w i = BitVec.ofNat 32 d.val) (x : FVec Ideal S2x512x512 .f32) (i : S512x512.Idx) :
    half w x i = x (ix3 (⟨d.val % 2, by omega⟩ : Fin 2) (i 0) (i 1)) := by
  have h0 : (i 0).val < 512 := (i 0).isLt
  have h1 : (i 1).val < 512 := (i 1).isLt
  have e : broadcastInDim S512x512 ![] bcast_S_S512x512 (cmpi .eq (andi w (constantI S_ 32 1#32)) (constantI S_ 32 0#32)) i = if d.val % 2 = 0 then 1#1 else 0#1 := by
    rw [broadcastInDim_apply _ bcast_S_S512x512 _ i (fun a => a.elim0) (fun a => a.elim0)]
    refine Eq.trans ?_ (cmp_half d)
    show IntOp.cmpi .eq (IntOp.andi (w _) 1#32) 0#32 = _
    rw [hw]
  show Scalar.select (broadcastInDim S512x512 ![] bcast_S_S512x512 (cmpi .eq (andi w (constantI S_ 32 1#32)) (constantI S_ 32 0#32)) i) _ _ = _
  rw [e]
  have f (b : Fin 2) (o : Fin 3 → ℕ) (hs) (ho : ∀ a, o a = (![b.val, 0, 0] : Fin 3 → ℕ) a) : shapeCast S512x512 (extractStridedSlice S1x512x512 o x hs) shapeCasts_S1x512x512_S512x512 i = x (ix3 b (i 0) (i 1)) := by
    refine (shapeCast_apply _ shapeCasts_S1x512x512_S512x512 i (ix3 (0 : Fin 1) (i 0) (i 1)) (by rewrite [Shape.rowMajor_val_three, Shape.rowMajor_val_two]; show (0 * 512 + (i 0).val) * 512 + (i 1).val = (i 0).val * 512 + (i 1).val; omega)).trans ?_
    refine congrArg x (funext fun a => Fin.ext ?_)
    fin_cases a
    · show o 0 + 0 = b.val; rw [ho]; rfl
    · show o 1 + (i 0).val = (i 0).val; rw [ho]; exact Nat.zero_add _
    · show o 2 + (i 1).val = (i 1).val; rw [ho]; exact Nat.zero_add _
  by_cases hd : d.val % 2 = 0
  · rw [if_pos hd]
    refine (if_pos rfl).trans ((f 0 _ _ (fun a => rfl)).trans (congrArg (fun b => x (ix3 b (i 0) (i 1))) (Fin.ext hd.symm)))
  · rw [if_neg hd]
    refine (if_neg (by decide)).trans ((f 1 _ _ (fun a => rfl)).trans (congrArg (fun b => x (ix3 b (i 0) (i 1))) (Fin.ext ?_)))
    show 1 = d.val % 2
    omega

open Idealize.ShloMosaic.StableHlo in
theorem tail_read (B : Valuation τ sig (Elt Ideal)) :
    (StableHlo.after (hostOps1 (F := Ideal) ++ hostOps1_1) B (Proc.devRef .tc main_v15) : S512x512.Idx → EReal) = half (B (Proc.devRef .tc main_v1)) (B (Proc.devRef .tc main_v8)) := by
  show StableHlo.after hostOps1_1 (StableHlo.after hostOps1 B) (Proc.devRef .tc main_v15) = _
  unfold hostOps1_1
  after_results
  rfl

theorem word_before (m : (ℓ : Loc nD τ sig) → Buf (Elt Ideal) ℓ) (i) : (V m 0 main_v1 : S_.Idx → BitVec 32) i = devWord (m (((0 : Dev nD) : Thread nD τ).loc main_arg0)) := by
  have e : (V m 0 main_v1 : S_.Idx → BitVec 32) = andi (shapeCast S_ (m (((0 : Dev nD) : Thread nD τ).loc main_arg0)) shapeCasts_S1_S_) (constantI S_ 32 7#32) := by
    show StableHlo.after hostOps0 (fun b => m ((0 : Dev nD), b)) (Proc.devRef .tc main_v1) = _
    after_results
    rfl
  rw [e, show i = fun a => a.elim0 from funext fun a => a.elim0]
  rfl

/-- The kernel's result: the sum, at every place. -/
theorem result (m : (ℓ : Loc nD τ sig) → Buf (Elt Ideal) ℓ) (hO : Ok m) (c : Dev nD) :
    (Pipeline.afterTail pcfgs (fun _ => adm m hO) (dats m hO) 0 (V0 m) [hostOps1, hostOps1_1] c main_v15 : S512x512.Idx → EReal)
      = Cert.SumInRefIdeal.Read.val_main_v9 (F := Ideal) (m ((c : Thread nD τ).loc main_arg0)) (m ((c : Thread nD τ).loc main_arg1)) (m ((c : Thread nD τ).loc main_arg2)) := by
  obtain rfl : c = 0 := Subsingleton.elim _ _
  obtain ⟨d, hd⟩ := devWord_eq (m (((0 : Dev nD) : Thread nD τ).loc main_arg0))
  have h : tbl m = table (BitVec.ofNat 32 d.val) := (tbl_eq m).trans (congrArg table hd)
  refine (tail_read _).trans (funext fun i => ?_)
  refine (half_at d _ (fun j => ?_) _ i).trans ?_
  · rw [Pipeline.withArrays_of_ne _ 0 (V0 m 0) _ main_v1 (by exact (by decide : ∀ w, Pipeline.arrRef spec0 w ≠ main_v1))]
    exact (word_before m j).trans hd
  · refine (congrFun (Pipeline.withArrays_arr_shared _ 0 (V0 m 0) _ ((dats m hO 0 0).arrAt_sharedIn (show Pipeline.SharedIn spec0 from by decide) (V0 m 0) (A_eq m hO 0) _) 9) _).trans ?_
    rw [final m hO d h 0]
    refine Eq.trans ?_ (ref_total _ _ _ d hd i).symm
    exact if_pos (Nat.div_one _)

end Cert.SumInIdeal.Val
-- ==== Proof.SumInClaim.lean ====
/- The claims about the sum over the devices that the generated frames do not give: the tables, the reference's frame, equal results. -/
module

public import proofs.«01_k».proof.Defs
public import proofs.«01_k».proof.Proof.Gen.SumIn.Frame
public import proofs.«01_k».proof.Proof.Gen.SumInIdeal.Frame
public import proofs.«01_k».proof.Proof.Gen.SumInRefIdeal.Read
public import proofs.«01_k».proof.Proof.SumInEnd
public import Idealize.ShloMosaic.Lib.Claim
public import Idealize.ShloMosaic.Init

@[expose] public section

set_option maxRecDepth 16384

noncomputable section

open Idealize.ShloMosaic Idealize.ShloMosaic.TcCoe Idealize.SL.Sem

namespace Cert.SumInBits

open Cert.SumIn Cert.SumIn.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Bits) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Bits) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Bits) ℓ) : tbl m = table (devWord (m (((0 : Dev nD) : Thread nD τ).loc main_arg0))) := by
  funext j
  match j with
  | ⟨0, _⟩ =>
    exact tbl0 m

theorem okAt : ∀ d : Fin 8, ok0 (F := Bits) (table (BitVec.ofNat 32 d.val)) := by decide +kernel

theorem ok (m : (ℓ : Loc nD τ sig) → Buf (Elt Bits) ℓ) : Ok m := by
  unfold Ok
  rw [tbl_eq]
  obtain ⟨d, hd⟩ := devWord_eq (m (((0 : Dev nD) : Thread nD τ).loc main_arg0))
  rw [hd]
  exact okAt d

end Cert.SumInBits

namespace Cert.SumInClaim

/-- The reference's own run leaves its arguments as they were. -/
theorem refKeeps (m : (ℓ : Loc Cert.SumInRefIdeal.nD Cert.SumInRefIdeal.τ Cert.SumInRefIdeal.sig) → Buf (Elt Ideal) ℓ) (ρ) :
    θ_run (Cert.SumInRefIdeal.defs (F := Ideal)) (onTc (τ := Cert.SumInRefIdeal.τ) (Cert.SumInRefIdeal.main (F := Ideal))) ⟨m, fun _ => 0, ρ⟩ fun r => ∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2) :=
  (θ_run Cert.SumInRefIdeal.defs _ _).mono (fun r h c => (h c).2) (Cert.SumInRefIdeal.Value.run (F := Ideal) m ρ)

/-- The reference declares no semaphore. -/
theorem refFrame : Cert.quiescent_SumInRefIdeal := fun m ρ _ =>
  (θ_run Cert.SumInRefIdeal.defs _ _).mono (fun r h => ⟨h, Idealize.ShloMosaic.sem_eq_zero_of_no_sems (by decide) r.2⟩) (refKeeps m ρ)

/-- The reference's result as its named stage. -/
theorem refRun (m : (ℓ : Loc Cert.SumInRefIdeal.nD Cert.SumInRefIdeal.τ Cert.SumInRefIdeal.sig) → Buf (Elt Ideal) ℓ) (ρ) :
    θ_run (Cert.SumInRefIdeal.defs (F := Ideal)) (onTc (τ := Cert.SumInRefIdeal.τ) (Cert.SumInRefIdeal.main (F := Ideal))) ⟨m, fun _ => 0, ρ⟩ fun r => ∀ c : Dev Cert.SumInRefIdeal.nD,
      r.2.mem ((c.tc : Thread Cert.SumInRefIdeal.nD Cert.SumInRefIdeal.τ).loc Cert.SumInRefIdeal.main_v9)
          = Cert.SumInRefIdeal.Read.val_main_v9 (F := Ideal) (m ((c.tc : Thread Cert.SumInRefIdeal.nD Cert.SumInRefIdeal.τ).loc Cert.SumInRefIdeal.main_arg0)) (m ((c.tc : Thread Cert.SumInRefIdeal.nD Cert.SumInRefIdeal.τ).loc Cert.SumInRefIdeal.main_arg1)) (m ((c.tc : Thread Cert.SumInRefIdeal.nD Cert.SumInRefIdeal.τ).loc Cert.SumInRefIdeal.main_arg2)) :=
  (θ_run Cert.SumInRefIdeal.defs _ _).mono (fun r h c => (h c).1.trans (Cert.SumInRefIdeal.Read.val_main_v9_eq _ _ _))
    (Cert.SumInRefIdeal.Value.run (F := Ideal) m ρ)

/-- The kernel runs from every memory: the table it reads is one of eight. -/
theorem frame : Cert.quiescent_SumIn := fun m ρ _ => Cert.SumIn.Gen.frame m ρ (Cert.SumInBits.ok m)

theorem frameIdeal : Cert.quiescent_SumInIdeal := fun m ρ _ => Cert.SumInIdeal.Gen.frame m ρ (Cert.SumInIdeal.Val.ok m)

/-- The kernel's result array and the reference's agree over the extended reals. -/
theorem algebraic : Cert.algebraic_SumInIdeal_SumInRefIdeal := by
  intro m g m' g' _ hagree
  refine ⟨fun c => Cert.SumInRefIdeal.Read.val_main_v9 (F := Ideal) (m ((c.tc : Thread Cert.SumInIdeal.nD Cert.SumInIdeal.τ).loc Cert.SumInIdeal.main_arg0)) (m ((c.tc : Thread Cert.SumInIdeal.nD Cert.SumInIdeal.τ).loc Cert.SumInIdeal.main_arg1)) (m ((c.tc : Thread Cert.SumInIdeal.nD Cert.SumInIdeal.τ).loc Cert.SumInIdeal.main_arg2)), ?_, ?_⟩
  · exact (θ_run Cert.SumInIdeal.defs _ _).mono (fun r h c => ⟨((h.2 c).2 Cert.SumInIdeal.main_v15 (show Cert.SumInIdeal.main_v15 ∈ Pipeline.restRefs Cert.SumInIdeal.sig Cert.SumInIdeal.spec0 from by decide)).trans (Cert.SumInIdeal.Val.result m (Cert.SumInIdeal.Val.ok m) c), h.1 c⟩)
      (θ_run_and (Cert.SumInIdeal.Gen.unchanged m g (Cert.SumInIdeal.Val.ok m)) (Cert.SumInIdeal.Gen.run_main m g (Cert.SumInIdeal.Val.ok m)))
  · exact (θ_run Cert.SumInRefIdeal.defs _ _).mono (fun r h c => ⟨(h.2 c).trans (by rw [(hagree c).1, (hagree c).2.1, (hagree c).2.2]), h.1 c⟩)
      (θ_run_and (refKeeps m' g') (refRun m' g'))

end Cert.SumInClaim

end
-- ==== Proof.SumOutOk.lean ====
/- The sum of the devices' pieces of a weight gradient: the table the kernel's index maps read. -/
module

public import proofs.«01_k».proof.Proof.Gen.SumOutIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumOutIdeal.Val

open Cert.SumOutIdeal Cert.SumOutIdeal.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Ideal) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Ideal) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Ideal) ℓ) : tbl m = table (devWord (m (((0 : Dev nD) : Thread nD τ).loc main_arg0))) := by
  funext j
  match j with
  | ⟨0, _⟩ =>
    exact tbl0 m

theorem okAt : ∀ d : Fin 8, ok0 (F := Ideal) (table (BitVec.ofNat 32 d.val)) := by decide +kernel

theorem ok (m : (ℓ : Loc nD τ sig) → Buf (Elt Ideal) ℓ) : Ok m := by
  unfold Ok
  rw [tbl_eq]
  obtain ⟨d, hd⟩ := devWord_eq (m (((0 : Dev nD) : Thread nD τ).loc main_arg0))
  rw [hd]
  exact okAt d

theorem idxAt : ∀ d : Fin 8, ∀ t : Fin grid0.N,
    (∀ k : Fin 8, (fun pf => ![cc0_transform_0 inb_S3_S1_0 numel1_S1 pf (grid0.coords t), cc0_transform_1 inb_S3_S1_0 numel1_S1 pf (grid0.coords t), cc0_transform_2 inb_S3_S1_0 numel1_S1 pf (grid0.coords t), cc0_transform_3 inb_S3_S1_0 numel1_S1 pf (grid0.coords t), cc0_transform_4 inb_S3_S1_0 numel1_S1 pf (grid0.coords t), cc0_transform_5 inb_S3_S1_0 numel1_S1 pf (grid0.coords t), cc0_transform_6 inb_S3_S1_0 numel1_S1 pf (grid0.coords t), cc0_transform_7 inb_S3_S1_0 numel1_S1 pf (grid0.coords t)] k) (table (BitVec.ofNat 32 d.val)) = ![if d = k then (k.val + 1) % 8 else k.val, t.val, 0])
    ∧ cc0_transform_8 inb_S3_S1_1 numel1_S1 inb_S3_S1_2 (table (BitVec.ofNat 32 d.val)) (grid0.coords t) = ![d.val / 2, d.val % 2, t.val, 0]
    ∧ cc0_transform_9 inb_S3_S1_2 numel1_S1 (table (BitVec.ofNat 32 d.val)) (grid0.coords t) = ![d.val % 2, t.val, 0] := by
  decide +kernel

theorem coversAt : ∀ d : Fin 8, (win0 ⟨table (BitVec.ofNat 32 d.val), okAt d⟩ 9).CoversWhere (fun β => β (0 : Fin 3) = d.val % 2) := by
  decide +kernel

end Cert.SumOutIdeal.Val
-- ==== Proof.SumOutVal.lean ====
/- The sum of the devices' pieces of a weight gradient: what the kernel leaves in its result array. -/
module

public import proofs.«01_k».proof.Proof.SumOutOk
public import proofs.«01_k».proof.Proof.Gen.SumOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumOutIdeal.Val

open Cert.SumOutIdeal Cert.SumOutIdeal.Gen

theorem idx8 (a : (pcfg0 (F := Ideal)).Adm) (d : Fin 8) (h : a.1 = table (BitVec.ofNat 32 d.val)) (t : Fin grid0.N) :
    (win0 a 8).index t = ![d.val / 2, d.val % 2, t.val, 0] := by
  obtain ⟨_, _⟩ := a
  subst h
  exact (idxAt d t).2.1

theorem idx9 (a : (pcfg0 (F := Ideal)).Adm) (d : Fin 8) (h : a.1 = table (BitVec.ofNat 32 d.val)) (t : Fin grid0.N) :
    (win0 a 9).index t = ![d.val % 2, t.val, 0] := by
  obtain ⟨_, _⟩ := a
  subst h
  exact (idxAt d t).2.2

theorem part8 (m : (ℓ : Loc nD τ sig) → Buf (Elt Ideal) ℓ) (hO : Ok m) (d : Fin 8) (h : tbl m = table (BitVec.ofNat 32 d.val)) (c : Dev nD) (t : Fin (cfgM m hO).N) (j : S1x1x128x1024.Idx) :
    (iblk m hO c 8 t j : EReal) = (show FVec Ideal S4x2x128x1024 .bf16 from (m ((c : Thread nD τ).loc main_arg2))) (ix4 (⟨d.val / 2, by omega⟩ : Fin 4) (⟨d.val % 2, by omega⟩ : Fin 2) (⟨t.val * 128 + (j 2).val, by have : t.val < 1 := t.isLt; idx_bounds j; omega⟩ : Fin 128) (j 3)) := by
  blk_simp [iblk]
  rw [← V_main_arg2 m c]
  show V m c main_arg2 _ = V m c main_arg2 _
  refine congrArg (V m c main_arg2) (funext fun a => Fin.ext ?_)
  refine (ValueKit.view_emb_slice_whole_unit_val main_arg2 _ _ _ j a).trans ?_
  show (win0 (adm m hO) 8).index t a * S1x1x128x1024.size a + (j a).val = _
  rw [idx8 (adm m hO) d h t]
  fin_cases a
  · have := (j 0).isLt; show d.val / 2 * 1 + (j 0).val = d.val / 2; have h0 : (j 0).val < 1 := (j 0).isLt; omega
  · show d.val % 2 * 1 + (j 1).val = d.val % 2; have h0 : (j 1).val < 1 := (j 1).isLt; omega
  · rfl
  · show 0 * 1024 + (j 3).val = (j 3).val; omega

theorem idx0 (a : (pcfg0 (F := Ideal)).Adm) (d : Fin 8) (h : a.1 = table (BitVec.ofNat 32 d.val)) (hd : d.val ≠ 0) (t : Fin grid0.N) :
    (win0 a 0).index t = ![0, t.val, 0] := by
  obtain ⟨_, _⟩ := a
  subst h
  exact ((idxAt d t).1 0).trans (by rw [if_neg (fun e => hd (congrArg Fin.val e))]; rfl)

theorem part0 (m : (ℓ : Loc nD τ sig) → Buf (Elt Ideal) ℓ) (hO : Ok m) (d : Fin 8) (h : tbl m = table (BitVec.ofNat 32 d.val)) (hd : d.val ≠ 0) (c : Dev nD) (t : Fin (cfgM m hO).N) (j : S1x128x1024.Idx) :
    (iblk m hO c 0 t j : EReal) = (show FVec Ideal S8x128x1024 .bf16 from (m ((c : Thread nD τ).loc main_arg1))) (ix3 (0 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 0).index t a * S1x128x1024.size a + (j a).val = _
  rw [idx0 (adm m hO) d h hd t]
  fin_cases a
  · show 0 * 1 + (j 0).val = 0; have h0 : (j 0).val < 1 := (j 0).isLt; omega
  · rfl
  · show 0 * 1024 + (j 2).val = (j 2).val; omega

theorem idx1 (a : (pcfg0 (F := Ideal)).Adm) (d : Fin 8) (h : a.1 = table (BitVec.ofNat 32 d.val)) (hd : d.val ≠ 1) (t : Fin grid0.N) :
    (win0 a 1).index t = ![1, t.val, 0] := by
  obtain ⟨_, _⟩ := a
  subst h
  exact ((idxAt d t).1 1).trans (by rw [if_neg (fun e => hd (congrArg Fin.val e))]; rfl)

theorem part1 (m : (ℓ : Loc nD τ sig) → Buf (Elt Ideal) ℓ) (hO : Ok m) (d : Fin 8) (h : tbl m = table (BitVec.ofNat 32 d.val)) (hd : d.val ≠ 1) (c : Dev nD) (t : Fin (cfgM m hO).N) (j : S1x128x1024.Idx) :
    (iblk m hO c 1 t j : EReal) = (show FVec Ideal S8x128x1024 .bf16 from (m ((c : Thread nD τ).loc main_arg1))) (ix3 (1 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 1).index t a * S1x128x1024.size a + (j a).val = _
  rw [idx1 (adm m hO) d h hd t]
  fin_cases a
  · show 1 * 1 + (j 0).val = 1; have h0 : (j 0).val < 1 := (j 0).isLt; omega
  · rfl
  · show 0 * 1024 + (j 2).val = (j 2).val; omega

theorem idx2 (a : (pcfg0 (F := Ideal)).Adm) (d : Fin 8) (h : a.1 = table (BitVec.ofNat 32 d.val)) (hd : d.val ≠ 2) (t : Fin grid0.N) :
    (win0 a 2).index t = ![2, t.val, 0] := by
  obtain ⟨_, _⟩ := a
  subst h
  exact ((idxAt d t).1 2).trans (by rw [if_neg (fun e => hd (congrArg Fin.val e))]; rfl)

theorem part2 (m : (ℓ : Loc nD τ sig) → Buf (Elt Ideal) ℓ) (hO : Ok m) (d : Fin 8) (h : tbl m = table (BitVec.ofNat 32 d.val)) (hd : d.val ≠ 2) (c : Dev nD) (t : Fin (cfgM m hO).N) (j : S1x128x1024.Idx) :
    (iblk m hO c 2 t j : EReal) = (show FVec Ideal S8x128x1024 .bf16 from (m ((c : Thread nD τ).loc main_arg1))) (ix3 (2 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 2).index t a * S1x128x1024.size a + (j a).val = _
  rw [idx2 (adm m hO) d h hd t]
  fin_cases a
  · show 2 * 1 + (j 0).val = 2; have h0 : (j 0).val < 1 := (j 0).isLt; omega
  · rfl
  · show 0 * 1024 + (j 2).val = (j 2).val; omega

theorem idx3 (a : (pcfg0 (F := Ideal)).Adm) (d : Fin 8) (h : a.1 = table (BitVec.ofNat 32 d.val)) (hd : d.val ≠ 3) (t : Fin grid0.N) :
    (win0 a 3).index t = ![3, t.val, 0] := by
  obtain ⟨_, _⟩ := a
  subst h
  exact ((idxAt d t).1 3).trans (by rw [if_neg (fun e => hd (congrArg Fin.val e))]; rfl)

theorem part3 (m : (ℓ : Loc nD τ sig) → Buf (Elt Ideal) ℓ) (hO : Ok m) (d : Fin 8) (h : tbl m = table (BitVec.ofNat 32 d.val)) (hd : d.val ≠ 3) (c : Dev nD) (t : Fin (cfgM m hO).N) (j : S1x128x1024.Idx) :
    (iblk m hO c 3 t j : EReal) = (show FVec Ideal S8x128x1024 .bf16 from (m ((c : Thread nD τ).loc main_arg1))) (ix3 (3 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 3).index t a * S1x128x1024.size a + (j a).val = _
  rw [idx3 (adm m hO) d h hd t]
  fin_cases a
  · show 3 * 1 + (j 0).val = 3; have h0 : (j 0).val < 1 := (j 0).isLt; omega
  · rfl
  · show 0 * 1024 + (j 2).val = (j 2).val; omega

theorem idx4 (a : (pcfg0 (F := Ideal)).Adm) (d : Fin 8) (h : a.1 = table (BitVec.ofNat 32 d.val)) (hd : d.val ≠ 4) (t : Fin grid0.N) :
    (win0 a 4).index t = ![4, t.val, 0] := by
  obtain ⟨_, _⟩ := a
  subst h
  exact ((idxAt d t).1 4).trans (by rw [if_neg (fun e => hd (congrArg Fin.val e))]; rfl)

theorem part4 (m : (ℓ : Loc nD τ sig) → Buf (Elt Ideal) ℓ) (hO : Ok m) (d : Fin 8) (h : tbl m = table (BitVec.ofNat 32 d.val)) (hd : d.val ≠ 4) (c : Dev nD) (t : Fin (cfgM m hO).N) (j : S1x128x1024.Idx) :
    (iblk m hO c 4 t j : EReal) = (show FVec Ideal S8x128x1024 .bf16 from (m ((c : Thread nD τ).loc main_arg1))) (ix3 (4 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 4).index t a * S1x128x1024.size a + (j a).val = _
  rw [idx4 (adm m hO) d h hd t]
  fin_cases a
  · show 4 * 1 + (j 0).val = 4; have h0 : (j 0).val < 1 := (j 0).isLt; omega
  · rfl
  · show 0 * 1024 + (j 2).val = (j 2).val; omega

theorem idx5 (a : (pcfg0 (F := Ideal)).Adm) (d : Fin 8) (h : a.1 = table (BitVec.ofNat 32 d.val)) (hd : d.val ≠ 5) (t : Fin grid0.N) :
    (win0 a 5).index t = ![5, t.val, 0] := by
  obtain ⟨_, _⟩ := a
  subst h
  exact ((idxAt d t).1 5).trans (by rw [if_neg (fun e => hd (congrArg Fin.val e))]; rfl)

theorem part5 (m : (ℓ : Loc nD τ sig) → Buf (Elt Ideal) ℓ) (hO : Ok m) (d : Fin 8) (h : tbl m = table (BitVec.ofNat 32 d.val)) (hd : d.val ≠ 5) (c : Dev nD) (t : Fin (cfgM m hO).N) (j : S1x128x1024.Idx) :
    (iblk m hO c 5 t j : EReal) = (show FVec Ideal S8x128x1024 .bf16 from (m ((c : Thread nD τ).loc main_arg1))) (ix3 (5 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 5).index t a * S1x128x1024.size a + (j a).val = _
  rw [idx5 (adm m hO) d h hd t]
  fin_cases a
  · show 5 * 1 + (j 0).val = 5; have h0 : (j 0).val < 1 := (j 0).isLt; omega
  · rfl
  · show 0 * 1024 + (j 2).val = (j 2).val; omega

theorem idx6 (a : (pcfg0 (F := Ideal)).Adm) (d : Fin 8) (h : a.1 = table (BitVec.ofNat 32 d.val)) (hd : d.val ≠ 6) (t : Fin grid0.N) :
    (win0 a 6).index t = ![6, t.val, 0] := by
  obtain ⟨_, _⟩ := a
  subst h
  exact ((idxAt d t).1 6).trans (by rw [if_neg (fun e => hd (congrArg Fin.val e))]; rfl)

theorem part6 (m : (ℓ : Loc nD τ sig) → Buf (Elt Ideal) ℓ) (hO : Ok m) (d : Fin 8) (h : tbl m = table (BitVec.ofNat 32 d.val)) (hd : d.val ≠ 6) (c : Dev nD) (t : Fin (cfgM m hO).N) (j : S1x128x1024.Idx) :
    (iblk m hO c 6 t j : EReal) = (show FVec Ideal S8x128x1024 .bf16 from (m ((c : Thread nD τ).loc main_arg1))) (ix3 (6 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 6).index t a * S1x128x1024.size a + (j a).val = _
  rw [idx6 (adm m hO) d h hd t]
  fin_cases a
  · show 6 * 1 + (j 0).val = 6; have h0 : (j 0).val < 1 := (j 0).isLt; omega
  · rfl
  · show 0 * 1024 + (j 2).val = (j 2).val; omega

theorem idx7 (a : (pcfg0 (F := Ideal)).Adm) (d : Fin 8) (h : a.1 = table (BitVec.ofNat 32 d.val)) (hd : d.val ≠ 7) (t : Fin grid0.N) :
    (win0 a 7).index t = ![7, t.val, 0] := by
  obtain ⟨_, _⟩ := a
  subst h
  exact ((idxAt d t).1 7).trans (by rw [if_neg (fun e => hd (congrArg Fin.val e))]; rfl)

theorem part7 (m : (ℓ : Loc nD τ sig) → Buf (Elt Ideal) ℓ) (hO : Ok m) (d : Fin 8) (h : tbl m = table (BitVec.ofNat 32 d.val)) (hd : d.val ≠ 7) (c : Dev nD) (t : Fin (cfgM m hO).N) (j : S1x128x1024.Idx) :
    (iblk m hO c 7 t j : EReal) = (show FVec Ideal S8x128x1024 .bf16 from (m ((c : Thread nD τ).loc main_arg1))) (ix3 (7 : Fin 8) (⟨t.val * 128 + (j 1).val, by have : t.val < 1 := t.isLt; idx_bounds j; omega⟩ : Fin 128) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 7).index t a * S1x128x1024.size a + (j a).val = _
  rw [idx7 (adm m hO) d h hd t]
  fin_cases a
  · show 7 * 1 + (j 0).val = 7; have h0 : (j 0).val < 1 := (j 0).isLt; omega
  · rfl
  · show 0 * 1024 + (j 2).val = (j 2).val; omega

theorem covers (a : (pcfg0 (F := Ideal)).Adm) (d : Fin 8) (h : a.1 = table (BitVec.ofNat 32 d.val)) :
    (win0 a 9).CoversWhere (fun β => β (0 : Fin 3) = d.val % 2) := by
  obtain ⟨_, _⟩ := a
  subst h
  exact coversAt d

/-- The sum of the devices' pieces, the device's own in its own place. -/
def total (d : Fin 8) (parts : FVec Ideal S8x128x1024 .bf16) (own : FVec Ideal S4x2x128x1024 .bf16) (r : Fin 128) (q : Fin 1024) : EReal :=
  ∑ k : Fin 8, if d = k then own (ix4 (⟨d.val / 2, by omega⟩ : Fin 4) (⟨d.val % 2, by omega⟩ : Fin 2) r q) else parts (ix3 k r q)

end Cert.SumOutIdeal.Val
-- ==== Proof.SumOutOut.lean ====
/- The sum of the devices' pieces of a weight gradient: what the kernel leaves in its result array. -/
module

public import proofs.«01_k».proof.Proof.SumOutVal
public import proofs.«01_k».proof.Proof.Gen.SumOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumOutIdeal.Val

open Cert.SumOutIdeal Cert.SumOutIdeal.Gen

theorem sel_apply {ι α : Type} (c : BitVec 1) (a b : ι → α) (i : ι) : (Scalar.select c a b : ι → α) i = Scalar.select c (a i) (b i) := by
  unfold Scalar.select
  split <;> rfl

theorem cmp_dev : ∀ d k : Fin 8, Scalar.cmpi .eq (BitVec.ofNat 32 d.val) (BitVec.ofNat 32 k.val) = if d = k then 1#1 else 0#1 := by decide

theorem sel_dev {α : Type} (d k : Fin 8) (a b : α) : Scalar.select (Scalar.cmpi .eq (BitVec.ofNat 32 d.val) (BitVec.ofNat 32 k.val)) a b = if d = k then a else b := by
  rw [cmp_dev]
  unfold Scalar.select
  by_cases h : d = k
  · rw [if_pos h, if_pos h]; exact if_pos rfl
  · rw [if_neg h, if_neg h]; exact if_neg (by decide)

theorem castPart (x : Vec Ideal S1x128x1024 .bf16) (r : Fin 128) (q : Fin 1024) :
    shapeCast S128x1024 x shapeCasts_S1x128x1024_S128x1024 (ix2 r q) = x (ix3 (0 : Fin 1) r q) :=
  shapeCast_apply x _ (ix2 r q) (ix3 (0 : Fin 1) r q) (by rewrite [Shape.rowMajor_val_three, Shape.rowMajor_val_two]; show (0 * 128 + r.val) * 1024 + q.val = r.val * 1024 + q.val; omega)

theorem castOwn (x : Vec Ideal S1x1x128x1024 .bf16) (r : Fin 128) (q : Fin 1024) :
    shapeCast S128x1024 x shapeCasts_S1x1x128x1024_S128x1024 (ix2 r q) = x (ix4 (0 : Fin 1) (0 : Fin 1) r q) :=
  shapeCast_apply x _ (ix2 r q) (ix4 (0 : Fin 1) (0 : Fin 1) r q) (by rewrite [Shape.rowMajor_val_four, Shape.rowMajor_val_two]; show ((0 * 1 + 0) * 128 + r.val) * 1024 + q.val = r.val * 1024 + q.val; omega)

theorem castOut (x : FVec Ideal S128x1024 .f32) (r : Fin 128) (q : Fin 1024) :
    shapeCast S1x128x1024 x shapeCasts_S128x1024_S1x128x1024 (ix3 (0 : Fin 1) r q) = x (ix2 r q) :=
  shapeCast_apply x _ (ix3 (0 : Fin 1) r q) (ix2 r q) (by rewrite [Shape.rowMajor_val_three, Shape.rowMajor_val_two]; show r.val * 1024 + q.val = (0 * 128 + r.val) * 1024 + q.val; omega)

theorem pay (d : Fin 8) (o : Vec Ideal S1x1x128x1024 .bf16) (x0 x1 x2 x3 x4 x5 x6 x7 : Vec Ideal S1x128x1024 .bf16) (r : Fin 128) (q : Fin 1024) :
    (k0_pay1 (k0_pay4 (BitVec.ofNat 32 d.val) (k0_pay2 (BitVec.ofNat 32 d.val) o x0 o x1 o x2) (Scalar.cmpi .eq (BitVec.ofNat 32 d.val) 3#32) (k0_pay3 o) x3 o x4 o x5 o x6) (Scalar.cmpi .eq (BitVec.ofNat 32 d.val) 7#32) o x7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  unfold k0_pay1 k0_pay4 k0_pay2 k0_pay3
  dsimp only
  rw [castOut]
  simp only [addf, extf, Ideal.addf_def, Ideal.extf_def, sel_apply, castPart, castOwn]
  rw [Fin.sum_univ_eight]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((congrArg₂ (Scalar.select _) (castOwn o r q) (castPart x0 r q)).trans (sel_dev d 0 _ _))
    ((congrArg₂ (Scalar.select _) (castOwn o r q) (castPart x1 r q)).trans (sel_dev d 1 _ _)))
    ((congrArg₂ (Scalar.select _) (castOwn o r q) (castPart x2 r q)).trans (sel_dev d 2 _ _)))
    ((congrArg₂ (Scalar.select _) (castOwn o r q) (castPart x3 r q)).trans (sel_dev d 3 _ _)))
    ((congrArg₂ (Scalar.select _) (castOwn o r q) (castPart x4 r q)).trans (sel_dev d 4 _ _)))
    ((congrArg₂ (Scalar.select _) (castOwn o r q) (castPart x5 r q)).trans (sel_dev d 5 _ _)))
    ((congrArg₂ (Scalar.select _) (castOwn o r q) (castPart x6 r q)).trans (sel_dev d 6 _ _)))
    ((congrArg₂ (Scalar.select _) (castOwn o r q) (castPart x7 r q)).trans (sel_dev d 7 _ _)))

theorem pay_read (d : Fin 8) (w : BitVec 32) (hw : w = BitVec.ofNat 32 d.val) (p o : Vec Ideal S1x1x128x1024 .bf16) (ho : p = o) (y0 y1 y2 y3 y4 y5 y6 y7 x0 x1 x2 x3 x4 x5 x6 x7 : Vec Ideal S1x128x1024 .bf16) (h0 : y0 = x0) (h1 : y1 = x1) (h2 : y2 = x2) (h3 : y3 = x3) (h4 : y4 = x4) (h5 : y5 = x5) (h6 : y6 = x6) (h7 : y7 = x7) (r : Fin 128) (q : Fin 1024) :
    (k0_pay1 (k0_pay4 w (k0_pay2 w p y0 p y1 p y2) (Scalar.cmpi .eq w 3#32) (k0_pay3 p) y3 p y4 p y5 p y6) (Scalar.cmpi .eq w 7#32) p y7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  subst hw ho h0 h1 h2 h3 h4 h5 h6 h7
  exact pay d p y0 y1 y2 y3 y4 y5 y6 y7 r q

theorem devTable_all : ∀ d : Fin 8, (View.readAt (Elt Ideal) (View.whole main_v7) (Rect.unit (s := S3) ![0] S1.size inb_S3_S1_0).toLoadRect (table (BitVec.ofNat 32 d.val) 0) (Shape.Idx.first (s := S1) (by decide)) : BitVec 32) = BitVec.ofNat 32 d.val := by
  decide +kernel

theorem tableWord (m : (ℓ : Loc nD τ sig) → Buf (Elt Ideal) ℓ) (d : Fin 8) (h : tbl m = table (BitVec.ofNat 32 d.val)) (h1) :
    (View.readAt (Elt Ideal) (View.whole main_v7) (Rect.unit (s := S3) ![0] S1.size inb_S3_S1_0).toLoadRect (tbl m 0) (Shape.Idx.first (s := S1) h1) : BitVec 32) = BitVec.ofNat 32 d.val := by
  rw [h]
  exact devTable_all d

/-- One element of the half the device writes. -/
theorem point (m : (ℓ : Loc nD τ sig) → Buf (Elt Ideal) ℓ) (hO : Ok m) (d : Fin 8) (h : tbl m = table (BitVec.ofNat 32 d.val)) (c : Dev nD) (t : Fin (cfgM m hO).N) (r : Fin 128) (q : Fin 1024) :
    (outsAt0 m hO c t (ix3 (0 : Fin 1) r q) : EReal) = total d (m ((c : Thread nD τ).loc main_arg1)) (m ((c : Thread nD τ).loc main_arg2)) (⟨t.val * 128 + r.val, by have : t.val < 1 := t.isLt; omega⟩ : Fin 128) q := by
  unfold outsAt0
  frame_out
  refine (pay_read d _ (tableWord m d h _) _ (iblk m hO c 8 t) ((hs0_8 m hO t).read_unread _) _ _ _ _ _ _ _ _ (iblk m hO c 0 t) (iblk m hO c 1 t) (iblk m hO c 2 t) (iblk m hO c 3 t) (iblk m hO c 4 t) (iblk m hO c 5 t) (iblk m hO c 6 t) (iblk m hO c 7 t) ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) r q).trans ?_
  unfold total
  refine Finset.sum_congr rfl fun k _ => ?_
  by_cases hk : d = k
  · exact (if_pos hk).trans ((part8 m hO d h c t (ix4 (0 : Fin 1) (0 : Fin 1) r q)).trans (if_pos hk).symm)
  fin_cases k
  · exact if_neg hk |>.trans ((part0 m hO d h (fun e => hk (Fin.ext e)) c t (ix3 (0 : Fin 1) r q)).trans (if_neg hk).symm)
  · exact if_neg hk |>.trans ((part1 m hO d h (fun e => hk (Fin.ext e)) c t (ix3 (0 : Fin 1) r q)).trans (if_neg hk).symm)
  · exact if_neg hk |>.trans ((part2 m hO d h (fun e => hk (Fin.ext e)) c t (ix3 (0 : Fin 1) r q)).trans (if_neg hk).symm)
  · exact if_neg hk |>.trans ((part3 m hO d h (fun e => hk (Fin.ext e)) c t (ix3 (0 : Fin 1) r q)).trans (if_neg hk).symm)
  · exact if_neg hk |>.trans ((part4 m hO d h (fun e => hk (Fin.ext e)) c t (ix3 (0 : Fin 1) r q)).trans (if_neg hk).symm)
  · exact if_neg hk |>.trans ((part5 m hO d h (fun e => hk (Fin.ext e)) c t (ix3 (0 : Fin 1) r q)).trans (if_neg hk).symm)
  · exact if_neg hk |>.trans ((part6 m hO d h (fun e => hk (Fin.ext e)) c t (ix3 (0 : Fin 1) r q)).trans (if_neg hk).symm)
  · exact if_neg hk |>.trans ((part7 m hO d h (fun e => hk (Fin.ext e)) c t (ix3 (0 : Fin 1) r q)).trans (if_neg hk).symm)

theorem final (m : (ℓ : Loc nD τ sig) → Buf (Elt Ideal) ℓ) (hO : Ok m) (d : Fin 8) (h : tbl m = table (BitVec.ofNat 32 d.val)) (c : Dev nD) :
    (dats m hO 0 c).arrAt 9 (cfgM m hO).N = fun i : S2x128x1024.Idx => if (i 0).val / 1 = d.val % 2 then total d (m ((c : Thread nD τ).loc main_arg1)) (m ((c : Thread nD τ).loc main_arg2)) (i 1) (i 2) else (dats m hO 0 c).A 9 i := by
  refine (dats m hO 0 c).arrAt_eq_of_coversWhere 9 _ (fun β => β (0 : Fin 3) = d.val % 2) (covers (adm m hO) d h)
    (fun t hf y => ?_) (fun j => Iff.rfl)
  blk_simp
  rw [after0_9]
  obtain ⟨z, hz⟩ : ∃ z : S1x128x1024.Idx, z = y := ⟨y, rfl⟩
  subst hz
  have hy : z = ix3 (0 : Fin 1) (z 1) (z 2) := funext fun a => by
    fin_cases a
    · exact Fin.ext (by have h0 : (z 0).val < 1 := (z 0).isLt; show (z 0).val = 0; omega)
    · rfl
    · rfl
  refine (congrArg (outsAt0 m hO c t) hy).trans ((point m hO d h c t (z 1) (z 2)).trans ?_)
  refine congrArg₂ (total d _ _) (Fin.ext ?_) (Fin.ext ?_)
  · refine Eq.trans ?_ (ValueKit.view_emb_slice_whole_unit_val main_v8 _ _ _ z (1 : Fin 3)).symm
    show t.val * 128 + (z 1).val = (win0 (adm m hO) 9).index t 1 * 128 + (z 1).val
    rw [idx9 (adm m hO) d h t]
    rfl
  · refine Eq.trans ?_ (ValueKit.view_emb_slice_whole_unit_val main_v8 _ _ _ z (2 : Fin 3)).symm
    show (z 2).val = (win0 (adm m hO) 9).index t 2 * 1024 + (z 2).val
    rw [idx9 (adm m hO) d h t]
    show (z 2).val = 0 * 1024 + (z 2).val
    omega

end Cert.SumOutIdeal.Val
-- ==== Proof.SumOutEnd.lean ====
/- The sum of the devices' pieces of a weight gradient: what the kernel leaves in its result array. -/
module

public import proofs.«01_k».proof.Proof.SumOutOut
public import proofs.«01_k».proof.Proof.Gen.SumOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumOutIdeal.Val

open Cert.SumOutIdeal Cert.SumOutIdeal.Gen

theorem cmp_ref : ∀ d k : Fin 8, IntOp.cmpi .eq (BitVec.ofNat 32 k.val) (BitVec.ofNat 32 d.val) = if d = k then 1#1 else 0#1 := by decide

theorem ref_total (x0 : S1.Idx → BitVec 32) (x1 : FVec Ideal S8x128x1024 .bf16) (x2 : FVec Ideal S4x2x128x1024 .bf16) (d : Fin 8) (h : devWord x0 = BitVec.ofNat 32 d.val) (i : S128x1024.Idx) :
    Cert.SumOutRefIdeal.Read.val_main_v9 (F := Ideal) x0 x1 x2 i = total d x1 x2 (i 0) (i 1) := by
  rw [Cert.SumOutRefIdeal.Read.val_main_v9_apply, Cert.SumOutRefIdeal.Read.val_main_cst_apply]
  refine (congrArg (· + _) (Ideal.ofBits_zero .f32)).trans ((zero_add _).trans ?_)
  unfold total
  refine Finset.sum_congr rfl fun k _ => ?_
  rw [Cert.SumOutRefIdeal.Read.val_main_v8_apply, Cert.SumOutRefIdeal.Read.val_main_v7_apply, Cert.SumOutRefIdeal.Read.val_main_call0_v0_apply, Cert.SumOutRefIdeal.Read.val_main_v5_apply, Cert.SumOutRefIdeal.Read.val_main_v4_apply, Cert.SumOutRefIdeal.Read.val_main_v1_apply, Cert.SumOutRefIdeal.Read.val_main_v0_apply, Cert.SumOutRefIdeal.Read.val_main_v6_apply]
  have hd : Cert.SumOutRefIdeal.Read.val_main_v3 (F := Ideal) x0 (fun a => a.elim0) = BitVec.ofNat 32 d.val := h
  refine (congrArg (fun b => Scalar.select b _ _) ((congrArg₂ (IntOp.cmpi .eq) (congrArg (BitVec.ofNat 32) (show (k.val * 1 + 0) * 1 + 0 = k.val from by omega)) hd).trans (cmp_ref d k))).trans ?_
  by_cases hk : d = k
  · rw [if_pos hk, if_pos hk]
    refine (if_pos rfl).trans (congrArg x2 (funext fun a => Fin.ext ?_))
    have h0 : (i 0).val < 128 := (i 0).isLt
    have h1 : (i 1).val < 1024 := (i 1).isLt
    subst hk
    fin_cases a
    · show ((d.val * 128 + (i 0).val) * 1024 + (i 1).val) / 262144 = d.val / 2; omega
    · show ((d.val * 128 + (i 0).val) * 1024 + (i 1).val) / 131072 % 2 = d.val % 2; omega
    · show ((d.val * 128 + (i 0).val) * 1024 + (i 1).val) / 1024 % 128 = (i 0).val; omega
    · show ((d.val * 128 + (i 0).val) * 1024 + (i 1).val) % 1024 = (i 1).val; omega
  · rw [if_neg hk, if_neg hk]
    refine (if_neg (by decide)).trans (congrArg x1 (funext fun a => Fin.ext ?_))
    fin_cases a <;> rfl

/-- The line after the call: one of the two halves of the result array, by the device's parity. -/
def half (w : S_.Idx → BitVec 32) (x : FVec Ideal S2x128x1024 .f32) : FVec Ideal S128x1024 .f32 :=
  select (broadcastInDim S128x1024 ![] bcast_S_S128x1024 (cmpi .eq (andi w (constantI S_ 32 1#32)) (constantI S_ 32 0#32)))
    (shapeCast S128x1024 (extractStridedSlice S1x128x1024 ![0, 0, 0] x slices_S2x128x1024_S1x128x1024_0_0_0) shapeCasts_S1x128x1024_S128x1024)
    (shapeCast S128x1024 (extractStridedSlice S1x128x1024 ![1, 0, 0] x slices_S2x128x1024_S1x128x1024_1_0_0) shapeCasts_S1x128x1024_S128x1024)

theorem cmp_half : ∀ d : Fin 8, IntOp.cmpi .eq (IntOp.andi (BitVec.ofNat 32 d.val) 1#32) 0#32 = if d.val % 2 = 0 then 1#1 else 0#1 := by decide

theorem half_at (d : Fin 8) (w : S_.Idx → BitVec 32) (hw : ∀ i, w i = BitVec.ofNat 32 d.val) (x : FVec Ideal S2x128x1024 .f32) (i : S128x1024.Idx) :
    half w x i = x (ix3 (⟨d.val % 2, by omega⟩ : Fin 2) (i 0) (i 1)) := by
  have h0 : (i 0).val < 128 := (i 0).isLt
  have h1 : (i 1).val < 1024 := (i 1).isLt
  have e : broadcastInDim S128x1024 ![] bcast_S_S128x1024 (cmpi .eq (andi w (constantI S_ 32 1#32)) (constantI S_ 32 0#32)) i = if d.val % 2 = 0 then 1#1 else 0#1 := by
    rw [broadcastInDim_apply _ bcast_S_S128x1024 _ i (fun a => a.elim0) (fun a => a.elim0)]
    refine Eq.trans ?_ (cmp_half d)
    show IntOp.cmpi .eq (IntOp.andi (w _) 1#32) 0#32 = _
    rw [hw]
  show Scalar.select (broadcastInDim S128x1024 ![] bcast_S_S128x1024 (cmpi .eq (andi w (constantI S_ 32 1#32)) (constantI S_ 32 0#32)) i) _ _ = _
  rw [e]
  have f (b : Fin 2) (o : Fin 3 → ℕ) (hs) (ho : ∀ a, o a = (![b.val, 0, 0] : Fin 3 → ℕ) a) : shapeCast S128x1024 (extractStridedSlice S1x128x1024 o x hs) shapeCasts_S1x128x1024_S128x1024 i = x (ix3 b (i 0) (i 1)) := by
    refine (shapeCast_apply _ shapeCasts_S1x128x1024_S128x1024 i (ix3 (0 : Fin 1) (i 0) (i 1)) (by rewrite [Shape.rowMajor_val_three, Shape.rowMajor_val_two]; show (0 * 128 + (i 0).val) * 1024 + (i 1).val = (i 0).val * 1024 + (i 1).val; omega)).trans ?_
    refine congrArg x (funext fun a => Fin.ext ?_)
    fin_cases a
    · show o 0 + 0 = b.val; rw [ho]; rfl
    · show o 1 + (i 0).val = (i 0).val; rw [ho]; exact Nat.zero_add _
    · show o 2 + (i 1).val = (i 1).val; rw [ho]; exact Nat.zero_add _
  by_cases hd : d.val % 2 = 0
  · rw [if_pos hd]
    refine (if_pos rfl).trans ((f 0 _ _ (fun a => rfl)).trans (congrArg (fun b => x (ix3 b (i 0) (i 1))) (Fin.ext hd.symm)))
  · rw [if_neg hd]
    refine (if_neg (by decide)).trans ((f 1 _ _ (fun a => rfl)).trans (congrArg (fun b => x (ix3 b (i 0) (i 1))) (Fin.ext ?_)))
    show 1 = d.val % 2
    omega

open Idealize.ShloMosaic.StableHlo in
theorem tail_read (B : Valuation τ sig (Elt Ideal)) :
    (StableHlo.after (hostOps1 (F := Ideal) ++ hostOps1_1) B (Proc.devRef .tc main_v15) : S128x1024.Idx → EReal) = half (B (Proc.devRef .tc main_v1)) (B (Proc.devRef .tc main_v8)) := by
  show StableHlo.after hostOps1_1 (StableHlo.after hostOps1 B) (Proc.devRef .tc main_v15) = _
  unfold hostOps1_1
  after_results
  rfl

theorem word_before (m : (ℓ : Loc nD τ sig) → Buf (Elt Ideal) ℓ) (i) : (V m 0 main_v1 : S_.Idx → BitVec 32) i = devWord (m (((0 : Dev nD) : Thread nD τ).loc main_arg0)) := by
  have e : (V m 0 main_v1 : S_.Idx → BitVec 32) = andi (shapeCast S_ (m (((0 : Dev nD) : Thread nD τ).loc main_arg0)) shapeCasts_S1_S_) (constantI S_ 32 7#32) := by
    show StableHlo.after hostOps0 (fun b => m ((0 : Dev nD), b)) (Proc.devRef .tc main_v1) = _
    after_results
    rfl
  rw [e, show i = fun a => a.elim0 from funext fun a => a.elim0]
  rfl

/-- The kernel's result: the sum, at every place. -/
theorem result (m : (ℓ : Loc nD τ sig) → Buf (Elt Ideal) ℓ) (hO : Ok m) (c : Dev nD) :
    (Pipeline.afterTail pcfgs (fun _ => adm m hO) (dats m hO) 0 (V0 m) [hostOps1, hostOps1_1] c main_v15 : S128x1024.Idx → EReal)
      = Cert.SumOutRefIdeal.Read.val_main_v9 (F := Ideal) (m ((c : Thread nD τ).loc main_arg0)) (m ((c : Thread nD τ).loc main_arg1)) (m ((c : Thread nD τ).loc main_arg2)) := by
  obtain rfl : c = 0 := Subsingleton.elim _ _
  obtain ⟨d, hd⟩ := devWord_eq (m (((0 : Dev nD) : Thread nD τ).loc main_arg0))
  have h : tbl m = table (BitVec.ofNat 32 d.val) := (tbl_eq m).trans (congrArg table hd)
  refine (tail_read _).trans (funext fun i => ?_)
  refine (half_at d _ (fun j => ?_) _ i).trans ?_
  · rw [Pipeline.withArrays_of_ne _ 0 (V0 m 0) _ main_v1 (by exact (by decide : ∀ w, Pipeline.arrRef spec0 w ≠ main_v1))]
    exact (word_before m j).trans hd
  · refine (congrFun (Pipeline.withArrays_arr_shared _ 0 (V0 m 0) _ ((dats m hO 0 0).arrAt_sharedIn (show Pipeline.SharedIn spec0 from by decide) (V0 m 0) (A_eq m hO 0) _) 9) _).trans ?_
    rw [final m hO d h 0]
    refine Eq.trans ?_ (ref_total _ _ _ d hd i).symm
    exact if_pos (Nat.div_one _)

end Cert.SumOutIdeal.Val
-- ==== Proof.SumOutClaim.lean ====
/- The claims about the sum over the devices that the generated frames do not give: the tables, the reference's frame, equal results. -/
module

public import proofs.«01_k».proof.Defs
public import proofs.«01_k».proof.Proof.Gen.SumOut.Frame
public import proofs.«01_k».proof.Proof.Gen.SumOutIdeal.Frame
public import proofs.«01_k».proof.Proof.Gen.SumOutRefIdeal.Read
public import proofs.«01_k».proof.Proof.SumOutEnd
public import Idealize.ShloMosaic.Lib.Claim
public import Idealize.ShloMosaic.Init

@[expose] public section

set_option maxRecDepth 16384

noncomputable section

open Idealize.ShloMosaic Idealize.ShloMosaic.TcCoe Idealize.SL.Sem

namespace Cert.SumOutBits

open Cert.SumOut Cert.SumOut.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Bits) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Bits) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Bits) ℓ) : tbl m = table (devWord (m (((0 : Dev nD) : Thread nD τ).loc main_arg0))) := by
  funext j
  match j with
  | ⟨0, _⟩ =>
    exact tbl0 m

theorem okAt : ∀ d : Fin 8, ok0 (F := Bits) (table (BitVec.ofNat 32 d.val)) := by decide +kernel

theorem ok (m : (ℓ : Loc nD τ sig) → Buf (Elt Bits) ℓ) : Ok m := by
  unfold Ok
  rw [tbl_eq]
  obtain ⟨d, hd⟩ := devWord_eq (m (((0 : Dev nD) : Thread nD τ).loc main_arg0))
  rw [hd]
  exact okAt d

end Cert.SumOutBits

namespace Cert.SumOutClaim

/-- The reference's own run leaves its arguments as they were. -/
theorem refKeeps (m : (ℓ : Loc Cert.SumOutRefIdeal.nD Cert.SumOutRefIdeal.τ Cert.SumOutRefIdeal.sig) → Buf (Elt Ideal) ℓ) (ρ) :
    θ_run (Cert.SumOutRefIdeal.defs (F := Ideal)) (onTc (τ := Cert.SumOutRefIdeal.τ) (Cert.SumOutRefIdeal.main (F := Ideal))) ⟨m, fun _ => 0, ρ⟩ fun r => ∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2) :=
  (θ_run Cert.SumOutRefIdeal.defs _ _).mono (fun r h c => (h c).2) (Cert.SumOutRefIdeal.Value.run (F := Ideal) m ρ)

/-- The reference declares no semaphore. -/
theorem refFrame : Cert.quiescent_SumOutRefIdeal := fun m ρ _ =>
  (θ_run Cert.SumOutRefIdeal.defs _ _).mono (fun r h => ⟨h, Idealize.ShloMosaic.sem_eq_zero_of_no_sems (by decide) r.2⟩) (refKeeps m ρ)

/-- The reference's result as its named stage. -/
theorem refRun (m : (ℓ : Loc Cert.SumOutRefIdeal.nD Cert.SumOutRefIdeal.τ Cert.SumOutRefIdeal.sig) → Buf (Elt Ideal) ℓ) (ρ) :
    θ_run (Cert.SumOutRefIdeal.defs (F := Ideal)) (onTc (τ := Cert.SumOutRefIdeal.τ) (Cert.SumOutRefIdeal.main (F := Ideal))) ⟨m, fun _ => 0, ρ⟩ fun r => ∀ c : Dev Cert.SumOutRefIdeal.nD,
      r.2.mem ((c.tc : Thread Cert.SumOutRefIdeal.nD Cert.SumOutRefIdeal.τ).loc Cert.SumOutRefIdeal.main_v9)
          = Cert.SumOutRefIdeal.Read.val_main_v9 (F := Ideal) (m ((c.tc : Thread Cert.SumOutRefIdeal.nD Cert.SumOutRefIdeal.τ).loc Cert.SumOutRefIdeal.main_arg0)) (m ((c.tc : Thread Cert.SumOutRefIdeal.nD Cert.SumOutRefIdeal.τ).loc Cert.SumOutRefIdeal.main_arg1)) (m ((c.tc : Thread Cert.SumOutRefIdeal.nD Cert.SumOutRefIdeal.τ).loc Cert.SumOutRefIdeal.main_arg2)) :=
  (θ_run Cert.SumOutRefIdeal.defs _ _).mono (fun r h c => (h c).1.trans (Cert.SumOutRefIdeal.Read.val_main_v9_eq _ _ _))
    (Cert.SumOutRefIdeal.Value.run (F := Ideal) m ρ)

/-- The kernel runs from every memory: the table it reads is one of eight. -/
theorem frame : Cert.quiescent_SumOut := fun m ρ _ => Cert.SumOut.Gen.frame m ρ (Cert.SumOutBits.ok m)

theorem frameIdeal : Cert.quiescent_SumOutIdeal := fun m ρ _ => Cert.SumOutIdeal.Gen.frame m ρ (Cert.SumOutIdeal.Val.ok m)

/-- The kernel's result array and the reference's agree over the extended reals. -/
theorem algebraic : Cert.algebraic_SumOutIdeal_SumOutRefIdeal := by
  intro m g m' g' _ hagree
  refine ⟨fun c => Cert.SumOutRefIdeal.Read.val_main_v9 (F := Ideal) (m ((c.tc : Thread Cert.SumOutIdeal.nD Cert.SumOutIdeal.τ).loc Cert.SumOutIdeal.main_arg0)) (m ((c.tc : Thread Cert.SumOutIdeal.nD Cert.SumOutIdeal.τ).loc Cert.SumOutIdeal.main_arg1)) (m ((c.tc : Thread Cert.SumOutIdeal.nD Cert.SumOutIdeal.τ).loc Cert.SumOutIdeal.main_arg2)), ?_, ?_⟩
  · exact (θ_run Cert.SumOutIdeal.defs _ _).mono (fun r h c => ⟨((h.2 c).2 Cert.SumOutIdeal.main_v15 (show Cert.SumOutIdeal.main_v15 ∈ Pipeline.restRefs Cert.SumOutIdeal.sig Cert.SumOutIdeal.spec0 from by decide)).trans (Cert.SumOutIdeal.Val.result m (Cert.SumOutIdeal.Val.ok m) c), h.1 c⟩)
      (θ_run_and (Cert.SumOutIdeal.Gen.unchanged m g (Cert.SumOutIdeal.Val.ok m)) (Cert.SumOutIdeal.Gen.run_main m g (Cert.SumOutIdeal.Val.ok m)))
  · exact (θ_run Cert.SumOutRefIdeal.defs _ _).mono (fun r h c => ⟨(h.2 c).trans (by rw [(hagree c).1, (hagree c).2.1, (hagree c).2.2]), h.1 c⟩)
      (θ_run_and (refKeeps m' g') (refRun m' g'))

end Cert.SumOutClaim

end
-- ==== Proof.SumMlpOk.lean ====
/- The sum of the devices' pieces of a weight gradient: the table the kernel's index maps read. -/
module

public import proofs.«01_k».proof.Proof.Gen.SumMlpIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumMlpIdeal.Val

open Cert.SumMlpIdeal Cert.SumMlpIdeal.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Ideal) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Ideal) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Ideal) ℓ) : tbl m = table (devWord (m (((0 : Dev nD) : Thread nD τ).loc main_arg0))) := by
  funext j
  match j with
  | ⟨0, _⟩ =>
    exact tbl0 m

theorem okAt : ∀ d : Fin 8, ok0 (F := Ideal) (table (BitVec.ofNat 32 d.val)) := by decide +kernel

theorem ok (m : (ℓ : Loc nD τ sig) → Buf (Elt Ideal) ℓ) : Ok m := by
  unfold Ok
  rw [tbl_eq]
  obtain ⟨d, hd⟩ := devWord_eq (m (((0 : Dev nD) : Thread nD τ).loc main_arg0))
  rw [hd]
  exact okAt d

theorem idxAt : ∀ d : Fin 8, ∀ t : Fin grid0.N,
    (∀ k : Fin 8, (fun pf => ![cc0_transform_0 inb_S3_S1_0 numel1_S1 pf (grid0.coords t), cc0_transform_1 inb_S3_S1_0 numel1_S1 pf (grid0.coords t), cc0_transform_2 inb_S3_S1_0 numel1_S1 pf (grid0.coords t), cc0_transform_3 inb_S3_S1_0 numel1_S1 pf (grid0.coords t), cc0_transform_4 inb_S3_S1_0 numel1_S1 pf (grid0.coords t), cc0_transform_5 inb_S3_S1_0 numel1_S1 pf (grid0.coords t), cc0_transform_6 inb_S3_S1_0 numel1_S1 pf (grid0.coords t), cc0_transform_7 inb_S3_S1_0 numel1_S1 pf (grid0.coords t)] k) (table (BitVec.ofNat 32 d.val)) = ![if d = k then (k.val + 1) % 8 else k.val, t.val, 0])
    ∧ cc0_transform_8 inb_S3_S1_1 numel1_S1 inb_S3_S1_2 (table (BitVec.ofNat 32 d.val)) (grid0.coords t) = ![d.val / 2, d.val % 2, t.val, 0]
    ∧ cc0_transform_9 inb_S3_S1_2 numel1_S1 (table (BitVec.ofNat 32 d.val)) (grid0.coords t) = ![d.val % 2, t.val, 0] := by
  decide +kernel

theorem coversAt : ∀ d : Fin 8, (win0 ⟨table (BitVec.ofNat 32 d.val), okAt d⟩ 9).CoversWhere (fun β => β (0 : Fin 3) = d.val % 2) := by
  decide +kernel

end Cert.SumMlpIdeal.Val
-- ==== Proof.SumMlpVal.lean ====
/- The sum of the devices' pieces of a weight gradient: what the kernel leaves in its result array. -/
module

public import proofs.«01_k».proof.Proof.SumMlpOk
public import proofs.«01_k».proof.Proof.Gen.SumMlpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumMlpIdeal.Val

open Cert.SumMlpIdeal Cert.SumMlpIdeal.Gen

theorem idx8 (a : (pcfg0 (F := Ideal)).Adm) (d : Fin 8) (h : a.1 = table (BitVec.ofNat 32 d.val)) (t : Fin grid0.N) :
    (win0 a 8).index t = ![d.val / 2, d.val % 2, t.val, 0] := by
  obtain ⟨_, _⟩ := a
  subst h
  exact (idxAt d t).2.1

theorem idx9 (a : (pcfg0 (F := Ideal)).Adm) (d : Fin 8) (h : a.1 = table (BitVec.ofNat 32 d.val)) (t : Fin grid0.N) :
    (win0 a 9).index t = ![d.val % 2, t.val, 0] := by
  obtain ⟨_, _⟩ := a
  subst h
  exact (idxAt d t).2.2

theorem part8 (m : (ℓ : Loc nD τ sig) → Buf (Elt Ideal) ℓ) (hO : Ok m) (d : Fin 8) (h : tbl m = table (BitVec.ofNat 32 d.val)) (c : Dev nD) (t : Fin (cfgM m hO).N) (j : S1x1x256x1024.Idx) :
    (iblk m hO c 8 t j : EReal) = (show FVec Ideal S4x2x512x1024 .bf16 from (m ((c : Thread nD τ).loc main_arg2))) (ix4 (⟨d.val / 2, by omega⟩ : Fin 4) (⟨d.val % 2, by omega⟩ : Fin 2) (⟨t.val * 256 + (j 2).val, by have : t.val < 2 := t.isLt; idx_bounds j; omega⟩ : Fin 512) (j 3)) := by
  blk_simp [iblk]
  rw [← V_main_arg2 m c]
  show V m c main_arg2 _ = V m c main_arg2 _
  refine congrArg (V m c main_arg2) (funext fun a => Fin.ext ?_)
  refine (ValueKit.view_emb_slice_whole_unit_val main_arg2 _ _ _ j a).trans ?_
  show (win0 (adm m hO) 8).index t a * S1x1x256x1024.size a + (j a).val = _
  rw [idx8 (adm m hO) d h t]
  fin_cases a
  · have := (j 0).isLt; show d.val / 2 * 1 + (j 0).val = d.val / 2; have h0 : (j 0).val < 1 := (j 0).isLt; omega
  · show d.val % 2 * 1 + (j 1).val = d.val % 2; have h0 : (j 1).val < 1 := (j 1).isLt; omega
  · rfl
  · show 0 * 1024 + (j 3).val = (j 3).val; omega

theorem idx0 (a : (pcfg0 (F := Ideal)).Adm) (d : Fin 8) (h : a.1 = table (BitVec.ofNat 32 d.val)) (hd : d.val ≠ 0) (t : Fin grid0.N) :
    (win0 a 0).index t = ![0, t.val, 0] := by
  obtain ⟨_, _⟩ := a
  subst h
  exact ((idxAt d t).1 0).trans (by rw [if_neg (fun e => hd (congrArg Fin.val e))]; rfl)

theorem part0 (m : (ℓ : Loc nD τ sig) → Buf (Elt Ideal) ℓ) (hO : Ok m) (d : Fin 8) (h : tbl m = table (BitVec.ofNat 32 d.val)) (hd : d.val ≠ 0) (c : Dev nD) (t : Fin (cfgM m hO).N) (j : S1x256x1024.Idx) :
    (iblk m hO c 0 t j : EReal) = (show FVec Ideal S8x512x1024 .bf16 from (m ((c : Thread nD τ).loc main_arg1))) (ix3 (0 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 0).index t a * S1x256x1024.size a + (j a).val = _
  rw [idx0 (adm m hO) d h hd t]
  fin_cases a
  · show 0 * 1 + (j 0).val = 0; have h0 : (j 0).val < 1 := (j 0).isLt; omega
  · rfl
  · show 0 * 1024 + (j 2).val = (j 2).val; omega

theorem idx1 (a : (pcfg0 (F := Ideal)).Adm) (d : Fin 8) (h : a.1 = table (BitVec.ofNat 32 d.val)) (hd : d.val ≠ 1) (t : Fin grid0.N) :
    (win0 a 1).index t = ![1, t.val, 0] := by
  obtain ⟨_, _⟩ := a
  subst h
  exact ((idxAt d t).1 1).trans (by rw [if_neg (fun e => hd (congrArg Fin.val e))]; rfl)

theorem part1 (m : (ℓ : Loc nD τ sig) → Buf (Elt Ideal) ℓ) (hO : Ok m) (d : Fin 8) (h : tbl m = table (BitVec.ofNat 32 d.val)) (hd : d.val ≠ 1) (c : Dev nD) (t : Fin (cfgM m hO).N) (j : S1x256x1024.Idx) :
    (iblk m hO c 1 t j : EReal) = (show FVec Ideal S8x512x1024 .bf16 from (m ((c : Thread nD τ).loc main_arg1))) (ix3 (1 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 1).index t a * S1x256x1024.size a + (j a).val = _
  rw [idx1 (adm m hO) d h hd t]
  fin_cases a
  · show 1 * 1 + (j 0).val = 1; have h0 : (j 0).val < 1 := (j 0).isLt; omega
  · rfl
  · show 0 * 1024 + (j 2).val = (j 2).val; omega

theorem idx2 (a : (pcfg0 (F := Ideal)).Adm) (d : Fin 8) (h : a.1 = table (BitVec.ofNat 32 d.val)) (hd : d.val ≠ 2) (t : Fin grid0.N) :
    (win0 a 2).index t = ![2, t.val, 0] := by
  obtain ⟨_, _⟩ := a
  subst h
  exact ((idxAt d t).1 2).trans (by rw [if_neg (fun e => hd (congrArg Fin.val e))]; rfl)

theorem part2 (m : (ℓ : Loc nD τ sig) → Buf (Elt Ideal) ℓ) (hO : Ok m) (d : Fin 8) (h : tbl m = table (BitVec.ofNat 32 d.val)) (hd : d.val ≠ 2) (c : Dev nD) (t : Fin (cfgM m hO).N) (j : S1x256x1024.Idx) :
    (iblk m hO c 2 t j : EReal) = (show FVec Ideal S8x512x1024 .bf16 from (m ((c : Thread nD τ).loc main_arg1))) (ix3 (2 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 2).index t a * S1x256x1024.size a + (j a).val = _
  rw [idx2 (adm m hO) d h hd t]
  fin_cases a
  · show 2 * 1 + (j 0).val = 2; have h0 : (j 0).val < 1 := (j 0).isLt; omega
  · rfl
  · show 0 * 1024 + (j 2).val = (j 2).val; omega

theorem idx3 (a : (pcfg0 (F := Ideal)).Adm) (d : Fin 8) (h : a.1 = table (BitVec.ofNat 32 d.val)) (hd : d.val ≠ 3) (t : Fin grid0.N) :
    (win0 a 3).index t = ![3, t.val, 0] := by
  obtain ⟨_, _⟩ := a
  subst h
  exact ((idxAt d t).1 3).trans (by rw [if_neg (fun e => hd (congrArg Fin.val e))]; rfl)

theorem part3 (m : (ℓ : Loc nD τ sig) → Buf (Elt Ideal) ℓ) (hO : Ok m) (d : Fin 8) (h : tbl m = table (BitVec.ofNat 32 d.val)) (hd : d.val ≠ 3) (c : Dev nD) (t : Fin (cfgM m hO).N) (j : S1x256x1024.Idx) :
    (iblk m hO c 3 t j : EReal) = (show FVec Ideal S8x512x1024 .bf16 from (m ((c : Thread nD τ).loc main_arg1))) (ix3 (3 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 3).index t a * S1x256x1024.size a + (j a).val = _
  rw [idx3 (adm m hO) d h hd t]
  fin_cases a
  · show 3 * 1 + (j 0).val = 3; have h0 : (j 0).val < 1 := (j 0).isLt; omega
  · rfl
  · show 0 * 1024 + (j 2).val = (j 2).val; omega

theorem idx4 (a : (pcfg0 (F := Ideal)).Adm) (d : Fin 8) (h : a.1 = table (BitVec.ofNat 32 d.val)) (hd : d.val ≠ 4) (t : Fin grid0.N) :
    (win0 a 4).index t = ![4, t.val, 0] := by
  obtain ⟨_, _⟩ := a
  subst h
  exact ((idxAt d t).1 4).trans (by rw [if_neg (fun e => hd (congrArg Fin.val e))]; rfl)

theorem part4 (m : (ℓ : Loc nD τ sig) → Buf (Elt Ideal) ℓ) (hO : Ok m) (d : Fin 8) (h : tbl m = table (BitVec.ofNat 32 d.val)) (hd : d.val ≠ 4) (c : Dev nD) (t : Fin (cfgM m hO).N) (j : S1x256x1024.Idx) :
    (iblk m hO c 4 t j : EReal) = (show FVec Ideal S8x512x1024 .bf16 from (m ((c : Thread nD τ).loc main_arg1))) (ix3 (4 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 4).index t a * S1x256x1024.size a + (j a).val = _
  rw [idx4 (adm m hO) d h hd t]
  fin_cases a
  · show 4 * 1 + (j 0).val = 4; have h0 : (j 0).val < 1 := (j 0).isLt; omega
  · rfl
  · show 0 * 1024 + (j 2).val = (j 2).val; omega

theorem idx5 (a : (pcfg0 (F := Ideal)).Adm) (d : Fin 8) (h : a.1 = table (BitVec.ofNat 32 d.val)) (hd : d.val ≠ 5) (t : Fin grid0.N) :
    (win0 a 5).index t = ![5, t.val, 0] := by
  obtain ⟨_, _⟩ := a
  subst h
  exact ((idxAt d t).1 5).trans (by rw [if_neg (fun e => hd (congrArg Fin.val e))]; rfl)

theorem part5 (m : (ℓ : Loc nD τ sig) → Buf (Elt Ideal) ℓ) (hO : Ok m) (d : Fin 8) (h : tbl m = table (BitVec.ofNat 32 d.val)) (hd : d.val ≠ 5) (c : Dev nD) (t : Fin (cfgM m hO).N) (j : S1x256x1024.Idx) :
    (iblk m hO c 5 t j : EReal) = (show FVec Ideal S8x512x1024 .bf16 from (m ((c : Thread nD τ).loc main_arg1))) (ix3 (5 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 5).index t a * S1x256x1024.size a + (j a).val = _
  rw [idx5 (adm m hO) d h hd t]
  fin_cases a
  · show 5 * 1 + (j 0).val = 5; have h0 : (j 0).val < 1 := (j 0).isLt; omega
  · rfl
  · show 0 * 1024 + (j 2).val = (j 2).val; omega

theorem idx6 (a : (pcfg0 (F := Ideal)).Adm) (d : Fin 8) (h : a.1 = table (BitVec.ofNat 32 d.val)) (hd : d.val ≠ 6) (t : Fin grid0.N) :
    (win0 a 6).index t = ![6, t.val, 0] := by
  obtain ⟨_, _⟩ := a
  subst h
  exact ((idxAt d t).1 6).trans (by rw [if_neg (fun e => hd (congrArg Fin.val e))]; rfl)

theorem part6 (m : (ℓ : Loc nD τ sig) → Buf (Elt Ideal) ℓ) (hO : Ok m) (d : Fin 8) (h : tbl m = table (BitVec.ofNat 32 d.val)) (hd : d.val ≠ 6) (c : Dev nD) (t : Fin (cfgM m hO).N) (j : S1x256x1024.Idx) :
    (iblk m hO c 6 t j : EReal) = (show FVec Ideal S8x512x1024 .bf16 from (m ((c : Thread nD τ).loc main_arg1))) (ix3 (6 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 6).index t a * S1x256x1024.size a + (j a).val = _
  rw [idx6 (adm m hO) d h hd t]
  fin_cases a
  · show 6 * 1 + (j 0).val = 6; have h0 : (j 0).val < 1 := (j 0).isLt; omega
  · rfl
  · show 0 * 1024 + (j 2).val = (j 2).val; omega

theorem idx7 (a : (pcfg0 (F := Ideal)).Adm) (d : Fin 8) (h : a.1 = table (BitVec.ofNat 32 d.val)) (hd : d.val ≠ 7) (t : Fin grid0.N) :
    (win0 a 7).index t = ![7, t.val, 0] := by
  obtain ⟨_, _⟩ := a
  subst h
  exact ((idxAt d t).1 7).trans (by rw [if_neg (fun e => hd (congrArg Fin.val e))]; rfl)

theorem part7 (m : (ℓ : Loc nD τ sig) → Buf (Elt Ideal) ℓ) (hO : Ok m) (d : Fin 8) (h : tbl m = table (BitVec.ofNat 32 d.val)) (hd : d.val ≠ 7) (c : Dev nD) (t : Fin (cfgM m hO).N) (j : S1x256x1024.Idx) :
    (iblk m hO c 7 t j : EReal) = (show FVec Ideal S8x512x1024 .bf16 from (m ((c : Thread nD τ).loc main_arg1))) (ix3 (7 : Fin 8) (⟨t.val * 256 + (j 1).val, by have : t.val < 2 := t.isLt; idx_bounds j; omega⟩ : Fin 512) (j 2)) := by
  blk_simp [iblk]
  rw [← V_main_arg1 m c]
  show V m c main_arg1 _ = V m c main_arg1 _
  refine congrArg (V m c main_arg1) (funext fun a => Fin.ext ?_)
  refine (ValueKit.view_emb_slice_whole_unit_val main_arg1 _ _ _ j a).trans ?_
  show (win0 (adm m hO) 7).index t a * S1x256x1024.size a + (j a).val = _
  rw [idx7 (adm m hO) d h hd t]
  fin_cases a
  · show 7 * 1 + (j 0).val = 7; have h0 : (j 0).val < 1 := (j 0).isLt; omega
  · rfl
  · show 0 * 1024 + (j 2).val = (j 2).val; omega

theorem covers (a : (pcfg0 (F := Ideal)).Adm) (d : Fin 8) (h : a.1 = table (BitVec.ofNat 32 d.val)) :
    (win0 a 9).CoversWhere (fun β => β (0 : Fin 3) = d.val % 2) := by
  obtain ⟨_, _⟩ := a
  subst h
  exact coversAt d

/-- The sum of the devices' pieces, the device's own in its own place. -/
def total (d : Fin 8) (parts : FVec Ideal S8x512x1024 .bf16) (own : FVec Ideal S4x2x512x1024 .bf16) (r : Fin 512) (q : Fin 1024) : EReal :=
  ∑ k : Fin 8, if d = k then own (ix4 (⟨d.val / 2, by omega⟩ : Fin 4) (⟨d.val % 2, by omega⟩ : Fin 2) r q) else parts (ix3 k r q)

end Cert.SumMlpIdeal.Val
-- ==== Proof.SumMlpOut.lean ====
/- The sum of the devices' pieces of a weight gradient: what the kernel leaves in its result array. -/
module

public import proofs.«01_k».proof.Proof.SumMlpVal
public import proofs.«01_k».proof.Proof.Gen.SumMlpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumMlpIdeal.Val

open Cert.SumMlpIdeal Cert.SumMlpIdeal.Gen

theorem sel_apply {ι α : Type} (c : BitVec 1) (a b : ι → α) (i : ι) : (Scalar.select c a b : ι → α) i = Scalar.select c (a i) (b i) := by
  unfold Scalar.select
  split <;> rfl

theorem cmp_dev : ∀ d k : Fin 8, Scalar.cmpi .eq (BitVec.ofNat 32 d.val) (BitVec.ofNat 32 k.val) = if d = k then 1#1 else 0#1 := by decide

theorem sel_dev {α : Type} (d k : Fin 8) (a b : α) : Scalar.select (Scalar.cmpi .eq (BitVec.ofNat 32 d.val) (BitVec.ofNat 32 k.val)) a b = if d = k then a else b := by
  rw [cmp_dev]
  unfold Scalar.select
  by_cases h : d = k
  · rw [if_pos h, if_pos h]; exact if_pos rfl
  · rw [if_neg h, if_neg h]; exact if_neg (by decide)

theorem castPart (x : Vec Ideal S1x256x1024 .bf16) (r : Fin 256) (q : Fin 1024) :
    shapeCast S256x1024 x shapeCasts_S1x256x1024_S256x1024 (ix2 r q) = x (ix3 (0 : Fin 1) r q) :=
  shapeCast_apply x _ (ix2 r q) (ix3 (0 : Fin 1) r q) (by rewrite [Shape.rowMajor_val_three, Shape.rowMajor_val_two]; show (0 * 256 + r.val) * 1024 + q.val = r.val * 1024 + q.val; omega)

theorem castOwn (x : Vec Ideal S1x1x256x1024 .bf16) (r : Fin 256) (q : Fin 1024) :
    shapeCast S256x1024 x shapeCasts_S1x1x256x1024_S256x1024 (ix2 r q) = x (ix4 (0 : Fin 1) (0 : Fin 1) r q) :=
  shapeCast_apply x _ (ix2 r q) (ix4 (0 : Fin 1) (0 : Fin 1) r q) (by rewrite [Shape.rowMajor_val_four, Shape.rowMajor_val_two]; show ((0 * 1 + 0) * 256 + r.val) * 1024 + q.val = r.val * 1024 + q.val; omega)

theorem castOut (x : FVec Ideal S256x1024 .f32) (r : Fin 256) (q : Fin 1024) :
    shapeCast S1x256x1024 x shapeCasts_S256x1024_S1x256x1024 (ix3 (0 : Fin 1) r q) = x (ix2 r q) :=
  shapeCast_apply x _ (ix3 (0 : Fin 1) r q) (ix2 r q) (by rewrite [Shape.rowMajor_val_three, Shape.rowMajor_val_two]; show r.val * 1024 + q.val = (0 * 256 + r.val) * 1024 + q.val; omega)

theorem pay (d : Fin 8) (o : Vec Ideal S1x1x256x1024 .bf16) (x0 x1 x2 x3 x4 x5 x6 x7 : Vec Ideal S1x256x1024 .bf16) (r : Fin 256) (q : Fin 1024) :
    (k0_pay1 (k0_pay4 (BitVec.ofNat 32 d.val) (k0_pay2 (BitVec.ofNat 32 d.val) o x0 o x1 o x2) (Scalar.cmpi .eq (BitVec.ofNat 32 d.val) 3#32) (k0_pay3 o) x3 o x4 o x5 o x6) (Scalar.cmpi .eq (BitVec.ofNat 32 d.val) 7#32) o x7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  unfold k0_pay1 k0_pay4 k0_pay2 k0_pay3
  dsimp only
  rw [castOut]
  simp only [addf, extf, Ideal.addf_def, Ideal.extf_def, sel_apply, castPart, castOwn]
  rw [Fin.sum_univ_eight]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((congrArg₂ (Scalar.select _) (castOwn o r q) (castPart x0 r q)).trans (sel_dev d 0 _ _))
    ((congrArg₂ (Scalar.select _) (castOwn o r q) (castPart x1 r q)).trans (sel_dev d 1 _ _)))
    ((congrArg₂ (Scalar.select _) (castOwn o r q) (castPart x2 r q)).trans (sel_dev d 2 _ _)))
    ((congrArg₂ (Scalar.select _) (castOwn o r q) (castPart x3 r q)).trans (sel_dev d 3 _ _)))
    ((congrArg₂ (Scalar.select _) (castOwn o r q) (castPart x4 r q)).trans (sel_dev d 4 _ _)))
    ((congrArg₂ (Scalar.select _) (castOwn o r q) (castPart x5 r q)).trans (sel_dev d 5 _ _)))
    ((congrArg₂ (Scalar.select _) (castOwn o r q) (castPart x6 r q)).trans (sel_dev d 6 _ _)))
    ((congrArg₂ (Scalar.select _) (castOwn o r q) (castPart x7 r q)).trans (sel_dev d 7 _ _)))

theorem pay_read (d : Fin 8) (w : BitVec 32) (hw : w = BitVec.ofNat 32 d.val) (p o : Vec Ideal S1x1x256x1024 .bf16) (ho : p = o) (y0 y1 y2 y3 y4 y5 y6 y7 x0 x1 x2 x3 x4 x5 x6 x7 : Vec Ideal S1x256x1024 .bf16) (h0 : y0 = x0) (h1 : y1 = x1) (h2 : y2 = x2) (h3 : y3 = x3) (h4 : y4 = x4) (h5 : y5 = x5) (h6 : y6 = x6) (h7 : y7 = x7) (r : Fin 256) (q : Fin 1024) :
    (k0_pay1 (k0_pay4 w (k0_pay2 w p y0 p y1 p y2) (Scalar.cmpi .eq w 3#32) (k0_pay3 p) y3 p y4 p y5 p y6) (Scalar.cmpi .eq w 7#32) p y7 (ix3 (0 : Fin 1) r q) : EReal)
      = ∑ k : Fin 8, if d = k then (o (ix4 (0 : Fin 1) (0 : Fin 1) r q) : EReal) else (![x0, x1, x2, x3, x4, x5, x6, x7] k) (ix3 (0 : Fin 1) r q) := by
  subst hw ho h0 h1 h2 h3 h4 h5 h6 h7
  exact pay d p y0 y1 y2 y3 y4 y5 y6 y7 r q

theorem devTable_all : ∀ d : Fin 8, (View.readAt (Elt Ideal) (View.whole main_v7) (Rect.unit (s := S3) ![0] S1.size inb_S3_S1_0).toLoadRect (table (BitVec.ofNat 32 d.val) 0) (Shape.Idx.first (s := S1) (by decide)) : BitVec 32) = BitVec.ofNat 32 d.val := by
  decide +kernel

theorem tableWord (m : (ℓ : Loc nD τ sig) → Buf (Elt Ideal) ℓ) (d : Fin 8) (h : tbl m = table (BitVec.ofNat 32 d.val)) (h1) :
    (View.readAt (Elt Ideal) (View.whole main_v7) (Rect.unit (s := S3) ![0] S1.size inb_S3_S1_0).toLoadRect (tbl m 0) (Shape.Idx.first (s := S1) h1) : BitVec 32) = BitVec.ofNat 32 d.val := by
  rw [h]
  exact devTable_all d

/-- One element of the half the device writes. -/
theorem point (m : (ℓ : Loc nD τ sig) → Buf (Elt Ideal) ℓ) (hO : Ok m) (d : Fin 8) (h : tbl m = table (BitVec.ofNat 32 d.val)) (c : Dev nD) (t : Fin (cfgM m hO).N) (r : Fin 256) (q : Fin 1024) :
    (outsAt0 m hO c t (ix3 (0 : Fin 1) r q) : EReal) = total d (m ((c : Thread nD τ).loc main_arg1)) (m ((c : Thread nD τ).loc main_arg2)) (⟨t.val * 256 + r.val, by have : t.val < 2 := t.isLt; omega⟩ : Fin 512) q := by
  unfold outsAt0
  frame_out
  refine (pay_read d _ (tableWord m d h _) _ (iblk m hO c 8 t) ((hs0_8 m hO t).read_unread _) _ _ _ _ _ _ _ _ (iblk m hO c 0 t) (iblk m hO c 1 t) (iblk m hO c 2 t) (iblk m hO c 3 t) (iblk m hO c 4 t) (iblk m hO c 5 t) (iblk m hO c 6 t) (iblk m hO c 7 t) ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _) r q).trans ?_
  unfold total
  refine Finset.sum_congr rfl fun k _ => ?_
  by_cases hk : d = k
  · exact (if_pos hk).trans ((part8 m hO d h c t (ix4 (0 : Fin 1) (0 : Fin 1) r q)).trans (if_pos hk).symm)
  fin_cases k
  · exact if_neg hk |>.trans ((part0 m hO d h (fun e => hk (Fin.ext e)) c t (ix3 (0 : Fin 1) r q)).trans (if_neg hk).symm)
  · exact if_neg hk |>.trans ((part1 m hO d h (fun e => hk (Fin.ext e)) c t (ix3 (0 : Fin 1) r q)).trans (if_neg hk).symm)
  · exact if_neg hk |>.trans ((part2 m hO d h (fun e => hk (Fin.ext e)) c t (ix3 (0 : Fin 1) r q)).trans (if_neg hk).symm)
  · exact if_neg hk |>.trans ((part3 m hO d h (fun e => hk (Fin.ext e)) c t (ix3 (0 : Fin 1) r q)).trans (if_neg hk).symm)
  · exact if_neg hk |>.trans ((part4 m hO d h (fun e => hk (Fin.ext e)) c t (ix3 (0 : Fin 1) r q)).trans (if_neg hk).symm)
  · exact if_neg hk |>.trans ((part5 m hO d h (fun e => hk (Fin.ext e)) c t (ix3 (0 : Fin 1) r q)).trans (if_neg hk).symm)
  · exact if_neg hk |>.trans ((part6 m hO d h (fun e => hk (Fin.ext e)) c t (ix3 (0 : Fin 1) r q)).trans (if_neg hk).symm)
  · exact if_neg hk |>.trans ((part7 m hO d h (fun e => hk (Fin.ext e)) c t (ix3 (0 : Fin 1) r q)).trans (if_neg hk).symm)

theorem final (m : (ℓ : Loc nD τ sig) → Buf (Elt Ideal) ℓ) (hO : Ok m) (d : Fin 8) (h : tbl m = table (BitVec.ofNat 32 d.val)) (c : Dev nD) :
    (dats m hO 0 c).arrAt 9 (cfgM m hO).N = fun i : S2x512x1024.Idx => if (i 0).val / 1 = d.val % 2 then total d (m ((c : Thread nD τ).loc main_arg1)) (m ((c : Thread nD τ).loc main_arg2)) (i 1) (i 2) else (dats m hO 0 c).A 9 i := by
  refine (dats m hO 0 c).arrAt_eq_of_coversWhere 9 _ (fun β => β (0 : Fin 3) = d.val % 2) (covers (adm m hO) d h)
    (fun t hf y => ?_) (fun j => Iff.rfl)
  blk_simp
  rw [after0_9]
  obtain ⟨z, hz⟩ : ∃ z : S1x256x1024.Idx, z = y := ⟨y, rfl⟩
  subst hz
  have hy : z = ix3 (0 : Fin 1) (z 1) (z 2) := funext fun a => by
    fin_cases a
    · exact Fin.ext (by have h0 : (z 0).val < 1 := (z 0).isLt; show (z 0).val = 0; omega)
    · rfl
    · rfl
  refine (congrArg (outsAt0 m hO c t) hy).trans ((point m hO d h c t (z 1) (z 2)).trans ?_)
  refine congrArg₂ (total d _ _) (Fin.ext ?_) (Fin.ext ?_)
  · refine Eq.trans ?_ (ValueKit.view_emb_slice_whole_unit_val main_v8 _ _ _ z (1 : Fin 3)).symm
    show t.val * 256 + (z 1).val = (win0 (adm m hO) 9).index t 1 * 256 + (z 1).val
    rw [idx9 (adm m hO) d h t]
    rfl
  · refine Eq.trans ?_ (ValueKit.view_emb_slice_whole_unit_val main_v8 _ _ _ z (2 : Fin 3)).symm
    show (z 2).val = (win0 (adm m hO) 9).index t 2 * 1024 + (z 2).val
    rw [idx9 (adm m hO) d h t]
    show (z 2).val = 0 * 1024 + (z 2).val
    omega

end Cert.SumMlpIdeal.Val
-- ==== Proof.SumMlpEnd.lean ====
/- The sum of the devices' pieces of a weight gradient: what the kernel leaves in its result array. -/
module

public import proofs.«01_k».proof.Proof.SumMlpOut
public import proofs.«01_k».proof.Proof.Gen.SumMlpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SumMlpIdeal.Val

open Cert.SumMlpIdeal Cert.SumMlpIdeal.Gen

theorem cmp_ref : ∀ d k : Fin 8, IntOp.cmpi .eq (BitVec.ofNat 32 k.val) (BitVec.ofNat 32 d.val) = if d = k then 1#1 else 0#1 := by decide

theorem ref_total (x0 : S1.Idx → BitVec 32) (x1 : FVec Ideal S8x512x1024 .bf16) (x2 : FVec Ideal S4x2x512x1024 .bf16) (d : Fin 8) (h : devWord x0 = BitVec.ofNat 32 d.val) (i : S512x1024.Idx) :
    Cert.SumMlpRefIdeal.Read.val_main_v9 (F := Ideal) x0 x1 x2 i = total d x1 x2 (i 0) (i 1) := by
  rw [Cert.SumMlpRefIdeal.Read.val_main_v9_apply, Cert.SumMlpRefIdeal.Read.val_main_cst_apply]
  refine (congrArg (· + _) (Ideal.ofBits_zero .f32)).trans ((zero_add _).trans ?_)
  unfold total
  refine Finset.sum_congr rfl fun k _ => ?_
  rw [Cert.SumMlpRefIdeal.Read.val_main_v8_apply, Cert.SumMlpRefIdeal.Read.val_main_v7_apply, Cert.SumMlpRefIdeal.Read.val_main_call0_v0_apply, Cert.SumMlpRefIdeal.Read.val_main_v5_apply, Cert.SumMlpRefIdeal.Read.val_main_v4_apply, Cert.SumMlpRefIdeal.Read.val_main_v1_apply, Cert.SumMlpRefIdeal.Read.val_main_v0_apply, Cert.SumMlpRefIdeal.Read.val_main_v6_apply]
  have hd : Cert.SumMlpRefIdeal.Read.val_main_v3 (F := Ideal) x0 (fun a => a.elim0) = BitVec.ofNat 32 d.val := h
  refine (congrArg (fun b => Scalar.select b _ _) ((congrArg₂ (IntOp.cmpi .eq) (congrArg (BitVec.ofNat 32) (show (k.val * 1 + 0) * 1 + 0 = k.val from by omega)) hd).trans (cmp_ref d k))).trans ?_
  by_cases hk : d = k
  · rw [if_pos hk, if_pos hk]
    refine (if_pos rfl).trans (congrArg x2 (funext fun a => Fin.ext ?_))
    have h0 : (i 0).val < 512 := (i 0).isLt
    have h1 : (i 1).val < 1024 := (i 1).isLt
    subst hk
    fin_cases a
    · show ((d.val * 512 + (i 0).val) * 1024 + (i 1).val) / 1048576 = d.val / 2; omega
    · show ((d.val * 512 + (i 0).val) * 1024 + (i 1).val) / 524288 % 2 = d.val % 2; omega
    · show ((d.val * 512 + (i 0).val) * 1024 + (i 1).val) / 1024 % 512 = (i 0).val; omega
    · show ((d.val * 512 + (i 0).val) * 1024 + (i 1).val) % 1024 = (i 1).val; omega
  · rw [if_neg hk, if_neg hk]
    refine (if_neg (by decide)).trans (congrArg x1 (funext fun a => Fin.ext ?_))
    fin_cases a <;> rfl

/-- The line after the call: one of the two halves of the result array, by the device's parity. -/
def half (w : S_.Idx → BitVec 32) (x : FVec Ideal S2x512x1024 .f32) : FVec Ideal S512x1024 .f32 :=
  select (broadcastInDim S512x1024 ![] bcast_S_S512x1024 (cmpi .eq (andi w (constantI S_ 32 1#32)) (constantI S_ 32 0#32)))
    (shapeCast S512x1024 (extractStridedSlice S1x512x1024 ![0, 0, 0] x slices_S2x512x1024_S1x512x1024_0_0_0) shapeCasts_S1x512x1024_S512x1024)
    (shapeCast S512x1024 (extractStridedSlice S1x512x1024 ![1, 0, 0] x slices_S2x512x1024_S1x512x1024_1_0_0) shapeCasts_S1x512x1024_S512x1024)

theorem cmp_half : ∀ d : Fin 8, IntOp.cmpi .eq (IntOp.andi (BitVec.ofNat 32 d.val) 1#32) 0#32 = if d.val % 2 = 0 then 1#1 else 0#1 := by decide

theorem half_at (d : Fin 8) (w : S_.Idx → BitVec 32) (hw : ∀ i, w i = BitVec.ofNat 32 d.val) (x : FVec Ideal S2x512x1024 .f32) (i : S512x1024.Idx) :
    half w x i = x (ix3 (⟨d.val % 2, by omega⟩ : Fin 2) (i 0) (i 1)) := by
  have h0 : (i 0).val < 512 := (i 0).isLt
  have h1 : (i 1).val < 1024 := (i 1).isLt
  have e : broadcastInDim S512x1024 ![] bcast_S_S512x1024 (cmpi .eq (andi w (constantI S_ 32 1#32)) (constantI S_ 32 0#32)) i = if d.val % 2 = 0 then 1#1 else 0#1 := by
    rw [broadcastInDim_apply _ bcast_S_S512x1024 _ i (fun a => a.elim0) (fun a => a.elim0)]
    refine Eq.trans ?_ (cmp_half d)
    show IntOp.cmpi .eq (IntOp.andi (w _) 1#32) 0#32 = _
    rw [hw]
  show Scalar.select (broadcastInDim S512x1024 ![] bcast_S_S512x1024 (cmpi .eq (andi w (constantI S_ 32 1#32)) (constantI S_ 32 0#32)) i) _ _ = _
  rw [e]
  have f (b : Fin 2) (o : Fin 3 → ℕ) (hs) (ho : ∀ a, o a = (![b.val, 0, 0] : Fin 3 → ℕ) a) : shapeCast S512x1024 (extractStridedSlice S1x512x1024 o x hs) shapeCasts_S1x512x1024_S512x1024 i = x (ix3 b (i 0) (i 1)) := by
    refine (shapeCast_apply _ shapeCasts_S1x512x1024_S512x1024 i (ix3 (0 : Fin 1) (i 0) (i 1)) (by rewrite [Shape.rowMajor_val_three, Shape.rowMajor_val_two]; show (0 * 512 + (i 0).val) * 1024 + (i 1).val = (i 0).val * 1024 + (i 1).val; omega)).trans ?_
    refine congrArg x (funext fun a => Fin.ext ?_)
    fin_cases a
    · show o 0 + 0 = b.val; rw [ho]; rfl
    · show o 1 + (i 0).val = (i 0).val; rw [ho]; exact Nat.zero_add _
    · show o 2 + (i 1).val = (i 1).val; rw [ho]; exact Nat.zero_add _
  by_cases hd : d.val % 2 = 0
  · rw [if_pos hd]
    refine (if_pos rfl).trans ((f 0 _ _ (fun a => rfl)).trans (congrArg (fun b => x (ix3 b (i 0) (i 1))) (Fin.ext hd.symm)))
  · rw [if_neg hd]
    refine (if_neg (by decide)).trans ((f 1 _ _ (fun a => rfl)).trans (congrArg (fun b => x (ix3 b (i 0) (i 1))) (Fin.ext ?_)))
    show 1 = d.val % 2
    omega

open Idealize.ShloMosaic.StableHlo in
theorem tail_read (B : Valuation τ sig (Elt Ideal)) :
    (StableHlo.after (hostOps1 (F := Ideal) ++ hostOps1_1) B (Proc.devRef .tc main_v15) : S512x1024.Idx → EReal) = half (B (Proc.devRef .tc main_v1)) (B (Proc.devRef .tc main_v8)) := by
  show StableHlo.after hostOps1_1 (StableHlo.after hostOps1 B) (Proc.devRef .tc main_v15) = _
  unfold hostOps1_1
  after_results
  rfl

theorem word_before (m : (ℓ : Loc nD τ sig) → Buf (Elt Ideal) ℓ) (i) : (V m 0 main_v1 : S_.Idx → BitVec 32) i = devWord (m (((0 : Dev nD) : Thread nD τ).loc main_arg0)) := by
  have e : (V m 0 main_v1 : S_.Idx → BitVec 32) = andi (shapeCast S_ (m (((0 : Dev nD) : Thread nD τ).loc main_arg0)) shapeCasts_S1_S_) (constantI S_ 32 7#32) := by
    show StableHlo.after hostOps0 (fun b => m ((0 : Dev nD), b)) (Proc.devRef .tc main_v1) = _
    after_results
    rfl
  rw [e, show i = fun a => a.elim0 from funext fun a => a.elim0]
  rfl

/-- The kernel's result: the sum, at every place. -/
theorem result (m : (ℓ : Loc nD τ sig) → Buf (Elt Ideal) ℓ) (hO : Ok m) (c : Dev nD) :
    (Pipeline.afterTail pcfgs (fun _ => adm m hO) (dats m hO) 0 (V0 m) [hostOps1, hostOps1_1] c main_v15 : S512x1024.Idx → EReal)
      = Cert.SumMlpRefIdeal.Read.val_main_v9 (F := Ideal) (m ((c : Thread nD τ).loc main_arg0)) (m ((c : Thread nD τ).loc main_arg1)) (m ((c : Thread nD τ).loc main_arg2)) := by
  obtain rfl : c = 0 := Subsingleton.elim _ _
  obtain ⟨d, hd⟩ := devWord_eq (m (((0 : Dev nD) : Thread nD τ).loc main_arg0))
  have h : tbl m = table (BitVec.ofNat 32 d.val) := (tbl_eq m).trans (congrArg table hd)
  refine (tail_read _).trans (funext fun i => ?_)
  refine (half_at d _ (fun j => ?_) _ i).trans ?_
  · rw [Pipeline.withArrays_of_ne _ 0 (V0 m 0) _ main_v1 (by exact (by decide : ∀ w, Pipeline.arrRef spec0 w ≠ main_v1))]
    exact (word_before m j).trans hd
  · refine (congrFun (Pipeline.withArrays_arr_shared _ 0 (V0 m 0) _ ((dats m hO 0 0).arrAt_sharedIn (show Pipeline.SharedIn spec0 from by decide) (V0 m 0) (A_eq m hO 0) _) 9) _).trans ?_
    rw [final m hO d h 0]
    refine Eq.trans ?_ (ref_total _ _ _ d hd i).symm
    exact if_pos (Nat.div_one _)

end Cert.SumMlpIdeal.Val
-- ==== Proof.SumMlpClaim.lean ====
/- The claims about the sum over the devices that the generated frames do not give: the tables, the reference's frame, equal results. -/
module

public import proofs.«01_k».proof.Defs
public import proofs.«01_k».proof.Proof.Gen.SumMlp.Frame
public import proofs.«01_k».proof.Proof.Gen.SumMlpIdeal.Frame
public import proofs.«01_k».proof.Proof.Gen.SumMlpRefIdeal.Read
public import proofs.«01_k».proof.Proof.SumMlpEnd
public import Idealize.ShloMosaic.Lib.Claim
public import Idealize.ShloMosaic.Init

@[expose] public section

set_option maxRecDepth 16384

noncomputable section

open Idealize.ShloMosaic Idealize.ShloMosaic.TcCoe Idealize.SL.Sem

namespace Cert.SumMlpBits

open Cert.SumMlp Cert.SumMlp.Gen

/-- The three words the kernel's index maps read: the device's number, its half and its parity. -/
def words (w : BitVec 32) : S3.Idx → BitVec 32 :=
  concatenate S3 0 [⟨S1, fun _ => w⟩, ⟨S1, fun i => Host.shrsi (fun _ => w) (fun _ => 1#32) i⟩, ⟨S1, fun _ => IntOp.andi w 1#32⟩] concatenates_S1_S1_S1_S3_d0

set_option backward.proofsInPublic true in
def table (w : BitVec 32) : pre0.Contents (Elt Bits) := fun | ⟨0, _⟩ => words w | ⟨_ + 1, h⟩ => absurd h (by simp)

/-- The device's number, from the argument's one word. -/
def devWord (x : S1.Idx → BitVec 32) : BitVec 32 := IntOp.andi (shapeCast S_ x shapeCasts_S1_S_ (fun a => a.elim0)) 7#32

theorem devWord_eq (x : S1.Idx → BitVec 32) : ∃ d : Fin 8, devWord x = BitVec.ofNat 32 d.val := by
  unfold devWord
  generalize shapeCast S_ x shapeCasts_S1_S_ (fun a => a.elim0) = w
  have h : (IntOp.andi w 7#32).toNat < 8 := by
    show (w &&& 7#32).toNat < 8
    rw [BitVec.toNat_and]
    exact Nat.lt_succ_of_le Nat.and_le_right
  exact ⟨⟨_, h⟩, by simp⟩

theorem tbl0 (m : (ℓ : Loc nD τ sig) → Buf (Elt Bits) ℓ) : (V m 0 main_v7 : S3.Idx → BitVec 32) = words (devWord (m (((0 : Dev nD) : Thread nD τ).loc main_arg0))) := by
  show StableHlo.after hostOps0 (fun b => m ((0 : Dev nD), b)) (Proc.devRef .tc main_v7) = _
  after_results
  rfl

theorem tbl_eq (m : (ℓ : Loc nD τ sig) → Buf (Elt Bits) ℓ) : tbl m = table (devWord (m (((0 : Dev nD) : Thread nD τ).loc main_arg0))) := by
  funext j
  match j with
  | ⟨0, _⟩ =>
    exact tbl0 m

theorem okAt : ∀ d : Fin 8, ok0 (F := Bits) (table (BitVec.ofNat 32 d.val)) := by decide +kernel

theorem ok (m : (ℓ : Loc nD τ sig) → Buf (Elt Bits) ℓ) : Ok m := by
  unfold Ok
  rw [tbl_eq]
  obtain ⟨d, hd⟩ := devWord_eq (m (((0 : Dev nD) : Thread nD τ).loc main_arg0))
  rw [hd]
  exact okAt d

end Cert.SumMlpBits

namespace Cert.SumMlpClaim

/-- The reference's own run leaves its arguments as they were. -/
theorem refKeeps (m : (ℓ : Loc Cert.SumMlpRefIdeal.nD Cert.SumMlpRefIdeal.τ Cert.SumMlpRefIdeal.sig) → Buf (Elt Ideal) ℓ) (ρ) :
    θ_run (Cert.SumMlpRefIdeal.defs (F := Ideal)) (onTc (τ := Cert.SumMlpRefIdeal.τ) (Cert.SumMlpRefIdeal.main (F := Ideal))) ⟨m, fun _ => 0, ρ⟩ fun r => ∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1)
      ∧ r.2.mem ((c.tc : Thread Cert.SumMlpRefIdeal.nD Cert.SumMlpRefIdeal.τ).loc Cert.SumMlpRefIdeal.main_arg2) = m ((c.tc : Thread Cert.SumMlpRefIdeal.nD Cert.SumMlpRefIdeal.τ).loc Cert.SumMlpRefIdeal.main_arg2) :=
  (θ_run Cert.SumMlpRefIdeal.defs _ _).mono (fun r h c => (h c).2) (Cert.SumMlpRefIdeal.Value.run (F := Ideal) m ρ)

/-- The reference declares no semaphore. -/
theorem refFrame : Cert.quiescent_SumMlpRefIdeal := fun m ρ _ =>
  (θ_run Cert.SumMlpRefIdeal.defs _ _).mono (fun r h => ⟨h, Idealize.ShloMosaic.sem_eq_zero_of_no_sems (by decide) r.2⟩) (refKeeps m ρ)

/-- The reference's result as its named stage. -/
theorem refRun (m : (ℓ : Loc Cert.SumMlpRefIdeal.nD Cert.SumMlpRefIdeal.τ Cert.SumMlpRefIdeal.sig) → Buf (Elt Ideal) ℓ) (ρ) :
    θ_run (Cert.SumMlpRefIdeal.defs (F := Ideal)) (onTc (τ := Cert.SumMlpRefIdeal.τ) (Cert.SumMlpRefIdeal.main (F := Ideal))) ⟨m, fun _ => 0, ρ⟩ fun r => ∀ c : Dev Cert.SumMlpRefIdeal.nD,
      r.2.mem ((c.tc : Thread Cert.SumMlpRefIdeal.nD Cert.SumMlpRefIdeal.τ).loc Cert.SumMlpRefIdeal.main_v9)
          = Cert.SumMlpRefIdeal.Read.val_main_v9 (F := Ideal) (m ((c.tc : Thread Cert.SumMlpRefIdeal.nD Cert.SumMlpRefIdeal.τ).loc Cert.SumMlpRefIdeal.main_arg0)) (m ((c.tc : Thread Cert.SumMlpRefIdeal.nD Cert.SumMlpRefIdeal.τ).loc Cert.SumMlpRefIdeal.main_arg1)) (m ((c.tc : Thread Cert.SumMlpRefIdeal.nD Cert.SumMlpRefIdeal.τ).loc Cert.SumMlpRefIdeal.main_arg2)) :=
  (θ_run Cert.SumMlpRefIdeal.defs _ _).mono (fun r h c => (h c).1.trans (Cert.SumMlpRefIdeal.Read.val_main_v9_eq _ _ _))
    (Cert.SumMlpRefIdeal.Value.run (F := Ideal) m ρ)

/-- The kernel runs from every memory: the table it reads is one of eight. -/
theorem frame : Cert.quiescent_SumMlp := fun m ρ _ => Cert.SumMlp.Gen.frame m ρ (Cert.SumMlpBits.ok m)

theorem frameIdeal : Cert.quiescent_SumMlpIdeal := fun m ρ _ => Cert.SumMlpIdeal.Gen.frame m ρ (Cert.SumMlpIdeal.Val.ok m)

/-- The kernel's result array and the reference's agree over the extended reals. -/
theorem algebraic : Cert.algebraic_SumMlpIdeal_SumMlpRefIdeal := by
  intro m g m' g' _ hagree
  refine ⟨fun c => Cert.SumMlpRefIdeal.Read.val_main_v9 (F := Ideal) (m ((c.tc : Thread Cert.SumMlpIdeal.nD Cert.SumMlpIdeal.τ).loc Cert.SumMlpIdeal.main_arg0)) (m ((c.tc : Thread Cert.SumMlpIdeal.nD Cert.SumMlpIdeal.τ).loc Cert.SumMlpIdeal.main_arg1)) (m ((c.tc : Thread Cert.SumMlpIdeal.nD Cert.SumMlpIdeal.τ).loc Cert.SumMlpIdeal.main_arg2)), ?_, ?_⟩
  · exact (θ_run Cert.SumMlpIdeal.defs _ _).mono (fun r h c => ⟨((h.2 c).2 Cert.SumMlpIdeal.main_v15 (show Cert.SumMlpIdeal.main_v15 ∈ Pipeline.restRefs Cert.SumMlpIdeal.sig Cert.SumMlpIdeal.spec0 from by decide)).trans (Cert.SumMlpIdeal.Val.result m (Cert.SumMlpIdeal.Val.ok m) c), h.1 c⟩)
      (θ_run_and (Cert.SumMlpIdeal.Gen.unchanged m g (Cert.SumMlpIdeal.Val.ok m)) (Cert.SumMlpIdeal.Gen.run_main m g (Cert.SumMlpIdeal.Val.ok m)))
  · exact (θ_run Cert.SumMlpRefIdeal.defs _ _).mono (fun r h c => ⟨(h.2 c).trans (by rw [(hagree c).1, (hagree c).2.1, (hagree c).2.2]), h.1 c⟩)
      (θ_run_and (refKeeps m' g') (refRun m' g'))

end Cert.SumMlpClaim

end
-- ==== Proof.lean ====
module

public import proofs.«01_k».proof.Defs
public import proofs.«01_k».proof.Proof.Gen.MlpDx.Frame
public import proofs.«01_k».proof.Proof.MlpDxClaim
public import proofs.«01_k».proof.Proof.Gen.DwDown.Frame
public import proofs.«01_k».proof.Proof.DwDownClaim
public import proofs.«01_k».proof.Proof.Gen.DwUp.Frame
public import proofs.«01_k».proof.Proof.DwUpClaim
public import proofs.«01_k».proof.Proof.Gen.OutBwd.Frame
public import proofs.«01_k».proof.Proof.OutBwdClaim
public import proofs.«01_k».proof.Proof.Gen.InDx.Frame
public import proofs.«01_k».proof.Proof.InDxClaim
public import proofs.«01_k».proof.Proof.Gen.InDw.Frame
public import proofs.«01_k».proof.Proof.InDwClaim
public import proofs.«01_k».proof.Proof.Gen.InProj.Frame
public import proofs.«01_k».proof.Proof.InProjClaim
public import proofs.«01_k».proof.Proof.Gen.OutProj.Frame
public import proofs.«01_k».proof.Proof.OutProjClaim
public import proofs.«01_k».proof.Proof.Gen.MlpFwd.Frame
public import proofs.«01_k».proof.Proof.MlpFwdClaim
public import proofs.«01_k».proof.Proof.Gen.Adamw.Frame
public import proofs.«01_k».proof.Proof.AdamwClaim
public import proofs.«01_k».proof.Proof.Gen.AdamwIn.Frame
public import proofs.«01_k».proof.Proof.AdamwInClaim
public import proofs.«01_k».proof.Proof.Gen.AdamwOut.Frame
public import proofs.«01_k».proof.Proof.AdamwOutClaim
public import proofs.«01_k».proof.Proof.Gen.PoolU.Frame
public import proofs.«01_k».proof.Proof.PoolUClaim
public import proofs.«01_k».proof.Proof.Gen.PoolW.Frame
public import proofs.«01_k».proof.Proof.PoolWClaim
public import proofs.«01_k».proof.Proof.Gen.PoolFwd.Frame
public import proofs.«01_k».proof.Proof.PoolFwdClaim
public import proofs.«01_k».proof.Proof.Gen.SumIn.Frame
public import proofs.«01_k».proof.Proof.SumInClaim
public import proofs.«01_k».proof.Proof.Gen.SumOut.Frame
public import proofs.«01_k».proof.Proof.SumOutClaim
public import proofs.«01_k».proof.Proof.Gen.SumMlp.Frame
public import proofs.«01_k».proof.Proof.SumMlpClaim

@[expose] public section

/-! The claims of the step's calls, each call's frames and value claim from its own module. -/

theorem Cert.Proof.claim : Cert.Claim :=
  ⟨Cert.MlpDx.Gen.facts, Cert.MlpDxIdeal.Gen.facts, Cert.MlpDxRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.OutBwd.Gen.facts, Cert.OutBwdIdeal.Gen.facts, Cert.OutBwdRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.MlpFwd.Gen.facts, Cert.MlpFwdIdeal.Gen.facts, Cert.MlpFwdRefIdeal.Gen.facts,
    Cert.Adamw.Gen.facts, Cert.AdamwIdeal.Gen.facts, Cert.AdamwRefIdeal.Gen.facts,
    Cert.AdamwIn.Gen.facts, Cert.AdamwInIdeal.Gen.facts, Cert.AdamwInRefIdeal.Gen.facts,
    Cert.AdamwOut.Gen.facts, Cert.AdamwOutIdeal.Gen.facts, Cert.AdamwOutRefIdeal.Gen.facts,
    Cert.PoolU.Gen.facts, Cert.PoolUIdeal.Gen.facts, Cert.PoolURefIdeal.Gen.facts,
    Cert.PoolW.Gen.facts, Cert.PoolWIdeal.Gen.facts, Cert.PoolWRefIdeal.Gen.facts,
    Cert.PoolFwd.Gen.facts, Cert.PoolFwdIdeal.Gen.facts, Cert.PoolFwdRefIdeal.Gen.facts,
    Cert.SumIn.Gen.facts, Cert.SumInIdeal.Gen.facts, Cert.SumInRefIdeal.Gen.facts,
    Cert.SumOut.Gen.facts, Cert.SumOutIdeal.Gen.facts, Cert.SumOutRefIdeal.Gen.facts,
    Cert.SumMlp.Gen.facts, Cert.SumMlpIdeal.Gen.facts, Cert.SumMlpRefIdeal.Gen.facts,
    fun m ρ _ => Cert.MlpDx.Gen.frame m ρ, fun m ρ _ => Cert.MlpDxIdeal.Gen.frame m ρ, Cert.MlpDxClaim.refFrame,
    fun m ρ _ => Cert.DwDown.Gen.frame m ρ, fun m ρ _ => Cert.DwDownIdeal.Gen.frame m ρ, Cert.DwDownClaim.refFrame,
    fun m ρ _ => Cert.DwUp.Gen.frame m ρ, fun m ρ _ => Cert.DwUpIdeal.Gen.frame m ρ, Cert.DwUpClaim.refFrame,
    fun m ρ _ => Cert.OutBwd.Gen.frame m ρ, fun m ρ _ => Cert.OutBwdIdeal.Gen.frame m ρ, Cert.OutBwdClaim.refFrame,
    fun m ρ _ => Cert.InDx.Gen.frame m ρ, fun m ρ _ => Cert.InDxIdeal.Gen.frame m ρ, Cert.InDxClaim.refFrame,
    fun m ρ _ => Cert.InDw.Gen.frame m ρ, fun m ρ _ => Cert.InDwIdeal.Gen.frame m ρ, Cert.InDwClaim.refFrame,
    fun m ρ _ => Cert.InProj.Gen.frame m ρ, fun m ρ _ => Cert.InProjIdeal.Gen.frame m ρ, Cert.InProjClaim.refFrame,
    fun m ρ _ => Cert.OutProj.Gen.frame m ρ, fun m ρ _ => Cert.OutProjIdeal.Gen.frame m ρ, Cert.OutProjClaim.refFrame,
    fun m ρ _ => Cert.MlpFwd.Gen.frame m ρ, fun m ρ _ => Cert.MlpFwdIdeal.Gen.frame m ρ, Cert.MlpFwdClaim.refFrame,
    fun m ρ _ => Cert.Adamw.Gen.frame m ρ, fun m ρ _ => Cert.AdamwIdeal.Gen.frame m ρ, Cert.AdamwClaim.refFrame,
    fun m ρ _ => Cert.AdamwIn.Gen.frame m ρ, fun m ρ _ => Cert.AdamwInIdeal.Gen.frame m ρ, Cert.AdamwInClaim.refFrame,
    fun m ρ _ => Cert.AdamwOut.Gen.frame m ρ, fun m ρ _ => Cert.AdamwOutIdeal.Gen.frame m ρ, Cert.AdamwOutClaim.refFrame,
    fun m ρ _ => Cert.PoolU.Gen.frame m ρ, fun m ρ _ => Cert.PoolUIdeal.Gen.frame m ρ, Cert.PoolUClaim.refFrame,
    fun m ρ _ => Cert.PoolW.Gen.frame m ρ, fun m ρ _ => Cert.PoolWIdeal.Gen.frame m ρ, Cert.PoolWClaim.refFrame,
    fun m ρ _ => Cert.PoolFwd.Gen.frame m ρ, fun m ρ _ => Cert.PoolFwdIdeal.Gen.frame m ρ, Cert.PoolFwdClaim.refFrame,
    Cert.SumInClaim.frame, Cert.SumInClaim.frameIdeal, Cert.SumInClaim.refFrame,
    Cert.SumOutClaim.frame, Cert.SumOutClaim.frameIdeal, Cert.SumOutClaim.refFrame,
    Cert.SumMlpClaim.frame, Cert.SumMlpClaim.frameIdeal, Cert.SumMlpClaim.refFrame,
    trivial, Cert.MlpDxClaim.algebraic,
    trivial, Cert.DwDownClaim.algebraic,
    trivial, Cert.DwUpClaim.algebraic,
    trivial, Cert.OutBwdClaim.algebraic,
    trivial, Cert.InDxClaim.algebraic,
    trivial, Cert.InDwClaim.algebraic,
    trivial, Cert.InProjClaim.algebraic,
    trivial, Cert.OutProjClaim.algebraic,
    trivial, Cert.MlpFwdClaim.algebraic,
    trivial, Cert.AdamwClaim.algebraic,
    trivial, Cert.AdamwInClaim.algebraic,
    trivial, Cert.AdamwOutClaim.algebraic,
    trivial, Cert.PoolUClaim.algebraic,
    trivial, Cert.PoolWClaim.algebraic,
    trivial, Cert.PoolFwdClaim.algebraic,
    trivial, Cert.SumInClaim.algebraic,
    trivial, Cert.SumOutClaim.algebraic,
    trivial, Cert.SumMlpClaim.algebraic⟩
